-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_call_args [hPre_call_args : Cert.Pre_call_args.Facts] (m : (ℓ : Loc Cert.KernelIdeal.nD Cert.KernelIdeal.τ Cert.KernelIdeal.sig) → Buf (Elt Ideal) ℓ) : Prop :=
  ∀ c : Dev Cert.KernelIdeal.nD,
    (Cert.Pre_call_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_call_args [hPre_call_args : Cert.Pre_call_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_call_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_call_args [hKernelIdeal : Cert.KernelIdeal.Facts] [hPre_call_args : Cert.Pre_call_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_call_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_call_args [hReferenceIdeal : Cert.ReferenceIdeal.Facts] [hPre_call_args : Cert.Pre_call_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_call_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "mask" .f32 0xF149F2CA#32 ⊥

def algebraic_KernelIdeal_ReferenceIdeal_pre_call_args [hKernelIdeal : Cert.KernelIdeal.Facts] [hReferenceIdeal : Cert.ReferenceIdeal.Facts] [hPre_call_args : Cert.Pre_call_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_call_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_v8) = v2 c
          ∧ r.2.mem ((c.tc : Thread Cert.Reference2Ideal.nD Cert.Reference2Ideal.τ).loc Cert.Reference2Ideal.main_v9) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_v9) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v11_0)) (v1 : (c : Dev Cert.Kernel4Ideal.nD) → Buf (Elt Ideal) ((c.tc : Thread Cert.Kernel4Ideal.nD Cert.Kernel4Ideal.τ).loc Cert.Kernel4Ideal.main_v11_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11_0) = v0 c
          ∧ r.2.mem ((c.tc : Thread Cert.Kernel4Ideal.nD Cert.Kernel4Ideal.τ).loc Cert.Kernel4Ideal.main_v11_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v58) = v0 c
          ∧ r.2.mem ((c.tc : Thread Cert.Reference7Ideal.nD Cert.Reference7Ideal.τ).loc Cert.Reference7Ideal.main_v60) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_call_args : Cert.Pre_call_args.Facts),
    quiescent_Kernel (hKernel := hKernel)
    ∧ quiescent_KernelIdeal (hKernelIdeal := hKernelIdeal)
    ∧ quiescent_KernelIdeal_pre_call_args (hKernelIdeal := hKernelIdeal) (hPre_call_args := hPre_call_args)
    ∧ quiescent_ReferenceIdeal (hReferenceIdeal := hReferenceIdeal)
    ∧ quiescent_ReferenceIdeal_pre_call_args (hReferenceIdeal := hReferenceIdeal) (hPre_call_args := hPre_call_args)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_call_args (hKernelIdeal := hKernelIdeal) (hReferenceIdeal := hReferenceIdeal) (hPre_call_args := hPre_call_args)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_call_args.lean ====
abbrev S8192x1024 : Shape := ⟨2, ![8192, 1024]⟩
abbrev S8x2x1024x1024 : Shape := ⟨4, ![8, 2, 1024, 1024]⟩
abbrev S32x8 : Shape := ⟨2, ![32, 8]⟩
abbrev S1 : Shape := ⟨1, ![1]⟩
abbrev S1x128 : Shape := ⟨2, ![1, 128]⟩
abbrev S1024x1024 : Shape := ⟨2, ![1024, 1024]⟩
abbrev S1x8 : Shape := ⟨2, ![1, 8]⟩
abbrev S8 : Shape := ⟨1, ![8]⟩
abbrev S_ : Shape := ⟨0, ![]⟩
abbrev S1024x1024x1 : Shape := ⟨3, ![1024, 1024, 1]⟩
abbrev S1024x1024x8 : Shape := ⟨3, ![1024, 1024, 8]⟩
abbrev S1x1x8 : Shape := ⟨3, ![1, 1, 8]⟩
abbrev S8x1024x1024 : Shape := ⟨3, ![8, 1024, 1024]⟩
abbrev S8x1x1024x1024 : Shape := ⟨4, ![8, 1, 1024, 1024]⟩

class Facts : Prop where
  slices_S32x8_S1x8_31_0 : S32x8.Slices ![31, 0] S1x8
  shapeCasts_S1x8_S8 : S1x8.ShapeCasts S8
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  bcast_S8_S1x1x8_2 : S8.BroadcastsInDim S1x1x8 (![2] : Fin 1 → Fin S1x1x8.rank)
  bcast_S1x1x8_S1024x1024x8_0_1_2 : S1x1x8.BroadcastsInDim S1024x1024x8 (![0, 1, 2] : Fin 3 → Fin S1024x1024x8.rank)
  transposes_S1024x1024x8_S8x1024x1024_2_0_1 : S1024x1024x8.Transposes [2, 0, 1] S8x1024x1024
  bcast_S1024x1024_S8x1024x1024_1_2 : S1024x1024.BroadcastsInDim S8x1024x1024 (![1, 2] : Fin 2 → Fin S8x1024x1024.rank)
  bcast_S_S8x1024x1024 : S_.BroadcastsInDim S8x1024x1024 (![] : Fin 0 → Fin S8x1024x1024.rank)
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_
  bcast_S_S1 : S_.BroadcastsInDim S1 (![] : Fin 0 → Fin S1.rank)
  reducesTo_S1_S_d0 : S1.ReducesTo [0] S_
  slices_S8x2x1024x1024_S8x1x1024x1024_0_0_0_0 : S8x2x1024x1024.Slices ![0, 0, 0, 0] S8x1x1024x1024
  shapeCasts_S8x1x1024x1024_S8x1024x1024 : S8x1x1024x1024.ShapeCasts S8x1024x1024
  reducesTo_S8x1024x1024_S_d0_1_2 : S8x1024x1024.ReducesTo [0, 1, 2] S_
  slices_S8x2x1024x1024_S8x1x1024x1024_0_1_0_0 : S8x2x1024x1024.Slices ![0, 1, 0, 0] S8x1x1024x1024
  gather_S32x8_S1024x1024x1_S1024x1024x8_2_0_n_n_0_2_18_wf : GatherDims.WF S32x8 S1024x1024x1 S1024x1024x8 [2] [0] [] [0] [] 2 ![1, 8]

variable [Facts]

def gather_S32x8_S1024x1024x1_S1024x1024x8_2_0_n_n_0_2_18 : GatherDims S32x8 S1024x1024x1 S1024x1024x8 where
  offsetDims := [2]
  collapsedSliceDims := [0]
  operandBatchingDims := []
  startIndicesBatchingDims := []
  startIndexMap := [0]
  indexVectorDim := 2
  sliceSizes := ![1, 8]
  wf := gather_S32x8_S1024x1024x1_S1024x1024x8_2_0_n_n_0_2_18_wf
def fn_where {F : FTy → Type} [FloatOps F] (arg0 : IVec S1024x1024 1) (arg1 : IVec S1024x1024 32) (arg2 : IVec S1024x1024 32) : IVec S1024x1024 32 :=
  let v0 : IVec S1024x1024 32 := select arg0 arg1 arg2
  v0

def fn_where_0 {F : FTy → Type} [FloatOps F] (arg0 : IVec S1024x1024 1) (arg1 : FVec F S8x1024x1024 .f32) (arg2 : FVec F S_ .f32) : FVec F S8x1024x1024 .f32 :=
  let v0 : FVec F S_ .f32 := id arg2
  let v1 : IVec S8x1024x1024 1 := broadcastInDim S8x1024x1024 ![1, 2] bcast_S1024x1024_S8x1024x1024_1_2 arg0
  let v2 : FVec F S8x1024x1024 .f32 := broadcastInDim S8x1024x1024 ![] bcast_S_S8x1024x1024 v0
  let v3 : FVec F S8x1024x1024 .f32 := select v1 arg1 v2
  v3

def fn_part6 {F : FTy → Type} [FloatOps F] (main_v71 : FVec F S8x1024x1024 .f32) (main_v103 : IVec S_ 1) (main_v108 : FVec F S8x1024x1024 .f32) : IVec S_ 1 :=
  let main_v109 : IVec S8x1024x1024 1 := cmpf .oeq main_v108 main_v71
  let main_c_33 : IVec S_ 1 := constantI S_ 1 1#1
  let main_v110 : IVec S_ 1 := (fun x v => Host.reduce IntOp.andi x v reducesTo_S8x1024x1024_S_d0_1_2 h_S_) main_v109 main_c_33
  let main_v111 : IVec S_ 1 := andi main_v103 main_v110
  main_v111

def fn_part5 {F : FTy → Type} [FloatOps F] (main_arg3 : FVec F S8x2x1024x1024 .f32) (main_arg5 : FVec F S1 .f32) (main_v37 : FVec F S8x1024x1024 .f32) (main_v71 : FVec F S8x1024x1024 .f32) (main_v85 : IVec S_ 1) (main_v89 : IVec S_ 1) : IVec S_ 1 :=
  let main_v90 : IVec S_ 1 := andi main_v85 main_v89
  let main_v91 : FVec F S1 .f32 := Host.absf main_arg5
  let main_cst_28 : FVec F S_ .f32 := constant S_ .f32 0x7F800000#32
  let main_v92 : FVec F S1 .f32 := broadcastInDim S1 ![] bcast_S_S1 main_cst_28
  let main_v93 : IVec S1 1 := cmpf .olt main_v91 main_v92
  let main_c_29 : IVec S_ 1 := constantI S_ 1 1#1
  let main_v94 : IVec S_ 1 := (fun x v => Host.reduce IntOp.andi x v reducesTo_S1_S_d0 h_S_) main_v93 main_c_29
  let main_v95 : IVec S_ 1 := andi main_v90 main_v94
  let main_v96 : FVec F S8x1x1024x1024 .f32 := (extractStridedSlice S8x1x1024x1024 ![0, 0, 0, 0] · slices_S8x2x1024x1024_S8x1x1024x1024_0_0_0_0) main_arg3
  let main_v97 : FVec F S8x1024x1024 .f32 := shapeCast S8x1024x1024 main_v96 shapeCasts_S8x1x1024x1024_S8x1024x1024
  let main_cst_30 : FVec F S_ .f32 := constant S_ .f32 0x40000000#32
  let main_v98 : FVec F S_ .f32 := Host.log main_cst_30
  let main_v99 : FVec F S8x1024x1024 .f32 := broadcastInDim S8x1024x1024 ![] bcast_S_S8x1024x1024 main_v98
  let main_v100 : FVec F S8x1024x1024 .f32 := mulf main_v97 main_v99
  let main_v101 : IVec S8x1024x1024 1 := cmpf .oeq main_v100 main_v37
  let main_c_31 : IVec S_ 1 := constantI S_ 1 1#1
  let main_v102 : IVec S_ 1 := (fun x v => Host.reduce IntOp.andi x v reducesTo_S8x1024x1024_S_d0_1_2 h_S_) main_v101 main_c_31
  let main_v103 : IVec S_ 1 := andi main_v95 main_v102
  let main_v104 : FVec F S8x1x1024x1024 .f32 := (extractStridedSlice S8x1x1024x1024 ![0, 1, 0, 0] · slices_S8x2x1024x1024_S8x1x1024x1024_0_1_0_0) main_arg3
  let main_v105 : FVec F S8x1024x1024 .f32 := shapeCast S8x1024x1024 main_v104 shapeCasts_S8x1x1024x1024_S8x1024x1024
  let main_cst_32 : FVec F S_ .f32 := constant S_ .f32 0x40000000#32
  let main_v106 : FVec F S_ .f32 := Host.log main_cst_32
  let main_v107 : FVec F S8x1024x1024 .f32 := broadcastInDim S8x1024x1024 ![] bcast_S_S8x1024x1024 main_v106
  let main_v108 : FVec F S8x1024x1024 .f32 := mulf main_v105 main_v107
  fn_part6 (F := F) main_v71 main_v103 main_v108

def fn_part4 {F : FTy → Type} [FloatOps F] (main_arg1 : FVec F S8192x1024 .f32) (main_arg2 : FVec F S8192x1024 .f32) (main_arg3 : FVec F S8x2x1024x1024 .f32) (main_arg4 : FVec F S32x8 .f32) (main_arg5 : FVec F S1 .f32) (main_v37 : FVec F S8x1024x1024 .f32) (main_v71 : FVec F S8x1024x1024 .f32) (main_v72 : FVec F S8192x1024 .f32) (main_cst_20 : FVec F S_ .f32) : IVec S_ 1 :=
  let main_v73 : FVec F S8192x1024 .f32 := broadcastInDim S8192x1024 ![] bcast_S_S8192x1024 main_cst_20
  let main_v74 : IVec S8192x1024 1 := cmpf .olt main_v72 main_v73
  let main_c_21 : IVec S_ 1 := constantI S_ 1 1#1
  let main_v75 : IVec S_ 1 := (fun x v => Host.reduce IntOp.andi x v reducesTo_S8192x1024_S_d0_1 h_S_) main_v74 main_c_21
  let main_v76 : FVec F S8192x1024 .f32 := Host.absf main_arg1
  let main_cst_22 : FVec F S_ .f32 := constant S_ .f32 0x7F800000#32
  let main_v77 : FVec F S8192x1024 .f32 := broadcastInDim S8192x1024 ![] bcast_S_S8192x1024 main_cst_22
  let main_v78 : IVec S8192x1024 1 := cmpf .olt main_v76 main_v77
  let main_c_23 : IVec S_ 1 := constantI S_ 1 1#1
  let main_v79 : IVec S_ 1 := (fun x v => Host.reduce IntOp.andi x v reducesTo_S8192x1024_S_d0_1 h_S_) main_v78 main_c_23
  let main_v80 : IVec S_ 1 := andi main_v75 main_v79
  let main_v81 : FVec F S8192x1024 .f32 := Host.absf main_arg2
  let main_cst_24 : FVec F S_ .f32 := constant S_ .f32 0x7F800000#32
  let main_v82 : FVec F S8192x1024 .f32 := broadcastInDim S8192x1024 ![] bcast_S_S8192x1024 main_cst_24
  let main_v83 : IVec S8192x1024 1 := cmpf .olt main_v81 main_v82
  let main_c_25 : IVec S_ 1 := constantI S_ 1 1#1
  let main_v84 : IVec S_ 1 := (fun x v => Host.reduce IntOp.andi x v reducesTo_S8192x1024_S_d0_1 h_S_) main_v83 main_c_25
  let main_v85 : IVec S_ 1 := andi main_v80 main_v84
  let main_v86 : FVec F S32x8 .f32 := Host.absf main_arg4
  let main_cst_26 : FVec F S_ .f32 := constant S_ .f32 0x7F800000#32
  let main_v87 : FVec F S32x8 .f32 := broadcastInDim S32x8 ![] bcast_S_S32x8 main_cst_26
  let main_v88 : IVec S32x8 1 := cmpf .olt main_v86 main_v87
  let main_c_27 : IVec S_ 1 := constantI S_ 1 1#1
  let main_v89 : IVec S_ 1 := (fun x v => Host.reduce IntOp.andi x v reducesTo_S32x8_S_d0_1 h_S_) main_v88 main_c_27
  fn_part5 (F := F) main_arg3 main_arg5 main_v37 main_v71 main_v85 main_v89

def fn_part3 {F : FTy → Type} [FloatOps F] (main_arg0 : FVec F S8192x1024 .f32) (main_arg1 : FVec F S8192x1024 .f32) (main_arg2 : FVec F S8192x1024 .f32) (main_arg3 : FVec F S8x2x1024x1024 .f32) (main_arg4 : FVec F S32x8 .f32) (main_arg5 : FVec F S1 .f32) (main_v3 : FVec F S8 .f32) (main_v37 : FVec F S8x1024x1024 .f32) (main_v42 : IVec S1024x1024 32) (main_v53 : IVec S1024x1024 32) (main_c_15 : IVec S_ 32) : IVec S_ 1 :=
  let main_v54 : IVec S1024x1024 32 := broadcastInDim S1024x1024 ![] bcast_S_S1024x1024 main_c_15
  let main_v55 : IVec S1024x1024 32 := addi main_v54 main_v53
  let main_c_16 : IVec S_ 32 := constantI S_ 32 31#32
  let main_v56 : IVec S1024x1024 32 := broadcastInDim S1024x1024 ![] bcast_S_S1024x1024 main_c_16
  let main_v57 : IVec S1024x1024 32 := minsi main_v55 main_v56
  let main_c_17 : IVec S_ 32 := constantI S_ 32 16#32
  let main_v58 : IVec S1024x1024 32 := broadcastInDim S1024x1024 ![] bcast_S_S1024x1024 main_c_17
  let main_v59 : IVec S1024x1024 1 := cmpi .slt main_v42 main_v58
  let main_v60 : IVec S1024x1024 32 := fn_where (F := F) main_v59 main_v42 main_v57
  let main_c_18 : IVec S_ 32 := constantI S_ 32 0#32
  let main_v61 : IVec S1024x1024 32 := broadcastInDim S1024x1024 ![] bcast_S_S1024x1024 main_c_18
  let main_v62 : IVec S1024x1024 1 := cmpi .slt main_v60 main_v61
  let main_c_19 : IVec S_ 32 := constantI S_ 32 32#32
  let main_v63 : IVec S1024x1024 32 := broadcastInDim S1024x1024 ![] bcast_S_S1024x1024 main_c_19
  let main_v64 : IVec S1024x1024 32 := addi main_v60 main_v63
  let main_v65 : IVec S1024x1024 32 := select main_v62 main_v64 main_v60
  let main_v66 : IVec S1024x1024x1 32 := broadcastInDim S1024x1024x1 ![0, 1] bcast_S1024x1024_S1024x1024x1_0_1 main_v65
  let main_v67 : FVec F S1024x1024x8 .f32 := (fun x i => Host.gather gather_S32x8_S1024x1024x1_S1024x1024x8_2_0_n_n_0_2_18 x i) main_arg4 main_v66
  let main_v68 : FVec F S1x1x8 .f32 := broadcastInDim S1x1x8 ![2] bcast_S8_S1x1x8_2 main_v3
  let main_v69 : FVec F S1024x1024x8 .f32 := broadcastInDim S1024x1024x8 ![0, 1, 2] bcast_S1x1x8_S1024x1024x8_0_1_2 main_v68
  let main_v70 : FVec F S1024x1024x8 .f32 := subf main_v67 main_v69
  let main_v71 : FVec F S8x1024x1024 .f32 := (transpose S8x1024x1024 [2, 0, 1] · transposes_S1024x1024x8_S8x1024x1024_2_0_1) main_v70
  let main_v72 : FVec F S8192x1024 .f32 := Host.absf main_arg0
  let main_cst_20 : FVec F S_ .f32 := constant S_ .f32 0x7F800000#32
  fn_part4 (F := F) main_arg1 main_arg2 main_arg3 main_arg4 main_arg5 main_v37 main_v71 main_v72 main_cst_20

def fn_part2 {F : FTy → Type} [FloatOps F] (main_arg0 : FVec F S8192x1024 .f32) (main_arg1 : FVec F S8192x1024 .f32) (main_arg2 : FVec F S8192x1024 .f32) (main_arg3 : FVec F S8x2x1024x1024 .f32) (main_arg4 : FVec F S32x8 .f32) (main_arg5 : FVec F S1 .f32) (main_v0 : IVec S1024x1024 32) (main_v1 : IVec S1024x1024 32) (main_v3 : FVec F S8 .f32) (main_v4 : IVec S1024x1024 1) (main_v36 : FVec F S8x1024x1024 .f32) (main_cst_8 : FVec F S_ .f32) : IVec S_ 1 :=
  let main_v37 : FVec F S8x1024x1024 .f32 := fn_where_0 (F := F) main_v4 main_v36 main_cst_8
  let main_v38 : IVec S1024x1024 32 := subi main_v0 main_v1
  let main_c_9 : IVec S_ 32 := constantI S_ 32 1024#32
  let main_v39 : IVec S1024x1024 32 := broadcastInDim S1024x1024 ![] bcast_S_S1024x1024 main_c_9
  let main_v40 : IVec S1024x1024 32 := addi main_v38 main_v39
  let main_c_10 : IVec S_ 32 := constantI S_ 32 0#32
  let main_v41 : IVec S1024x1024 32 := broadcastInDim S1024x1024 ![] bcast_S_S1024x1024 main_c_10
  let main_v42 : IVec S1024x1024 32 := maxsi main_v40 main_v41
  let main_c_11 : IVec S_ 32 := constantI S_ 32 1#32
  let main_v43 : IVec S1024x1024 32 := broadcastInDim S1024x1024 ![] bcast_S_S1024x1024 main_c_11
  let main_v44 : IVec S1024x1024 32 := maxsi main_v42 main_v43
  let main_v45 : FVec F S1024x1024 .f32 := sitofp .f32 main_v44
  let main_cst_12 : FVec F S_ .f32 := constant S_ .f32 0x41800000#32
  let main_v46 : FVec F S1024x1024 .f32 := broadcastInDim S1024x1024 ![] bcast_S_S1024x1024 main_cst_12
  let main_v47 : FVec F S1024x1024 .f32 := Host.divf main_v45 main_v46
  let main_v48 : FVec F S1024x1024 .f32 := Host.log main_v47
  let main_cst_13 : FVec F S_ .f32 := constant S_ .f32 0x40051592#32
  let main_v49 : FVec F S1024x1024 .f32 := broadcastInDim S1024x1024 ![] bcast_S_S1024x1024 main_cst_13
  let main_v50 : FVec F S1024x1024 .f32 := Host.divf main_v48 main_v49
  let main_cst_14 : FVec F S_ .f32 := constant S_ .f32 0x41800000#32
  let main_v51 : FVec F S1024x1024 .f32 := broadcastInDim S1024x1024 ![] bcast_S_S1024x1024 main_cst_14
  let main_v52 : FVec F S1024x1024 .f32 := mulf main_v50 main_v51
  let main_v53 : IVec S1024x1024 32 := fptosi 32 main_v52
  let main_c_15 : IVec S_ 32 := constantI S_ 32 16#32
  fn_part3 (F := F) main_arg0 main_arg1 main_arg2 main_arg3 main_arg4 main_arg5 main_v3 main_v37 main_v42 main_v53 main_c_15

def fn_part1 {F : FTy → Type} [FloatOps F] (main_arg0 : FVec F S8192x1024 .f32) (main_arg1 : FVec F S8192x1024 .f32) (main_arg2 : FVec F S8192x1024 .f32) (main_arg3 : FVec F S8x2x1024x1024 .f32) (main_arg4 : FVec F S32x8 .f32) (main_arg5 : FVec F S1 .f32) (main_v0 : IVec S1024x1024 32) (main_v1 : IVec S1024x1024 32) (main_v3 : FVec F S8 .f32) (main_v4 : IVec S1024x1024 1) (main_v7 : IVec S1024x1024 32) (main_v18 : IVec S1024x1024 32) : IVec S_ 1 :=
  let main_c_3 : IVec S_ 32 := constantI S_ 32 16#32
  let main_v19 : IVec S1024x1024 32 := broadcastInDim S1024x1024 ![] bcast_S_S1024x1024 main_c_3
  let main_v20 : IVec S1024x1024 32 := addi main_v19 main_v18
  let main_c_4 : IVec S_ 32 := constantI S_ 32 31#32
  let main_v21 : IVec S1024x1024 32 := broadcastInDim S1024x1024 ![] bcast_S_S1024x1024 main_c_4
  let main_v22 : IVec S1024x1024 32 := minsi main_v20 main_v21
  let main_c_5 : IVec S_ 32 := constantI S_ 32 16#32
  let main_v23 : IVec S1024x1024 32 := broadcastInDim S1024x1024 ![] bcast_S_S1024x1024 main_c_5
  let main_v24 : IVec S1024x1024 1 := cmpi .slt main_v7 main_v23
  let main_v25 : IVec S1024x1024 32 := fn_where (F := F) main_v24 main_v7 main_v22
  let main_c_6 : IVec S_ 32 := constantI S_ 32 0#32
  let main_v26 : IVec S1024x1024 32 := broadcastInDim S1024x1024 ![] bcast_S_S1024x1024 main_c_6
  let main_v27 : IVec S1024x1024 1 := cmpi .slt main_v25 main_v26
  let main_c_7 : IVec S_ 32 := constantI S_ 32 32#32
  let main_v28 : IVec S1024x1024 32 := broadcastInDim S1024x1024 ![] bcast_S_S1024x1024 main_c_7
  let main_v29 : IVec S1024x1024 32 := addi main_v25 main_v28
  let main_v30 : IVec S1024x1024 32 := select main_v27 main_v29 main_v25
  let main_v31 : IVec S1024x1024x1 32 := broadcastInDim S1024x1024x1 ![0, 1] bcast_S1024x1024_S1024x1024x1_0_1 main_v30
  let main_v32 : FVec F S1024x1024x8 .f32 := (fun x i => Host.gather gather_S32x8_S1024x1024x1_S1024x1024x8_2_0_n_n_0_2_18 x i) main_arg4 main_v31
  let main_v33 : FVec F S1x1x8 .f32 := broadcastInDim S1x1x8 ![2] bcast_S8_S1x1x8_2 main_v3
  let main_v34 : FVec F S1024x1024x8 .f32 := broadcastInDim S1024x1024x8 ![0, 1, 2] bcast_S1x1x8_S1024x1024x8_0_1_2 main_v33
  let main_v35 : FVec F S1024x1024x8 .f32 := subf main_v32 main_v34
  let main_v36 : FVec F S8x1024x1024 .f32 := (transpose S8x1024x1024 [2, 0, 1] · transposes_S1024x1024x8_S8x1024x1024_2_0_1) main_v35
  let main_cst_8 : FVec F S_ .f32 := constant S_ .f32 0xFF800000#32
  fn_part2 (F := F) main_arg0 main_arg1 main_arg2 main_arg3 main_arg4 main_arg5 main_v0 main_v1 main_v3 main_v4 main_v36 main_cst_8

def fn {F : FTy → Type} [FloatOps F] (main_arg0 : FVec F S8192x1024 .f32) (main_arg1 : FVec F S8192x1024 .f32) (main_arg2 : FVec F S8192x1024 .f32) (main_arg3 : FVec F S8x2x1024x1024 .f32) (main_arg4 : FVec F S32x8 .f32) (main_arg5 : FVec F S1 .f32) (main_arg6 : FVec F S1x128 .f32) : IVec S_ 1 :=
  let main_v0 : IVec S1024x1024 32 := iotaInDim S1024x1024 32 0
  let main_v1 : IVec S1024x1024 32 := iotaInDim S1024x1024 32 1
  let main_v2 : FVec F S1x8 .f32 := (extractStridedSlice S1x8 ![31, 0] · slices_S32x8_S1x8_31_0) main_arg4
  let main_v3 : FVec F S8 .f32 := shapeCast S8 main_v2 shapeCasts_S1x8_S8
  let main_v4 : IVec S1024x1024 1 := cmpi .sle main_v1 main_v0
  let main_v5 : IVec S1024x1024 32 := subi main_v0 main_v1
  let main_c : IVec S_ 32 := constantI S_ 32 0#32
  let main_v6 : IVec S1024x1024 32 := broadcastInDim S1024x1024 ![] bcast_S_S1024x1024 main_c
  let main_v7 : IVec S1024x1024 32 := maxsi main_v5 main_v6
  let main_c_0 : IVec S_ 32 := constantI S_ 32 1#32
  let main_v8 : IVec S1024x1024 32 := broadcastInDim S1024x1024 ![] bcast_S_S1024x1024 main_c_0
  let main_v9 : IVec S1024x1024 32 := maxsi main_v7 main_v8
  let main_v10 : FVec F S1024x1024 .f32 := sitofp .f32 main_v9
  let main_cst : FVec F S_ .f32 := constant S_ .f32 0x41800000#32
  let main_v11 : FVec F S1024x1024 .f32 := broadcastInDim S1024x1024 ![] bcast_S_S1024x1024 main_cst
  let main_v12 : FVec F S1024x1024 .f32 := Host.divf main_v10 main_v11
  let main_v13 : FVec F S1024x1024 .f32 := Host.log main_v12
  let main_cst_1 : FVec F S_ .f32 := constant S_ .f32 0x40051592#32
  let main_v14 : FVec F S1024x1024 .f32 := broadcastInDim S1024x1024 ![] bcast_S_S1024x1024 main_cst_1
  let main_v15 : FVec F S1024x1024 .f32 := Host.divf main_v13 main_v14
  let main_cst_2 : FVec F S_ .f32 := constant S_ .f32 0x41800000#32
  let main_v16 : FVec F S1024x1024 .f32 := broadcastInDim S1024x1024 ![] bcast_S_S1024x1024 main_cst_2
  let main_v17 : FVec F S1024x1024 .f32 := mulf main_v15 main_v16
  let main_v18 : IVec S1024x1024 32 := fptosi 32 main_v17
  fn_part1 (F := F) main_arg0 main_arg1 main_arg2 main_arg3 main_arg4 main_arg5 main_v0 main_v1 main_v3 main_v4 main_v7 main_v18
-- ==== Kernel.lean ====
abbrev S8192x1024 : Shape := ⟨2, ![8192, 1024]⟩
abbrev S8x2x1024x1024 : Shape := ⟨4, ![8, 2, 1024, 1024]⟩
abbrev S32x8 : Shape := ⟨2, ![32, 8]⟩
abbrev S1 : Shape := ⟨1, ![1]⟩
abbrev S1x128 : Shape := ⟨2, ![1, 128]⟩
abbrev S36 : Shape := ⟨1, ![36]⟩
abbrev S1024x128 : Shape := ⟨2, ![1024, 128]⟩
abbrev S1x2x1024x1024 : Shape := ⟨4, ![1, 2, 1024, 1024]⟩
abbrev S2048x128 : Shape := ⟨2, ![2048, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x1x256x1024 : Shape := ⟨4, ![1, 1, 256, 1024]⟩
abbrev S256x256 : Shape := ⟨2, ![256, 256]⟩
abbrev S1x1x256x256 : Shape := ⟨4, ![1, 1, 256, 256]⟩
abbrev S512x128 : Shape := ⟨2, ![512, 128]⟩
abbrev S256x512 : Shape := ⟨2, ![256, 512]⟩
abbrev S1x1x256x512 : Shape := ⟨4, ![1, 1, 256, 512]⟩
abbrev S768x128 : Shape := ⟨2, ![768, 128]⟩
abbrev S256x768 : Shape := ⟨2, ![256, 768]⟩
abbrev S1x1x256x768 : Shape := ⟨4, ![1, 1, 256, 768]⟩
abbrev S1024 : Shape := ⟨1, ![1024]⟩
abbrev S1024x1 : Shape := ⟨2, ![1024, 1]⟩

abbrev nBuf : Space → Nat
  | .hbm => 8
  | .vmem => 15
  | .smem => 3
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x2x1024x1024, .f32⟩
  | .hbm, ⟨4, _⟩ => ⟨S32x8, .f32⟩
  | .hbm, ⟨5, _⟩ => ⟨S1, .f32⟩
  | .hbm, ⟨6, _⟩ => ⟨S1x128, .f32⟩
  | .hbm, ⟨7, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x2x1024x1024, .f32⟩
  | .local _ .vmem, ⟨7, _⟩ => ⟨S1x2x1024x1024, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S2048x128, .bf16⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .smem, ⟨0, _⟩ => ⟨S36, .i32⟩
  | .local _ .smem, ⟨1, _⟩ => ⟨S36, .i32⟩
  | .local _ .smem, ⟨2, _⟩ => ⟨S1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let v15 : BitVec 1 := Scalar.cmpi .eq v3 v1
  let v16 : BitVec 32 := Scalar.extui v15
  let c0_i32_4 : BitVec 32 := 0#32
  let v17 : BitVec 1 := Scalar.cmpi .ne v16 c0_i32_4
  v17

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | "qscale" => some ((8⁻¹ * (Real.log 2)⁻¹ : ℝ) : EReal)
  | _ => none
-- ==== ReferenceIdeal.lean ====
abbrev S8192x1024 : Shape := ⟨2, ![8192, 1024]⟩
abbrev S8x2x1024x1024 : Shape := ⟨4, ![8, 2, 1024, 1024]⟩
abbrev S32x8 : Shape := ⟨2, ![32, 8]⟩
abbrev S1 : Shape := ⟨1, ![1]⟩
abbrev S1x128 : Shape := ⟨2, ![1, 128]⟩
abbrev S8192x8x2x64 : Shape := ⟨4, ![8192, 8, 2, 64]⟩
abbrev S2x8x8192x8192 : Shape := ⟨4, ![2, 8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S8192x8192x8 : Shape := ⟨3, ![8192, 8192, 8]⟩
abbrev S8x8192x8192 : Shape := ⟨3, ![8, 8192, 8192]⟩
abbrev S1x8x8192x8192 : Shape := ⟨4, ![1, 8, 8192, 8192]⟩
abbrev S2x8x8192 : Shape := ⟨3, ![2, 8, 8192]⟩
abbrev S2x8x8192x1 : Shape := ⟨4, ![2, 8, 8192, 1]⟩
abbrev S8192x8x128 : Shape := ⟨3, ![8192, 8, 128]⟩
abbrev S8x128x8192 : Shape := ⟨3, ![8, 128, 8192]⟩
abbrev S8192x8 : Shape := ⟨2, ![8192, 8]⟩
abbrev S8192x8x1 : Shape := ⟨3, ![8192, 8, 1]⟩
abbrev S128 : Shape := ⟨1, ![128]⟩
abbrev S1x1x128 : Shape := ⟨3, ![1, 1, 128]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x2x1024x1024, .f32⟩
  | .hbm, ⟨4, _⟩ => ⟨S32x8, .f32⟩
  | .hbm, ⟨5, _⟩ => ⟨S1, .f32⟩
  | .hbm, ⟨6, _⟩ => ⟨S1x128, .f32⟩
  | .hbm, ⟨7, _⟩ => ⟨S8192x8x2x64, .f32⟩
  | .hbm, ⟨8, _⟩ => ⟨S8192x8x2x64, .f32⟩
  | .hbm, ⟨9, _⟩ => ⟨S2x8x8192x8192, .f32⟩
  | .hbm, ⟨10, _⟩ => ⟨S_, .f32⟩
  | .hbm, ⟨11, _⟩ => ⟨S2x8x8192x8192, .f32⟩
  | .hbm, ⟨12, _⟩ => ⟨S2x8x8192x8192, .f32⟩
  | .hbm, ⟨13, _⟩ => ⟨S8192, .i32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .i32⟩
  | .hbm, ⟨37, _⟩ => ⟨S_, .i32⟩
  | .hbm, ⟨38, _⟩ => ⟨S8192x8192, .i32⟩
  | .hbm, ⟨39, _⟩ => ⟨S8192x8192, .i32⟩
  | .hbm, ⟨40, _⟩ => ⟨S_, .i32⟩
  | .hbm, ⟨41, _⟩ => ⟨S8192x8192, .i32⟩
  | .hbm, ⟨42, _⟩ => ⟨S8192x8192, .i32⟩
  | .hbm, ⟨43, _⟩ => ⟨S_, .i32⟩
  | .hbm, ⟨44, _⟩ => ⟨S8192x8192, .i32⟩
  | .hbm, ⟨45, _⟩ => ⟨S8192x8192, .i1⟩
  | .hbm, ⟨46, _⟩ => ⟨S8192x8192, .i32⟩
  | .hbm, ⟨47, _⟩ => ⟨S_, .i32⟩
  | .hbm, ⟨48, _⟩ => ⟨S8192x8192, .i32⟩
  | .hbm, ⟨49, _⟩ => ⟨S8192x8192, .i1⟩
  | .hbm, ⟨50, _⟩ => ⟨S_, .i32⟩
  | .hbm, ⟨51, _⟩ => ⟨S8192x8192, .i32⟩
  | .hbm, ⟨52, _⟩ => ⟨S8192x8192, .i32⟩
  | .hbm, ⟨53, _⟩ => ⟨S8192x8192, .i32⟩
  | .hbm, ⟨54, _⟩ => ⟨S8192x8192x1, .i32⟩
  | .hbm, ⟨55, _⟩ => ⟨S8192x8192x8, .f32⟩
  | .hbm, ⟨56, _⟩ => ⟨S8x8192x8192, .f32⟩
  | .hbm, ⟨57, _⟩ => ⟨S1x8x8192x8192, .f32⟩
  | .hbm, ⟨58, _⟩ => ⟨S2x8x8192x8192, .f32⟩
  | .hbm, ⟨59, _⟩ => ⟨S2x8x8192x8192, .f32⟩
  | .hbm, ⟨60, _⟩ => ⟨S1x8192, .i32⟩
  | .hbm, ⟨61, _⟩ => ⟨S8192x1, .i32⟩
  | .hbm, ⟨62, _⟩ => ⟨S8192x8192, .i32⟩
  | .hbm, ⟨63, _⟩ => ⟨S8192x8192, .i32⟩
  | .hbm, ⟨64, _⟩ => ⟨S8192x8192, .i1⟩
  | .hbm, ⟨65, _⟩ => ⟨S_, .f32⟩
  | .hbm, ⟨66, _⟩ => ⟨S_, .f32⟩
  | .hbm, ⟨67, _⟩ => ⟨S2x8x8192x8192, .i1⟩
  | .hbm, ⟨68, _⟩ => ⟨S2x8x8192x8192, .f32⟩
  | .hbm, ⟨69, _⟩ => ⟨S2x8x8192x8192, .f32⟩
  | .hbm, ⟨70, _⟩ => ⟨S_, .f32⟩
  | .hbm, ⟨71, _⟩ => ⟨S2x8x8192, .f32⟩
  | .hbm, ⟨72, _⟩ => ⟨S_, .f32⟩
  | .hbm, ⟨73, _⟩ => ⟨S2x8x8192, .f32⟩
  | .hbm, ⟨74, _⟩ => ⟨S2x8x8192, .f32⟩
  | .hbm, ⟨75, _⟩ => ⟨S2x8x8192x1, .f32⟩
  | .hbm, ⟨76, _⟩ => ⟨S2x8x8192x8192, .f32⟩
  | .hbm, ⟨77, _⟩ => ⟨S2x8x8192x8192, .f32⟩
  | .hbm, ⟨78, _⟩ => ⟨S2x8x8192x8192, .f32⟩
  | .hbm, ⟨79, _⟩ => ⟨S_, .f32⟩
  | .hbm, ⟨80, _⟩ => ⟨S2x8x8192, .f32⟩
  | .hbm, ⟨81, _⟩ => ⟨S2x8x8192x1, .f32⟩
  | .hbm, ⟨82, _⟩ => ⟨S2x8x8192x8192, .f32⟩
  | .hbm, ⟨83, _⟩ => ⟨S2x8x8192x8192, .f32⟩
  | .hbm, ⟨84, _⟩ => ⟨S1x8x8192x8192, .f32⟩
  | .hbm, ⟨85, _⟩ => ⟨S8x8192x8192, .f32⟩
  | .hbm, ⟨86, _⟩ => ⟨S_, .f32⟩
  | .hbm, ⟨87, _⟩ => ⟨S1x8x8192x8192, .f32⟩
  | .hbm, ⟨88, _⟩ => ⟨S8x8192x8192, .f32⟩
  | .hbm, ⟨89, _⟩ => ⟨S8x8192x8192, .f32⟩
  | .hbm, ⟨90, _⟩ => ⟨S8x8192x8192, .f32⟩
  | .hbm, ⟨91, _⟩ => ⟨S8x8192x8192, .f32⟩
  | .hbm, ⟨92, _⟩ => ⟨S8192x8x128, .f32⟩
  | .hbm, ⟨93, _⟩ => ⟨S8x128x8192, .f32⟩
  | .hbm, ⟨94, _⟩ => ⟨S8192x8x128, .f32⟩
  | .hbm, ⟨95, _⟩ => ⟨S8192x8x128, .f32⟩
  | .hbm, ⟨96, _⟩ => ⟨S_, .f32⟩
  | .hbm, ⟨97, _⟩ => ⟨S8192x8, .f32⟩
  | .hbm, ⟨98, _⟩ => ⟨S8192x8x1, .f32⟩
  | .hbm, ⟨99, _⟩ => ⟨S_, .f32⟩
  | .hbm, ⟨100, _⟩ => ⟨S8192x8x1, .f32⟩
  | .hbm, ⟨101, _⟩ => ⟨S8192x8x1, .f32⟩
  | .hbm, ⟨102, _⟩ => ⟨S_, .f32⟩
  | .hbm, ⟨103, _⟩ => ⟨S8192x8x1, .f32⟩
  | .hbm, ⟨104, _⟩ => ⟨S8192x8x1, .f32⟩
  | .hbm, ⟨105, _⟩ => ⟨S8192x8x1, .f32⟩
  | .hbm, ⟨106, _⟩ => ⟨S8192x8x128, .f32⟩
  | .hbm, ⟨107, _⟩ => ⟨S8192x8x128, .f32⟩
  | .hbm, ⟨108, _⟩ => ⟨S128, .f32⟩
  | .hbm, ⟨109, _⟩ => ⟨S1x1x128, .f32⟩
  | .hbm, ⟨110, _⟩ => ⟨S8192x8x128, .f32⟩
  | .hbm, ⟨111, _⟩ => ⟨S8192x8x128, .f32⟩
  | .hbm, ⟨112, _⟩ => ⟨S_, .f32⟩
  | .hbm, ⟨113, _⟩ => ⟨S8192x8x128, .f32⟩
  | .hbm, ⟨114, _⟩ => ⟨S8192x8x128, .f32⟩
  | .hbm, ⟨115, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]
-- ==== Kernel2.lean ====
abbrev S1x8192x2048 : Shape := ⟨3, ![1, 8192, 2048]⟩
abbrev S1x2048x4096 : Shape := ⟨3, ![1, 2048, 4096]⟩
abbrev S2048x4096 : Shape := ⟨2, ![2048, 4096]⟩
abbrev S8192x2048 : Shape := ⟨2, ![8192, 2048]⟩
abbrev S8192x1024 : Shape := ⟨2, ![8192, 1024]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 9
  | .vmem => 11
  | .smem => 0
  | _ => 0

abbrev bufTy : (tb : Table) → Fin (tcTables nBuf tb) → BufTy
  | .hbm, ⟨0, _⟩ => ⟨S1x8192x2048, .f32⟩
  | .hbm, ⟨1, _⟩ => ⟨S1x2048x4096, .f32⟩
  | .hbm, ⟨2, _⟩ => ⟨S2048x4096, .f32⟩
  | .hbm, ⟨3, _⟩ => ⟨S2048x4096, .bf16⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .local _ .vmem, ⟨0, _⟩ => ⟨S512x2048, .f32⟩
  | .local _ .vmem, ⟨1, _⟩ => ⟨S512x2048, .f32⟩
  | .local _ .vmem, ⟨2, _⟩ => ⟨S2048x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S1x8192x2048 : Shape := ⟨3, ![1, 8192, 2048]⟩
abbrev S1x2048x4096 : Shape := ⟨3, ![1, 2048, 4096]⟩
abbrev S2048x4096 : Shape := ⟨2, ![2048, 4096]⟩
abbrev S1x8192x4096 : Shape := ⟨3, ![1, 8192, 4096]⟩
abbrev S1x8192x1024 : Shape := ⟨3, ![1, 8192, 1024]⟩
abbrev S8192x1024 : Shape := ⟨2, ![8192, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048x4096, .f32⟩
  | .hbm, ⟨2, _⟩ => ⟨S2048x4096, .f32⟩
  | .hbm, ⟨3, _⟩ => ⟨S1x8192x4096, .f32⟩
  | .hbm, ⟨4, _⟩ => ⟨S1x8192x1024, .f32⟩
  | .hbm, ⟨5, _⟩ => ⟨S1x8192x1024, .f32⟩
  | .hbm, ⟨6, _⟩ => ⟨S1x8192x1024, .f32⟩
  | .hbm, ⟨7, _⟩ => ⟨S1x8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel3.lean ====
abbrev S32x4x2048 : Shape := ⟨3, ![32, 4, 2048]⟩
abbrev S1x2048x4096 : Shape := ⟨3, ![1, 2048, 4096]⟩
abbrev S2048x4096 : Shape := ⟨2, ![2048, 4096]⟩
abbrev S128x2048 : Shape := ⟨2, ![128, 2048]⟩
abbrev S128x1024 : Shape := ⟨2, ![128, 1024]⟩
abbrev S2048x1024 : Shape := ⟨2, ![2048, 1024]⟩

abbrev nBuf : Space → Nat
  | .hbm => 9
  | .vmem => 6
  | .smem => 0
  | _ => 0

abbrev bufTy : (tb : Table) → Fin (tcTables nBuf tb) → BufTy
  | .hbm, ⟨0, _⟩ => ⟨S32x4x2048, .f32⟩
  | .hbm, ⟨1, _⟩ => ⟨S1x2048x4096, .f32⟩
  | .hbm, ⟨2, _⟩ => ⟨S2048x4096, .f32⟩
  | .hbm, ⟨3, _⟩ => ⟨S2048x4096, .bf16⟩
  | .hbm, ⟨4, _⟩ => ⟨S128x2048, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x2048, .f32⟩
  | .local _ .vmem, ⟨1, _⟩ => ⟨S2048x4096, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference3Ideal.lean ====
abbrev S32x4x2048 : Shape := ⟨3, ![32, 4, 2048]⟩
abbrev S1x2048x4096 : Shape := ⟨3, ![1, 2048, 4096]⟩
abbrev S2048x4096 : Shape := ⟨2, ![2048, 4096]⟩
abbrev S32x4x4096 : Shape := ⟨3, ![32, 4, 4096]⟩
abbrev S32x4x1024 : Shape := ⟨3, ![32, 4, 1024]⟩
abbrev S128x1024 : Shape := ⟨2, ![128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048x4096, .f32⟩
  | .hbm, ⟨2, _⟩ => ⟨S2048x4096, .f32⟩
  | .hbm, ⟨3, _⟩ => ⟨S32x4x4096, .f32⟩
  | .hbm, ⟨4, _⟩ => ⟨S32x4x1024, .f32⟩
  | .hbm, ⟨5, _⟩ => ⟨S32x4x1024, .f32⟩
  | .hbm, ⟨6, _⟩ => ⟨S32x4x1024, .f32⟩
  | .hbm, ⟨7, _⟩ => ⟨S32x4x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel4.lean ====
abbrev S8192x1024 : Shape := ⟨2, ![8192, 1024]⟩
abbrev S1x8192x2048 : Shape := ⟨3, ![1, 8192, 2048]⟩
abbrev S1x1024x1024 : Shape := ⟨3, ![1, 1024, 1024]⟩
abbrev S1x1024 : Shape := ⟨2, ![1, 1024]⟩
abbrev S1x2048x2048 : Shape := ⟨3, ![1, 2048, 2048]⟩
abbrev S1x2048 : Shape := ⟨2, ![1, 2048]⟩
abbrev S1024x1024 : Shape := ⟨2, ![1024, 1024]⟩
abbrev S2048x2048 : Shape := ⟨2, ![2048, 2048]⟩
abbrev S1024 : Shape := ⟨1, ![1024]⟩
abbrev S2048 : Shape := ⟨1, ![2048]⟩
abbrev S8192x2048 : Shape := ⟨2, ![8192, 2048]⟩
abbrev S2048x8192 : Shape := ⟨2, ![2048, 8192]⟩
abbrev S512x1024 : Shape := ⟨2, ![512, 1024]⟩
abbrev S512x2048 : Shape := ⟨2, ![512, 2048]⟩
abbrev S2048x512 : Shape := ⟨2, ![2048, 512]⟩
abbrev S1024x2048 : Shape := ⟨2, ![1024, 2048]⟩
abbrev S512 : Shape := ⟨1, ![512]⟩
abbrev S512x1 : Shape := ⟨2, ![512, 1]⟩

abbrev nBuf : Space → Nat
  | .hbm => 21
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x8192x2048, .f32⟩
  | .hbm, ⟨3, _⟩ => ⟨S1x1024x1024, .f32⟩
  | .hbm, ⟨4, _⟩ => ⟨S1x1024, .f32⟩
  | .hbm, ⟨5, _⟩ => ⟨S1x2048x2048, .f32⟩
  | .hbm, ⟨6, _⟩ => ⟨S1x2048, .f32⟩
  | .hbm, ⟨7, _⟩ => ⟨S1x2048, .f32⟩
  | .hbm, ⟨8, _⟩ => ⟨S1024x1024, .f32⟩
  | .hbm, ⟨9, _⟩ => ⟨S1024x1024, .bf16⟩
  | .hbm, ⟨10, _⟩ => ⟨S2048x2048, .f32⟩
  | .hbm, ⟨11, _⟩ => ⟨S2048x2048, .bf16⟩
  | .hbm, ⟨12, _⟩ => ⟨S1024, .f32⟩
  | .hbm, ⟨13, _⟩ => ⟨S1x1024, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S2048x8192, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1024x1024, .bf16⟩
  | .local _ .vmem, ⟨7, _⟩ => ⟨S1x1024, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S2048x512, .bf16⟩
  | .local _ .vmem, ⟨14, _⟩ => ⟨S2048x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8192x1024 : Shape := ⟨2, ![8192, 1024]⟩
abbrev S1x8192x2048 : Shape := ⟨3, ![1, 8192, 2048]⟩
abbrev S1x1024x1024 : Shape := ⟨3, ![1, 1024, 1024]⟩
abbrev S1x1024 : Shape := ⟨2, ![1, 1024]⟩
abbrev S1x2048x2048 : Shape := ⟨3, ![1, 2048, 2048]⟩
abbrev S1x2048 : Shape := ⟨2, ![1, 2048]⟩
abbrev S_ : Shape := ⟨0, ![]⟩
abbrev S1024x1024 : Shape := ⟨2, ![1024, 1024]⟩
abbrev S1024 : Shape := ⟨1, ![1024]⟩
abbrev S8192x2048 : Shape := ⟨2, ![8192, 2048]⟩
abbrev S2048x2048 : Shape := ⟨2, ![2048, 2048]⟩
abbrev S2048 : Shape := ⟨1, ![2048]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x8192x2048, .f32⟩
  | .hbm, ⟨3, _⟩ => ⟨S1x1024x1024, .f32⟩
  | .hbm, ⟨4, _⟩ => ⟨S1x1024, .f32⟩
  | .hbm, ⟨5, _⟩ => ⟨S1x2048x2048, .f32⟩
  | .hbm, ⟨6, _⟩ => ⟨S1x2048, .f32⟩
  | .hbm, ⟨7, _⟩ => ⟨S1x2048, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S8192x1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x2048, .f32⟩
  | .hbm, ⟨41, _⟩ => ⟨S2048x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x2048, .f32⟩
  | .hbm, ⟨66, _⟩ => ⟨S8192x2048, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x2048, .f32⟩
  | .hbm, ⟨72, _⟩ => ⟨S8192x2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S1x2048, .f32⟩
  | .hbm, ⟨77, _⟩ => ⟨S8192x2048, .f32⟩
  | .hbm, ⟨78, _⟩ => ⟨S8192x2048, .f32⟩
  | .hbm, ⟨79, _⟩ => ⟨S2048x8192, .f32⟩
  | .hbm, ⟨80, _⟩ => ⟨S2048x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Kernel5.lean ====
abbrev S8192x2048 : Shape := ⟨2, ![8192, 2048]⟩
abbrev S2048x8192 : Shape := ⟨2, ![2048, 8192]⟩
abbrev S1x2048 : Shape := ⟨2, ![1, 2048]⟩
abbrev S2048 : Shape := ⟨1, ![2048]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8192x2048 : Shape := ⟨2, ![8192, 2048]⟩
abbrev S2048x8192 : Shape := ⟨2, ![2048, 8192]⟩
abbrev S1x2048 : Shape := ⟨2, ![1, 2048]⟩
abbrev S_ : Shape := ⟨0, ![]⟩
abbrev S2048 : Shape := ⟨1, ![2048]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel6.lean ====
abbrev S128x2048 : Shape := ⟨2, ![128, 2048]⟩
abbrev S2048x128 : Shape := ⟨2, ![2048, 128]⟩
abbrev S1x2048 : Shape := ⟨2, ![1, 2048]⟩
abbrev S2048 : Shape := ⟨1, ![2048]⟩
abbrev S128 : Shape := ⟨1, ![128]⟩
abbrev S128x1 : Shape := ⟨2, ![128, 1]⟩

abbrev nBuf : Space → Nat
  | .hbm => 9
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S2048x128, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S128x2048, .f32⟩
  | .local _ .vmem, ⟨0, _⟩ => ⟨S128x2048, .f32⟩
  | .local _ .vmem, ⟨1, _⟩ => ⟨S2048x128, .f32⟩
  | .local _ .vmem, ⟨2, _⟩ => ⟨S1x2048, .f32⟩
  | .local _ .vmem, ⟨3, _⟩ => ⟨S1x2048, .f32⟩
  | .local _ .vmem, ⟨4, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference6Ideal.lean ====
abbrev S128x2048 : Shape := ⟨2, ![128, 2048]⟩
abbrev S2048x128 : Shape := ⟨2, ![2048, 128]⟩
abbrev S1x2048 : Shape := ⟨2, ![1, 2048]⟩
abbrev S_ : Shape := ⟨0, ![]⟩
abbrev S2048 : Shape := ⟨1, ![2048]⟩
abbrev S128 : Shape := ⟨1, ![128]⟩
abbrev S128x1 : Shape := ⟨2, ![128, 1]⟩

abbrev nBuf : Space → Nat
  | .hbm => 40
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048x128, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S128x2048, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x2048, .f32⟩
  | .hbm, ⟨18, _⟩ => ⟨S128x2048, .f32⟩
  | .hbm, ⟨19, _⟩ => ⟨S128x2048, .f32⟩
  | .hbm, ⟨20, _⟩ => ⟨S_, .f32⟩
  | .hbm, ⟨21, _⟩ => ⟨S128, .f32⟩
  | .hbm, ⟨22, _⟩ => ⟨S128x1, .f32⟩
  | .hbm, ⟨23, _⟩ => ⟨S_, .f32⟩
  | .hbm, ⟨24, _⟩ => ⟨S128x1, .f32⟩
  | .hbm, ⟨25, _⟩ => ⟨S128x1, .f32⟩
  | .hbm, ⟨26, _⟩ => ⟨S128x2048, .f32⟩
  | .hbm, ⟨27, _⟩ => ⟨S128x2048, .f32⟩
  | .hbm, ⟨28, _⟩ => ⟨S_, .f32⟩
  | .hbm, ⟨29, _⟩ => ⟨S128x1, .f32⟩
  | .hbm, ⟨30, _⟩ => ⟨S128x1, .f32⟩
  | .hbm, ⟨31, _⟩ => ⟨S128x1, .f32⟩
  | .hbm, ⟨32, _⟩ => ⟨S128x2048, .f32⟩
  | .hbm, ⟨33, _⟩ => ⟨S128x2048, .f32⟩
  | .hbm, ⟨34, _⟩ => ⟨S1x2048, .f32⟩
  | .hbm, ⟨35, _⟩ => ⟨S128x2048, .f32⟩
  | .hbm, ⟨36, _⟩ => ⟨S128x2048, .f32⟩
  | .hbm, ⟨37, _⟩ => ⟨S1x2048, .f32⟩
  | .hbm, ⟨38, _⟩ => ⟨S128x2048, .f32⟩
  | .hbm, ⟨39, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel7.lean ====
abbrev S128x1024 : Shape := ⟨2, ![128, 1024]⟩
abbrev S32x4x2048 : Shape := ⟨3, ![32, 4, 2048]⟩
abbrev S1x1024x1024 : Shape := ⟨3, ![1, 1024, 1024]⟩
abbrev S1x1024 : Shape := ⟨2, ![1, 1024]⟩
abbrev S1x2048x2048 : Shape := ⟨3, ![1, 2048, 2048]⟩
abbrev S1x2048 : Shape := ⟨2, ![1, 2048]⟩
abbrev S1024x1024 : Shape := ⟨2, ![1024, 1024]⟩
abbrev S2048x2048 : Shape := ⟨2, ![2048, 2048]⟩
abbrev S1024 : Shape := ⟨1, ![1024]⟩
abbrev S2048 : Shape := ⟨1, ![2048]⟩
abbrev S128x2048 : Shape := ⟨2, ![128, 2048]⟩
abbrev S2048x128 : Shape := ⟨2, ![2048, 128]⟩
abbrev S1024x2048 : Shape := ⟨2, ![1024, 2048]⟩
abbrev S128 : Shape := ⟨1, ![128]⟩
abbrev S128x1 : Shape := ⟨2, ![128, 1]⟩

abbrev nBuf : Space → Nat
  | .hbm => 21
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S32x4x2048, .f32⟩
  | .hbm, ⟨3, _⟩ => ⟨S1x1024x1024, .f32⟩
  | .hbm, ⟨4, _⟩ => ⟨S1x1024, .f32⟩
  | .hbm, ⟨5, _⟩ => ⟨S1x2048x2048, .f32⟩
  | .hbm, ⟨6, _⟩ => ⟨S1x2048, .f32⟩
  | .hbm, ⟨7, _⟩ => ⟨S1x2048, .f32⟩
  | .hbm, ⟨8, _⟩ => ⟨S1024x1024, .f32⟩
  | .hbm, ⟨9, _⟩ => ⟨S1024x1024, .bf16⟩
  | .hbm, ⟨10, _⟩ => ⟨S2048x2048, .f32⟩
  | .hbm, ⟨11, _⟩ => ⟨S2048x2048, .bf16⟩
  | .hbm, ⟨12, _⟩ => ⟨S1024, .f32⟩
  | .hbm, ⟨13, _⟩ => ⟨S1x1024, .f32⟩
  | .hbm, ⟨14, _⟩ => ⟨S2048, .f32⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S128x2048, .f32⟩
  | .hbm, ⟨19, _⟩ => ⟨S128x2048, .f32⟩
  | .hbm, ⟨20, _⟩ => ⟨S2048x128, .bf16⟩
  | .local _ .vmem, ⟨0, _⟩ => ⟨S128x1024, .f32⟩
  | .local _ .vmem, ⟨1, _⟩ => ⟨S128x1024, .f32⟩
  | .local _ .vmem, ⟨2, _⟩ => ⟨S128x2048, .f32⟩
  | .local _ .vmem, ⟨3, _⟩ => ⟨S1024x1024, .bf16⟩
  | .local _ .vmem, ⟨4, _⟩ => ⟨S1x1024, .f32⟩
  | .local _ .vmem, ⟨5, _⟩ => ⟨S2048x2048, .bf16⟩
  | .local _ .vmem, ⟨6, _⟩ => ⟨S1x2048, .f32⟩
  | .local _ .vmem, ⟨7, _⟩ => ⟨S1x2048, .f32⟩
  | .local _ .vmem, ⟨8, _⟩ => ⟨S128x2048, .f32⟩
  | .local _ .vmem, ⟨9, _⟩ => ⟨S2048x128, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference7Ideal.lean ====
abbrev S128x1024 : Shape := ⟨2, ![128, 1024]⟩
abbrev S32x4x2048 : Shape := ⟨3, ![32, 4, 2048]⟩
abbrev S1x1024x1024 : Shape := ⟨3, ![1, 1024, 1024]⟩
abbrev S1x1024 : Shape := ⟨2, ![1, 1024]⟩
abbrev S1x2048x2048 : Shape := ⟨3, ![1, 2048, 2048]⟩
abbrev S1x2048 : Shape := ⟨2, ![1, 2048]⟩
abbrev S_ : Shape := ⟨0, ![]⟩
abbrev S1024x1024 : Shape := ⟨2, ![1024, 1024]⟩
abbrev S1024 : Shape := ⟨1, ![1024]⟩
abbrev S128x2048 : Shape := ⟨2, ![128, 2048]⟩
abbrev S2048x2048 : Shape := ⟨2, ![2048, 2048]⟩
abbrev S2048 : Shape := ⟨1, ![2048]⟩
abbrev S128 : Shape := ⟨1, ![128]⟩
abbrev S128x1 : Shape := ⟨2, ![128, 1]⟩
abbrev S2048x128 : Shape := ⟨2, ![2048, 128]⟩

abbrev nBuf : Space → Nat
  | .hbm => 81
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S32x4x2048, .f32⟩
  | .hbm, ⟨3, _⟩ => ⟨S1x1024x1024, .f32⟩
  | .hbm, ⟨4, _⟩ => ⟨S1x1024, .f32⟩
  | .hbm, ⟨5, _⟩ => ⟨S1x2048x2048, .f32⟩
  | .hbm, ⟨6, _⟩ => ⟨S1x2048, .f32⟩
  | .hbm, ⟨7, _⟩ => ⟨S1x2048, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S1024x1024, .f32⟩
  | .hbm, ⟨26, _⟩ => ⟨S128x1024, .f32⟩
  | .hbm, ⟨27, _⟩ => ⟨S1024, .f32⟩
  | .hbm, ⟨28, _⟩ => ⟨S1x1024, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S128x2048, .f32⟩
  | .hbm, ⟨41, _⟩ => ⟨S2048x2048, .f32⟩
  | .hbm, ⟨42, _⟩ => ⟨S128x2048, .f32⟩
  | .hbm, ⟨43, _⟩ => ⟨S128x2048, .f32⟩
  | .hbm, ⟨44, _⟩ => ⟨S_, .f32⟩
  | .hbm, ⟨45, _⟩ => ⟨S128x2048, .f32⟩
  | .hbm, ⟨46, _⟩ => ⟨S128x2048, .f32⟩
  | .hbm, ⟨47, _⟩ => ⟨S128x2048, .f32⟩
  | .hbm, ⟨48, _⟩ => ⟨S2048, .f32⟩
  | .hbm, ⟨49, _⟩ => ⟨S2048, .f32⟩
  | .hbm, ⟨50, _⟩ => ⟨S_, .f32⟩
  | .hbm, ⟨51, _⟩ => ⟨S128, .f32⟩
  | .hbm, ⟨52, _⟩ => ⟨S128x1, .f32⟩
  | .hbm, ⟨53, _⟩ => ⟨S_, .f32⟩
  | .hbm, ⟨54, _⟩ => ⟨S128x1, .f32⟩
  | .hbm, ⟨55, _⟩ => ⟨S128x1, .f32⟩
  | .hbm, ⟨56, _⟩ => ⟨S128x2048, .f32⟩
  | .hbm, ⟨57, _⟩ => ⟨S128x2048, .f32⟩
  | .hbm, ⟨58, _⟩ => ⟨S128x2048, .f32⟩
  | .hbm, ⟨59, _⟩ => ⟨S_, .f32⟩
  | .hbm, ⟨60, _⟩ => ⟨S128, .f32⟩
  | .hbm, ⟨61, _⟩ => ⟨S128x1, .f32⟩
  | .hbm, ⟨62, _⟩ => ⟨S_, .f32⟩
  | .hbm, ⟨63, _⟩ => ⟨S128x1, .f32⟩
  | .hbm, ⟨64, _⟩ => ⟨S128x1, .f32⟩
  | .hbm, ⟨65, _⟩ => ⟨S128x2048, .f32⟩
  | .hbm, ⟨66, _⟩ => ⟨S128x2048, .f32⟩
  | .hbm, ⟨67, _⟩ => ⟨S_, .f32⟩
  | .hbm, ⟨68, _⟩ => ⟨S128x1, .f32⟩
  | .hbm, ⟨69, _⟩ => ⟨S128x1, .f32⟩
  | .hbm, ⟨70, _⟩ => ⟨S128x1, .f32⟩
  | .hbm, ⟨71, _⟩ => ⟨S128x2048, .f32⟩
  | .hbm, ⟨72, _⟩ => ⟨S128x2048, .f32⟩
  | .hbm, ⟨73, _⟩ => ⟨S1x2048, .f32⟩
  | .hbm, ⟨74, _⟩ => ⟨S128x2048, .f32⟩
  | .hbm, ⟨75, _⟩ => ⟨S128x2048, .f32⟩
  | .hbm, ⟨76, _⟩ => ⟨S1x2048, .f32⟩
  | .hbm, ⟨77, _⟩ => ⟨S128x2048, .f32⟩
  | .hbm, ⟨78, _⟩ => ⟨S128x2048, .f32⟩
  | .hbm, ⟨79, _⟩ => ⟨S2048x128, .f32⟩
  | .hbm, ⟨80, _⟩ => ⟨S2048x128, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Proof.AttnBits.Runs.lean ====
module

public import proofs.«01_k».proof.Proof.Gen.Kernel.Skeleton
public import proofs.«01_k».proof.Proof.AttnBits.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-! ## The kernel body per control path, on symbolic staging memrefs: a subtype the run finds -/

/-- One staging buffer of output window 6, through which its contents are stated (`View.read_writes_of_cover`). -/
abbrev VO0_6 : View sig .tc .vmem S1024x128 .f32 := (Memref.whole cc0_stg6_0 : Memref sig .tc .vmem S1024x128 .f32).view

set_option backward.proofsInPublic true in
set_option maxHeartbeats 8000000 in
/-- PATH A (points 0, 36, … 252: 8 of 288): what the body leaves — per stored output its pieces (last first), per scratch its
    contents — WITH the proof that, on whole staging memrefs, from the inputs at their blocks, the tables, the outputs
    (6: stored) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_A (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Bits .i32)) (T1 : (S36.Idx → Elt Bits .i32))
     (x0 : (S1.Idx → Elt Bits .f32)) (x1 : (S1024x128.Idx → Elt Bits .f32)) (x2 : (S1024x128.Idx → Elt Bits .f32)) (x3 : (S1024x128.Idx → Elt Bits .f32)) (x4 : (S1x2x1024x1024.Idx → Elt Bits .f32)) (x5 : (S1x128.Idx → Elt Bits .f32)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) :
    Σ' (out0 : List (View.Piece (Elt Bits) S1024x128 .f32)) (out1 : Buf (Elt Bits) ((c : Thread nD τ).loc cc0_scratch0)) (out2 : Buf (Elt Bits) ((c : Thread nD τ).loc cc0_scratch1)) (out3 : Buf (Elt Bits) ((c : Thread nD τ).loc cc0_scratch2)), { out4 : Buf (Elt Bits) ((c : Thread nD τ).loc cc0_scratch3) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Bits)) Variants.none c none) Set.univ (cc0_attn_prompt i tbM0_0 (Memref.isWhole_whole _) tbM0_1 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) K => by
    unfold owns
    rw [cc0_attn_prompt_eq_skeleton]; unfold cc0_attn_prompt_skel
    iintro ⟨H0, H1, H2, H3, H4, H5, HT0, HT1, ⟨%d6, %f6, -, HO6⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = ¬(Scalar.cmpi = _); exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HS0]; · iexact HS0
    isplitl [HS1]; · iexact HS1
    isplitl [HS2]; · iexact HS2
    iexact HS3⟩

/-- Path A's pieces for output 6 tile its block (1 store of `S1024x128`: the kernel evaluates the tiling, Lib/Ring.lean `Piece.tiledL`). -/
theorem cover0_A_6 (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Bits .i32)) (T1 : (S36.Idx → Elt Bits .i32))
     (x0 : (S1.Idx → Elt Bits .f32)) (x1 : (S1024x128.Idx → Elt Bits .f32)) (x2 : (S1024x128.Idx → Elt Bits .f32)) (x3 : (S1024x128.Idx → Elt Bits .f32)) (x4 : (S1x2x1024x1024.Idx → Elt Bits .f32)) (x5 : (S1x128.Idx → Elt Bits .f32)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) (y : S1024x128.Idx) :
    ∃ pc ∈ (kernelRun0_A c i arg4 harg4 arg5 harg5 arg6 harg6 arg7 harg7 arg8 harg8 arg9 harg9 arg10 harg10 T0 T1 x0 x1 x2 x3 x4 x5 hc0 hc1 hc2 k0_h4).1, y ∈ pc.1.set :=
  View.cover_of_tiledL (kernelRun0_A c i arg4 harg4 arg5 harg5 arg6 harg6 arg7 harg7 arg8 harg8 arg9 harg9 arg10 harg10 T0 T1 x0 x1 x2 x3 x4 x5 hc0 hc1 hc2 k0_h4).1 S1024x128.size (by sl_kernel_rfl) y

/-- What path A leaves in output 6's staging buffer: its pieces read back over junk. -/
def out0_A_6 (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Bits .i32)) (T1 : (S36.Idx → Elt Bits .i32))
     (x0 : (S1.Idx → Elt Bits .f32)) (x1 : (S1024x128.Idx → Elt Bits .f32)) (x2 : (S1024x128.Idx → Elt Bits .f32)) (x3 : (S1024x128.Idx → Elt Bits .f32)) (x4 : (S1x2x1024x1024.Idx → Elt Bits .f32)) (x5 : (S1x128.Idx → Elt Bits .f32)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) : (S1024x128.Idx → Elt Bits .f32) :=
  VO0_6.read (Elt Bits) (VO0_6.writes (Elt Bits) VO0_6.junk (kernelRun0_A c i arg4 harg4 arg5 harg5 arg6 harg6 arg7 harg7 arg8 harg8 arg9 harg9 arg10 harg10 T0 T1 x0 x1 x2 x3 x4 x5 hc0 hc1 hc2 k0_h4).1)

set_option backward.proofsInPublic true in
set_option maxHeartbeats 8000000 in
/-- PATH B (points 1, 37, … 253: 8 of 288): what the body leaves — per stored output its pieces (last first), per scratch its
    contents — WITH the proof that, on whole staging memrefs, from the inputs at their blocks, the tables, the outputs
    (6: idle) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_B (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Bits .i32)) (T1 : (S36.Idx → Elt Bits .i32))
     (x0 : (S1.Idx → Elt Bits .f32)) (x1 : (S1024x128.Idx → Elt Bits .f32)) (x2 : (S1024x128.Idx → Elt Bits .f32)) (x3 : (S1024x128.Idx → Elt Bits .f32)) (x4 : (S1x2x1024x1024.Idx → Elt Bits .f32)) (x5 : (S1x128.Idx → Elt Bits .f32)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (hc2 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1) (k0_h4 : ¬(k0_cond4 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y6 : (S1024x128.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ owns (c : Thread nD τ) arg10 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_attn_prompt i tbM0_0 (Memref.isWhole_whole _) tbM0_1 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y6 : (S1024x128.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) K => by
    unfold owns
    rw [cc0_attn_prompt_eq_skeleton]; unfold cc0_attn_prompt_skel
    iintro ⟨H0, H1, H2, H3, H4, H5, HT0, HT1, ⟨%f6, %hf6, HO6⟩, HS0, HS1, HS2, HS3, Hk⟩
    obtain rfl := harg10.eq_unread hf6
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg10.read_unread _
      iexact HO6
    isplitl [HS0]; · iexact HS0
    isplitl [HS1]; · iexact HS1
    isplitl [HS2]; · iexact HS2
    iexact HS3⟩

set_option backward.proofsInPublic true in
set_option maxHeartbeats 8000000 in
/-- PATH C (points 2, 5, … 287: 56 of 288): what the body leaves — per stored output its pieces (last first), per scratch its
    contents — WITH the proof that, on whole staging memrefs, from the inputs at their blocks, the tables, the outputs
    (6: stored) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_C (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Bits .i32)) (T1 : (S36.Idx → Elt Bits .i32))
     (x0 : (S1.Idx → Elt Bits .f32)) (x1 : (S1024x128.Idx → Elt Bits .f32)) (x2 : (S1024x128.Idx → Elt Bits .f32)) (x3 : (S1024x128.Idx → Elt Bits .f32)) (x4 : (S1x2x1024x1024.Idx → Elt Bits .f32)) (x5 : (S1x128.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) :
    Σ' (out0 : List (View.Piece (Elt Bits) S1024x128 .f32)) (out1 : Buf (Elt Bits) ((c : Thread nD τ).loc cc0_scratch0)) (out2 : Buf (Elt Bits) ((c : Thread nD τ).loc cc0_scratch1)) (out3 : Buf (Elt Bits) ((c : Thread nD τ).loc cc0_scratch2)), { out4 : Buf (Elt Bits) ((c : Thread nD τ).loc cc0_scratch3) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Bits)) Variants.none c none) Set.univ (cc0_attn_prompt i tbM0_0 (Memref.isWhole_whole _) tbM0_1 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, _, fun K => by
    unfold owns
    rw [cc0_attn_prompt_eq_skeleton]; unfold cc0_attn_prompt_skel
    iintro ⟨H0, H1, H2, H3, H4, H5, HT0, HT1, ⟨%d6, %f6, -, HO6⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = ¬(Scalar.cmpi = _); exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HS0]; · iexact HS0
    isplitl [HS1]; · iexact HS1
    isplitl [HS2]; · iexact HS2
    iexact HS3⟩

/-- Path C's pieces for output 6 tile its block (1 store of `S1024x128`: the kernel evaluates the tiling, Lib/Ring.lean `Piece.tiledL`). -/
theorem cover0_C_6 (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Bits .i32)) (T1 : (S36.Idx → Elt Bits .i32))
     (x0 : (S1.Idx → Elt Bits .f32)) (x1 : (S1024x128.Idx → Elt Bits .f32)) (x2 : (S1024x128.Idx → Elt Bits .f32)) (x3 : (S1024x128.Idx → Elt Bits .f32)) (x4 : (S1x2x1024x1024.Idx → Elt Bits .f32)) (x5 : (S1x128.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) (y : S1024x128.Idx) :
    ∃ pc ∈ (kernelRun0_C c i arg4 harg4 arg5 harg5 arg6 harg6 arg7 harg7 arg8 harg8 arg9 harg9 arg10 harg10 T0 T1 x0 x1 x2 x3 x4 x5 xa0 xa1 xa2 xa3 hc0 hc1 hc2 k0_h4).1, y ∈ pc.1.set :=
  View.cover_of_tiledL (kernelRun0_C c i arg4 harg4 arg5 harg5 arg6 harg6 arg7 harg7 arg8 harg8 arg9 harg9 arg10 harg10 T0 T1 x0 x1 x2 x3 x4 x5 xa0 xa1 xa2 xa3 hc0 hc1 hc2 k0_h4).1 S1024x128.size (by sl_kernel_rfl) y

/-- What path C leaves in output 6's staging buffer: its pieces read back over junk. -/
def out0_C_6 (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Bits .i32)) (T1 : (S36.Idx → Elt Bits .i32))
     (x0 : (S1.Idx → Elt Bits .f32)) (x1 : (S1024x128.Idx → Elt Bits .f32)) (x2 : (S1024x128.Idx → Elt Bits .f32)) (x3 : (S1024x128.Idx → Elt Bits .f32)) (x4 : (S1x2x1024x1024.Idx → Elt Bits .f32)) (x5 : (S1x128.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (k0_h4 : k0_cond4 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1) : (S1024x128.Idx → Elt Bits .f32) :=
  VO0_6.read (Elt Bits) (VO0_6.writes (Elt Bits) VO0_6.junk (kernelRun0_C c i arg4 harg4 arg5 harg5 arg6 harg6 arg7 harg7 arg8 harg8 arg9 harg9 arg10 harg10 T0 T1 x0 x1 x2 x3 x4 x5 xa0 xa1 xa2 xa3 hc0 hc1 hc2 k0_h4).1)

set_option backward.proofsInPublic true in
set_option maxHeartbeats 8000000 in
/-- PATH D (points 3, 6, … 280: 48 of 288): what the body leaves — per stored output its pieces (last first), per scratch its
    contents — WITH the proof that, on whole staging memrefs, from the inputs at their blocks, the tables, the outputs
    (6: idle) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_D (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Bits .i32)) (T1 : (S36.Idx → Elt Bits .i32))
     (x0 : (S1.Idx → Elt Bits .f32)) (x1 : (S1024x128.Idx → Elt Bits .f32)) (x2 : (S1024x128.Idx → Elt Bits .f32)) (x3 : (S1024x128.Idx → Elt Bits .f32)) (x4 : (S1x2x1024x1024.Idx → Elt Bits .f32)) (x5 : (S1x128.Idx → Elt Bits .f32)) (hc0 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (k0_h4 : ¬(k0_cond4 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y6 : (S1024x128.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ owns (c : Thread nD τ) arg10 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_attn_prompt i tbM0_0 (Memref.isWhole_whole _) tbM0_1 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y6 : (S1024x128.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) K => by
    unfold owns
    rw [cc0_attn_prompt_eq_skeleton]; unfold cc0_attn_prompt_skel
    iintro ⟨H0, H1, H2, H3, H4, H5, HT0, HT1, ⟨%f6, %hf6, HO6⟩, HS0, HS1, HS2, HS3, Hk⟩
    obtain rfl := harg10.eq_unread hf6
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg10.read_unread _
      iexact HO6
    isplitl [HS0]; · iexact HS0
    isplitl [HS1]; · iexact HS1
    isplitl [HS2]; · iexact HS2
    iexact HS3⟩

set_option backward.proofsInPublic true in
set_option maxHeartbeats 8000000 in
/-- PATH E (points 4, 8, … 286: 48 of 288): what the body leaves — per stored output its pieces (last first), per scratch its
    contents — WITH the proof that, on whole staging memrefs, from the inputs at their blocks, the tables, the outputs
    (6: idle) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_E (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Bits .i32)) (T1 : (S36.Idx → Elt Bits .i32))
     (x0 : (S1.Idx → Elt Bits .f32)) (x1 : (S1024x128.Idx → Elt Bits .f32)) (x2 : (S1024x128.Idx → Elt Bits .f32)) (x3 : (S1024x128.Idx → Elt Bits .f32)) (x4 : (S1x2x1024x1024.Idx → Elt Bits .f32)) (x5 : (S1x128.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (hc2 : (Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1) (k0_h4 : ¬(k0_cond4 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y6 : (S1024x128.Idx → Elt Bits .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ owns (c : Thread nD τ) arg10 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_attn_prompt i tbM0_0 (Memref.isWhole_whole _) tbM0_1 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y6 : (S1024x128.Idx → Elt Bits .f32)) K => by
    unfold owns
    rw [cc0_attn_prompt_eq_skeleton]; unfold cc0_attn_prompt_skel
    iintro ⟨H0, H1, H2, H3, H4, H5, HT0, HT1, ⟨%f6, %hf6, HO6⟩, HS0, HS1, HS2, HS3, Hk⟩
    obtain rfl := harg10.eq_unread hf6
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg10.read_unread _
      iexact HO6
    isplitl [HS0]; · iexact HS0
    isplitl [HS1]; · iexact HS1
    isplitl [HS2]; · iexact HS2
    iexact HS3⟩

set_option backward.proofsInPublic true in
set_option maxHeartbeats 8000000 in
/-- PATH F (points 7, 11, … 285: 120 of 288): what the body leaves — per stored output its pieces (last first), per scratch its
    contents — WITH the proof that, on whole staging memrefs, from the inputs at their blocks, the tables, the outputs
    (6: idle) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_F (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Bits .i32)) (T1 : (S36.Idx → Elt Bits .i32))
     (x0 : (S1.Idx → Elt Bits .f32)) (x1 : (S1024x128.Idx → Elt Bits .f32)) (x2 : (S1024x128.Idx → Elt Bits .f32)) (x3 : (S1024x128.Idx → Elt Bits .f32)) (x4 : (S1x2x1024x1024.Idx → Elt Bits .f32)) (x5 : (S1x128.Idx → Elt Bits .f32)) (xa0 : Buf (Elt Bits) ((c : Thread nD τ).loc cc0_scratch0)) (xa1 : Buf (Elt Bits) ((c : Thread nD τ).loc cc0_scratch1)) (xa2 : Buf (Elt Bits) ((c : Thread nD τ).loc cc0_scratch2)) (xa3 : Buf (Elt Bits) ((c : Thread nD τ).loc cc0_scratch3)) (hc0 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1) (hc2 : ¬((Scalar.cmpi .ne (Scalar.extui (Scalar.cmpi .eq (View.readAt (Elt Bits) (tbM0_1).view (Rect.unit (s := S36) (k0_off1 i) S1.size (k0_off1_inb i)).toLoadRect T1 (Shape.Idx.first (numel1_S1.symm ▸ Nat.one_pos))) (Scalar.subi (View.readAt (Elt Bits) (tbM0_0).view (Rect.unit (s := S36) (k0_off1 i) S1.size (k0_off1_inb i)).toLoadRect T0 (Shape.Idx.first (numel1_S1.symm ▸ Nat.one_pos))) 1#32))) 0#32) = 1#1)) (k0_h4 : ¬(k0_cond4 (View.readAt (Elt Bits) (tbM0_0).view (Rect.unit (s := S36) (k0_off1 i) S1.size (k0_off1_inb i)).toLoadRect T0 (Shape.Idx.first (numel1_S1.symm ▸ Nat.one_pos))) (View.readAt (Elt Bits) (tbM0_1).view (Rect.unit (s := S36) (k0_off1 i) S1.size (k0_off1_inb i)).toLoadRect T1 (Shape.Idx.first (numel1_S1.symm ▸ Nat.one_pos))) = 1#1)) :
    Σ' (out0 : Buf (Elt Bits) ((c : Thread nD τ).loc cc0_scratch0)) (out1 : Buf (Elt Bits) ((c : Thread nD τ).loc cc0_scratch1)) (out2 : Buf (Elt Bits) ((c : Thread nD τ).loc cc0_scratch2)), { out3 : Buf (Elt Bits) ((c : Thread nD τ).loc cc0_scratch3) //
      ∀ (y6 : (S1024x128.Idx → Elt Bits .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ owns (c : Thread nD τ) arg10 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Bits)) Variants.none c none) Set.univ (cc0_attn_prompt i tbM0_0 (Memref.isWhole_whole _) tbM0_1 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y6 : (S1024x128.Idx → Elt Bits .f32)) K => by
    unfold owns
    rw [cc0_attn_prompt_eq_skeleton]; unfold cc0_attn_prompt_skel
    iintro ⟨H0, H1, H2, H3, H4, H5, HT0, HT1, ⟨%f6, %hf6, HO6⟩, HS0, HS1, HS2, HS3, Hk⟩
    obtain rfl := harg10.eq_unread hf6
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg10.read_unread _
      iexact HO6
    isplitl [HS0]; · iexact HS0
    isplitl [HS1]; · iexact HS1
    isplitl [HS2]; · iexact HS2
    iexact HS3⟩

end Cert.Kernel.Gen

end
-- ==== Proof.AttnBits.Ok0.lean ====
module

public import proofs.«01_k».proof.Proof.AttnBits.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

theorem ok_pfN_0_0_inb : ∀ i : grid0.Coords, ∀ a, (cc0_transform_1 k0_off1_inb numel1_S1 (pfN (⟨0, by omega⟩ : Fin 1)) i a + 1) * S1024x128.size a ≤ S8192x1024.size a := by decide +kernel
theorem ok_pfN_0_0 : (∀ i : grid0.Coords, ∃ h : (∀ a, (cc0_transform_1 k0_off1_inb numel1_S1 (pfN (⟨0, by omega⟩ : Fin 1)) i a + 1) * S1024x128.size a ≤ S8192x1024.size a), EltTy.bits .f32 = 32 ∨ (Rect.block (s := S8192x1024) S1024x128.size (cc0_transform_1 k0_off1_inb numel1_S1 (pfN (⟨0, by omega⟩ : Fin 1)) i) h).WholeWords (EltTy.packing .f32)) := fun i => ⟨ok_pfN_0_0_inb i, .inl rfl⟩
theorem ok_pfN_0_1_inb : ∀ i : grid0.Coords, ∀ a, (cc0_transform_2 k0_off1_inb numel1_S1 (pfN (⟨0, by omega⟩ : Fin 1)) i a + 1) * S1024x128.size a ≤ S8192x1024.size a := by decide +kernel
theorem ok_pfN_0_1 : (∀ i : grid0.Coords, ∃ h : (∀ a, (cc0_transform_2 k0_off1_inb numel1_S1 (pfN (⟨0, by omega⟩ : Fin 1)) i a + 1) * S1024x128.size a ≤ S8192x1024.size a), EltTy.bits .f32 = 32 ∨ (Rect.block (s := S8192x1024) S1024x128.size (cc0_transform_2 k0_off1_inb numel1_S1 (pfN (⟨0, by omega⟩ : Fin 1)) i) h).WholeWords (EltTy.packing .f32)) := fun i => ⟨ok_pfN_0_1_inb i, .inl rfl⟩
theorem ok_pfN_0_2_inb : ∀ i : grid0.Coords, ∀ a, (cc0_transform_3 k0_off1_inb numel1_S1 (pfN (⟨0, by omega⟩ : Fin 1)) i a + 1) * S1024x128.size a ≤ S8192x1024.size a := by decide +kernel
theorem ok_pfN_0_2 : (∀ i : grid0.Coords, ∃ h : (∀ a, (cc0_transform_3 k0_off1_inb numel1_S1 (pfN (⟨0, by omega⟩ : Fin 1)) i a + 1) * S1024x128.size a ≤ S8192x1024.size a), EltTy.bits .f32 = 32 ∨ (Rect.block (s := S8192x1024) S1024x128.size (cc0_transform_3 k0_off1_inb numel1_S1 (pfN (⟨0, by omega⟩ : Fin 1)) i) h).WholeWords (EltTy.packing .f32)) := fun i => ⟨ok_pfN_0_2_inb i, .inl rfl⟩
theorem ok_pfN_0_3_inb : ∀ i : grid0.Coords, ∀ a, (cc0_transform_6 k0_off1_inb numel1_S1 (pfN (⟨0, by omega⟩ : Fin 1)) i a + 1) * S1024x128.size a ≤ S8192x1024.size a := by decide +kernel
theorem ok_pfN_0_3 : (∀ i : grid0.Coords, ∃ h : (∀ a, (cc0_transform_6 k0_off1_inb numel1_S1 (pfN (⟨0, by omega⟩ : Fin 1)) i a + 1) * S1024x128.size a ≤ S8192x1024.size a), EltTy.bits .f32 = 32 ∨ (Rect.block (s := S8192x1024) S1024x128.size (cc0_transform_6 k0_off1_inb numel1_S1 (pfN (⟨0, by omega⟩ : Fin 1)) i) h).WholeWords (EltTy.packing .f32)) := fun i => ⟨ok_pfN_0_3_inb i, .inl rfl⟩
theorem ok_pfN_0 : ok0 (F := Bits) (pfN (⟨0, by omega⟩ : Fin 1)) := ⟨ok_pfN_0_0, ok_pfN_0_1, ok_pfN_0_2, ok_pfN_0_3⟩

end Cert.Kernel.Gen

end
-- ==== Proof.AttnBits.Cfg.lean ====
module

public import proofs.«01_k».proof.Proof.AttnBits.Ok0

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)

/-- The side condition holds of the pinned tables at EVERY member (the grid at them one the launch runs, every block
    inside its array): decided member by member (Flash/OkJ.lean), matched here. -/
theorem ok_pfN : ∀ ch : Fin 1, ok0 (F := Bits) (pfN ch) := fun ch => match ch with
  | ⟨0, _⟩ => ok_pfN_0
  | ⟨_ + 1, h⟩ => absurd h (by omega)

/-- The admissible contents, the pipeline at them (`cfgA ch`: member `ch`'s grid, 288 points), as @main's one. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .smem S1 .f32 := spec0_0.stage ((cfgA ch).slots t (0 : Fin 7))
abbrev hs0_0 (t : Fin (cfgA ch).N) : (ms0_0 ch t).IsWhole := hstage0_0 (((cfgA ch).slots t (0 : Fin 7)).cast nbuf0_0)
abbrev ms0_1 (t : Fin (cfgA ch).N) : Memref sig .tc .vmem S1024x128 .f32 := spec0_1.stage ((cfgA ch).slots t (1 : Fin 7))
abbrev hs0_1 (t : Fin (cfgA ch).N) : (ms0_1 ch t).IsWhole := hstage0_1 (((cfgA ch).slots t (1 : Fin 7)).cast nbuf0_1)
abbrev ms0_2 (t : Fin (cfgA ch).N) : Memref sig .tc .vmem S1024x128 .f32 := spec0_2.stage ((cfgA ch).slots t (2 : Fin 7))
abbrev hs0_2 (t : Fin (cfgA ch).N) : (ms0_2 ch t).IsWhole := hstage0_2 (((cfgA ch).slots t (2 : Fin 7)).cast nbuf0_2)
abbrev ms0_3 (t : Fin (cfgA ch).N) : Memref sig .tc .vmem S1024x128 .f32 := spec0_3.stage ((cfgA ch).slots t (3 : Fin 7))
abbrev hs0_3 (t : Fin (cfgA ch).N) : (ms0_3 ch t).IsWhole := hstage0_3 (((cfgA ch).slots t (3 : Fin 7)).cast nbuf0_3)
abbrev ms0_4 (t : Fin (cfgA ch).N) : Memref sig .tc .vmem S1x2x1024x1024 .f32 := spec0_4.stage ((cfgA ch).slots t (4 : Fin 7))
abbrev hs0_4 (t : Fin (cfgA ch).N) : (ms0_4 ch t).IsWhole := hstage0_4 (((cfgA ch).slots t (4 : Fin 7)).cast nbuf0_4)
abbrev ms0_5 (t : Fin (cfgA ch).N) : Memref sig .tc .vmem S1x128 .f32 := spec0_5.stage ((cfgA ch).slots t (5 : Fin 7))
abbrev hs0_5 (t : Fin (cfgA ch).N) : (ms0_5 ch t).IsWhole := hstage0_5 (((cfgA ch).slots t (5 : Fin 7)).cast nbuf0_5)
abbrev ms0_6 (t : Fin (cfgA ch).N) : Memref sig .tc .vmem S1024x128 .f32 := spec0_6.stage ((cfgA ch).slots t (6 : Fin 7))
abbrev hs0_6 (t : Fin (cfgA ch).N) : (ms0_6 ch t).IsWhole := hstage0_6 (((cfgA ch).slots t (6 : Fin 7)).cast nbuf0_6)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1
abbrev P0_2 (t : Fin (cfgA ch).N) : Prop := (Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1

/-- Whether scratch 0 (`cc0_scratch0`) holds nothing a point has determined, before position `n`: until a path that stores it
    whole first (A, B, D) has run. -/
def sfresh0_0 : ℕ → Bool
  | 0 => true
  | n + 1 => if h : n < (cfgA ch).N then (if P0_0 ch ⟨n, h⟩ then (if P0_1 ch ⟨n, h⟩ then false else (if P0_2 ch ⟨n, h⟩ then false else false)) else (if P0_1 ch ⟨n, h⟩ then sfresh0_0 n else (if P0_2 ch ⟨n, h⟩ then sfresh0_0 n else sfresh0_0 n))) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B, D) has run. -/
def sfresh0_1 : ℕ → Bool
  | 0 => true
  | n + 1 => if h : n < (cfgA ch).N then (if P0_0 ch ⟨n, h⟩ then (if P0_1 ch ⟨n, h⟩ then false else (if P0_2 ch ⟨n, h⟩ then false else false)) else (if P0_1 ch ⟨n, h⟩ then sfresh0_1 n else (if P0_2 ch ⟨n, h⟩ then sfresh0_1 n else sfresh0_1 n))) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, B, D) has run. -/
def sfresh0_2 : ℕ → Bool
  | 0 => true
  | n + 1 => if h : n < (cfgA ch).N then (if P0_0 ch ⟨n, h⟩ then (if P0_1 ch ⟨n, h⟩ then false else (if P0_2 ch ⟨n, h⟩ then false else false)) else (if P0_1 ch ⟨n, h⟩ then sfresh0_2 n else (if P0_2 ch ⟨n, h⟩ then sfresh0_2 n else sfresh0_2 n))) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

/-- Whether scratch 3 (`cc0_scratch3`) holds nothing a point has determined, before position `n`: until a path that stores it
    whole first (A, B, D) has run. -/
def sfresh0_3 : ℕ → Bool
  | 0 => true
  | n + 1 => if h : n < (cfgA ch).N then (if P0_0 ch ⟨n, h⟩ then (if P0_1 ch ⟨n, h⟩ then false else (if P0_2 ch ⟨n, h⟩ then false else false)) else (if P0_1 ch ⟨n, h⟩ then sfresh0_3 n else (if P0_2 ch ⟨n, h⟩ then sfresh0_3 n else sfresh0_3 n))) else true

/-- Its CLOSED FORM: fresh before position `n` iff no point below `n` covers it — `n` at most member `ch`'s first covering
    point (read off the walk; the recursion's step is decided against it point by point, the recursion never run). -/
def sfirst0_3 (ch : Fin 1) : ℕ := 0
def sfrTab0_3 : ℕ → Bool := fun n => decide (n ≤ sfirst0_3 ch)

set_option backward.proofsInPublic true in
/-- Whether output 6 holds junk BEFORE each position `1 ‥ N` of member `ch`'s grid — nothing stored into it since
    its last write-back —: the classifier's table (written back at the point before, or idle there and junk
    before it) as a bitmask, bit `n` for position `n + 1`, which `frTab0_6_step` checks against the pipeline's
    own recursion point by point (a bit test is one kernel step; a list walk or the recursion, hundreds). -/
def frMask0_6 : Fin 1 → ℕ
  | ⟨0, _⟩ => 0xffffffffffffffffffffffffffffffffffffffffffffffffffffffffffffffffffffffff
  | ⟨_ + 1, h⟩ => absurd h (by omega)
/-- `(cfgA ch).fresh 6` TABULATED (TableIdle.lean `Cfg.fresh_tab`): true before the first point, then the table. -/
def frTab0_6 : ℕ → Bool
  | 0 => true
  | n + 1 => (frMask0_6 ch).testBit n

end Cert.Kernel.Gen

end
-- ==== Proof.AttnBits.Facts.lean ====
module

public import proofs.«01_k».proof.Proof.AttnBits.Cfg

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ
variable (ch : Fin 1)
variable (m : (ℓ : Loc nD τ sig) → Buf (Elt Bits) ℓ) (ρ : Dev nD → PrngReg)

/-! ## Every per-point fact as ONE proposition, decided member by member; the named facts its projections -/

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, sfrTab0_3_step, frTab0_6_step, hyps0_A, sched0_A, hyps0_B, sched0_B, hyps0_C, sched0_C, hyps0_D, sched0_D, hyps0_E, sched0_E, hyps0_F, sched0_F
  (sfrTab0_0 ch (t.val + 1) = (if P0_0 ch t then (if P0_1 ch t then false else (if P0_2 ch t then false else false)) else (if P0_1 ch t then sfrTab0_0 ch t.val else (if P0_2 ch t then sfrTab0_0 ch t.val else sfrTab0_0 ch t.val))))
  ∧ (sfrTab0_1 ch (t.val + 1) = (if P0_0 ch t then (if P0_1 ch t then false else (if P0_2 ch t then false else false)) else (if P0_1 ch t then sfrTab0_1 ch t.val else (if P0_2 ch t then sfrTab0_1 ch t.val else sfrTab0_1 ch t.val))))
  ∧ (sfrTab0_2 ch (t.val + 1) = (if P0_0 ch t then (if P0_1 ch t then false else (if P0_2 ch t then false else false)) else (if P0_1 ch t then sfrTab0_2 ch t.val else (if P0_2 ch t then sfrTab0_2 ch t.val else sfrTab0_2 ch t.val))))
  ∧ (sfrTab0_3 ch (t.val + 1) = (if P0_0 ch t then (if P0_1 ch t then false else (if P0_2 ch t then false else false)) else (if P0_1 ch t then sfrTab0_3 ch t.val else (if P0_2 ch t then sfrTab0_3 ch t.val else sfrTab0_3 ch t.val))))
  ∧ (frTab0_6 ch (t.val + 1) = (((cfgA ch).win (6 : Fin 7)).flush t || ((cfgA ch).idle (6 : Fin 7) ((cfgA ch).grid.coords t) && frTab0_6 ch t.val)))
  ∧ (P0_0 ch t → ¬P0_1 ch t → ¬P0_2 ch t → ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1) ∧ (True)))))
  ∧ (P0_0 ch t → ¬P0_1 ch t → ¬P0_2 ch t → (cfgA ch).idle (6 : Fin 7) ((cfgA ch).grid.coords t) = false ∧ ((cfgA ch).win (6 : Fin 7)).flush t = true ∧ frTab0_6 ch t.val = true ∧ sfrTab0_0 ch (t.val + 1) = false ∧ sfrTab0_1 ch (t.val + 1) = false ∧ sfrTab0_2 ch (t.val + 1) = false ∧ sfrTab0_3 ch (t.val + 1) = false)
  ∧ (P0_0 ch t → ¬P0_1 ch t → P0_2 ch t → ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ (((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬(k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True)))))
  ∧ (P0_0 ch t → ¬P0_1 ch t → P0_2 ch t → (cfgA ch).idle (6 : Fin 7) ((cfgA ch).grid.coords t) = true ∧ ((cfgA ch).win (6 : Fin 7)).flush t = false ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → ¬P0_1 ch t → ¬P0_2 ch t → (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1) ∧ (True)))))
  ∧ (¬P0_0 ch t → ¬P0_1 ch t → ¬P0_2 ch t → (cfgA ch).idle (6 : Fin 7) ((cfgA ch).grid.coords t) = false ∧ ((cfgA ch).win (6 : Fin 7)).flush t = true ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (P0_0 ch t → P0_1 ch t → ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬(k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True)))))
  ∧ (P0_0 ch t → P0_1 ch t → (cfgA ch).idle (6 : Fin 7) ((cfgA ch).grid.coords t) = true ∧ ((cfgA ch).win (6 : Fin 7)).flush t = false ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → ¬P0_1 ch t → P0_2 ch t → (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ (((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬(k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True)))))
  ∧ (¬P0_0 ch t → ¬P0_1 ch t → P0_2 ch t → (cfgA ch).idle (6 : Fin 7) ((cfgA ch).grid.coords t) = true ∧ ((cfgA ch).win (6 : Fin 7)).flush t = false ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → P0_1 ch t → (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬(k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True)))))
  ∧ (¬P0_0 ch t → P0_1 ch t → (cfgA ch).idle (6 : Fin 7) ((cfgA ch).grid.coords t) = true ∧ ((cfgA ch).win (6 : Fin 7)).flush t = false ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))))))

end Cert.Kernel.Gen

end
-- ==== Proof.AttnBits.Launch.lean ====
module

public import proofs.«01_k».proof.Proof.AttnBits.Runs
public import proofs.«01_k».proof.Proof.AttnBits.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Gen

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Bits) ℓ) (ρ : Dev nD → PrngReg)

/-- The facts at every point of every member (decided member by member in slices of points, Flash/FactsJ.lean). -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem sfrTab0_0_step : ∀ (ch : Fin 1) (t : Fin (cfgA ch).N), sfrTab0_0 ch (t.val + 1) = (if P0_0 ch t then (if P0_1 ch t then false else (if P0_2 ch t then false else false)) else (if P0_1 ch t then sfrTab0_0 ch t.val else (if P0_2 ch t then sfrTab0_0 ch t.val else sfrTab0_0 ch t.val))) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else (if P0_2 ch t then false else false)) else (if P0_1 ch t then sfrTab0_1 ch t.val else (if P0_2 ch t then sfrTab0_1 ch t.val else sfrTab0_1 ch t.val))) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else (if P0_2 ch t then false else false)) else (if P0_1 ch t then sfrTab0_2 ch t.val else (if P0_2 ch t then sfrTab0_2 ch t.val else sfrTab0_2 ch t.val))) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem sfrTab0_3_step : ∀ (ch : Fin 1) (t : Fin (cfgA ch).N), sfrTab0_3 ch (t.val + 1) = (if P0_0 ch t then (if P0_1 ch t then false else (if P0_2 ch t then false else false)) else (if P0_1 ch t then sfrTab0_3 ch t.val else (if P0_2 ch t then sfrTab0_3 ch t.val else sfrTab0_3 ch t.val))) := fun ch t => (allFacts ch t).2.2.2.1
theorem sfresh0_3_eq : ∀ n, n ≤ (cfgA ch).N → sfresh0_3 ch n = sfrTab0_3 ch n
  | 0, _ => by simp only [sfresh0_3, sfrTab0_3, Nat.zero_le, decide_true]
  | n + 1, h => by simp only [sfresh0_3, dif_pos (show n < (cfgA ch).N from h), sfresh0_3_eq n (Nat.le_of_lt h), sfrTab0_3_step ch ⟨n, h⟩]
theorem sfreshF0_3 (t : Fin (cfgA ch).N) : sfresh0_3 ch t.val = sfrTab0_3 ch t.val := sfresh0_3_eq ch t.val (Nat.le_of_lt t.isLt)
theorem sfreshS0_3 (t : Fin (cfgA ch).N) : sfresh0_3 ch (t.val + 1) = sfrTab0_3 ch (t.val + 1) := sfresh0_3_eq ch (t.val + 1) t.isLt

theorem frTab0_6_step : ∀ (ch : Fin 1) (t : Fin (cfgA ch).N),
    frTab0_6 ch (t.val + 1) = (((cfgA ch).win (6 : Fin 7)).flush t || ((cfgA ch).idle (6 : Fin 7) ((cfgA ch).grid.coords t) && frTab0_6 ch t.val)) := fun ch t => (allFacts ch t).2.2.2.2.1
theorem freshF0_6 (t : Fin (cfgA ch).N) : (cfgA ch).fresh (6 : Fin 7) t.val = frTab0_6 ch t.val :=
  Pipeline.Cfg.fresh_tab (cfgA ch) (6 : Fin 7) (frTab0_6 ch) rfl (frTab0_6_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N), P0_0 ch t → ¬P0_1 ch t → ¬P0_2 ch t →
    ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1) ∧ (True)))) := fun ch t => (allFacts ch t).2.2.2.2.2.1

theorem hypsR0_A : ∀ (ch : Fin 1) (t : Fin (cfgA ch).N), P0_0 ch t → ¬P0_1 ch t → ¬P0_2 ch t →
    ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1) ∧ (True)))) := hyps0_A

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t → ¬P0_1 ch t → ¬P0_2 ch t →
    (cfgA ch).idle (6 : Fin 7) ((cfgA ch).grid.coords t) = false ∧ ((cfgA ch).win (6 : Fin 7)).flush t = true ∧ (cfgA ch).fresh (6 : Fin 7) t.val = true ∧ sfresh0_0 ch (t.val + 1) = false ∧ sfresh0_1 ch (t.val + 1) = false ∧ sfresh0_2 ch (t.val + 1) = false ∧ sfresh0_3 ch (t.val + 1) = false := by
  intro ch t; rw [freshF0_6 ch t, sfreshS0_0 ch t, sfreshS0_1 ch t, sfreshS0_2 ch t, sfreshS0_3 ch t]; exact (fun ch t => (allFacts ch t).2.2.2.2.2.2.1) ch t

/-- At a point of path B, the path's hypotheses hold of the words the body reads there (the pinned tables read,
    a pinned window's word AS the word `pinBlk ch t (r.idx x)`; the checks among them cited from `ChecksAt`). -/
theorem hyps0_B : ∀ (ch : Fin 1) (t : Fin (cfgA ch).N), P0_0 ch t → ¬P0_1 ch t → P0_2 ch t →
    ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ (((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬(k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := fun ch t => (allFacts ch t).2.2.2.2.2.2.2.1

theorem hypsR0_B : ∀ (ch : Fin 1) (t : Fin (cfgA ch).N), P0_0 ch t → ¬P0_1 ch t → P0_2 ch t →
    ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ (((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬(k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := hyps0_B

/-- At a point of path B: the idle table, the write-backs and which buffers hold junk (decided over the
    freshness tables `frTab`/`sfrTab`, restated over `Cfg.fresh`/`sfresh` by their agreement). -/
theorem sched0_B : ∀ (ch : Fin 1) (t : Fin (cfgA ch).N), P0_0 ch t → ¬P0_1 ch t → P0_2 ch t →
    (cfgA ch).idle (6 : Fin 7) ((cfgA ch).grid.coords t) = true ∧ ((cfgA ch).win (6 : Fin 7)).flush t = false ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Fin 1) (t : Fin (cfgA ch).N), ¬P0_0 ch t → ¬P0_1 ch t → ¬P0_2 ch t →
    (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1) ∧ (True)))) := fun ch t => (allFacts ch t).2.2.2.2.2.2.2.2.2.1

theorem hypsR0_C : ∀ (ch : Fin 1) (t : Fin (cfgA ch).N), ¬P0_0 ch t → ¬P0_1 ch t → ¬P0_2 ch t →
    (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1) ∧ (True)))) := hyps0_C

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → ¬P0_1 ch t → ¬P0_2 ch t →
    (cfgA ch).idle (6 : Fin 7) ((cfgA ch).grid.coords t) = false ∧ ((cfgA ch).win (6 : Fin 7)).flush t = true ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Fin 1) (t : Fin (cfgA ch).N), P0_0 ch t → P0_1 ch t →
    ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬(k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := fun ch t => (allFacts ch t).2.2.2.2.2.2.2.2.2.2.2.1

theorem hypsR0_D : ∀ (ch : Fin 1) (t : Fin (cfgA ch).N), P0_0 ch t → P0_1 ch t →
    ((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬(k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := hyps0_D

/-- At a point of path D: the idle table, the write-backs and which buffers hold junk (decided over the
    freshness tables `frTab`/`sfrTab`, restated over `Cfg.fresh`/`sfresh` by their agreement). -/
theorem sched0_D : ∀ (ch : Fin 1) (t : Fin (cfgA ch).N), P0_0 ch t → P0_1 ch t →
    (cfgA ch).idle (6 : Fin 7) ((cfgA ch).grid.coords t) = true ∧ ((cfgA ch).win (6 : Fin 7)).flush t = false ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.2.2.1) ch t

/-- At a point of path E, the path's hypotheses hold of the words the body reads there (the pinned tables read,
    a pinned window's word AS the word `pinBlk ch t (r.idx x)`; the checks among them cited from `ChecksAt`). -/
theorem hyps0_E : ∀ (ch : Fin 1) (t : Fin (cfgA ch).N), ¬P0_0 ch t → ¬P0_1 ch t → P0_2 ch t →
    (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ (((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬(k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := fun ch t => (allFacts ch t).2.2.2.2.2.2.2.2.2.2.2.2.2.1

theorem hypsR0_E : ∀ (ch : Fin 1) (t : Fin (cfgA ch).N), ¬P0_0 ch t → ¬P0_1 ch t → P0_2 ch t →
    (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ (((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬(k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := hyps0_E

/-- At a point of path E: the idle table, the write-backs and which buffers hold junk (decided over the
    freshness tables `frTab`/`sfrTab`, restated over `Cfg.fresh`/`sfresh` by their agreement). -/
theorem sched0_E : ∀ (ch : Fin 1) (t : Fin (cfgA ch).N), ¬P0_0 ch t → ¬P0_1 ch t → P0_2 ch t →
    (cfgA ch).idle (6 : Fin 7) ((cfgA ch).grid.coords t) = true ∧ ((cfgA ch).win (6 : Fin 7)).flush t = false ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.2.2.2.2.1) ch t

/-- At a point of path F, the path's hypotheses hold of the words the body reads there (the pinned tables read,
    a pinned window's word AS the word `pinBlk ch t (r.idx x)`; the checks among them cited from `ChecksAt`). -/
theorem hyps0_F : ∀ (ch : Fin 1) (t : Fin (cfgA ch).N), ¬P0_0 ch t → P0_1 ch t →
    (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬(k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := fun ch t => (allFacts ch t).2.2.2.2.2.2.2.2.2.2.2.2.2.2.2.1

theorem hypsR0_F : ∀ (ch : Fin 1) (t : Fin (cfgA ch).N), ¬P0_0 ch t → P0_1 ch t →
    (¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬((Scalar.cmpi .ne (Scalar.extui (Scalar.cmpi .eq (View.readAt (Elt Bits) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Bits) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬(k0_cond4 (View.readAt (Elt Bits) (tbM0_0).view (Rect.unit (s := S36) (k0_off1 (crd ch t)) S1.size (k0_off1_inb (crd ch t))).toLoadRect (pinT_0 ch) (Shape.Idx.first (numel1_S1.symm ▸ Nat.one_pos))) (View.readAt (Elt Bits) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := hyps0_F

/-- At a point of path F: the idle table, the write-backs and which buffers hold junk (decided over the
    freshness tables `frTab`/`sfrTab`, restated over `Cfg.fresh`/`sfresh` by their agreement). -/
theorem sched0_F : ∀ (ch : Fin 1) (t : Fin (cfgA ch).N), ¬P0_0 ch t → P0_1 ch t →
    (cfgA ch).idle (6 : Fin 7) ((cfgA ch).grid.coords t) = true ∧ ((cfgA ch).win (6 : Fin 7)).flush t = false ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.2.2.2.2.2.2) ch t

/-! ## What the outputs and scratches hold after each point -/

/-- ONE STEP of the trajectory: what the outputs' current buffers and the scratches hold after the body at point `t`
    (output 6, scratch 0, scratch 1, scratch 2, scratch 3), from what they held before (`prev`): the path the decisions select at `t`, its
    run's contents; an output the path leaves idle keeps what it held (junk — `default`, named by nothing — where fresh). -/
def step0 (c : Dev nD) (t : Fin (cfgA ch).N) (prev : (S1024x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)) : (S1024x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) :=
  if q0 : P0_0 ch t then
    if q1 : P0_1 ch t then
      ((if (cfgA ch).fresh (6 : Fin 7) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).2.2.2.1)
    else
      if q2 : P0_2 ch t then
        ((if (cfgA ch).fresh (6 : Fin 7) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).2.2.2.1)
      else
        (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.2.2.2.1)
  else
    if q1 : P0_1 ch t then
      ((if (cfgA ch).fresh (6 : Fin 7) t.val then default else prev.1), (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).2.2.2.1)
    else
      if q2 : P0_2 ch t then
        ((if (cfgA ch).fresh (6 : Fin 7) t.val then default else prev.1), (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.2.2.1)
      else
        (out0_C_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.2.2.2.1)

/-- THE TRAJECTORY: after position `n`. -/
def traj0 (c : Dev nD) : (n : ℕ) → n < (cfgA ch).N → (S1024x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)
  | 0, h => step0 ch m ρ c ⟨0, h⟩ (default, default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S1024x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) :=
  if h : t.val = 0 then (default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1024x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)) (q0 : P0_0 ch t) (q1 : ¬P0_1 ch t) (q2 : ¬P0_2 ch t) :
    step0 ch m ρ c t prev = (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.2.2.2.1) := by
  unfold step0; simp only [dif_pos q0, dif_neg q1, dif_neg q2]

/-- `step0` at a point of path B. -/
theorem step0_B (c : Dev nD) (t : Fin (cfgA ch).N) (prev : (S1024x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)) (q0 : P0_0 ch t) (q1 : ¬P0_1 ch t) (q2 : P0_2 ch t) :
    step0 ch m ρ c t prev = ((if (cfgA ch).fresh (6 : Fin 7) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).2.2.2.1) := by
  unfold step0; simp only [dif_pos q0, dif_neg q1, dif_pos q2]

/-- `step0` at a point of path C. -/
theorem step0_C (c : Dev nD) (t : Fin (cfgA ch).N) (prev : (S1024x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)) (q0 : ¬P0_0 ch t) (q1 : ¬P0_1 ch t) (q2 : ¬P0_2 ch t) :
    step0 ch m ρ c t prev = (out0_C_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.2.2.2.1) := by
  unfold step0; simp only [dif_neg q0, dif_neg q1, dif_neg q2]

/-- `step0` at a point of path D. -/
theorem step0_D (c : Dev nD) (t : Fin (cfgA ch).N) (prev : (S1024x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)) (q0 : P0_0 ch t) (q1 : P0_1 ch t) :
    step0 ch m ρ c t prev = ((if (cfgA ch).fresh (6 : Fin 7) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).2.2.2.1) := by
  unfold step0; simp only [dif_pos q0, dif_pos q1]

/-- `step0` at a point of path E. -/
theorem step0_E (c : Dev nD) (t : Fin (cfgA ch).N) (prev : (S1024x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)) (q0 : ¬P0_0 ch t) (q1 : ¬P0_1 ch t) (q2 : P0_2 ch t) :
    step0 ch m ρ c t prev = ((if (cfgA ch).fresh (6 : Fin 7) t.val then default else prev.1), (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.2.2.1) := by
  unfold step0; simp only [dif_neg q0, dif_neg q1, dif_pos q2]

/-- `step0` at a point of path F. -/
theorem step0_F (c : Dev nD) (t : Fin (cfgA ch).N) (prev : (S1024x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3)) (q0 : ¬P0_0 ch t) (q1 : P0_1 ch t) :
    step0 ch m ρ c t prev = ((if (cfgA ch).fresh (6 : Fin 7) t.val then default else prev.1), (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).2.2.2.1) := by
  unfold step0; simp only [dif_neg q0, dif_pos q1]

/-! ## The pipeline's proof data -/

/-- What the tracked buffers held before position `t` of `Fin (N+1)` (the invariant's index). -/
def prev0T (c : Dev nD) (t : Fin ((cfgA ch).N + 1)) : (S1024x128.Idx → Elt Bits .f32) × Buf (Elt Bits) ((c : Thread nD τ).loc cc0_scratch0) × Buf (Elt Bits) ((c : Thread nD τ).loc cc0_scratch1) × Buf (Elt Bits) ((c : Thread nD τ).loc cc0_scratch2) × Buf (Elt Bits) ((c : Thread nD τ).loc cc0_scratch3) :=
  if h : t.val = 0 then (default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2.1⌝ ∗ (scM0_2.view.loc (c : Thread nD τ) ↦{fullShare} a)) ∗ (∃ a, ⌜sfresh0_3 ch t.val = false → a = (prev0T ch m ρ c t).2.2.2.2⌝ ∗ (scM0_3.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 7) t
    | ⟨1, _⟩ => iblk ch m ρ c (1 : Fin 7) t
    | ⟨2, _⟩ => iblk ch m ρ c (2 : Fin 7) t
    | ⟨3, _⟩ => iblk ch m ρ c (3 : Fin 7) t
    | ⟨4, _⟩ => iblk ch m ρ c (4 : Fin 7) t
    | ⟨5, _⟩ => iblk ch m ρ c (5 : Fin 7) t
    | ⟨6, _⟩ => (traj0 ch m ρ c t.val t.isLt).1
  Φ t := Phi ch m ρ c t
  q _ := fullShare
  owed _ := 0

theorem after0_0 (c : Dev nD) (t : Fin (cfgA ch).N) : (dats ch m ρ 0 c).after (0 : Fin 7) t = iblk ch m ρ c (0 : Fin 7) t := rfl
theorem after0_1 (c : Dev nD) (t : Fin (cfgA ch).N) : (dats ch m ρ 0 c).after (1 : Fin 7) t = iblk ch m ρ c (1 : Fin 7) t := rfl
theorem after0_2 (c : Dev nD) (t : Fin (cfgA ch).N) : (dats ch m ρ 0 c).after (2 : Fin 7) t = iblk ch m ρ c (2 : Fin 7) t := rfl
theorem after0_3 (c : Dev nD) (t : Fin (cfgA ch).N) : (dats ch m ρ 0 c).after (3 : Fin 7) t = iblk ch m ρ c (3 : Fin 7) t := rfl
theorem after0_4 (c : Dev nD) (t : Fin (cfgA ch).N) : (dats ch m ρ 0 c).after (4 : Fin 7) t = iblk ch m ρ c (4 : Fin 7) t := rfl
theorem after0_5 (c : Dev nD) (t : Fin (cfgA ch).N) : (dats ch m ρ 0 c).after (5 : Fin 7) t = iblk ch m ρ c (5 : Fin 7) t := rfl
theorem after0_6 (c : Dev nD) (t : Fin (cfgA ch).N) : (dats ch m ρ 0 c).after (6 : Fin 7) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 7) t d = iblk ch m ρ c (0 : Fin 7) t :=
  ((dats ch m ρ 0 c).before_in_eq_fetched (0 : Fin 7) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 7) t d = iblk ch m ρ c (1 : Fin 7) t :=
  ((dats ch m ρ 0 c).before_in_eq_fetched (1 : Fin 7) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 7) t d = iblk ch m ρ c (2 : Fin 7) t :=
  ((dats ch m ρ 0 c).before_in_eq_fetched (2 : Fin 7) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 7) t d = iblk ch m ρ c (3 : Fin 7) t :=
  ((dats ch m ρ 0 c).before_in_eq_fetched (3 : Fin 7) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 7) t d = iblk ch m ρ c (4 : Fin 7) t :=
  ((dats ch m ρ 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 7) t d = iblk ch m ρ c (5 : Fin 7) t :=
  ((dats ch m ρ 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- Output 6's `after` carries through the points that leave it idle. -/
theorem hcarry0_6 (c : Dev nD) : ∀ (t : Fin (cfgA ch).N) (ht : t.val ≠ 0), (cfgA ch).idle (6 : Fin 7) ((cfgA ch).grid.coords t) = true → (cfgA ch).fresh (6 : Fin 7) t.val = false →
    (dats ch m ρ 0 c).after (6 : Fin 7) t = (dats ch m ρ 0 c).after (6 : Fin 7) ⟨t.val - 1, by omega⟩ := by
  intro t ht hi hf
  rw [after0_6, after0_6, traj0_eq]
  by_cases q0 : P0_0 ch t
  · by_cases q1 : P0_1 ch t
    · rw [step0_D ch m ρ c t _ q0 q1]
      simp only [hf, Bool.false_eq_true, ↓reduceIte]
      unfold prev0; rw [dif_neg ht]
    · by_cases q2 : P0_2 ch t
      · rw [step0_B ch m ρ c t _ q0 q1 q2]
        simp only [hf, Bool.false_eq_true, ↓reduceIte]
        unfold prev0; rw [dif_neg ht]
      · obtain ⟨i6, -, -, -, -, -, -⟩ := sched0_A ch t q0 q1 q2
        rw [i6] at hi; exact absurd hi (by decide)
  · by_cases q1 : P0_1 ch t
    · rw [step0_F ch m ρ c t _ q0 q1]
      simp only [hf, Bool.false_eq_true, ↓reduceIte]
      unfold prev0; rw [dif_neg ht]
    · by_cases q2 : P0_2 ch t
      · rw [step0_E ch m ρ c t _ q0 q1 q2]
        simp only [hf, Bool.false_eq_true, ↓reduceIte]
        unfold prev0; rw [dif_neg ht]
      · obtain ⟨i6, -, -, -, -, -, -, -, -, -, -⟩ := sched0_C ch t q0 q1 q2
        rw [i6] at hi; exact absurd hi (by decide)

/-- Output window 6 holds, when the body runs at `t`: junk if nothing was stored since its last write-back (`Cfg.fresh`),
    else what the point before left (TableIdle.lean `Dat.before_out_traj`). -/
theorem before0_6 (c : Dev nD) (t : Fin (cfgA ch).N) (d) :
    (dats ch m ρ 0 c).before (6 : Fin 7) t d = if (cfgA ch).fresh (6 : Fin 7) t.val then d else (prev0 ch m ρ c t).1 := by
  rw [(dats ch m ρ 0 c).before_out_traj (6 : Fin 7) rfl (fun _ _ => rfl) (hcarry0_6 ch m ρ c) t.val t rfl d]
  by_cases hf : (cfgA ch).fresh (6 : Fin 7) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_attn_prompt (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 4800000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 7) t d))
        ∗ (∃ d, owns (c : Thread nD τ) (ms0_1 ch t) fullShare ((dats ch m ρ 0 c).before (1 : Fin 7) t d))
        ∗ (∃ d, owns (c : Thread nD τ) (ms0_2 ch t) fullShare ((dats ch m ρ 0 c).before (2 : Fin 7) t d))
        ∗ (∃ d, owns (c : Thread nD τ) (ms0_3 ch t) fullShare ((dats ch m ρ 0 c).before (3 : Fin 7) t d))
        ∗ (∃ d, owns (c : Thread nD τ) (ms0_4 ch t) fullShare ((dats ch m ρ 0 c).before (4 : Fin 7) t d))
        ∗ (∃ d, owns (c : Thread nD τ) (ms0_5 ch t) fullShare ((dats ch m ρ 0 c).before (5 : Fin 7) t d))
        ∗ (∃ d, owns (c : Thread nD τ) (ms0_6 ch t) fullShare ((dats ch m ρ 0 c).before (6 : Fin 7) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i6, f6, fr6, sf0, sfn0, sf1, sfn1, sf2, sfn2, sf3, sfn3⟩ := sched0_D ch t q0 q1
      have F0 := hypsR0_D ch t q0 q1
      have hc0 := F0.1; have F1 := F0.2
      have hc1 := F1.1; have F2 := F1.2
      have hc2 := F2.1; have F3 := F2.2
      have k0_h4 := F3.1; have F4 := F3.2
      clear F0 F1 F2 F3 F4
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) hc0 hc1 hc2 k0_h4).2.2.2.2 _ a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      isplitl [HS3]; · iexact HS3
      iintro ⟨H0, H1, H2, H3, H4, H5, HT0, HT1, H6, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6
    · by_cases q2 : P0_2 ch t
      · obtain ⟨i6, f6, fr6, sf0, sfn0, sf1, sfn1, sf2, sfn2, sf3, sfn3⟩ := sched0_B ch t q0 q1 q2
        have F0 := hypsR0_B ch t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_B ch m ρ c t _ q0 q1 q2]
        unfold Phi; simp only [prev0T_castSucc, prev0T_succ, traj0_eq, step0_B ch m ρ c t _ q0 q1 q2, Fin.val_castSucc, Fin.val_succ]
        iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) hc0 hc1 hc2 k0_h4).2.2.2.2 _ a0 a1 a2 a3 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [H6]; · iexact H6
        isplitl [HS0]; · iexact HS0
        isplitl [HS1]; · iexact HS1
        isplitl [HS2]; · iexact HS2
        isplitl [HS3]; · iexact HS3
        iintro ⟨H0, H1, H2, H3, H4, H5, HT0, HT1, H6, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        first | (iexists d6; iexact H6) | iexact H6
      · obtain ⟨i6, f6, fr6, sfn0, sfn1, sfn2, sfn3⟩ := sched0_A ch t q0 q1 q2
        have F0 := hypsR0_A ch t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_A ch m ρ c t _ q0 q1 q2]
        unfold Phi; simp only [prev0T_castSucc, prev0T_succ, traj0_eq, step0_A ch m ρ c t _ q0 q1 q2, Fin.val_castSucc, Fin.val_succ]
        iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) hc0 hc1 hc2 k0_h4).2.2.2.2.2 a0 a1 a2 a3 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [H6]; · iexists _; iexact H6
        isplitl [HS0]; · iexact HS0
        isplitl [HS1]; · iexact HS1
        isplitl [HS2]; · iexact HS2
        isplitl [HS3]; · iexact HS3
        iintro ⟨H0, H1, H2, H3, H4, H5, HT0, HT1, ⟨%e6, H6⟩, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        unfold owns; iexists _; isplitr; swap
        · iexact H6
        · ipureintro; exact View.read_writes_of_cover _ _ _ _ _ (cover0_A_6 c _ _ _ _ _ _ _ _ _ _ _ _ _ _ _ _ _ _ _ _ _ _ _ _ _ _ _)
  · by_cases q1 : P0_1 ch t
    · obtain ⟨i6, f6, fr6, sf0, sfn0, sf1, sfn1, sf2, sfn2, sf3, sfn3⟩ := sched0_F ch t q0 q1
      have F0 := hypsR0_F ch t q0 q1
      have hc0 := F0.1; have F1 := F0.2
      have hc1 := F1.1; have F2 := F1.2
      have hc2 := F2.1; have F3 := F2.2
      have k0_h4 := F3.1; have F4 := F3.2
      clear F0 F1 F2 F3 F4
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_F ch m ρ c t _ q0 q1]
      unfold Phi; simp only [prev0T_castSucc, prev0T_succ, traj0_eq, step0_F ch m ρ c t _ q0 q1, Fin.val_castSucc, Fin.val_succ]
      simp only [exists_held sf0, exists_held sf1, exists_held sf2, exists_held sf3]
      iintro ⟨⟨HS0, HS1, HS2, HS3, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ _ _ _ hc0 hc1 hc2 k0_h4).2.2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      isplitl [HS3]; · iexact HS3
      iintro ⟨H0, H1, H2, H3, H4, H5, HT0, HT1, H6, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6
    · by_cases q2 : P0_2 ch t
      · obtain ⟨i6, f6, fr6, sf0, sfn0, sf1, sfn1, sf2, sfn2, sf3, sfn3⟩ := sched0_E ch t q0 q1 q2
        have F0 := hypsR0_E ch t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_E ch m ρ c t _ q0 q1 q2]
        unfold Phi; simp only [prev0T_castSucc, prev0T_succ, traj0_eq, step0_E ch m ρ c t _ q0 q1 q2, Fin.val_castSucc, Fin.val_succ]
        simp only [exists_held sf0, exists_held sf1, exists_held sf2, exists_held sf3]
        iintro ⟨⟨HS0, HS1, HS2, HS3, HT0, HT1⟩, Ho, ⟨%d0, H0⟩, ⟨%d1, H1⟩, ⟨%d2, H2⟩, ⟨%d3, H3⟩, ⟨%d4, H4⟩, ⟨%d5, H5⟩, ⟨%d6, H6⟩⟩
        iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ _ _ _ hc0 hc1 hc2 k0_h4).2.2.2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [H6]; · iexact H6
        isplitl [HS0]; · iexact HS0
        isplitl [HS1]; · iexact HS1
        isplitl [HS2]; · iexact HS2
        isplitl [HS3]; · iexact HS3
        iintro ⟨H0, H1, H2, H3, H4, H5, HT0, HT1, H6, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        first | (iexists d6; iexact H6) | iexact H6
      · obtain ⟨i6, f6, fr6, sf0, sfn0, sf1, sfn1, sf2, sfn2, sf3, sfn3⟩ := sched0_C ch t q0 q1 q2
        have F0 := hypsR0_C ch t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1 q2]
        unfold Phi; simp only [prev0T_castSucc, prev0T_succ, traj0_eq, step0_C ch m ρ c t _ q0 q1 q2, Fin.val_castSucc, Fin.val_succ]
        simp only [exists_held sf0, exists_held sf1, exists_held sf2, exists_held sf3]
        iintro ⟨⟨HS0, HS1, HS2, HS3, HT0, HT1⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ _ _ _ hc0 hc1 hc2 k0_h4).2.2.2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [H6]; · iexists _; iexact H6
        isplitl [HS0]; · iexact HS0
        isplitl [HS1]; · iexact HS1
        isplitl [HS2]; · iexact HS2
        isplitl [HS3]; · iexact HS3
        iintro ⟨H0, H1, H2, H3, H4, H5, HT0, HT1, ⟨%e6, H6⟩, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        unfold owns; iexists _; isplitr; swap
        · iexact H6
        · ipureintro; exact View.read_writes_of_cover _ _ _ _ _ (cover0_C_6 c _ _ _ _ _ _ _ _ _ _ _ _ _ _ _ _ _ _ _ _ _ _ _ _ _ _ _ _ _ _ _)

/-- The library's body obligation, at every point. -/
theorem body_obligation (c : Dev nD) : BodyObligation (dats ch m ρ 0 c) (defs₀ (F := Bits)) Variants.none () Set.univ := fun t => by
  rw [bigSep_W0]
  exact sound_body ch m ρ c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩, ⟨%a3, HS3⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, -, -⟩
  isplitr; · iempintro
  isplitl [HS0]
  · iexists a0; iexact HS0
  isplitl [HS1]
  · iexists a1; iexact HS1
  isplitl [HS2]
  · iexists a2; iexact HS2
  iexists a3; iexact HS3

/-! ### The two tables are constants of the program: the host operations before the region write them -/

/-- Core `c`'s TensorCore buffers when the region is entered: after the two host operations. -/
abbrev V (c : Dev nD) (b : Ref sig .tc) : Buf (Elt Bits) ((c : Thread nD τ).loc b) := StableHlo.after (hostOps0 (F := Bits)) (fun b => m (c, b)) b

theorem hostOps0_fresh : ((hostOps0 (F := Bits)) : List (HloOp τ sig (Elt Bits))).Forall fun op => op.fresh = ∅ := by
  simp only [List.Forall]; repeat' constructor

theorem hostOps0_writes : ((hostOps0 (F := Bits)) : List (HloOp τ sig (Elt Bits))).Forall fun op => op.writes ⊆ (([main_c, main_c_0] : List (Ref sig .tc)).map (Proc.devRef (τ := τ) .tc)).toFinset :=
  StableHlo.forall_writes_sub_of_map rfl

set_option maxHeartbeats 4000000 in
/-- @main up to the region. -/
theorem hmain : Pipeline.HMainP (Ix := Unit) (Name := ℕ) (U := UR sig nD τ) (Lvl := ℕ) (pcfgs (F := Bits)) 0 defs₀ Variants.none m (main (F := Bits)) (V m) :=
  Pipeline.hmainP_prefix (pcfgs (F := Bits)) 0 defs₀ Variants.none m main (hostOps0 (F := Bits)) hostOps0_sub hostOps0_fresh main_chain

/-- A buffer that is no table is, when the region is entered, what it was at launch. -/
theorem V_keep (c : Dev nD) (b : Ref sig .tc) (hb : b ∉ ([main_c, main_c_0] : List (Ref sig .tc))) :
    V m c b = m ((c : Thread nD τ).loc b) :=
  StableHlo.after_of_writes_sub (hostOps0 (F := Bits)) _ hostOps0_writes hb

/-- The constant tables are the pinned ones. -/
theorem lit0_eq : (fun i => lit0 (S36.rowMajor i)) = pinT_0 ch := by funext i; revert i; revert ch; decide +kernel
theorem lit1_eq : (fun i => lit1 (S36.rowMajor i)) = pinT_1 ch := by funext i; revert i; revert ch; decide +kernel

theorem V_pre (c : Dev nD) (j : Fin 2) : V m c (pre0.ref j) = (adm ch).1 j := by
  fin_cases j
  · exact lit0_eq ch
  · exact lit1_eq ch

/-- Each window's array is launched as the pipeline's data say. -/
theorem A_eq (c : Dev nD) : ∀ w : Fin (cfgA ch).W, (dats ch m ρ 0 c).arrAt w 0 = V m c (Pipeline.arrRef (cfgA ch).spec w) := fun
  | ⟨0, _⟩ => (V_keep m c main_arg5 (by decide)).symm
  | ⟨1, _⟩ => (V_keep m c main_arg0 (by decide)).symm
  | ⟨2, _⟩ => (V_keep m c main_arg1 (by decide)).symm
  | ⟨3, _⟩ => (V_keep m c main_arg2 (by decide)).symm
  | ⟨4, _⟩ => (V_keep m c main_arg3 (by decide)).symm
  | ⟨5, _⟩ => (V_keep m c main_arg6 (by decide)).symm
  | ⟨6, _⟩ => (V_keep m c main_v0 (by decide)).symm
  | ⟨_ + 7, h⟩ => absurd h (Nat.not_lt.2 (Nat.le_add_left _ _))

/-- The physical post: every window's array at what the library computes, the argument no window reads as launched. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ r.2.mem ((c : Thread nD τ).loc main_arg4) = m ((c : Thread nD τ).loc main_arg4)

set_option backward.isDefEq.respectTransparency.types false in
set_option maxHeartbeats 4000000 in
/-- From any memory with zero counters every weakly fair execution of @main on the TensorCores terminates, and every
    final state has each array at the computed contents, and every semaphore counter of the machine at zero. -/
theorem run_main_quiescent : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ c).loose) (hne := (launch0 (F := Bits)).block_pos)
    (harr := (launch0 (F := Bits)).arr_whole) (hstage := (launch0 (F := Bits)).stage_whole) (howed := fun _ _ => rfl)
    (u₀ := u₀ ch) (hu₀ := .rfl)
    (V := V m)
    (hmain := hmain m)
    (hsplit := fun c => Pipeline.arrays_split (pcs ch) (dats ch m ρ) 0 (launch0 (F := Bits)).win.arr_inj c (launch0 (F := Bits)).arr_whole
      (share_eq ch m ρ c) _ _ (A_eq ch m ρ c))
    (hpf := V_pre ch m)
    (X := fun _ => iprop(emp)) (Y := fun _ => iprop(emp))
    (Z := fun c => iprop((((c : Thread nD τ).loc main_arg4) ↦{fullShare} m ((c : Thread nD τ).loc main_arg4))))
    (hX := fun c => by
      rw [unscopedRestP0_eq, V_keep m c main_arg4 (by decide)]
      iintro H; isplitr; · iempintro
      iexact H)
    (hin := phi0_intro ch m ρ)
    (hout := phiN_exit ch m ρ)
    (QY := fun c s => s.mem ((c : Thread nD τ).loc main_arg4) = m ((c : Thread nD τ).loc main_arg4))
    (hY := fun c s' => by
      iintro ⟨-, HZ, HSI⟩
      icombine HSI HZ gives %h
      imodintro
      isplitr; · ipureintro; funext i; exact h i (Finset.mem_univ i)
      iexact HSI)
    (hQ := fun _ h hz => ⟨fun c => ⟨(h c).1, (h c).2.2⟩, hz⟩)

/-- `run_main_quiescent` without the counters. -/
theorem run_main : θ_run (defs (F := Bits)) (onTc (τ := τ) (main (F := Bits))) (s₀ m ρ) (QC ch m ρ) :=
  (θ_run defs _ _).mono (fun _ h => h.1) (run_main_quiescent ch m ρ)

/-- What a final state says of the argument arrays: they are as launched. -/
theorem args_of_QC {r : PUnit × MemSt nD τ sig (Elt Bits)} (h : QC ch m ρ r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 (1 : Fin 7)).trans ((dats ch m ρ 0 c).arrAt_in (1 : Fin 7) rfl _), ((h c).1 (2 : Fin 7)).trans ((dats ch m ρ 0 c).arrAt_in (2 : Fin 7) rfl _),
    ((h c).1 (3 : Fin 7)).trans ((dats ch m ρ 0 c).arrAt_in (3 : Fin 7) rfl _), ((h c).1 (4 : Fin 7)).trans ((dats ch m ρ 0 c).arrAt_in (4 : Fin 7) rfl _),
    (h c).2, ((h c).1 (0 : Fin 7)).trans ((dats ch m ρ 0 c).arrAt_in (0 : Fin 7) rfl _), ((h c).1 (5 : Fin 7)).trans ((dats ch m ρ 0 c).arrAt_in (5 : Fin 7) rfl _)⟩

/-- The frame: every weakly fair execution terminates, nothing faults, every argument array ends unchanged and every
    semaphore counter reads zero at every final state. -/
theorem frame :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_of_QC 0 m ρ h.1, h.2⟩) (run_main_quiescent 0 m ρ)

end Cert.Kernel.Gen
-- ==== Proof.AttnIdeal.Pins.lean ====
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The tables and scratches the kernel is handed, whole, at their literal types. -/
abbrev tbM0_0 : Memref sig .tc .smem S36 .i32 := Memref.whole main_c
abbrev tbM0_1 : Memref sig .tc .smem S36 .i32 := Memref.whole main_c_0
abbrev scM0_0 : Memref sig .tc .vmem S2048x128 .bf16 := Memref.whole cc0_scratch0
abbrev scM0_1 : Memref sig .tc .vmem S2048x128 .f32 := Memref.whole cc0_scratch1
abbrev scM0_2 : Memref sig .tc .vmem S2048x128 .f32 := Memref.whole cc0_scratch2
abbrev scM0_3 : Memref sig .tc .vmem S2048x128 .f32 := Memref.whole cc0_scratch3

/-! ## The pinned words: the tables and the steering windows' arrays, closed forms of the schedule index `ch` -/

/- THE SCHEDULE INDEX the whole certificate is stated for: member `ch` of the family of 1 (`schedule`;
    the one witness when 1 = 1). Every definition below that depends on the pinned words takes it first. -/
variable (ch : Fin 1)

/-- Prefetched table 0 (`main_c`, [36]) at member `ch`: the family TRACED (pins.py). -/
def pinT_0 (ch : Fin 1) : S36.Idx → BitVec 32 := fun x => (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD ((x 0).val) 0#32)

/-- Prefetched table 1 (`main_c_0`, [36]) at member `ch`: the family TRACED (pins.py). -/
def pinT_1 (ch : Fin 1) : S36.Idx → BitVec 32 := fun x => (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD ((x 0).val) 0#32)

set_option backward.proofsInPublic true in
/-- The tables' contents the certificate is written at, member `ch`'s. -/
def pfN : pre0.Contents (Elt Ideal) := fun | ⟨0, _⟩ => pinT_0 ch | ⟨1, _⟩ => pinT_1 ch | ⟨_ + 2, h⟩ => absurd h (by simp)
/-- A window's blocks inside its array, entry by entry (the side condition's per-member proofs below assemble each
    entry's bound: a coordinate's, a constant's, or a table word's decided over the coordinates it is read at). -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

end Cert.KernelIdeal.Gen

end
-- ==== Proof.AttnIdeal.Runs.lean ====
module

public import proofs.«01_k».proof.Proof.Gen.KernelIdeal.Skeleton
public import proofs.«01_k».proof.Proof.AttnIdeal.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-! ## The kernel body per control path, on symbolic staging memrefs: a subtype the run finds -/

/-- One staging buffer of output window 6, through which its contents are stated (`View.read_writes_of_cover`). -/
abbrev VO0_6 : View sig .tc .vmem S1024x128 .f32 := (Memref.whole cc0_stg6_0 : Memref sig .tc .vmem S1024x128 .f32).view

set_option backward.proofsInPublic true in
set_option maxHeartbeats 8000000 in
/-- PATH A (points 0, 36, … 252: 8 of 288): what the body leaves — per stored output its pieces (last first), per scratch its
    contents — WITH the proof that, on whole staging memrefs, from the inputs at their blocks, the tables, the outputs
    (6: stored) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_A (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Ideal .i32)) (T1 : (S36.Idx → Elt Ideal .i32))
     (x0 : (S1.Idx → Elt Ideal .f32)) (x1 : (S1024x128.Idx → Elt Ideal .f32)) (x2 : (S1024x128.Idx → Elt Ideal .f32)) (x3 : (S1024x128.Idx → Elt Ideal .f32)) (x4 : (S1x2x1024x1024.Idx → Elt Ideal .f32)) (x5 : (S1x128.Idx → Elt Ideal .f32)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    Σ' (out0 : List (View.Piece (Elt Ideal) S1024x128 .f32)) (out1 : Buf (Elt Ideal) ((c : Thread nD τ).loc cc0_scratch0)) (out2 : Buf (Elt Ideal) ((c : Thread nD τ).loc cc0_scratch1)) (out3 : Buf (Elt Ideal) ((c : Thread nD τ).loc cc0_scratch2)), { out4 : Buf (Elt Ideal) ((c : Thread nD τ).loc cc0_scratch3) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Ideal)) Variants.none c none) Set.univ (cc0_attn_prompt i tbM0_0 (Memref.isWhole_whole _) tbM0_1 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) K => by
    unfold owns
    rw [cc0_attn_prompt_eq_skeleton]; unfold cc0_attn_prompt_skel
    iintro ⟨H0, H1, H2, H3, H4, H5, HT0, HT1, ⟨%d6, %f6, -, HO6⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = ¬(Scalar.cmpi = _); exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HS0]; · iexact HS0
    isplitl [HS1]; · iexact HS1
    isplitl [HS2]; · iexact HS2
    iexact HS3⟩

/-- Path A's pieces for output 6 tile its block (1 store of `S1024x128`: the kernel evaluates the tiling, Lib/Ring.lean `Piece.tiledL`). -/
theorem cover0_A_6 (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Ideal .i32)) (T1 : (S36.Idx → Elt Ideal .i32))
     (x0 : (S1.Idx → Elt Ideal .f32)) (x1 : (S1024x128.Idx → Elt Ideal .f32)) (x2 : (S1024x128.Idx → Elt Ideal .f32)) (x3 : (S1024x128.Idx → Elt Ideal .f32)) (x4 : (S1x2x1024x1024.Idx → Elt Ideal .f32)) (x5 : (S1x128.Idx → Elt Ideal .f32)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (y : S1024x128.Idx) :
    ∃ pc ∈ (kernelRun0_A c i arg4 harg4 arg5 harg5 arg6 harg6 arg7 harg7 arg8 harg8 arg9 harg9 arg10 harg10 T0 T1 x0 x1 x2 x3 x4 x5 hc0 hc1 hc2 k0_h4).1, y ∈ pc.1.set :=
  View.cover_of_tiledL (kernelRun0_A c i arg4 harg4 arg5 harg5 arg6 harg6 arg7 harg7 arg8 harg8 arg9 harg9 arg10 harg10 T0 T1 x0 x1 x2 x3 x4 x5 hc0 hc1 hc2 k0_h4).1 S1024x128.size (by sl_kernel_rfl) y

/-- What path A leaves in output 6's staging buffer: its pieces read back over junk. -/
def out0_A_6 (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Ideal .i32)) (T1 : (S36.Idx → Elt Ideal .i32))
     (x0 : (S1.Idx → Elt Ideal .f32)) (x1 : (S1024x128.Idx → Elt Ideal .f32)) (x2 : (S1024x128.Idx → Elt Ideal .f32)) (x3 : (S1024x128.Idx → Elt Ideal .f32)) (x4 : (S1x2x1024x1024.Idx → Elt Ideal .f32)) (x5 : (S1x128.Idx → Elt Ideal .f32)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) : (S1024x128.Idx → Elt Ideal .f32) :=
  VO0_6.read (Elt Ideal) (VO0_6.writes (Elt Ideal) VO0_6.junk (kernelRun0_A c i arg4 harg4 arg5 harg5 arg6 harg6 arg7 harg7 arg8 harg8 arg9 harg9 arg10 harg10 T0 T1 x0 x1 x2 x3 x4 x5 hc0 hc1 hc2 k0_h4).1)

set_option backward.proofsInPublic true in
set_option maxHeartbeats 8000000 in
/-- PATH B (points 1, 37, … 253: 8 of 288): what the body leaves — per stored output its pieces (last first), per scratch its
    contents — WITH the proof that, on whole staging memrefs, from the inputs at their blocks, the tables, the outputs
    (6: idle) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_B (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Ideal .i32)) (T1 : (S36.Idx → Elt Ideal .i32))
     (x0 : (S1.Idx → Elt Ideal .f32)) (x1 : (S1024x128.Idx → Elt Ideal .f32)) (x2 : (S1024x128.Idx → Elt Ideal .f32)) (x3 : (S1024x128.Idx → Elt Ideal .f32)) (x4 : (S1x2x1024x1024.Idx → Elt Ideal .f32)) (x5 : (S1x128.Idx → Elt Ideal .f32)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (hc2 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1) (k0_h4 : ¬(k0_cond4 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y6 : (S1024x128.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ owns (c : Thread nD τ) arg10 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_attn_prompt i tbM0_0 (Memref.isWhole_whole _) tbM0_1 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y6 : (S1024x128.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) K => by
    unfold owns
    rw [cc0_attn_prompt_eq_skeleton]; unfold cc0_attn_prompt_skel
    iintro ⟨H0, H1, H2, H3, H4, H5, HT0, HT1, ⟨%f6, %hf6, HO6⟩, HS0, HS1, HS2, HS3, Hk⟩
    obtain rfl := harg10.eq_unread hf6
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg10.read_unread _
      iexact HO6
    isplitl [HS0]; · iexact HS0
    isplitl [HS1]; · iexact HS1
    isplitl [HS2]; · iexact HS2
    iexact HS3⟩

set_option backward.proofsInPublic true in
set_option maxHeartbeats 8000000 in
/-- PATH C (points 2, 5, … 287: 56 of 288): what the body leaves — per stored output its pieces (last first), per scratch its
    contents — WITH the proof that, on whole staging memrefs, from the inputs at their blocks, the tables, the outputs
    (6: stored) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_C (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Ideal .i32)) (T1 : (S36.Idx → Elt Ideal .i32))
     (x0 : (S1.Idx → Elt Ideal .f32)) (x1 : (S1024x128.Idx → Elt Ideal .f32)) (x2 : (S1024x128.Idx → Elt Ideal .f32)) (x3 : (S1024x128.Idx → Elt Ideal .f32)) (x4 : (S1x2x1024x1024.Idx → Elt Ideal .f32)) (x5 : (S1x128.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    Σ' (out0 : List (View.Piece (Elt Ideal) S1024x128 .f32)) (out1 : Buf (Elt Ideal) ((c : Thread nD τ).loc cc0_scratch0)) (out2 : Buf (Elt Ideal) ((c : Thread nD τ).loc cc0_scratch1)) (out3 : Buf (Elt Ideal) ((c : Thread nD τ).loc cc0_scratch2)), { out4 : Buf (Elt Ideal) ((c : Thread nD τ).loc cc0_scratch3) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ (∃ f, arg10.view.loc (c : Thread nD τ) ↦[arg10.view.set]{fullShare} arg10.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)
              ∗ (scM0_3.view.loc (c : Thread nD τ) ↦{fullShare} out4)) -∗ K ⟨⟩))
          ⊢ wp frame (wpE (defs₀ (F := Ideal)) Variants.none c none) Set.univ (cc0_attn_prompt i tbM0_0 (Memref.isWhole_whole _) tbM0_1 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, _, fun K => by
    unfold owns
    rw [cc0_attn_prompt_eq_skeleton]; unfold cc0_attn_prompt_skel
    iintro ⟨H0, H1, H2, H3, H4, H5, HT0, HT1, ⟨%d6, %f6, -, HO6⟩, HS0, HS1, HS2, HS3, Hk⟩
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = ¬(Scalar.cmpi = _); exact hc2) | (guard_target = k0_cond4 _ _ = _; exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexists _; iexact HO6
    isplitl [HS0]; · iexact HS0
    isplitl [HS1]; · iexact HS1
    isplitl [HS2]; · iexact HS2
    iexact HS3⟩

/-- Path C's pieces for output 6 tile its block (1 store of `S1024x128`: the kernel evaluates the tiling, Lib/Ring.lean `Piece.tiledL`). -/
theorem cover0_C_6 (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Ideal .i32)) (T1 : (S36.Idx → Elt Ideal .i32))
     (x0 : (S1.Idx → Elt Ideal .f32)) (x1 : (S1024x128.Idx → Elt Ideal .f32)) (x2 : (S1024x128.Idx → Elt Ideal .f32)) (x3 : (S1024x128.Idx → Elt Ideal .f32)) (x4 : (S1x2x1024x1024.Idx → Elt Ideal .f32)) (x5 : (S1x128.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) (y : S1024x128.Idx) :
    ∃ pc ∈ (kernelRun0_C c i arg4 harg4 arg5 harg5 arg6 harg6 arg7 harg7 arg8 harg8 arg9 harg9 arg10 harg10 T0 T1 x0 x1 x2 x3 x4 x5 xa0 xa1 xa2 xa3 hc0 hc1 hc2 k0_h4).1, y ∈ pc.1.set :=
  View.cover_of_tiledL (kernelRun0_C c i arg4 harg4 arg5 harg5 arg6 harg6 arg7 harg7 arg8 harg8 arg9 harg9 arg10 harg10 T0 T1 x0 x1 x2 x3 x4 x5 xa0 xa1 xa2 xa3 hc0 hc1 hc2 k0_h4).1 S1024x128.size (by sl_kernel_rfl) y

/-- What path C leaves in output 6's staging buffer: its pieces read back over junk. -/
def out0_C_6 (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Ideal .i32)) (T1 : (S36.Idx → Elt Ideal .i32))
     (x0 : (S1.Idx → Elt Ideal .f32)) (x1 : (S1024x128.Idx → Elt Ideal .f32)) (x2 : (S1024x128.Idx → Elt Ideal .f32)) (x3 : (S1024x128.Idx → Elt Ideal .f32)) (x4 : (S1x2x1024x1024.Idx → Elt Ideal .f32)) (x5 : (S1x128.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (k0_h4 : k0_cond4 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) : (S1024x128.Idx → Elt Ideal .f32) :=
  VO0_6.read (Elt Ideal) (VO0_6.writes (Elt Ideal) VO0_6.junk (kernelRun0_C c i arg4 harg4 arg5 harg5 arg6 harg6 arg7 harg7 arg8 harg8 arg9 harg9 arg10 harg10 T0 T1 x0 x1 x2 x3 x4 x5 xa0 xa1 xa2 xa3 hc0 hc1 hc2 k0_h4).1)

set_option backward.proofsInPublic true in
set_option maxHeartbeats 8000000 in
/-- PATH D (points 3, 6, … 280: 48 of 288): what the body leaves — per stored output its pieces (last first), per scratch its
    contents — WITH the proof that, on whole staging memrefs, from the inputs at their blocks, the tables, the outputs
    (6: idle) and the scratches (0: covered, 1: covered, 2: covered, 3: covered), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_D (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Ideal .i32)) (T1 : (S36.Idx → Elt Ideal .i32))
     (x0 : (S1.Idx → Elt Ideal .f32)) (x1 : (S1024x128.Idx → Elt Ideal .f32)) (x2 : (S1024x128.Idx → Elt Ideal .f32)) (x3 : (S1024x128.Idx → Elt Ideal .f32)) (x4 : (S1x2x1024x1024.Idx → Elt Ideal .f32)) (x5 : (S1x128.Idx → Elt Ideal .f32)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (k0_h4 : ¬(k0_cond4 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y6 : (S1024x128.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ owns (c : Thread nD τ) arg10 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_attn_prompt i tbM0_0 (Memref.isWhole_whole _) tbM0_1 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y6 : (S1024x128.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) K => by
    unfold owns
    rw [cc0_attn_prompt_eq_skeleton]; unfold cc0_attn_prompt_skel
    iintro ⟨H0, H1, H2, H3, H4, H5, HT0, HT1, ⟨%f6, %hf6, HO6⟩, HS0, HS1, HS2, HS3, Hk⟩
    obtain rfl := harg10.eq_unread hf6
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg10.read_unread _
      iexact HO6
    isplitl [HS0]; · iexact HS0
    isplitl [HS1]; · iexact HS1
    isplitl [HS2]; · iexact HS2
    iexact HS3⟩

set_option backward.proofsInPublic true in
set_option maxHeartbeats 8000000 in
/-- PATH E (points 4, 8, … 286: 48 of 288): what the body leaves — per stored output its pieces (last first), per scratch its
    contents — WITH the proof that, on whole staging memrefs, from the inputs at their blocks, the tables, the outputs
    (6: idle) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_E (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Ideal .i32)) (T1 : (S36.Idx → Elt Ideal .i32))
     (x0 : (S1.Idx → Elt Ideal .f32)) (x1 : (S1024x128.Idx → Elt Ideal .f32)) (x2 : (S1024x128.Idx → Elt Ideal .f32)) (x3 : (S1024x128.Idx → Elt Ideal .f32)) (x4 : (S1x2x1024x1024.Idx → Elt Ideal .f32)) (x5 : (S1x128.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (hc2 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1) (k0_h4 : ¬(k0_cond4 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y6 : (S1024x128.Idx → Elt Ideal .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ owns (c : Thread nD τ) arg10 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_attn_prompt i tbM0_0 (Memref.isWhole_whole _) tbM0_1 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y6 : (S1024x128.Idx → Elt Ideal .f32)) K => by
    unfold owns
    rw [cc0_attn_prompt_eq_skeleton]; unfold cc0_attn_prompt_skel
    iintro ⟨H0, H1, H2, H3, H4, H5, HT0, HT1, ⟨%f6, %hf6, HO6⟩, HS0, HS1, HS2, HS3, Hk⟩
    obtain rfl := harg10.eq_unread hf6
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg10.read_unread _
      iexact HO6
    isplitl [HS0]; · iexact HS0
    isplitl [HS1]; · iexact HS1
    isplitl [HS2]; · iexact HS2
    iexact HS3⟩

set_option backward.proofsInPublic true in
set_option maxHeartbeats 8000000 in
/-- PATH F (points 7, 11, … 285: 120 of 288): what the body leaves — per stored output its pieces (last first), per scratch its
    contents — WITH the proof that, on whole staging memrefs, from the inputs at their blocks, the tables, the outputs
    (6: idle) and the scratches (0: carried, 1: carried, 2: carried, 3: carried), under the path's decisions as
    hypotheses over the words the body reads (`hc0`; `hc1`; `hc2`; `k0_h4`), the body runs to the continuation holding all of it as stated. The
    skeleton (`Gen.*_eq_skeleton`) run by `sl_exec`, loops of literal trip count unrolled by the run, the others by `sl_unroll`. -/
noncomputable def kernelRun0_F (c : Dev nD) (i : grid0.Coords) (arg4 : Memref sig .tc .smem S1 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x2x1024x1024 .f32) (harg8 : arg8.IsWhole) (arg9 : Memref sig .tc .vmem S1x128 .f32) (harg9 : arg9.IsWhole) (arg10 : Memref sig .tc .vmem S1024x128 .f32) (harg10 : arg10.IsWhole) (T0 : (S36.Idx → Elt Ideal .i32)) (T1 : (S36.Idx → Elt Ideal .i32))
     (x0 : (S1.Idx → Elt Ideal .f32)) (x1 : (S1024x128.Idx → Elt Ideal .f32)) (x2 : (S1024x128.Idx → Elt Ideal .f32)) (x3 : (S1024x128.Idx → Elt Ideal .f32)) (x4 : (S1x2x1024x1024.Idx → Elt Ideal .f32)) (x5 : (S1x128.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1) (hc2 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) (Scalar.subi (View.readAt (Elt Ideal) (tbM0_0).view (Rect.unit (s := S36) (k0_off1 i) S1.size (k0_off1_inb i)).toLoadRect T0 (Shape.Idx.first (numel1_S1.symm ▸ Nat.one_pos))) 1#32))) 0#32) = 1#1)) (k0_h4 : ¬(k0_cond4 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    Σ' (out0 : Buf (Elt Ideal) ((c : Thread nD τ).loc cc0_scratch0)) (out1 : Buf (Elt Ideal) ((c : Thread nD τ).loc cc0_scratch1)) (out2 : Buf (Elt Ideal) ((c : Thread nD τ).loc cc0_scratch2)), { out3 : Buf (Elt Ideal) ((c : Thread nD τ).loc cc0_scratch3) //
      ∀ (y6 : (S1024x128.Idx → Elt Ideal .f32)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (scM0_3.view.loc (c : Thread nD τ) ↦{fullShare} xa3)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (arg8.view.loc (c : Thread nD τ) ↦[arg8.view.set]{fullShare} arg8.view.rep x4)
              ∗ (arg9.view.loc (c : Thread nD τ) ↦[arg9.view.set]{fullShare} arg9.view.rep x5)
              ∗ (tbM0_0.view.loc (c : Thread nD τ) ↦{fullShare.right} T0)
              ∗ (tbM0_1.view.loc (c : Thread nD τ) ↦{fullShare.right} T1)
              ∗ owns (c : Thread nD τ) arg10 fullShare y6
              ∗ (scM0_0.view.loc (c : Thread nD τ) ↦{fullShare} out0)
              ∗ (scM0_1.view.loc (c : Thread nD τ) ↦{fullShare} out1)
              ∗ (scM0_2.view.loc (c : Thread nD τ) ↦{fullShare} out2)
              ∗ (scM0_3.view.loc (c : Thread nD τ) ↦{fullShare} out3)) -∗ K ⟨⟩))
          ⊢ wp frame (wpE (defs₀ (F := Ideal)) Variants.none c none) Set.univ (cc0_attn_prompt i tbM0_0 (Memref.isWhole_whole _) tbM0_1 (Memref.isWhole_whole _) arg4 harg4 arg5 harg5 arg6 harg6 arg7 harg7 arg8 harg8 arg9 harg9 arg10 harg10 scM0_0 (Memref.isWhole_whole _) scM0_1 (Memref.isWhole_whole _) scM0_2 (Memref.isWhole_whole _) scM0_3 (Memref.isWhole_whole _)) K } :=
  ⟨_, _, _, _, fun (y6 : (S1024x128.Idx → Elt Ideal .f32)) K => by
    unfold owns
    rw [cc0_attn_prompt_eq_skeleton]; unfold cc0_attn_prompt_skel
    iintro ⟨H0, H1, H2, H3, H4, H5, HT0, HT1, ⟨%f6, %hf6, HO6⟩, HS0, HS1, HS2, HS3, Hk⟩
    obtain rfl := harg10.eq_unread hf6
    have hS0 : scM0_0.IsWhole := Memref.isWhole_whole _
    have hS1 : scM0_1.IsWhole := Memref.isWhole_whole _
    have hS2 : scM0_2.IsWhole := Memref.isWhole_whole _
    have hS3 : scM0_3.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(k0_cond4 _ _ = _); exact k0_h4))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]
    · iexists _; isplitr; · ipureintro; exact harg10.read_unread _
      iexact HO6
    isplitl [HS0]; · iexact HS0
    isplitl [HS1]; · iexact HS1
    isplitl [HS2]; · iexact HS2
    iexact HS3⟩

end Cert.KernelIdeal.Gen

end
-- ==== Proof.AttnIdeal.Ok0.lean ====
module

public import proofs.«01_k».proof.Proof.AttnIdeal.Pins

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem ok_pfN_0_0_inb : ∀ i : grid0.Coords, ∀ a, (cc0_transform_1 k0_off1_inb numel1_S1 (pfN (⟨0, by omega⟩ : Fin 1)) i a + 1) * S1024x128.size a ≤ S8192x1024.size a := by decide +kernel
theorem ok_pfN_0_0 : (∀ i : grid0.Coords, ∃ h : (∀ a, (cc0_transform_1 k0_off1_inb numel1_S1 (pfN (⟨0, by omega⟩ : Fin 1)) i a + 1) * S1024x128.size a ≤ S8192x1024.size a), EltTy.bits .f32 = 32 ∨ (Rect.block (s := S8192x1024) S1024x128.size (cc0_transform_1 k0_off1_inb numel1_S1 (pfN (⟨0, by omega⟩ : Fin 1)) i) h).WholeWords (EltTy.packing .f32)) := fun i => ⟨ok_pfN_0_0_inb i, .inl rfl⟩
theorem ok_pfN_0_1_inb : ∀ i : grid0.Coords, ∀ a, (cc0_transform_2 k0_off1_inb numel1_S1 (pfN (⟨0, by omega⟩ : Fin 1)) i a + 1) * S1024x128.size a ≤ S8192x1024.size a := by decide +kernel
theorem ok_pfN_0_1 : (∀ i : grid0.Coords, ∃ h : (∀ a, (cc0_transform_2 k0_off1_inb numel1_S1 (pfN (⟨0, by omega⟩ : Fin 1)) i a + 1) * S1024x128.size a ≤ S8192x1024.size a), EltTy.bits .f32 = 32 ∨ (Rect.block (s := S8192x1024) S1024x128.size (cc0_transform_2 k0_off1_inb numel1_S1 (pfN (⟨0, by omega⟩ : Fin 1)) i) h).WholeWords (EltTy.packing .f32)) := fun i => ⟨ok_pfN_0_1_inb i, .inl rfl⟩
theorem ok_pfN_0_2_inb : ∀ i : grid0.Coords, ∀ a, (cc0_transform_3 k0_off1_inb numel1_S1 (pfN (⟨0, by omega⟩ : Fin 1)) i a + 1) * S1024x128.size a ≤ S8192x1024.size a := by decide +kernel
theorem ok_pfN_0_2 : (∀ i : grid0.Coords, ∃ h : (∀ a, (cc0_transform_3 k0_off1_inb numel1_S1 (pfN (⟨0, by omega⟩ : Fin 1)) i a + 1) * S1024x128.size a ≤ S8192x1024.size a), EltTy.bits .f32 = 32 ∨ (Rect.block (s := S8192x1024) S1024x128.size (cc0_transform_3 k0_off1_inb numel1_S1 (pfN (⟨0, by omega⟩ : Fin 1)) i) h).WholeWords (EltTy.packing .f32)) := fun i => ⟨ok_pfN_0_2_inb i, .inl rfl⟩
theorem ok_pfN_0_3_inb : ∀ i : grid0.Coords, ∀ a, (cc0_transform_6 k0_off1_inb numel1_S1 (pfN (⟨0, by omega⟩ : Fin 1)) i a + 1) * S1024x128.size a ≤ S8192x1024.size a := by decide +kernel
theorem ok_pfN_0_3 : (∀ i : grid0.Coords, ∃ h : (∀ a, (cc0_transform_6 k0_off1_inb numel1_S1 (pfN (⟨0, by omega⟩ : Fin 1)) i a + 1) * S1024x128.size a ≤ S8192x1024.size a), EltTy.bits .f32 = 32 ∨ (Rect.block (s := S8192x1024) S1024x128.size (cc0_transform_6 k0_off1_inb numel1_S1 (pfN (⟨0, by omega⟩ : Fin 1)) i) h).WholeWords (EltTy.packing .f32)) := fun i => ⟨ok_pfN_0_3_inb i, .inl rfl⟩
theorem ok_pfN_0 : ok0 (F := Ideal) (pfN (⟨0, by omega⟩ : Fin 1)) := ⟨ok_pfN_0_0, ok_pfN_0_1, ok_pfN_0_2, ok_pfN_0_3⟩

end Cert.KernelIdeal.Gen

end
-- ==== Proof.AttnIdeal.Cfg.lean ====
module

public import proofs.«01_k».proof.Proof.AttnIdeal.Ok0

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)

/-- The side condition holds of the pinned tables at EVERY member (the grid at them one the launch runs, every block
    inside its array): decided member by member (Flash/OkJ.lean), matched here. -/
theorem ok_pfN : ∀ ch : Fin 1, ok0 (F := Ideal) (pfN ch) := fun ch => match ch with
  | ⟨0, _⟩ => ok_pfN_0
  | ⟨_ + 1, h⟩ => absurd h (by omega)

/-- The admissible contents, the pipeline at them (`cfgA ch`: member `ch`'s grid, 288 points), as @main's one. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .smem S1 .f32 := spec0_0.stage ((cfgA ch).slots t (0 : Fin 7))
abbrev hs0_0 (t : Fin (cfgA ch).N) : (ms0_0 ch t).IsWhole := hstage0_0 (((cfgA ch).slots t (0 : Fin 7)).cast nbuf0_0)
abbrev ms0_1 (t : Fin (cfgA ch).N) : Memref sig .tc .vmem S1024x128 .f32 := spec0_1.stage ((cfgA ch).slots t (1 : Fin 7))
abbrev hs0_1 (t : Fin (cfgA ch).N) : (ms0_1 ch t).IsWhole := hstage0_1 (((cfgA ch).slots t (1 : Fin 7)).cast nbuf0_1)
abbrev ms0_2 (t : Fin (cfgA ch).N) : Memref sig .tc .vmem S1024x128 .f32 := spec0_2.stage ((cfgA ch).slots t (2 : Fin 7))
abbrev hs0_2 (t : Fin (cfgA ch).N) : (ms0_2 ch t).IsWhole := hstage0_2 (((cfgA ch).slots t (2 : Fin 7)).cast nbuf0_2)
abbrev ms0_3 (t : Fin (cfgA ch).N) : Memref sig .tc .vmem S1024x128 .f32 := spec0_3.stage ((cfgA ch).slots t (3 : Fin 7))
abbrev hs0_3 (t : Fin (cfgA ch).N) : (ms0_3 ch t).IsWhole := hstage0_3 (((cfgA ch).slots t (3 : Fin 7)).cast nbuf0_3)
abbrev ms0_4 (t : Fin (cfgA ch).N) : Memref sig .tc .vmem S1x2x1024x1024 .f32 := spec0_4.stage ((cfgA ch).slots t (4 : Fin 7))
abbrev hs0_4 (t : Fin (cfgA ch).N) : (ms0_4 ch t).IsWhole := hstage0_4 (((cfgA ch).slots t (4 : Fin 7)).cast nbuf0_4)
abbrev ms0_5 (t : Fin (cfgA ch).N) : Memref sig .tc .vmem S1x128 .f32 := spec0_5.stage ((cfgA ch).slots t (5 : Fin 7))
abbrev hs0_5 (t : Fin (cfgA ch).N) : (ms0_5 ch t).IsWhole := hstage0_5 (((cfgA ch).slots t (5 : Fin 7)).cast nbuf0_5)
abbrev ms0_6 (t : Fin (cfgA ch).N) : Memref sig .tc .vmem S1024x128 .f32 := spec0_6.stage ((cfgA ch).slots t (6 : Fin 7))
abbrev hs0_6 (t : Fin (cfgA ch).N) : (ms0_6 ch t).IsWhole := hstage0_6 (((cfgA ch).slots t (6 : Fin 7)).cast nbuf0_6)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := (Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1
abbrev P0_1 (t : Fin (cfgA ch).N) : Prop := (Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1
abbrev P0_2 (t : Fin (cfgA ch).N) : Prop := (Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1

/-- Whether scratch 0 (`cc0_scratch0`) holds nothing a point has determined, before position `n`: until a path that stores it
    whole first (A, B, D) has run. -/
def sfresh0_0 : ℕ → Bool
  | 0 => true
  | n + 1 => if h : n < (cfgA ch).N then (if P0_0 ch ⟨n, h⟩ then (if P0_1 ch ⟨n, h⟩ then false else (if P0_2 ch ⟨n, h⟩ then false else false)) else (if P0_1 ch ⟨n, h⟩ then sfresh0_0 n else (if P0_2 ch ⟨n, h⟩ then sfresh0_0 n else sfresh0_0 n))) else true

/-- Its CLOSED FORM: fresh before position `n` iff no point below `n` covers it — `n` at most member `ch`'s first covering
    point (read off the walk; the recursion's step is decided against it point by point, the recursion never run). -/
def sfirst0_0 (ch : Fin 1) : ℕ := 0
def sfrTab0_0 : ℕ → Bool := fun n => decide (n ≤ sfirst0_0 ch)

/-- Whether scratch 1 (`cc0_scratch1`) holds nothing a point has determined, before position `n`: until a path that stores it
    whole first (A, B, D) has run. -/
def sfresh0_1 : ℕ → Bool
  | 0 => true
  | n + 1 => if h : n < (cfgA ch).N then (if P0_0 ch ⟨n, h⟩ then (if P0_1 ch ⟨n, h⟩ then false else (if P0_2 ch ⟨n, h⟩ then false else false)) else (if P0_1 ch ⟨n, h⟩ then sfresh0_1 n else (if P0_2 ch ⟨n, h⟩ then sfresh0_1 n else sfresh0_1 n))) else true

/-- Its CLOSED FORM: fresh before position `n` iff no point below `n` covers it — `n` at most member `ch`'s first covering
    point (read off the walk; the recursion's step is decided against it point by point, the recursion never run). -/
def sfirst0_1 (ch : Fin 1) : ℕ := 0
def sfrTab0_1 : ℕ → Bool := fun n => decide (n ≤ sfirst0_1 ch)

/-- Whether scratch 2 (`cc0_scratch2`) holds nothing a point has determined, before position `n`: until a path that stores it
    whole first (A, B, D) has run. -/
def sfresh0_2 : ℕ → Bool
  | 0 => true
  | n + 1 => if h : n < (cfgA ch).N then (if P0_0 ch ⟨n, h⟩ then (if P0_1 ch ⟨n, h⟩ then false else (if P0_2 ch ⟨n, h⟩ then false else false)) else (if P0_1 ch ⟨n, h⟩ then sfresh0_2 n else (if P0_2 ch ⟨n, h⟩ then sfresh0_2 n else sfresh0_2 n))) else true

/-- Its CLOSED FORM: fresh before position `n` iff no point below `n` covers it — `n` at most member `ch`'s first covering
    point (read off the walk; the recursion's step is decided against it point by point, the recursion never run). -/
def sfirst0_2 (ch : Fin 1) : ℕ := 0
def sfrTab0_2 : ℕ → Bool := fun n => decide (n ≤ sfirst0_2 ch)

/-- Whether scratch 3 (`cc0_scratch3`) holds nothing a point has determined, before position `n`: until a path that stores it
    whole first (A, B, D) has run. -/
def sfresh0_3 : ℕ → Bool
  | 0 => true
  | n + 1 => if h : n < (cfgA ch).N then (if P0_0 ch ⟨n, h⟩ then (if P0_1 ch ⟨n, h⟩ then false else (if P0_2 ch ⟨n, h⟩ then false else false)) else (if P0_1 ch ⟨n, h⟩ then sfresh0_3 n else (if P0_2 ch ⟨n, h⟩ then sfresh0_3 n else sfresh0_3 n))) else true

/-- Its CLOSED FORM: fresh before position `n` iff no point below `n` covers it — `n` at most member `ch`'s first covering
    point (read off the walk; the recursion's step is decided against it point by point, the recursion never run). -/
def sfirst0_3 (ch : Fin 1) : ℕ := 0
def sfrTab0_3 : ℕ → Bool := fun n => decide (n ≤ sfirst0_3 ch)

set_option backward.proofsInPublic true in
/-- Whether output 6 holds junk BEFORE each position `1 ‥ N` of member `ch`'s grid — nothing stored into it since
    its last write-back —: the classifier's table (written back at the point before, or idle there and junk
    before it) as a bitmask, bit `n` for position `n + 1`, which `frTab0_6_step` checks against the pipeline's
    own recursion point by point (a bit test is one kernel step; a list walk or the recursion, hundreds). -/
def frMask0_6 : Fin 1 → ℕ
  | ⟨0, _⟩ => 0xffffffffffffffffffffffffffffffffffffffffffffffffffffffffffffffffffffffff
  | ⟨_ + 1, h⟩ => absurd h (by omega)
/-- `(cfgA ch).fresh 6` TABULATED (TableIdle.lean `Cfg.fresh_tab`): true before the first point, then the table. -/
def frTab0_6 : ℕ → Bool
  | 0 => true
  | n + 1 => (frMask0_6 ch).testBit n

end Cert.KernelIdeal.Gen

end
-- ==== Proof.AttnIdeal.Facts.lean ====
module

public import proofs.«01_k».proof.Proof.AttnIdeal.Cfg

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ
variable (ch : Fin 1)
variable (m : (ℓ : Loc nD τ sig) → Buf (Elt Ideal) ℓ) (ρ : Dev nD → PrngReg)

/-! ## Every per-point fact as ONE proposition, decided member by member; the named facts its projections -/

/-- EVERY FACT THE CERTIFICATE DECIDES at point `t` of member `ch` past the checks — the freshness tables' steps, each
    path's hypotheses and schedule at its points —, as one proposition: ONE kernel evaluation per member
    decides it over the member's points, sharing each point's words, table reads and block indices between the
    facts (Lib/Decide.lean halves the range; a declaration per member bounds the kernel's evaluation cache). -/
abbrev FactsAt (ch : Fin 1) (t : Fin (cfgA ch).N) : Prop :=
  -- sfrTab0_0_step, sfrTab0_1_step, sfrTab0_2_step, sfrTab0_3_step, frTab0_6_step, hyps0_A, sched0_A, hyps0_B, sched0_B, hyps0_C, sched0_C, hyps0_D, sched0_D, hyps0_E, sched0_E, hyps0_F, sched0_F
  (sfrTab0_0 ch (t.val + 1) = (if P0_0 ch t then (if P0_1 ch t then false else (if P0_2 ch t then false else false)) else (if P0_1 ch t then sfrTab0_0 ch t.val else (if P0_2 ch t then sfrTab0_0 ch t.val else sfrTab0_0 ch t.val))))
  ∧ (sfrTab0_1 ch (t.val + 1) = (if P0_0 ch t then (if P0_1 ch t then false else (if P0_2 ch t then false else false)) else (if P0_1 ch t then sfrTab0_1 ch t.val else (if P0_2 ch t then sfrTab0_1 ch t.val else sfrTab0_1 ch t.val))))
  ∧ (sfrTab0_2 ch (t.val + 1) = (if P0_0 ch t then (if P0_1 ch t then false else (if P0_2 ch t then false else false)) else (if P0_1 ch t then sfrTab0_2 ch t.val else (if P0_2 ch t then sfrTab0_2 ch t.val else sfrTab0_2 ch t.val))))
  ∧ (sfrTab0_3 ch (t.val + 1) = (if P0_0 ch t then (if P0_1 ch t then false else (if P0_2 ch t then false else false)) else (if P0_1 ch t then sfrTab0_3 ch t.val else (if P0_2 ch t then sfrTab0_3 ch t.val else sfrTab0_3 ch t.val))))
  ∧ (frTab0_6 ch (t.val + 1) = (((cfgA ch).win (6 : Fin 7)).flush t || ((cfgA ch).idle (6 : Fin 7) ((cfgA ch).grid.coords t) && frTab0_6 ch t.val)))
  ∧ (P0_0 ch t → ¬P0_1 ch t → ¬P0_2 ch t → ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1) ∧ (True)))))
  ∧ (P0_0 ch t → ¬P0_1 ch t → ¬P0_2 ch t → (cfgA ch).idle (6 : Fin 7) ((cfgA ch).grid.coords t) = false ∧ ((cfgA ch).win (6 : Fin 7)).flush t = true ∧ frTab0_6 ch t.val = true ∧ sfrTab0_0 ch (t.val + 1) = false ∧ sfrTab0_1 ch (t.val + 1) = false ∧ sfrTab0_2 ch (t.val + 1) = false ∧ sfrTab0_3 ch (t.val + 1) = false)
  ∧ (P0_0 ch t → ¬P0_1 ch t → P0_2 ch t → ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ (((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬(k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True)))))
  ∧ (P0_0 ch t → ¬P0_1 ch t → P0_2 ch t → (cfgA ch).idle (6 : Fin 7) ((cfgA ch).grid.coords t) = true ∧ ((cfgA ch).win (6 : Fin 7)).flush t = false ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → ¬P0_1 ch t → ¬P0_2 ch t → (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1) ∧ (True)))))
  ∧ (¬P0_0 ch t → ¬P0_1 ch t → ¬P0_2 ch t → (cfgA ch).idle (6 : Fin 7) ((cfgA ch).grid.coords t) = false ∧ ((cfgA ch).win (6 : Fin 7)).flush t = true ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (P0_0 ch t → P0_1 ch t → ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬(k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True)))))
  ∧ (P0_0 ch t → P0_1 ch t → (cfgA ch).idle (6 : Fin 7) ((cfgA ch).grid.coords t) = true ∧ ((cfgA ch).win (6 : Fin 7)).flush t = false ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → ¬P0_1 ch t → P0_2 ch t → (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ (((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬(k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True)))))
  ∧ (¬P0_0 ch t → ¬P0_1 ch t → P0_2 ch t → (cfgA ch).idle (6 : Fin 7) ((cfgA ch).grid.coords t) = true ∧ ((cfgA ch).win (6 : Fin 7)).flush t = false ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)
  ∧ (¬P0_0 ch t → P0_1 ch t → (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬(k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True)))))
  ∧ (¬P0_0 ch t → P0_1 ch t → (cfgA ch).idle (6 : Fin 7) ((cfgA ch).grid.coords t) = true ∧ ((cfgA ch).win (6 : Fin 7)).flush t = false ∧ frTab0_6 ch t.val = true ∧ sfrTab0_0 ch t.val = false ∧ sfrTab0_0 ch (t.val + 1) = false ∧ sfrTab0_1 ch t.val = false ∧ sfrTab0_1 ch (t.val + 1) = false ∧ sfrTab0_2 ch t.val = false ∧ sfrTab0_2 ch (t.val + 1) = false ∧ sfrTab0_3 ch t.val = false ∧ sfrTab0_3 ch (t.val + 1) = false)

set_option synthInstance.maxSize 65536 in
instance FactsAt.dec (ch : Fin 1) (t : Fin (cfgA ch).N) : Decidable (FactsAt ch t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))))))

end Cert.KernelIdeal.Gen

end
-- ==== Proof.AttnIdeal.Facts0.lean ====
module

public import proofs.«01_k».proof.Proof.AttnIdeal.Facts

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

theorem allFacts_0_0 : ∀ t : Fin (cfgA (⟨0, by omega⟩ : Fin 1)).N, 0 ≤ t.val → t.val < 36 → FactsAt (⟨0, by omega⟩ : Fin 1) t := by decide +kernel
theorem allFacts_0_1 : ∀ t : Fin (cfgA (⟨0, by omega⟩ : Fin 1)).N, 36 ≤ t.val → t.val < 72 → FactsAt (⟨0, by omega⟩ : Fin 1) t := by decide +kernel
theorem allFacts_0_2 : ∀ t : Fin (cfgA (⟨0, by omega⟩ : Fin 1)).N, 72 ≤ t.val → t.val < 108 → FactsAt (⟨0, by omega⟩ : Fin 1) t := by decide +kernel
theorem allFacts_0_3 : ∀ t : Fin (cfgA (⟨0, by omega⟩ : Fin 1)).N, 108 ≤ t.val → t.val < 144 → FactsAt (⟨0, by omega⟩ : Fin 1) t := by decide +kernel
theorem allFacts_0_4 : ∀ t : Fin (cfgA (⟨0, by omega⟩ : Fin 1)).N, 144 ≤ t.val → t.val < 180 → FactsAt (⟨0, by omega⟩ : Fin 1) t := by decide +kernel
theorem allFacts_0_5 : ∀ t : Fin (cfgA (⟨0, by omega⟩ : Fin 1)).N, 180 ≤ t.val → t.val < 216 → FactsAt (⟨0, by omega⟩ : Fin 1) t := by decide +kernel
theorem allFacts_0_6 : ∀ t : Fin (cfgA (⟨0, by omega⟩ : Fin 1)).N, 216 ≤ t.val → t.val < 252 → FactsAt (⟨0, by omega⟩ : Fin 1) t := by decide +kernel
theorem allFacts_0_7 : ∀ t : Fin (cfgA (⟨0, by omega⟩ : Fin 1)).N, 252 ≤ t.val → t.val < 288 → FactsAt (⟨0, by omega⟩ : Fin 1) t := by decide +kernel
theorem allFacts_0 : ∀ t : Fin (cfgA (⟨0, by omega⟩ : Fin 1)).N, FactsAt (⟨0, by omega⟩ : Fin 1) t := fun t => by
  have h0 : 0 ≤ t.val := Nat.zero_le _
  rcases Nat.lt_or_ge t.val 36 with h1 | h1; · exact allFacts_0_0 t h0 h1
  rcases Nat.lt_or_ge t.val 72 with h2 | h2; · exact allFacts_0_1 t h1 h2
  rcases Nat.lt_or_ge t.val 108 with h3 | h3; · exact allFacts_0_2 t h2 h3
  rcases Nat.lt_or_ge t.val 144 with h4 | h4; · exact allFacts_0_3 t h3 h4
  rcases Nat.lt_or_ge t.val 180 with h5 | h5; · exact allFacts_0_4 t h4 h5
  rcases Nat.lt_or_ge t.val 216 with h6 | h6; · exact allFacts_0_5 t h5 h6
  rcases Nat.lt_or_ge t.val 252 with h7 | h7; · exact allFacts_0_6 t h6 h7
  exact allFacts_0_7 t h7 t.isLt

end Cert.KernelIdeal.Gen

end
-- ==== Proof.AttnIdeal.Launch.lean ====
module

public import proofs.«01_k».proof.Proof.AttnIdeal.Runs
public import proofs.«01_k».proof.Proof.AttnIdeal.Facts0
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Fin 1)
variable (m : (ℓ : Loc nD τ sig) → Buf (Elt Ideal) ℓ) (ρ : Dev nD → PrngReg)

/-- The facts at every point of every member (decided member by member in slices of points, Flash/FactsJ.lean). -/
theorem allFacts : ∀ (ch : Fin 1) (t : Fin (cfgA ch).N), FactsAt ch t := fun ch => match ch with
  | ⟨0, _⟩ => allFacts_0
  | ⟨_ + 1, h⟩ => absurd h (by omega)

/-! ## The named facts — the freshness tables' steps, each path's hypotheses and schedule —: its projections -/

theorem sfrTab0_0_step : ∀ (ch : Fin 1) (t : Fin (cfgA ch).N), sfrTab0_0 ch (t.val + 1) = (if P0_0 ch t then (if P0_1 ch t then false else (if P0_2 ch t then false else false)) else (if P0_1 ch t then sfrTab0_0 ch t.val else (if P0_2 ch t then sfrTab0_0 ch t.val else sfrTab0_0 ch t.val))) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem sfrTab0_1_step : ∀ (ch : Fin 1) (t : Fin (cfgA ch).N), sfrTab0_1 ch (t.val + 1) = (if P0_0 ch t then (if P0_1 ch t then false else (if P0_2 ch t then false else false)) else (if P0_1 ch t then sfrTab0_1 ch t.val else (if P0_2 ch t then sfrTab0_1 ch t.val else sfrTab0_1 ch t.val))) := fun ch t => (allFacts ch t).2.1
theorem sfresh0_1_eq : ∀ n, n ≤ (cfgA ch).N → sfresh0_1 ch n = sfrTab0_1 ch n
  | 0, _ => by simp only [sfresh0_1, sfrTab0_1, Nat.zero_le, decide_true]
  | n + 1, h => by simp only [sfresh0_1, dif_pos (show n < (cfgA ch).N from h), sfresh0_1_eq n (Nat.le_of_lt h), sfrTab0_1_step ch ⟨n, h⟩]
theorem sfreshF0_1 (t : Fin (cfgA ch).N) : sfresh0_1 ch t.val = sfrTab0_1 ch t.val := sfresh0_1_eq ch t.val (Nat.le_of_lt t.isLt)
theorem sfreshS0_1 (t : Fin (cfgA ch).N) : sfresh0_1 ch (t.val + 1) = sfrTab0_1 ch (t.val + 1) := sfresh0_1_eq ch (t.val + 1) t.isLt

theorem sfrTab0_2_step : ∀ (ch : Fin 1) (t : Fin (cfgA ch).N), sfrTab0_2 ch (t.val + 1) = (if P0_0 ch t then (if P0_1 ch t then false else (if P0_2 ch t then false else false)) else (if P0_1 ch t then sfrTab0_2 ch t.val else (if P0_2 ch t then sfrTab0_2 ch t.val else sfrTab0_2 ch t.val))) := fun ch t => (allFacts ch t).2.2.1
theorem sfresh0_2_eq : ∀ n, n ≤ (cfgA ch).N → sfresh0_2 ch n = sfrTab0_2 ch n
  | 0, _ => by simp only [sfresh0_2, sfrTab0_2, Nat.zero_le, decide_true]
  | n + 1, h => by simp only [sfresh0_2, dif_pos (show n < (cfgA ch).N from h), sfresh0_2_eq n (Nat.le_of_lt h), sfrTab0_2_step ch ⟨n, h⟩]
theorem sfreshF0_2 (t : Fin (cfgA ch).N) : sfresh0_2 ch t.val = sfrTab0_2 ch t.val := sfresh0_2_eq ch t.val (Nat.le_of_lt t.isLt)
theorem sfreshS0_2 (t : Fin (cfgA ch).N) : sfresh0_2 ch (t.val + 1) = sfrTab0_2 ch (t.val + 1) := sfresh0_2_eq ch (t.val + 1) t.isLt

theorem sfrTab0_3_step : ∀ (ch : Fin 1) (t : Fin (cfgA ch).N), sfrTab0_3 ch (t.val + 1) = (if P0_0 ch t then (if P0_1 ch t then false else (if P0_2 ch t then false else false)) else (if P0_1 ch t then sfrTab0_3 ch t.val else (if P0_2 ch t then sfrTab0_3 ch t.val else sfrTab0_3 ch t.val))) := fun ch t => (allFacts ch t).2.2.2.1
theorem sfresh0_3_eq : ∀ n, n ≤ (cfgA ch).N → sfresh0_3 ch n = sfrTab0_3 ch n
  | 0, _ => by simp only [sfresh0_3, sfrTab0_3, Nat.zero_le, decide_true]
  | n + 1, h => by simp only [sfresh0_3, dif_pos (show n < (cfgA ch).N from h), sfresh0_3_eq n (Nat.le_of_lt h), sfrTab0_3_step ch ⟨n, h⟩]
theorem sfreshF0_3 (t : Fin (cfgA ch).N) : sfresh0_3 ch t.val = sfrTab0_3 ch t.val := sfresh0_3_eq ch t.val (Nat.le_of_lt t.isLt)
theorem sfreshS0_3 (t : Fin (cfgA ch).N) : sfresh0_3 ch (t.val + 1) = sfrTab0_3 ch (t.val + 1) := sfresh0_3_eq ch (t.val + 1) t.isLt

theorem frTab0_6_step : ∀ (ch : Fin 1) (t : Fin (cfgA ch).N),
    frTab0_6 ch (t.val + 1) = (((cfgA ch).win (6 : Fin 7)).flush t || ((cfgA ch).idle (6 : Fin 7) ((cfgA ch).grid.coords t) && frTab0_6 ch t.val)) := fun ch t => (allFacts ch t).2.2.2.2.1
theorem freshF0_6 (t : Fin (cfgA ch).N) : (cfgA ch).fresh (6 : Fin 7) t.val = frTab0_6 ch t.val :=
  Pipeline.Cfg.fresh_tab (cfgA ch) (6 : Fin 7) (frTab0_6 ch) rfl (frTab0_6_step ch) t.val (Nat.le_of_lt t.isLt)

/-- At a point of path A, the path's hypotheses hold of the words the body reads there (the pinned tables read,
    a pinned window's word AS the word `pinBlk ch t (r.idx x)`; the checks among them cited from `ChecksAt`). -/
theorem hyps0_A : ∀ (ch : Fin 1) (t : Fin (cfgA ch).N), P0_0 ch t → ¬P0_1 ch t → ¬P0_2 ch t →
    ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1) ∧ (True)))) := fun ch t => (allFacts ch t).2.2.2.2.2.1

theorem hypsR0_A : ∀ (ch : Fin 1) (t : Fin (cfgA ch).N), P0_0 ch t → ¬P0_1 ch t → ¬P0_2 ch t →
    ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1) ∧ (True)))) := hyps0_A

/-- At a point of path A: the idle table, the write-backs and which buffers hold junk (decided over the
    freshness tables `frTab`/`sfrTab`, restated over `Cfg.fresh`/`sfresh` by their agreement). -/
theorem sched0_A : ∀ (ch : Fin 1) (t : Fin (cfgA ch).N), P0_0 ch t → ¬P0_1 ch t → ¬P0_2 ch t →
    (cfgA ch).idle (6 : Fin 7) ((cfgA ch).grid.coords t) = false ∧ ((cfgA ch).win (6 : Fin 7)).flush t = true ∧ (cfgA ch).fresh (6 : Fin 7) t.val = true ∧ sfresh0_0 ch (t.val + 1) = false ∧ sfresh0_1 ch (t.val + 1) = false ∧ sfresh0_2 ch (t.val + 1) = false ∧ sfresh0_3 ch (t.val + 1) = false := by
  intro ch t; rw [freshF0_6 ch t, sfreshS0_0 ch t, sfreshS0_1 ch t, sfreshS0_2 ch t, sfreshS0_3 ch t]; exact (fun ch t => (allFacts ch t).2.2.2.2.2.2.1) ch t

/-- At a point of path B, the path's hypotheses hold of the words the body reads there (the pinned tables read,
    a pinned window's word AS the word `pinBlk ch t (r.idx x)`; the checks among them cited from `ChecksAt`). -/
theorem hyps0_B : ∀ (ch : Fin 1) (t : Fin (cfgA ch).N), P0_0 ch t → ¬P0_1 ch t → P0_2 ch t →
    ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ (((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬(k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := fun ch t => (allFacts ch t).2.2.2.2.2.2.2.1

theorem hypsR0_B : ∀ (ch : Fin 1) (t : Fin (cfgA ch).N), P0_0 ch t → ¬P0_1 ch t → P0_2 ch t →
    ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ (((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬(k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := hyps0_B

/-- At a point of path B: the idle table, the write-backs and which buffers hold junk (decided over the
    freshness tables `frTab`/`sfrTab`, restated over `Cfg.fresh`/`sfresh` by their agreement). -/
theorem sched0_B : ∀ (ch : Fin 1) (t : Fin (cfgA ch).N), P0_0 ch t → ¬P0_1 ch t → P0_2 ch t →
    (cfgA ch).idle (6 : Fin 7) ((cfgA ch).grid.coords t) = true ∧ ((cfgA ch).win (6 : Fin 7)).flush t = false ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.1) ch t

/-- At a point of path C, the path's hypotheses hold of the words the body reads there (the pinned tables read,
    a pinned window's word AS the word `pinBlk ch t (r.idx x)`; the checks among them cited from `ChecksAt`). -/
theorem hyps0_C : ∀ (ch : Fin 1) (t : Fin (cfgA ch).N), ¬P0_0 ch t → ¬P0_1 ch t → ¬P0_2 ch t →
    (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1) ∧ (True)))) := fun ch t => (allFacts ch t).2.2.2.2.2.2.2.2.2.1

theorem hypsR0_C : ∀ (ch : Fin 1) (t : Fin (cfgA ch).N), ¬P0_0 ch t → ¬P0_1 ch t → ¬P0_2 ch t →
    (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1) ∧ (True)))) := hyps0_C

/-- At a point of path C: the idle table, the write-backs and which buffers hold junk (decided over the
    freshness tables `frTab`/`sfrTab`, restated over `Cfg.fresh`/`sfresh` by their agreement). -/
theorem sched0_C : ∀ (ch : Fin 1) (t : Fin (cfgA ch).N), ¬P0_0 ch t → ¬P0_1 ch t → ¬P0_2 ch t →
    (cfgA ch).idle (6 : Fin 7) ((cfgA ch).grid.coords t) = false ∧ ((cfgA ch).win (6 : Fin 7)).flush t = true ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.1) ch t

/-- At a point of path D, the path's hypotheses hold of the words the body reads there (the pinned tables read,
    a pinned window's word AS the word `pinBlk ch t (r.idx x)`; the checks among them cited from `ChecksAt`). -/
theorem hyps0_D : ∀ (ch : Fin 1) (t : Fin (cfgA ch).N), P0_0 ch t → P0_1 ch t →
    ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬(k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := fun ch t => (allFacts ch t).2.2.2.2.2.2.2.2.2.2.2.1

theorem hypsR0_D : ∀ (ch : Fin 1) (t : Fin (cfgA ch).N), P0_0 ch t → P0_1 ch t →
    ((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1) ∧ (((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬(k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := hyps0_D

/-- At a point of path D: the idle table, the write-backs and which buffers hold junk (decided over the
    freshness tables `frTab`/`sfrTab`, restated over `Cfg.fresh`/`sfresh` by their agreement). -/
theorem sched0_D : ∀ (ch : Fin 1) (t : Fin (cfgA ch).N), P0_0 ch t → P0_1 ch t →
    (cfgA ch).idle (6 : Fin 7) ((cfgA ch).grid.coords t) = true ∧ ((cfgA ch).win (6 : Fin 7)).flush t = false ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.2.2.1) ch t

/-- At a point of path E, the path's hypotheses hold of the words the body reads there (the pinned tables read,
    a pinned window's word AS the word `pinBlk ch t (r.idx x)`; the checks among them cited from `ChecksAt`). -/
theorem hyps0_E : ∀ (ch : Fin 1) (t : Fin (cfgA ch).N), ¬P0_0 ch t → ¬P0_1 ch t → P0_2 ch t →
    (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ (((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬(k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := fun ch t => (allFacts ch t).2.2.2.2.2.2.2.2.2.2.2.2.2.1

theorem hypsR0_E : ∀ (ch : Fin 1) (t : Fin (cfgA ch).N), ¬P0_0 ch t → ¬P0_1 ch t → P0_2 ch t →
    (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ ((¬((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ (((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬(k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := hyps0_E

/-- At a point of path E: the idle table, the write-backs and which buffers hold junk (decided over the
    freshness tables `frTab`/`sfrTab`, restated over `Cfg.fresh`/`sfresh` by their agreement). -/
theorem sched0_E : ∀ (ch : Fin 1) (t : Fin (cfgA ch).N), ¬P0_0 ch t → ¬P0_1 ch t → P0_2 ch t →
    (cfgA ch).idle (6 : Fin 7) ((cfgA ch).grid.coords t) = true ∧ ((cfgA ch).win (6 : Fin 7)).flush t = false ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.2.2.2.2.1) ch t

/-- At a point of path F, the path's hypotheses hold of the words the body reads there (the pinned tables read,
    a pinned window's word AS the word `pinBlk ch t (r.idx x)`; the checks among them cited from `ChecksAt`). -/
theorem hyps0_F : ∀ (ch : Fin 1) (t : Fin (cfgA ch).N), ¬P0_0 ch t → P0_1 ch t →
    (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬(k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := fun ch t => (allFacts ch t).2.2.2.2.2.2.2.2.2.2.2.2.2.2.2.1

theorem hypsR0_F : ∀ (ch : Fin 1) (t : Fin (cfgA ch).N), ¬P0_0 ch t → P0_1 ch t →
    (¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) 0#32)) 0#32) = 1#1)) ∧ (((Scalar.cmpi .ne (Scalar.extui (Scalar.cmpi .slt (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1) ∧ ((¬((Scalar.cmpi .ne (Scalar.extui (Scalar.cmpi .eq (View.readAt (Elt Ideal) (tbM0_1).view (Rect.unit (s := S36) (k0_off1 (crd ch t)) S1.size (k0_off1_inb (crd ch t))).toLoadRect (pinT_1 ch) (Shape.Idx.first (numel1_S1.symm ▸ Nat.one_pos))) (Scalar.subi (View.readAt (Elt Ideal) (tbM0_0).view (Rect.unit (s := S36) (k0_off1 (crd ch t)) S1.size (k0_off1_inb (crd ch t))).toLoadRect (pinT_0 ch) (Shape.Idx.first (numel1_S1.symm ▸ Nat.one_pos))) 1#32))) 0#32) = 1#1)) ∧ ((¬(k0_cond4 (View.readAt (Elt Ideal) (tbM0_0).view (Rect.unit (s := S36) (k0_off1 (crd ch t)) S1.size (k0_off1_inb (crd ch t))).toLoadRect (pinT_0 ch) (Shape.Idx.first (numel1_S1.symm ▸ Nat.one_pos))) (View.readAt (Elt Ideal) (tbM0_1).view (Rect.unit (s := S36) (k0_off1 (crd ch t)) S1.size (k0_off1_inb (crd ch t))).toLoadRect (pinT_1 ch) (Shape.Idx.first (numel1_S1.symm ▸ Nat.one_pos))) = 1#1)) ∧ (True)))) := hyps0_F

/-- At a point of path F: the idle table, the write-backs and which buffers hold junk (decided over the
    freshness tables `frTab`/`sfrTab`, restated over `Cfg.fresh`/`sfresh` by their agreement). -/
theorem sched0_F : ∀ (ch : Fin 1) (t : Fin (cfgA ch).N), ¬P0_0 ch t → P0_1 ch t →
    (cfgA ch).idle (6 : Fin 7) ((cfgA ch).grid.coords t) = true ∧ ((cfgA ch).win (6 : Fin 7)).flush t = false ∧ (cfgA ch).fresh (6 : Fin 7) t.val = true ∧ sfresh0_0 ch t.val = false ∧ sfresh0_0 ch (t.val + 1) = false ∧ sfresh0_1 ch t.val = false ∧ sfresh0_1 ch (t.val + 1) = false ∧ sfresh0_2 ch t.val = false ∧ sfresh0_2 ch (t.val + 1) = false ∧ sfresh0_3 ch t.val = false ∧ sfresh0_3 ch (t.val + 1) = false := by
  intro ch t; rw [freshF0_6 ch t, sfreshF0_0 ch t, sfreshS0_0 ch t, sfreshF0_1 ch t, sfreshS0_1 ch t, sfreshF0_2 ch t, sfreshS0_2 ch t, sfreshF0_3 ch t, sfreshS0_3 ch t]; exact (fun ch t => (allFacts ch t).2.2.2.2.2.2.2.2.2.2.2.2.2.2.2.2) ch t

/-! ## What the outputs and scratches hold after each point -/

/-- ONE STEP of the trajectory: what the outputs' current buffers and the scratches hold after the body at point `t`
    (output 6, scratch 0, scratch 1, scratch 2, scratch 3), from what they held before (`prev`): the path the decisions select at `t`, its
    run's contents; an output the path leaves idle keeps what it held (junk — `default`, named by nothing — where fresh). -/
def step0 (c : Dev nD) (t : Fin (cfgA ch).N) (prev : (S1024x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) : (S1024x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) :=
  if q0 : P0_0 ch t then
    if q1 : P0_1 ch t then
      ((if (cfgA ch).fresh (6 : Fin 7) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).2.2.2.1)
    else
      if q2 : P0_2 ch t then
        ((if (cfgA ch).fresh (6 : Fin 7) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).2.2.2.1)
      else
        (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.2.2.2.1)
  else
    if q1 : P0_1 ch t then
      ((if (cfgA ch).fresh (6 : Fin 7) t.val then default else prev.1), (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).2.2.2.1)
    else
      if q2 : P0_2 ch t then
        ((if (cfgA ch).fresh (6 : Fin 7) t.val then default else prev.1), (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.2.2.1)
      else
        (out0_C_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.2.2.2.1)

/-- THE TRAJECTORY: after position `n`. -/
def traj0 (c : Dev nD) : (n : ℕ) → n < (cfgA ch).N → (S1024x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)
  | 0, h => step0 ch m ρ c ⟨0, h⟩ (default, default, default, default, default)
  | n + 1, h => step0 ch m ρ c ⟨n + 1, h⟩ (traj0 c n (Nat.lt_of_succ_lt h))

/-- What they held BEFORE point `t` (junk before the first). -/
def prev0 (c : Dev nD) (t : Fin (cfgA ch).N) : (S1024x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) :=
  if h : t.val = 0 then (default, default, default, default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S1024x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : P0_0 ch t) (q1 : ¬P0_1 ch t) (q2 : ¬P0_2 ch t) :
    step0 ch m ρ c t prev = (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_A ch t q0 q1 q2).1 (hypsR0_A ch t q0 q1 q2).2.1 (hypsR0_A ch t q0 q1 q2).2.2.1 (hypsR0_A ch t q0 q1 q2).2.2.2.1).2.2.2.2.1) := by
  unfold step0; simp only [dif_pos q0, dif_neg q1, dif_neg q2]

/-- `step0` at a point of path B. -/
theorem step0_B (c : Dev nD) (t : Fin (cfgA ch).N) (prev : (S1024x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : P0_0 ch t) (q1 : ¬P0_1 ch t) (q2 : P0_2 ch t) :
    step0 ch m ρ c t prev = ((if (cfgA ch).fresh (6 : Fin 7) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_B ch t q0 q1 q2).1 (hypsR0_B ch t q0 q1 q2).2.1 (hypsR0_B ch t q0 q1 q2).2.2.1 (hypsR0_B ch t q0 q1 q2).2.2.2.1).2.2.2.1) := by
  unfold step0; simp only [dif_pos q0, dif_neg q1, dif_pos q2]

/-- `step0` at a point of path C. -/
theorem step0_C (c : Dev nD) (t : Fin (cfgA ch).N) (prev : (S1024x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : ¬P0_0 ch t) (q1 : ¬P0_1 ch t) (q2 : ¬P0_2 ch t) :
    step0 ch m ρ c t prev = (out0_C_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_C ch t q0 q1 q2).1 (hypsR0_C ch t q0 q1 q2).2.1 (hypsR0_C ch t q0 q1 q2).2.2.1 (hypsR0_C ch t q0 q1 q2).2.2.2.1).2.2.2.2.1) := by
  unfold step0; simp only [dif_neg q0, dif_neg q1, dif_neg q2]

/-- `step0` at a point of path D. -/
theorem step0_D (c : Dev nD) (t : Fin (cfgA ch).N) (prev : (S1024x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : P0_0 ch t) (q1 : P0_1 ch t) :
    step0 ch m ρ c t prev = ((if (cfgA ch).fresh (6 : Fin 7) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).2.2.1, (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) (hypsR0_D ch t q0 q1).1 (hypsR0_D ch t q0 q1).2.1 (hypsR0_D ch t q0 q1).2.2.1 (hypsR0_D ch t q0 q1).2.2.2.1).2.2.2.1) := by
  unfold step0; simp only [dif_pos q0, dif_pos q1]

/-- `step0` at a point of path E. -/
theorem step0_E (c : Dev nD) (t : Fin (cfgA ch).N) (prev : (S1024x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : ¬P0_0 ch t) (q1 : ¬P0_1 ch t) (q2 : P0_2 ch t) :
    step0 ch m ρ c t prev = ((if (cfgA ch).fresh (6 : Fin 7) t.val then default else prev.1), (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.2.1, (kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_E ch t q0 q1 q2).1 (hypsR0_E ch t q0 q1 q2).2.1 (hypsR0_E ch t q0 q1 q2).2.2.1 (hypsR0_E ch t q0 q1 q2).2.2.2.1).2.2.2.1) := by
  unfold step0; simp only [dif_neg q0, dif_neg q1, dif_pos q2]

/-- `step0` at a point of path F. -/
theorem step0_F (c : Dev nD) (t : Fin (cfgA ch).N) (prev : (S1024x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) (q0 : ¬P0_0 ch t) (q1 : P0_1 ch t) :
    step0 ch m ρ c t prev = ((if (cfgA ch).fresh (6 : Fin 7) t.val then default else prev.1), (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).2.2.1, (kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2.1 prev.2.2.1 prev.2.2.2.1 prev.2.2.2.2 (hypsR0_F ch t q0 q1).1 (hypsR0_F ch t q0 q1).2.1 (hypsR0_F ch t q0 q1).2.2.1 (hypsR0_F ch t q0 q1).2.2.2.1).2.2.2.1) := by
  unfold step0; simp only [dif_neg q0, dif_pos q1]

/-! ## The pipeline's proof data -/

/-- What the tracked buffers held before position `t` of `Fin (N+1)` (the invariant's index). -/
def prev0T (c : Dev nD) (t : Fin ((cfgA ch).N + 1)) : (S1024x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3) :=
  if h : t.val = 0 then (default, default, default, default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2.1⌝ ∗ (scM0_0.view.loc (c : Thread nD τ) ↦{fullShare} a)) ∗ (∃ a, ⌜sfresh0_1 ch t.val = false → a = (prev0T ch m ρ c t).2.2.1⌝ ∗ (scM0_1.view.loc (c : Thread nD τ) ↦{fullShare} a)) ∗ (∃ a, ⌜sfresh0_2 ch t.val = false → a = (prev0T ch m ρ c t).2.2.2.1⌝ ∗ (scM0_2.view.loc (c : Thread nD τ) ↦{fullShare} a)) ∗ (∃ a, ⌜sfresh0_3 ch t.val = false → a = (prev0T ch m ρ c t).2.2.2.2⌝ ∗ (scM0_3.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 7) t
    | ⟨1, _⟩ => iblk ch m ρ c (1 : Fin 7) t
    | ⟨2, _⟩ => iblk ch m ρ c (2 : Fin 7) t
    | ⟨3, _⟩ => iblk ch m ρ c (3 : Fin 7) t
    | ⟨4, _⟩ => iblk ch m ρ c (4 : Fin 7) t
    | ⟨5, _⟩ => iblk ch m ρ c (5 : Fin 7) t
    | ⟨6, _⟩ => (traj0 ch m ρ c t.val t.isLt).1
  Φ t := Phi ch m ρ c t
  q _ := fullShare
  owed _ := 0

theorem after0_0 (c : Dev nD) (t : Fin (cfgA ch).N) : (dats ch m ρ 0 c).after (0 : Fin 7) t = iblk ch m ρ c (0 : Fin 7) t := rfl
theorem after0_1 (c : Dev nD) (t : Fin (cfgA ch).N) : (dats ch m ρ 0 c).after (1 : Fin 7) t = iblk ch m ρ c (1 : Fin 7) t := rfl
theorem after0_2 (c : Dev nD) (t : Fin (cfgA ch).N) : (dats ch m ρ 0 c).after (2 : Fin 7) t = iblk ch m ρ c (2 : Fin 7) t := rfl
theorem after0_3 (c : Dev nD) (t : Fin (cfgA ch).N) : (dats ch m ρ 0 c).after (3 : Fin 7) t = iblk ch m ρ c (3 : Fin 7) t := rfl
theorem after0_4 (c : Dev nD) (t : Fin (cfgA ch).N) : (dats ch m ρ 0 c).after (4 : Fin 7) t = iblk ch m ρ c (4 : Fin 7) t := rfl
theorem after0_5 (c : Dev nD) (t : Fin (cfgA ch).N) : (dats ch m ρ 0 c).after (5 : Fin 7) t = iblk ch m ρ c (5 : Fin 7) t := rfl
theorem after0_6 (c : Dev nD) (t : Fin (cfgA ch).N) : (dats ch m ρ 0 c).after (6 : Fin 7) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 7) t d = iblk ch m ρ c (0 : Fin 7) t :=
  ((dats ch m ρ 0 c).before_in_eq_fetched (0 : Fin 7) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 7) t d = iblk ch m ρ c (1 : Fin 7) t :=
  ((dats ch m ρ 0 c).before_in_eq_fetched (1 : Fin 7) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 7) t d = iblk ch m ρ c (2 : Fin 7) t :=
  ((dats ch m ρ 0 c).before_in_eq_fetched (2 : Fin 7) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 7) t d = iblk ch m ρ c (3 : Fin 7) t :=
  ((dats ch m ρ 0 c).before_in_eq_fetched (3 : Fin 7) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 7) t d = iblk ch m ρ c (4 : Fin 7) t :=
  ((dats ch m ρ 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 7) t d = iblk ch m ρ c (5 : Fin 7) t :=
  ((dats ch m ρ 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- Output 6's `after` carries through the points that leave it idle. -/
theorem hcarry0_6 (c : Dev nD) : ∀ (t : Fin (cfgA ch).N) (ht : t.val ≠ 0), (cfgA ch).idle (6 : Fin 7) ((cfgA ch).grid.coords t) = true → (cfgA ch).fresh (6 : Fin 7) t.val = false →
    (dats ch m ρ 0 c).after (6 : Fin 7) t = (dats ch m ρ 0 c).after (6 : Fin 7) ⟨t.val - 1, by omega⟩ := by
  intro t ht hi hf
  rw [after0_6, after0_6, traj0_eq]
  by_cases q0 : P0_0 ch t
  · by_cases q1 : P0_1 ch t
    · rw [step0_D ch m ρ c t _ q0 q1]
      simp only [hf, Bool.false_eq_true, ↓reduceIte]
      unfold prev0; rw [dif_neg ht]
    · by_cases q2 : P0_2 ch t
      · rw [step0_B ch m ρ c t _ q0 q1 q2]
        simp only [hf, Bool.false_eq_true, ↓reduceIte]
        unfold prev0; rw [dif_neg ht]
      · obtain ⟨i6, -, -, -, -, -, -⟩ := sched0_A ch t q0 q1 q2
        rw [i6] at hi; exact absurd hi (by decide)
  · by_cases q1 : P0_1 ch t
    · rw [step0_F ch m ρ c t _ q0 q1]
      simp only [hf, Bool.false_eq_true, ↓reduceIte]
      unfold prev0; rw [dif_neg ht]
    · by_cases q2 : P0_2 ch t
      · rw [step0_E ch m ρ c t _ q0 q1 q2]
        simp only [hf, Bool.false_eq_true, ↓reduceIte]
        unfold prev0; rw [dif_neg ht]
      · obtain ⟨i6, -, -, -, -, -, -, -, -, -, -⟩ := sched0_C ch t q0 q1 q2
        rw [i6] at hi; exact absurd hi (by decide)

/-- Output window 6 holds, when the body runs at `t`: junk if nothing was stored since its last write-back (`Cfg.fresh`),
    else what the point before left (TableIdle.lean `Dat.before_out_traj`). -/
theorem before0_6 (c : Dev nD) (t : Fin (cfgA ch).N) (d) :
    (dats ch m ρ 0 c).before (6 : Fin 7) t d = if (cfgA ch).fresh (6 : Fin 7) t.val then d else (prev0 ch m ρ c t).1 := by
  rw [(dats ch m ρ 0 c).before_out_traj (6 : Fin 7) rfl (fun _ _ => rfl) (hcarry0_6 ch m ρ c) t.val t rfl d]
  by_cases hf : (cfgA ch).fresh (6 : Fin 7) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_attn_prompt (crd ch t) (Memref.whole main_c) (Memref.isWhole_whole _) (Memref.whole main_c_0) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (Memref.whole cc0_scratch0) (Memref.isWhole_whole _) (Memref.whole cc0_scratch1) (Memref.isWhole_whole _) (Memref.whole cc0_scratch2) (Memref.isWhole_whole _) (Memref.whole cc0_scratch3) (Memref.isWhole_whole _)

set_option maxHeartbeats 4800000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 7) t d))
        ∗ (∃ d, owns (c : Thread nD τ) (ms0_1 ch t) fullShare ((dats ch m ρ 0 c).before (1 : Fin 7) t d))
        ∗ (∃ d, owns (c : Thread nD τ) (ms0_2 ch t) fullShare ((dats ch m ρ 0 c).before (2 : Fin 7) t d))
        ∗ (∃ d, owns (c : Thread nD τ) (ms0_3 ch t) fullShare ((dats ch m ρ 0 c).before (3 : Fin 7) t d))
        ∗ (∃ d, owns (c : Thread nD τ) (ms0_4 ch t) fullShare ((dats ch m ρ 0 c).before (4 : Fin 7) t d))
        ∗ (∃ d, owns (c : Thread nD τ) (ms0_5 ch t) fullShare ((dats ch m ρ 0 c).before (5 : Fin 7) t d))
        ∗ (∃ d, owns (c : Thread nD τ) (ms0_6 ch t) fullShare ((dats ch m ρ 0 c).before (6 : Fin 7) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · by_cases q1 : P0_1 ch t
    · obtain ⟨i6, f6, fr6, sf0, sfn0, sf1, sfn1, sf2, sfn2, sf3, sfn3⟩ := sched0_D ch t q0 q1
      have F0 := hypsR0_D ch t q0 q1
      have hc0 := F0.1; have F1 := F0.2
      have hc1 := F1.1; have F2 := F1.2
      have hc2 := F2.1; have F3 := F2.2
      have k0_h4 := F3.1; have F4 := F3.2
      clear F0 F1 F2 F3 F4
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_D ch m ρ c t _ q0 q1]
      unfold Phi; simp only [prev0T_castSucc, prev0T_succ, traj0_eq, step0_D ch m ρ c t _ q0 q1, Fin.val_castSucc, Fin.val_succ]
      iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) hc0 hc1 hc2 k0_h4).2.2.2.2 _ a0 a1 a2 a3 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      isplitl [HS3]; · iexact HS3
      iintro ⟨H0, H1, H2, H3, H4, H5, HT0, HT1, H6, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6
    · by_cases q2 : P0_2 ch t
      · obtain ⟨i6, f6, fr6, sf0, sfn0, sf1, sfn1, sf2, sfn2, sf3, sfn3⟩ := sched0_B ch t q0 q1 q2
        have F0 := hypsR0_B ch t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_B ch m ρ c t _ q0 q1 q2]
        unfold Phi; simp only [prev0T_castSucc, prev0T_succ, traj0_eq, step0_B ch m ρ c t _ q0 q1 q2, Fin.val_castSucc, Fin.val_succ]
        iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) hc0 hc1 hc2 k0_h4).2.2.2.2 _ a0 a1 a2 a3 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [H6]; · iexact H6
        isplitl [HS0]; · iexact HS0
        isplitl [HS1]; · iexact HS1
        isplitl [HS2]; · iexact HS2
        isplitl [HS3]; · iexact HS3
        iintro ⟨H0, H1, H2, H3, H4, H5, HT0, HT1, H6, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        first | (iexists d6; iexact H6) | iexact H6
      · obtain ⟨i6, f6, fr6, sfn0, sfn1, sfn2, sfn3⟩ := sched0_A ch t q0 q1 q2
        have F0 := hypsR0_A ch t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_A ch m ρ c t _ q0 q1 q2]
        unfold Phi; simp only [prev0T_castSucc, prev0T_succ, traj0_eq, step0_A ch m ρ c t _ q0 q1 q2, Fin.val_castSucc, Fin.val_succ]
        iintro ⟨⟨⟨%a0, %ha0, HS0⟩, ⟨%a1, %ha1, HS1⟩, ⟨%a2, %ha2, HS2⟩, ⟨%a3, %ha3, HS3⟩, HT0, HT1⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) hc0 hc1 hc2 k0_h4).2.2.2.2.2 a0 a1 a2 a3 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [H6]; · iexists _; iexact H6
        isplitl [HS0]; · iexact HS0
        isplitl [HS1]; · iexact HS1
        isplitl [HS2]; · iexact HS2
        isplitl [HS3]; · iexact HS3
        iintro ⟨H0, H1, H2, H3, H4, H5, HT0, HT1, ⟨%e6, H6⟩, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        unfold owns; iexists _; isplitr; swap
        · iexact H6
        · ipureintro; exact View.read_writes_of_cover _ _ _ _ _ (cover0_A_6 c _ _ _ _ _ _ _ _ _ _ _ _ _ _ _ _ _ _ _ _ _ _ _ _ _ _ _)
  · by_cases q1 : P0_1 ch t
    · obtain ⟨i6, f6, fr6, sf0, sfn0, sf1, sfn1, sf2, sfn2, sf3, sfn3⟩ := sched0_F ch t q0 q1
      have F0 := hypsR0_F ch t q0 q1
      have hc0 := F0.1; have F1 := F0.2
      have hc1 := F1.1; have F2 := F1.2
      have hc2 := F2.1; have F3 := F2.2
      have k0_h4 := F3.1; have F4 := F3.2
      clear F0 F1 F2 F3 F4
      rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_F ch m ρ c t _ q0 q1]
      unfold Phi; simp only [prev0T_castSucc, prev0T_succ, traj0_eq, step0_F ch m ρ c t _ q0 q1, Fin.val_castSucc, Fin.val_succ]
      simp only [exists_held sf0, exists_held sf1, exists_held sf2, exists_held sf3]
      iintro ⟨⟨HS0, HS1, HS2, HS3, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_F c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ _ _ _ hc0 hc1 hc2 k0_h4).2.2.2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      isplitl [HS1]; · iexact HS1
      isplitl [HS2]; · iexact HS2
      isplitl [HS3]; · iexact HS3
      iintro ⟨H0, H1, H2, H3, H4, H5, HT0, HT1, H6, HS0, HS1, HS2, HS3⟩
      isplitl [HS0 HS1 HS2 HS3 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HS2]
        · iexists _; isplitr; swap
          · iexact HS2
          · ipureintro; intro hn; first | rfl | exact absurd hn (by first | (rw [sfn2]; decide) | decide)
        isplitl [HS3]
        · iexists _; isplitr; swap
          · iexact HS3
          · ipureintro; intro hn; first | rfl | exact absurd hn (by first | (rw [sfn3]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6
    · by_cases q2 : P0_2 ch t
      · obtain ⟨i6, f6, fr6, sf0, sfn0, sf1, sfn1, sf2, sfn2, sf3, sfn3⟩ := sched0_E ch t q0 q1 q2
        have F0 := hypsR0_E ch t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_E ch m ρ c t _ q0 q1 q2]
        unfold Phi; simp only [prev0T_castSucc, prev0T_succ, traj0_eq, step0_E ch m ρ c t _ q0 q1 q2, Fin.val_castSucc, Fin.val_succ]
        simp only [exists_held sf0, exists_held sf1, exists_held sf2, exists_held sf3]
        iintro ⟨⟨HS0, HS1, HS2, HS3, HT0, HT1⟩, Ho, ⟨%d0, H0⟩, ⟨%d1, H1⟩, ⟨%d2, H2⟩, ⟨%d3, H3⟩, ⟨%d4, H4⟩, ⟨%d5, H5⟩, ⟨%d6, H6⟩⟩
        iapply ((kernelRun0_E c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ _ _ _ hc0 hc1 hc2 k0_h4).2.2.2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [H6]; · iexact H6
        isplitl [HS0]; · iexact HS0
        isplitl [HS1]; · iexact HS1
        isplitl [HS2]; · iexact HS2
        isplitl [HS3]; · iexact HS3
        iintro ⟨H0, H1, H2, H3, H4, H5, HT0, HT1, H6, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        first | (iexists d6; iexact H6) | iexact H6
      · obtain ⟨i6, f6, fr6, sf0, sfn0, sf1, sfn1, sf2, sfn2, sf3, sfn3⟩ := sched0_C ch t q0 q1 q2
        have F0 := hypsR0_C ch t q0 q1 q2
        have hc0 := F0.1; have F1 := F0.2
        have hc1 := F1.1; have F2 := F1.2
        have hc2 := F2.1; have F3 := F2.2
        have k0_h4 := F3.1; have F4 := F3.2
        clear F0 F1 F2 F3 F4
        rewrite [i6]
        simp only [before0_0, before0_1, before0_2, before0_3, before0_4, before0_5, before0_6, after0_0, after0_1, after0_2, after0_3, after0_4, after0_5, after0_6, f6]
        simp only [fr6, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1 q2]
        unfold Phi; simp only [prev0T_castSucc, prev0T_succ, traj0_eq, step0_C ch m ρ c t _ q0 q1 q2, Fin.val_castSucc, Fin.val_succ]
        simp only [exists_held sf0, exists_held sf1, exists_held sf2, exists_held sf3]
        iintro ⟨⟨HS0, HS1, HS2, HS3, HT0, HT1⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ _ _ _ hc0 hc1 hc2 k0_h4).2.2.2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [HT0]; · iexact HT0
        isplitl [HT1]; · iexact HT1
        isplitl [H6]; · iexists _; iexact H6
        isplitl [HS0]; · iexact HS0
        isplitl [HS1]; · iexact HS1
        isplitl [HS2]; · iexact HS2
        isplitl [HS3]; · iexact HS3
        iintro ⟨H0, H1, H2, H3, H4, H5, HT0, HT1, ⟨%e6, H6⟩, HS0, HS1, HS2, HS3⟩
        isplitl [HS0 HS1 HS2 HS3 HT0 HT1]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HS2]
          · iexists _; isplitr; swap
            · iexact HS2
            · ipureintro; intro hn; first | rfl | exact absurd hn (by first | (rw [sfn2]; decide) | decide)
          isplitl [HS3]
          · iexists _; isplitr; swap
            · iexact HS3
            · ipureintro; intro hn; first | rfl | exact absurd hn (by first | (rw [sfn3]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        isplitl [H4]
        · iapply owns_of_rep; iexact H4
        isplitl [H5]
        · iapply owns_of_rep; iexact H5
        unfold owns; iexists _; isplitr; swap
        · iexact H6
        · ipureintro; exact View.read_writes_of_cover _ _ _ _ _ (cover0_C_6 c _ _ _ _ _ _ _ _ _ _ _ _ _ _ _ _ _ _ _ _ _ _ _ _ _ _ _ _ _ _ _)

/-- The library's body obligation, at every point. -/
theorem body_obligation (c : Dev nD) : BodyObligation (dats ch m ρ 0 c) (defs₀ (F := Ideal)) Variants.none () Set.univ := fun t => by
  rw [bigSep_W0]
  exact sound_body ch m ρ c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩, ⟨%a1, HS1⟩, ⟨%a2, HS2⟩, ⟨%a3, HS3⟩⟩
  isplitl [HS0]
  · iexists a0; isplitr; swap
    · iexact HS0
    · ipureintro; intro h; exact absurd (h.symm.trans (show sfresh0_0 ch 0 = true from rfl)) Bool.false_ne_true
  isplitl [HS1]
  · iexists a1; isplitr; swap
    · iexact HS1
    · ipureintro; intro h; exact absurd (h.symm.trans (show sfresh0_1 ch 0 = true from rfl)) Bool.false_ne_true
  isplitl [HS2]
  · iexists a2; isplitr; swap
    · iexact HS2
    · ipureintro; intro h; exact absurd (h.symm.trans (show sfresh0_2 ch 0 = true from rfl)) Bool.false_ne_true
  isplitl [HS3]
  · iexists a3; isplitr; swap
    · iexact HS3
    · ipureintro; intro h; exact absurd (h.symm.trans (show sfresh0_3 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, ⟨%a1, -, HS1⟩, ⟨%a2, -, HS2⟩, ⟨%a3, -, HS3⟩, -, -⟩
  isplitr; · iempintro
  isplitl [HS0]
  · iexists a0; iexact HS0
  isplitl [HS1]
  · iexists a1; iexact HS1
  isplitl [HS2]
  · iexists a2; iexact HS2
  iexists a3; iexact HS3

/-! ### The two tables are constants of the program: the host operations before the region write them -/

/-- Core `c`'s TensorCore buffers when the region is entered: after the two host operations. -/
abbrev V (c : Dev nD) (b : Ref sig .tc) : Buf (Elt Ideal) ((c : Thread nD τ).loc b) := StableHlo.after (hostOps0 (F := Ideal)) (fun b => m (c, b)) b

theorem hostOps0_fresh : ((hostOps0 (F := Ideal)) : List (HloOp τ sig (Elt Ideal))).Forall fun op => op.fresh = ∅ := by
  simp only [List.Forall]; repeat' constructor

theorem hostOps0_writes : ((hostOps0 (F := Ideal)) : List (HloOp τ sig (Elt Ideal))).Forall fun op => op.writes ⊆ (([main_c, main_c_0] : List (Ref sig .tc)).map (Proc.devRef (τ := τ) .tc)).toFinset :=
  StableHlo.forall_writes_sub_of_map rfl

set_option maxHeartbeats 4000000 in
/-- @main up to the region. -/
theorem hmain : Pipeline.HMainP (Ix := Unit) (Name := ℕ) (U := UR sig nD τ) (Lvl := ℕ) (pcfgs (F := Ideal)) 0 defs₀ Variants.none m (main (F := Ideal)) (V m) :=
  Pipeline.hmainP_prefix (pcfgs (F := Ideal)) 0 defs₀ Variants.none m main (hostOps0 (F := Ideal)) hostOps0_sub hostOps0_fresh main_chain

/-- A buffer that is no table is, when the region is entered, what it was at launch. -/
theorem V_keep (c : Dev nD) (b : Ref sig .tc) (hb : b ∉ ([main_c, main_c_0] : List (Ref sig .tc))) :
    V m c b = m ((c : Thread nD τ).loc b) :=
  StableHlo.after_of_writes_sub (hostOps0 (F := Ideal)) _ hostOps0_writes hb

/-- The constant tables are the pinned ones. -/
theorem lit0_eq : (fun i => lit0 (S36.rowMajor i)) = pinT_0 ch := by funext i; revert i; revert ch; decide +kernel
theorem lit1_eq : (fun i => lit1 (S36.rowMajor i)) = pinT_1 ch := by funext i; revert i; revert ch; decide +kernel

theorem V_pre (c : Dev nD) (j : Fin 2) : V m c (pre0.ref j) = (adm ch).1 j := by
  fin_cases j
  · exact lit0_eq ch
  · exact lit1_eq ch

/-- Each window's array is launched as the pipeline's data say. -/
theorem A_eq (c : Dev nD) : ∀ w : Fin (cfgA ch).W, (dats ch m ρ 0 c).arrAt w 0 = V m c (Pipeline.arrRef (cfgA ch).spec w) := fun
  | ⟨0, _⟩ => (V_keep m c main_arg5 (by decide)).symm
  | ⟨1, _⟩ => (V_keep m c main_arg0 (by decide)).symm
  | ⟨2, _⟩ => (V_keep m c main_arg1 (by decide)).symm
  | ⟨3, _⟩ => (V_keep m c main_arg2 (by decide)).symm
  | ⟨4, _⟩ => (V_keep m c main_arg3 (by decide)).symm
  | ⟨5, _⟩ => (V_keep m c main_arg6 (by decide)).symm
  | ⟨6, _⟩ => (V_keep m c main_v0 (by decide)).symm
  | ⟨_ + 7, h⟩ => absurd h (Nat.not_lt.2 (Nat.le_add_left _ _))

/-- The physical post: every window's array at what the library computes, the argument no window reads as launched. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ r.2.mem ((c : Thread nD τ).loc main_arg4) = m ((c : Thread nD τ).loc main_arg4)

set_option backward.isDefEq.respectTransparency.types false in
set_option maxHeartbeats 4000000 in
/-- From any memory with zero counters every weakly fair execution of @main on the TensorCores terminates, and every
    final state has each array at the computed contents, and every semaphore counter of the machine at zero. -/
theorem run_main_quiescent : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := V m)
    (hmain := hmain m)
    (hsplit := fun c => Pipeline.arrays_split (pcs ch) (dats ch m ρ) 0 (launch0 (F := Ideal)).win.arr_inj c (launch0 (F := Ideal)).arr_whole
      (share_eq ch m ρ c) _ _ (A_eq ch m ρ c))
    (hpf := V_pre ch m)
    (X := fun _ => iprop(emp)) (Y := fun _ => iprop(emp))
    (Z := fun c => iprop((((c : Thread nD τ).loc main_arg4) ↦{fullShare} m ((c : Thread nD τ).loc main_arg4))))
    (hX := fun c => by
      rw [unscopedRestP0_eq, V_keep m c main_arg4 (by decide)]
      iintro H; isplitr; · iempintro
      iexact H)
    (hin := phi0_intro ch m ρ)
    (hout := phiN_exit ch m ρ)
    (QY := fun c s => s.mem ((c : Thread nD τ).loc main_arg4) = m ((c : Thread nD τ).loc main_arg4))
    (hY := fun c s' => by
      iintro ⟨-, HZ, HSI⟩
      icombine HSI HZ gives %h
      imodintro
      isplitr; · ipureintro; funext i; exact h i (Finset.mem_univ i)
      iexact HSI)
    (hQ := fun _ h hz => ⟨fun c => ⟨(h c).1, (h c).2.2⟩, hz⟩)

/-- `run_main_quiescent` without the counters. -/
theorem run_main : θ_run (defs (F := Ideal)) (onTc (τ := τ) (main (F := Ideal))) (s₀ m ρ) (QC ch m ρ) :=
  (θ_run defs _ _).mono (fun _ h => h.1) (run_main_quiescent ch m ρ)

/-- What a final state says of the argument arrays: they are as launched. -/
theorem args_of_QC {r : PUnit × MemSt nD τ sig (Elt Ideal)} (h : QC ch m ρ r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 (1 : Fin 7)).trans ((dats ch m ρ 0 c).arrAt_in (1 : Fin 7) rfl _), ((h c).1 (2 : Fin 7)).trans ((dats ch m ρ 0 c).arrAt_in (2 : Fin 7) rfl _),
    ((h c).1 (3 : Fin 7)).trans ((dats ch m ρ 0 c).arrAt_in (3 : Fin 7) rfl _), ((h c).1 (4 : Fin 7)).trans ((dats ch m ρ 0 c).arrAt_in (4 : Fin 7) rfl _),
    (h c).2, ((h c).1 (0 : Fin 7)).trans ((dats ch m ρ 0 c).arrAt_in (0 : Fin 7) rfl _), ((h c).1 (5 : Fin 7)).trans ((dats ch m ρ 0 c).arrAt_in (5 : Fin 7) rfl _)⟩

/-- The frame: every weakly fair execution terminates, nothing faults, every argument array ends unchanged and every
    semaphore counter reads zero at every final state. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_of_QC 0 m ρ h.1, h.2⟩) (run_main_quiescent 0 m ρ)

end Cert.KernelIdeal.Gen
-- ==== Proof.Attn.Online.lean ====
/- The softmax of one query row, two ways, over the extended reals: block after block of keys with a running maximum
   (what the kernel keeps in its three scratches), and at once (the reference). Plain mathematics: no program here. -/
module

public import Idealize.ShloMosaic.PureOps.Ideal
public import Mathlib.Analysis.SpecialFunctions.Pow.Real
public import Mathlib.Data.EReal.Operations
public import Mathlib.Data.EReal.Inv
public import Mathlib.Algebra.BigOperators.Fin

@[expose] public section

noncomputable section

namespace Cert.Online

open Idealize.ShloMosaic

/-! ## The running state of a row after its first `n` keys -/

/-- The largest score of the first `n` keys. -/
def mx (x : ℕ → EReal) (n : ℕ) : EReal := (Finset.range n).sup x
/-- The sum of the weights of the first `n` keys, at the running maximum. -/
def den (x : ℕ → EReal) (n : ℕ) : EReal := ∑ k ∈ Finset.range n, Ideal.exp2 (x k - mx x n)
/-- The weighted sum of the first `n` keys' values, at the running maximum. -/
def num (x v : ℕ → EReal) (n : ℕ) : EReal := ∑ k ∈ Finset.range n, Ideal.exp2 (x k - mx x n) * v k

theorem mx_zero (x : ℕ → EReal) : mx x 0 = ⊥ := by simp [mx]
theorem den_zero (x : ℕ → EReal) : den x 0 = 0 := by simp [den]
theorem num_zero (x v : ℕ → EReal) : num x v 0 = 0 := by simp [num]

theorem exp2_nonneg (x : EReal) : 0 ≤ Ideal.exp2 x := by
  induction x with
  | bot => simp
  | top => simp
  | coe r => rw [Ideal.exp2_coe]; exact_mod_cast Real.rpow_nonneg (by norm_num) r

theorem sub_ne_top {m m' : EReal} (h : m ≤ m') : m - m' ≠ ⊤ := by
  induction m with
  | bot => simp [sub_eq_add_neg]
  | top => rw [top_le_iff.1 h]; simp [sub_eq_add_neg]
  | coe r =>
    induction m' with
    | bot => simp at h
    | top => simp [sub_eq_add_neg]
    | coe s => rw [← EReal.coe_sub]; exact EReal.coe_ne_top _

theorem exp2_ne_top {m m' : EReal} (h : m ≤ m') : Ideal.exp2 (m - m') ≠ ⊤ := by
  have h' := sub_ne_top h
  generalize m - m' = d at h'
  induction d with
  | bot => simp
  | top => exact absurd rfl h'
  | coe r => rw [Ideal.exp2_coe]; exact EReal.coe_ne_top _

/-- Moving a weight from a maximum to a larger one. -/
theorem exp2_shift {x m m' : EReal} (hx : x ≤ m) (hm : m ≤ m') :
    Ideal.exp2 (m - m') * Ideal.exp2 (x - m) = Ideal.exp2 (x - m') := by
  induction x with
  | bot => simp [sub_eq_add_neg]
  | top =>
    have h1 := top_le_iff.1 hx; subst h1
    have h2 := top_le_iff.1 hm; subst h2
    simp [sub_eq_add_neg]
  | coe a =>
    induction m with
    | bot => simp at hx
    | top => have h2 := top_le_iff.1 hm; subst h2; simp [sub_eq_add_neg]
    | coe b =>
      induction m' with
      | bot => simp at hm
      | top => simp [sub_eq_add_neg]
      | coe c =>
        rw [← EReal.coe_sub, ← EReal.coe_sub, ← EReal.coe_sub, Ideal.exp2_coe, Ideal.exp2_coe, Ideal.exp2_coe,
          ← EReal.coe_mul]
        congr 1
        change (2 : ℝ) ^ (b - c) * (2 : ℝ) ^ (a - b) = (2 : ℝ) ^ (a - c)
        rw [← Real.rpow_add (by norm_num)]; congr 1; ring

theorem mul_sum_of_nonneg {c : EReal} (h0 : 0 ≤ c) (ht : c ≠ ⊤) {ι : Type} (s : Finset ι) (f : ι → EReal) :
    c * ∑ k ∈ s, f k = ∑ k ∈ s, c * f k := by
  classical
  induction s using Finset.induction_on with
  | empty => simp
  | insert a s ha ih => rw [Finset.sum_insert ha, Finset.sum_insert ha, EReal.left_distrib_of_nonneg_of_ne_top h0 ht, ih]

theorem mx_add (x : ℕ → EReal) (n w : ℕ) :
    mx x (n + w) = max (mx x n) (Finset.univ.sup fun i : Fin w => x (n + i)) := by
  apply le_antisymm
  · refine Finset.sup_le fun k hk => ?_
    rcases lt_or_ge k n with h | h
    · exact le_max_of_le_left (Finset.le_sup (f := x) (Finset.mem_range.2 h))
    · have hk' := Finset.mem_range.1 hk
      refine le_max_of_le_right ?_
      have := Finset.le_sup (f := fun i : Fin w => x (n + i)) (Finset.mem_univ (⟨k - n, by omega⟩ : Fin w))
      simpa [Nat.add_sub_cancel' h] using this
  · refine max_le (Finset.sup_mono (Finset.range_mono (by omega))) (Finset.sup_le fun i _ => ?_)
    exact Finset.le_sup (f := x) (Finset.mem_range.2 (by have := i.isLt; omega))

theorem le_mx {x : ℕ → EReal} {n k : ℕ} (h : k < n) : x k ≤ mx x n := Finset.le_sup (f := x) (Finset.mem_range.2 h)
theorem mx_mono (x : ℕ → EReal) {n n' : ℕ} (h : n ≤ n') : mx x n ≤ mx x n' := Finset.sup_mono (Finset.range_mono h)

theorem sum_split (f : ℕ → EReal) (n w : ℕ) :
    ∑ k ∈ Finset.range (n + w), f k = ∑ k ∈ Finset.range n, f k + ∑ i : Fin w, f (n + i) := by
  rw [Finset.sum_range_add, Finset.sum_range (fun i => f (n + i))]

theorem den_add (x : ℕ → EReal) (n w : ℕ) :
    den x (n + w) = Ideal.exp2 (mx x n - mx x (n + w)) * den x n + ∑ i : Fin w, Ideal.exp2 (x (n + i) - mx x (n + w)) := by
  have hm := mx_mono x (Nat.le_add_right n w)
  unfold den
  rw [sum_split, mul_sum_of_nonneg (exp2_nonneg _) (exp2_ne_top hm)]
  congr 1
  exact Finset.sum_congr rfl fun k hk => (exp2_shift (le_mx (Finset.mem_range.1 hk)) hm).symm

theorem num_add (x v : ℕ → EReal) (n w : ℕ) :
    num x v (n + w) = Ideal.exp2 (mx x n - mx x (n + w)) * num x v n
      + ∑ i : Fin w, Ideal.exp2 (x (n + i) - mx x (n + w)) * v (n + i) := by
  have hm := mx_mono x (Nat.le_add_right n w)
  unfold num
  rw [sum_split, mul_sum_of_nonneg (exp2_nonneg _) (exp2_ne_top hm)]
  congr 1
  exact Finset.sum_congr rfl fun k hk => by rw [← mul_assoc, exp2_shift (le_mx (Finset.mem_range.1 hk)) hm]

/-! ## The weights over the reals -/

/-- The softmax weight of key `k` among the keys `0 … Q`, of real logits `L`. -/
def sm (L : ℕ → ℝ) (Q k : ℕ) : ℝ := Real.exp (L k) / ∑ j ∈ Finset.range (Q + 1), Real.exp (L j)

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A maximum of finitely many scores, the one of key 0 real and none `⊤`, is real. -/
theorem sup_real {ι : Type} (s : Finset ι) (x : ι → EReal) (i : ι) (hi : i ∈ s) (h0 : x i ≠ ⊥) (ht : ∀ k ∈ s, x k ≠ ⊤) :
    ∃ M : ℝ, s.sup x = (M : EReal) := by
  have h1 : s.sup x ≠ ⊥ := fun h => h0 (le_bot_iff.1 (h ▸ Finset.le_sup (f := x) hi))
  have h2 : s.sup x ≠ ⊤ := by
    have : s.sup x < ⊤ := (Finset.sup_lt_iff (by exact bot_lt_top)).2 fun k hk => lt_top_iff_ne_top.2 (ht k hk)
    exact this.ne
  exact ⟨(s.sup x).toReal, (EReal.coe_toReal h2 h1).symm⟩

theorem rpow_two_div_log (a : ℝ) : (2 : ℝ) ^ (a / Real.log 2) = Real.exp a := by
  rw [Real.rpow_def_of_pos (by norm_num), mul_div_cancel₀ _ (Real.log_pos (by norm_num)).ne']

/-- The kernel's quotient at the end of a row: the softmax-weighted sum of the values. -/
theorem num_div_den (x v : ℕ → EReal) (L w : ℕ → ℝ) (f : ℝ) (Q n : ℕ) (hn : Q < n)
    (hx : ∀ k, k ≤ Q → x k = (((L k - f) / Real.log 2 : ℝ) : EReal)) (hb : ∀ k, Q < k → k < n → x k = ⊥)
    (hv : ∀ k, k ≤ Q → v k = (w k : EReal)) :
    Ideal.div (num x v n) (den x n) = ((∑ k ∈ Finset.range (Q + 1), sm L Q k * w k : ℝ) : EReal) := by
  obtain ⟨M, hM⟩ : ∃ M : ℝ, mx x n = (M : EReal) := by
    refine sup_real _ x 0 (Finset.mem_range.2 (by omega)) (by rw [hx 0 (by omega)]; exact EReal.coe_ne_bot _) fun k hk => ?_
    rcases le_or_gt k Q with h | h
    · rw [hx k h]; exact EReal.coe_ne_top _
    · rw [hb k h (Finset.mem_range.1 hk)]; exact bot_ne_top
  have he : ∀ k, k ≤ Q → Ideal.exp2 (x k - mx x n) = ((Real.exp (L k) * (Real.exp (- f) * (2 : ℝ) ^ (-M)) : ℝ) : EReal) := fun k h => by
    rw [hx k h, hM, ← EReal.coe_sub, Ideal.exp2_coe]
    congr 1
    change (2 : ℝ) ^ ((L k - f) / Real.log 2 - M) = _
    rw [sub_eq_add_neg, Real.rpow_add (by norm_num), rpow_two_div_log, sub_eq_add_neg, Real.exp_add]; ring
  have hz : ∀ k, Q < k → k < n → Ideal.exp2 (x k - mx x n) = 0 := fun k h h' => by
    rw [hb k h h']; simp [sub_eq_add_neg]
  have hsplit : ∀ g : ℕ → EReal, (∀ k, Q < k → k < n → g k = 0) → ∑ k ∈ Finset.range n, g k = ∑ k ∈ Finset.range (Q + 1), g k := fun g hg =>
    (Finset.sum_subset (Finset.range_mono (by omega)) fun k hk hk' =>
      hg k (by simpa using hk') (Finset.mem_range.1 hk)).symm
  have hden : den x n = ((∑ k ∈ Finset.range (Q + 1), Real.exp (L k) * (Real.exp (- f) * (2 : ℝ) ^ (-M)) : ℝ) : EReal) := by
    unfold den
    rw [hsplit _ hz, coe_sum]
    exact Finset.sum_congr rfl fun k hk => he k (by simpa [Nat.lt_succ_iff] using hk)
  have hnum : num x v n = ((∑ k ∈ Finset.range (Q + 1), Real.exp (L k) * (Real.exp (- f) * (2 : ℝ) ^ (-M)) * w k : ℝ) : EReal) := by
    unfold num
    rw [hsplit _ (fun k h h' => by rw [hz k h h', zero_mul]), coe_sum]
    exact Finset.sum_congr rfl fun k hk => by
      have h : k ≤ Q := by simpa [Nat.lt_succ_iff] using hk
      rw [he k h, hv k h, ← EReal.coe_mul]
  have hc : Real.exp (- f) * (2 : ℝ) ^ (-M) ≠ 0 := (mul_pos (Real.exp_pos _) (Real.rpow_pos_of_pos (by norm_num) _)).ne'
  have hS : (∑ k ∈ Finset.range (Q + 1), Real.exp (L k)) ≠ 0 :=
    (Finset.sum_pos (fun k _ => Real.exp_pos (L k)) ⟨0, Finset.mem_range.2 (by omega)⟩).ne'
  rw [hden, hnum, ← Finset.sum_mul, div_coe (mul_ne_zero hS hc)]
  congr 1
  rw [div_eq_iff (mul_ne_zero hS hc), Finset.sum_mul]
  refine Finset.sum_congr rfl fun k _ => ?_
  unfold sm
  field_simp

/-- The reference's weight: the softmax over all `N` keys with the keys after `Q` masked by `⊥`. -/
theorem softmax_masked {N : ℕ} (l : Fin N → EReal) (L : ℕ → ℝ) (Q : ℕ) (hQ : Q < N)
    (hl : ∀ k : Fin N, k.val ≤ Q → l k = (L k.val : EReal)) (hb : ∀ k : Fin N, Q < k.val → l k = ⊥) (k : Fin N) :
    Ideal.div (Ideal.exp (l k - Finset.univ.sup l)) (∑ j, Ideal.exp (l j - Finset.univ.sup l))
      = ((if k.val ≤ Q then sm L Q k.val else 0 : ℝ) : EReal) := by
  obtain ⟨M, hM⟩ : ∃ M : ℝ, Finset.univ.sup l = (M : EReal) := by
    refine sup_real _ l ⟨0, by omega⟩ (Finset.mem_univ _) (by rw [hl _ (Nat.zero_le _)]; exact EReal.coe_ne_bot _) fun k _ => ?_
    rcases le_or_gt k.val Q with h | h
    · rw [hl k h]; exact EReal.coe_ne_top _
    · rw [hb k h]; exact bot_ne_top
  have he : ∀ k : Fin N, Ideal.exp (l k - Finset.univ.sup l) = ((if k.val ≤ Q then Real.exp (L k.val) * Real.exp (-M) else 0 : ℝ) : EReal) := fun k => by
    rcases le_or_gt k.val Q with h | h
    · rw [hl k h, hM, ← EReal.coe_sub, if_pos h, ← Real.exp_add, ← sub_eq_add_neg]; rfl
    · rw [hb k h, if_neg (by omega)]; simp [sub_eq_add_neg]
  have hS : ∑ j : Fin N, (if j.val ≤ Q then Real.exp (L j.val) * Real.exp (-M) else 0 : ℝ)
      = (∑ j ∈ Finset.range (Q + 1), Real.exp (L j)) * Real.exp (-M) := by
    rw [← Finset.sum_range (fun j => if j ≤ Q then Real.exp (L j) * Real.exp (-M) else 0), Finset.sum_mul,
      ← Finset.sum_subset (Finset.range_mono (show Q + 1 ≤ N by omega)) (fun j _ hj => if_neg (by simpa using hj))]
    exact Finset.sum_congr rfl fun j hj => if_pos (by simpa [Nat.lt_succ_iff] using hj)
  have hpos : (∑ j ∈ Finset.range (Q + 1), Real.exp (L j)) ≠ 0 :=
    (Finset.sum_pos (fun k _ => Real.exp_pos (L k)) ⟨0, Finset.mem_range.2 (by omega)⟩).ne'
  simp only [he]
  rw [← coe_sum, hS, div_coe (mul_ne_zero hpos (Real.exp_pos _).ne')]
  congr 1
  split_ifs with h
  · unfold sm; rw [mul_div_mul_right _ _ (Real.exp_pos _).ne']
  · simp

end Cert.Online
-- ==== Proof.Attn.Chunk.lean ====
/- One block of keys met by 256 stacked query rows: the vector operations the kernel body repeats for every chunk of
   rows, at each width of block it uses (256, 512, 768 and 1024 keys), and what they hold element by element. -/
module

public import proofs.«01_k».proof.Proof.Gen.KernelIdeal
public import proofs.«01_k».proof.Proof.Attn.Online
public import Idealize.ShloMosaic.Lib.Pointwise

@[expose] public section

set_option maxRecDepth 16384

noncomputable section

namespace Cert.KernelIdeal.Chunk

open Idealize.ShloMosaic Cert.KernelIdeal Cert.KernelIdeal.Gen Cert.Online

theorem neg_inf : Ideal.ofBits .f32 0xFF800000#32 = (⊥ : EReal) := by
  simp [Ideal.ofBits, Ideal.ieee]

/-! ## Blocks of 1024 keys -/

/-- The rows' new running maximum. -/
def mNew1024 (s : FVec Ideal S256x1024 .f32) (m : FVec Ideal S256x128 .f32) : FVec Ideal S256x128 .f32 :=
  maximumf m (broadcastTo S256x128 (shapeCast S256x1 (multiReduction .maximumf [1] S256 s 0xFF800000#32 reduces_S256x1024_S256 (.inl rfl) rfl) shapeCasts_S256_S256x1) broadcasts_S256x1_S256x128)
/-- The block's weights. -/
def pNew1024 (s : FVec Ideal S256x1024 .f32) (m : FVec Ideal S256x128 .f32) : FVec Ideal S256x1024 .f32 :=
  exp2 (subf s (concatenate S256x1024 1 [⟨S256x128, mNew1024 s m⟩, ⟨S256x128, mNew1024 s m⟩, ⟨S256x128, mNew1024 s m⟩, ⟨S256x128, mNew1024 s m⟩, ⟨S256x128, mNew1024 s m⟩, ⟨S256x128, mNew1024 s m⟩, ⟨S256x128, mNew1024 s m⟩, ⟨S256x128, mNew1024 s m⟩] concatenates_S256x128_S256x128_S256x128_S256x128_S256x128_S256x128_S256x128_S256x128_S256x1024_d1))
/-- The rows' new sum of weights. -/
def lNew1024 (s : FVec Ideal S256x1024 .f32) (m l : FVec Ideal S256x128 .f32) : FVec Ideal S256x128 .f32 :=
  addf (mulf (exp2 (subf m (mNew1024 s m))) l) (broadcastTo S256x128 (shapeCast S256x1 (multiReduction .add [1] S256 (pNew1024 s m) 0x00000000#32 reduces_S256x1024_S256 (.inl rfl) rfl) shapeCasts_S256_S256x1) broadcasts_S256x1_S256x128)
/-- The rows' new weighted sum of values. -/
def aNew1024 (v : FVec Ideal S1024x128 .bf16) (s : FVec Ideal S256x1024 .f32) (m a : FVec Ideal S256x128 .f32) : FVec Ideal S256x128 .f32 :=
  addf (mulf (exp2 (subf m (mNew1024 s m))) a) (matmul dot_S256x1024_S1024x128_S256x128_1_0_0_1_n_n none (truncf .bf16 (pNew1024 s m) bitsLt_bf16_f32) v (constant S256x128 .f32 0x00000000#32))
/-- The block's scores before any bias. -/
def dot1024 (q : FVec Ideal S256x128 .bf16) (k : FVec Ideal S1024x128 .bf16) : FVec Ideal S256x1024 .f32 :=
  matmul dot_S256x128_S1024x128_S256x1024_1_1_0_0_n_n none q k (constant S256x1024 .f32 0x00000000#32)

theorem mNew1024_apply (s : FVec Ideal S256x1024 .f32) (m : FVec Ideal S256x128 .f32) (r : Fin 256) (j : Fin 128) :
    mNew1024 s m (ix2 r j) = max (m (ix2 r j)) (Finset.univ.sup fun k : Fin 1024 => s (ix2 r k)) := by
  pointwise [mNew1024, neg_inf]
  rfl

theorem pNew1024_apply (s : FVec Ideal S256x1024 .f32) (m : FVec Ideal S256x128 .f32) (r : Fin 256) (k : Fin 1024) (M : EReal)
    (hM : ∀ j, mNew1024 s m (ix2 r j) = M) :
    pNew1024 s m (ix2 r k) = Ideal.exp2 (s (ix2 r k) - M) := by
  pointwise [pNew1024]
  congr 2
  repeat' split
  all_goals exact hM _

theorem lNew1024_apply (s : FVec Ideal S256x1024 .f32) (m l : FVec Ideal S256x128 .f32) (r : Fin 256) (j : Fin 128) :
    lNew1024 s m l (ix2 r j) = Ideal.exp2 (m (ix2 r j) - mNew1024 s m (ix2 r j)) * l (ix2 r j) + ∑ k : Fin 1024, pNew1024 s m (ix2 r k) := by
  pointwise [lNew1024]
  rfl

theorem aNew1024_apply (v : FVec Ideal S1024x128 .bf16) (s : FVec Ideal S256x1024 .f32) (m a : FVec Ideal S256x128 .f32) (r : Fin 256) (j : Fin 128) :
    aNew1024 v s m a (ix2 r j) = Ideal.exp2 (m (ix2 r j) - mNew1024 s m (ix2 r j)) * a (ix2 r j) + ∑ k : Fin 1024, pNew1024 s m (ix2 r k) * v (ix2 k j) := by
  pointwise [aNew1024]
  rfl

theorem dot1024_apply (q : FVec Ideal S256x128 .bf16) (k : FVec Ideal S1024x128 .bf16) (r : Fin 256) (i : Fin 1024) :
    dot1024 q k (ix2 r i) = ∑ d : Fin 128, q (ix2 r d) * k (ix2 i d) := by
  pointwise [dot1024]

/-- One block carried into the running state: from the state after `n` keys to the state after `n + 1024`. -/
theorem step1024 (x : ℕ → EReal) (n : ℕ) (s : FVec Ideal S256x1024 .f32) (m l : FVec Ideal S256x128 .f32) (r : Fin 256)
    (hs : ∀ k : Fin 1024, s (ix2 r k) = x (n + k)) (hm : ∀ j, m (ix2 r j) = mx x n) (hl : ∀ j, l (ix2 r j) = den x n) :
    (∀ j, mNew1024 s m (ix2 r j) = mx x (n + 1024)) ∧ (∀ j, lNew1024 s m l (ix2 r j) = den x (n + 1024)) := by
  have h1 : ∀ j, mNew1024 s m (ix2 r j) = mx x (n + 1024) := fun j => by
    rw [mNew1024_apply, hm, mx_add]; simp only [hs]
  refine ⟨h1, fun j => ?_⟩
  rw [lNew1024_apply, hm, h1, hl, den_add]
  congr 1
  exact Finset.sum_congr rfl fun k _ => by rw [pNew1024_apply s m r k _ h1, hs]

/-- The same for the weighted sum of one column of the values. -/
theorem stepA1024 (x y : ℕ → EReal) (n : ℕ) (v : FVec Ideal S1024x128 .bf16) (s : FVec Ideal S256x1024 .f32) (m a : FVec Ideal S256x128 .f32) (r : Fin 256) (j : Fin 128)
    (hs : ∀ k : Fin 1024, s (ix2 r k) = x (n + k)) (hv : ∀ k : Fin 1024, v (ix2 k j) = y (n + k)) (hm : ∀ j, m (ix2 r j) = mx x n)
    (ha : a (ix2 r j) = num x y n) :
    aNew1024 v s m a (ix2 r j) = num x y (n + 1024) := by
  have h1 : ∀ j, mNew1024 s m (ix2 r j) = mx x (n + 1024) := fun j => by
    rw [mNew1024_apply, hm, mx_add]; simp only [hs]
  rw [aNew1024_apply, hm, h1, ha, num_add]
  congr 1
  exact Finset.sum_congr rfl fun k _ => by rw [pNew1024_apply s m r k _ h1, hs, hv]

/-! ## Blocks of 768 keys -/

/-- The rows' new running maximum. -/
def mNew768 (s : FVec Ideal S256x768 .f32) (m : FVec Ideal S256x128 .f32) : FVec Ideal S256x128 .f32 :=
  maximumf m (broadcastTo S256x128 (shapeCast S256x1 (multiReduction .maximumf [1] S256 s 0xFF800000#32 reduces_S256x768_S256 (.inl rfl) rfl) shapeCasts_S256_S256x1) broadcasts_S256x1_S256x128)
/-- The block's weights. -/
def pNew768 (s : FVec Ideal S256x768 .f32) (m : FVec Ideal S256x128 .f32) : FVec Ideal S256x768 .f32 :=
  exp2 (subf s (concatenate S256x768 1 [⟨S256x128, mNew768 s m⟩, ⟨S256x128, mNew768 s m⟩, ⟨S256x128, mNew768 s m⟩, ⟨S256x128, mNew768 s m⟩, ⟨S256x128, mNew768 s m⟩, ⟨S256x128, mNew768 s m⟩] concatenates_S256x128_S256x128_S256x128_S256x128_S256x128_S256x128_S256x768_d1))
/-- The rows' new sum of weights. -/
def lNew768 (s : FVec Ideal S256x768 .f32) (m l : FVec Ideal S256x128 .f32) : FVec Ideal S256x128 .f32 :=
  addf (mulf (exp2 (subf m (mNew768 s m))) l) (broadcastTo S256x128 (shapeCast S256x1 (multiReduction .add [1] S256 (pNew768 s m) 0x00000000#32 reduces_S256x768_S256 (.inl rfl) rfl) shapeCasts_S256_S256x1) broadcasts_S256x1_S256x128)
/-- The rows' new weighted sum of values. -/
def aNew768 (v : FVec Ideal S768x128 .bf16) (s : FVec Ideal S256x768 .f32) (m a : FVec Ideal S256x128 .f32) : FVec Ideal S256x128 .f32 :=
  addf (mulf (exp2 (subf m (mNew768 s m))) a) (matmul dot_S256x768_S768x128_S256x128_1_0_0_1_n_n none (truncf .bf16 (pNew768 s m) bitsLt_bf16_f32) v (constant S256x128 .f32 0x00000000#32))
/-- The block's scores before any bias. -/
def dot768 (q : FVec Ideal S256x128 .bf16) (k : FVec Ideal S768x128 .bf16) : FVec Ideal S256x768 .f32 :=
  matmul dot_S256x128_S768x128_S256x768_1_1_0_0_n_n none q k (constant S256x768 .f32 0x00000000#32)

theorem mNew768_apply (s : FVec Ideal S256x768 .f32) (m : FVec Ideal S256x128 .f32) (r : Fin 256) (j : Fin 128) :
    mNew768 s m (ix2 r j) = max (m (ix2 r j)) (Finset.univ.sup fun k : Fin 768 => s (ix2 r k)) := by
  pointwise [mNew768, neg_inf]
  rfl

theorem pNew768_apply (s : FVec Ideal S256x768 .f32) (m : FVec Ideal S256x128 .f32) (r : Fin 256) (k : Fin 768) (M : EReal)
    (hM : ∀ j, mNew768 s m (ix2 r j) = M) :
    pNew768 s m (ix2 r k) = Ideal.exp2 (s (ix2 r k) - M) := by
  pointwise [pNew768]
  congr 2
  repeat' split
  all_goals exact hM _

theorem lNew768_apply (s : FVec Ideal S256x768 .f32) (m l : FVec Ideal S256x128 .f32) (r : Fin 256) (j : Fin 128) :
    lNew768 s m l (ix2 r j) = Ideal.exp2 (m (ix2 r j) - mNew768 s m (ix2 r j)) * l (ix2 r j) + ∑ k : Fin 768, pNew768 s m (ix2 r k) := by
  pointwise [lNew768]
  rfl

theorem aNew768_apply (v : FVec Ideal S768x128 .bf16) (s : FVec Ideal S256x768 .f32) (m a : FVec Ideal S256x128 .f32) (r : Fin 256) (j : Fin 128) :
    aNew768 v s m a (ix2 r j) = Ideal.exp2 (m (ix2 r j) - mNew768 s m (ix2 r j)) * a (ix2 r j) + ∑ k : Fin 768, pNew768 s m (ix2 r k) * v (ix2 k j) := by
  pointwise [aNew768]
  rfl

theorem dot768_apply (q : FVec Ideal S256x128 .bf16) (k : FVec Ideal S768x128 .bf16) (r : Fin 256) (i : Fin 768) :
    dot768 q k (ix2 r i) = ∑ d : Fin 128, q (ix2 r d) * k (ix2 i d) := by
  pointwise [dot768]

/-- One block carried into the running state: from the state after `n` keys to the state after `n + 768`. -/
theorem step768 (x : ℕ → EReal) (n : ℕ) (s : FVec Ideal S256x768 .f32) (m l : FVec Ideal S256x128 .f32) (r : Fin 256)
    (hs : ∀ k : Fin 768, s (ix2 r k) = x (n + k)) (hm : ∀ j, m (ix2 r j) = mx x n) (hl : ∀ j, l (ix2 r j) = den x n) :
    (∀ j, mNew768 s m (ix2 r j) = mx x (n + 768)) ∧ (∀ j, lNew768 s m l (ix2 r j) = den x (n + 768)) := by
  have h1 : ∀ j, mNew768 s m (ix2 r j) = mx x (n + 768) := fun j => by
    rw [mNew768_apply, hm, mx_add]; simp only [hs]
  refine ⟨h1, fun j => ?_⟩
  rw [lNew768_apply, hm, h1, hl, den_add]
  congr 1
  exact Finset.sum_congr rfl fun k _ => by rw [pNew768_apply s m r k _ h1, hs]

/-- The same for the weighted sum of one column of the values. -/
theorem stepA768 (x y : ℕ → EReal) (n : ℕ) (v : FVec Ideal S768x128 .bf16) (s : FVec Ideal S256x768 .f32) (m a : FVec Ideal S256x128 .f32) (r : Fin 256) (j : Fin 128)
    (hs : ∀ k : Fin 768, s (ix2 r k) = x (n + k)) (hv : ∀ k : Fin 768, v (ix2 k j) = y (n + k)) (hm : ∀ j, m (ix2 r j) = mx x n)
    (ha : a (ix2 r j) = num x y n) :
    aNew768 v s m a (ix2 r j) = num x y (n + 768) := by
  have h1 : ∀ j, mNew768 s m (ix2 r j) = mx x (n + 768) := fun j => by
    rw [mNew768_apply, hm, mx_add]; simp only [hs]
  rw [aNew768_apply, hm, h1, ha, num_add]
  congr 1
  exact Finset.sum_congr rfl fun k _ => by rw [pNew768_apply s m r k _ h1, hs, hv]

/-! ## Blocks of 512 keys -/

/-- The rows' new running maximum. -/
def mNew512 (s : FVec Ideal S256x512 .f32) (m : FVec Ideal S256x128 .f32) : FVec Ideal S256x128 .f32 :=
  maximumf m (broadcastTo S256x128 (shapeCast S256x1 (multiReduction .maximumf [1] S256 s 0xFF800000#32 reduces_S256x512_S256 (.inl rfl) rfl) shapeCasts_S256_S256x1) broadcasts_S256x1_S256x128)
/-- The block's weights. -/
def pNew512 (s : FVec Ideal S256x512 .f32) (m : FVec Ideal S256x128 .f32) : FVec Ideal S256x512 .f32 :=
  exp2 (subf s (concatenate S256x512 1 [⟨S256x128, mNew512 s m⟩, ⟨S256x128, mNew512 s m⟩, ⟨S256x128, mNew512 s m⟩, ⟨S256x128, mNew512 s m⟩] concatenates_S256x128_S256x128_S256x128_S256x128_S256x512_d1))
/-- The rows' new sum of weights. -/
def lNew512 (s : FVec Ideal S256x512 .f32) (m l : FVec Ideal S256x128 .f32) : FVec Ideal S256x128 .f32 :=
  addf (mulf (exp2 (subf m (mNew512 s m))) l) (broadcastTo S256x128 (shapeCast S256x1 (multiReduction .add [1] S256 (pNew512 s m) 0x00000000#32 reduces_S256x512_S256 (.inl rfl) rfl) shapeCasts_S256_S256x1) broadcasts_S256x1_S256x128)
/-- The rows' new weighted sum of values. -/
def aNew512 (v : FVec Ideal S512x128 .bf16) (s : FVec Ideal S256x512 .f32) (m a : FVec Ideal S256x128 .f32) : FVec Ideal S256x128 .f32 :=
  addf (mulf (exp2 (subf m (mNew512 s m))) a) (matmul dot_S256x512_S512x128_S256x128_1_0_0_1_n_n none (truncf .bf16 (pNew512 s m) bitsLt_bf16_f32) v (constant S256x128 .f32 0x00000000#32))
/-- The block's scores before any bias. -/
def dot512 (q : FVec Ideal S256x128 .bf16) (k : FVec Ideal S512x128 .bf16) : FVec Ideal S256x512 .f32 :=
  matmul dot_S256x128_S512x128_S256x512_1_1_0_0_n_n none q k (constant S256x512 .f32 0x00000000#32)

theorem mNew512_apply (s : FVec Ideal S256x512 .f32) (m : FVec Ideal S256x128 .f32) (r : Fin 256) (j : Fin 128) :
    mNew512 s m (ix2 r j) = max (m (ix2 r j)) (Finset.univ.sup fun k : Fin 512 => s (ix2 r k)) := by
  pointwise [mNew512, neg_inf]
  rfl

theorem pNew512_apply (s : FVec Ideal S256x512 .f32) (m : FVec Ideal S256x128 .f32) (r : Fin 256) (k : Fin 512) (M : EReal)
    (hM : ∀ j, mNew512 s m (ix2 r j) = M) :
    pNew512 s m (ix2 r k) = Ideal.exp2 (s (ix2 r k) - M) := by
  pointwise [pNew512]
  congr 2
  repeat' split
  all_goals exact hM _

theorem lNew512_apply (s : FVec Ideal S256x512 .f32) (m l : FVec Ideal S256x128 .f32) (r : Fin 256) (j : Fin 128) :
    lNew512 s m l (ix2 r j) = Ideal.exp2 (m (ix2 r j) - mNew512 s m (ix2 r j)) * l (ix2 r j) + ∑ k : Fin 512, pNew512 s m (ix2 r k) := by
  pointwise [lNew512]
  rfl

theorem aNew512_apply (v : FVec Ideal S512x128 .bf16) (s : FVec Ideal S256x512 .f32) (m a : FVec Ideal S256x128 .f32) (r : Fin 256) (j : Fin 128) :
    aNew512 v s m a (ix2 r j) = Ideal.exp2 (m (ix2 r j) - mNew512 s m (ix2 r j)) * a (ix2 r j) + ∑ k : Fin 512, pNew512 s m (ix2 r k) * v (ix2 k j) := by
  pointwise [aNew512]
  rfl

theorem dot512_apply (q : FVec Ideal S256x128 .bf16) (k : FVec Ideal S512x128 .bf16) (r : Fin 256) (i : Fin 512) :
    dot512 q k (ix2 r i) = ∑ d : Fin 128, q (ix2 r d) * k (ix2 i d) := by
  pointwise [dot512]

/-- One block carried into the running state: from the state after `n` keys to the state after `n + 512`. -/
theorem step512 (x : ℕ → EReal) (n : ℕ) (s : FVec Ideal S256x512 .f32) (m l : FVec Ideal S256x128 .f32) (r : Fin 256)
    (hs : ∀ k : Fin 512, s (ix2 r k) = x (n + k)) (hm : ∀ j, m (ix2 r j) = mx x n) (hl : ∀ j, l (ix2 r j) = den x n) :
    (∀ j, mNew512 s m (ix2 r j) = mx x (n + 512)) ∧ (∀ j, lNew512 s m l (ix2 r j) = den x (n + 512)) := by
  have h1 : ∀ j, mNew512 s m (ix2 r j) = mx x (n + 512) := fun j => by
    rw [mNew512_apply, hm, mx_add]; simp only [hs]
  refine ⟨h1, fun j => ?_⟩
  rw [lNew512_apply, hm, h1, hl, den_add]
  congr 1
  exact Finset.sum_congr rfl fun k _ => by rw [pNew512_apply s m r k _ h1, hs]

/-- The same for the weighted sum of one column of the values. -/
theorem stepA512 (x y : ℕ → EReal) (n : ℕ) (v : FVec Ideal S512x128 .bf16) (s : FVec Ideal S256x512 .f32) (m a : FVec Ideal S256x128 .f32) (r : Fin 256) (j : Fin 128)
    (hs : ∀ k : Fin 512, s (ix2 r k) = x (n + k)) (hv : ∀ k : Fin 512, v (ix2 k j) = y (n + k)) (hm : ∀ j, m (ix2 r j) = mx x n)
    (ha : a (ix2 r j) = num x y n) :
    aNew512 v s m a (ix2 r j) = num x y (n + 512) := by
  have h1 : ∀ j, mNew512 s m (ix2 r j) = mx x (n + 512) := fun j => by
    rw [mNew512_apply, hm, mx_add]; simp only [hs]
  rw [aNew512_apply, hm, h1, ha, num_add]
  congr 1
  exact Finset.sum_congr rfl fun k _ => by rw [pNew512_apply s m r k _ h1, hs, hv]

/-! ## Blocks of 256 keys -/

/-- The rows' new running maximum. -/
def mNew256 (s : FVec Ideal S256x256 .f32) (m : FVec Ideal S256x128 .f32) : FVec Ideal S256x128 .f32 :=
  maximumf m (broadcastTo S256x128 (shapeCast S256x1 (multiReduction .maximumf [1] S256 s 0xFF800000#32 reduces_S256x256_S256 (.inl rfl) rfl) shapeCasts_S256_S256x1) broadcasts_S256x1_S256x128)
/-- The block's weights. -/
def pNew256 (s : FVec Ideal S256x256 .f32) (m : FVec Ideal S256x128 .f32) : FVec Ideal S256x256 .f32 :=
  exp2 (subf s (concatenate S256x256 1 [⟨S256x128, mNew256 s m⟩, ⟨S256x128, mNew256 s m⟩] concatenates_S256x128_S256x128_S256x256_d1))
/-- The rows' new sum of weights. -/
def lNew256 (s : FVec Ideal S256x256 .f32) (m l : FVec Ideal S256x128 .f32) : FVec Ideal S256x128 .f32 :=
  addf (mulf (exp2 (subf m (mNew256 s m))) l) (broadcastTo S256x128 (shapeCast S256x1 (multiReduction .add [1] S256 (pNew256 s m) 0x00000000#32 reduces_S256x256_S256 (.inl rfl) rfl) shapeCasts_S256_S256x1) broadcasts_S256x1_S256x128)
/-- The rows' new weighted sum of values. -/
def aNew256 (v : FVec Ideal S256x128 .bf16) (s : FVec Ideal S256x256 .f32) (m a : FVec Ideal S256x128 .f32) : FVec Ideal S256x128 .f32 :=
  addf (mulf (exp2 (subf m (mNew256 s m))) a) (matmul dot_S256x256_S256x128_S256x128_1_0_0_1_n_n none (truncf .bf16 (pNew256 s m) bitsLt_bf16_f32) v (constant S256x128 .f32 0x00000000#32))
/-- The block's scores before any bias. -/
def dot256 (q : FVec Ideal S256x128 .bf16) (k : FVec Ideal S256x128 .bf16) : FVec Ideal S256x256 .f32 :=
  matmul dot_S256x128_S256x128_S256x256_1_1_0_0_n_n none q k (constant S256x256 .f32 0x00000000#32)

theorem mNew256_apply (s : FVec Ideal S256x256 .f32) (m : FVec Ideal S256x128 .f32) (r : Fin 256) (j : Fin 128) :
    mNew256 s m (ix2 r j) = max (m (ix2 r j)) (Finset.univ.sup fun k : Fin 256 => s (ix2 r k)) := by
  pointwise [mNew256, neg_inf]
  rfl

theorem pNew256_apply (s : FVec Ideal S256x256 .f32) (m : FVec Ideal S256x128 .f32) (r : Fin 256) (k : Fin 256) (M : EReal)
    (hM : ∀ j, mNew256 s m (ix2 r j) = M) :
    pNew256 s m (ix2 r k) = Ideal.exp2 (s (ix2 r k) - M) := by
  pointwise [pNew256]
  congr 2
  repeat' split
  all_goals exact hM _

theorem lNew256_apply (s : FVec Ideal S256x256 .f32) (m l : FVec Ideal S256x128 .f32) (r : Fin 256) (j : Fin 128) :
    lNew256 s m l (ix2 r j) = Ideal.exp2 (m (ix2 r j) - mNew256 s m (ix2 r j)) * l (ix2 r j) + ∑ k : Fin 256, pNew256 s m (ix2 r k) := by
  pointwise [lNew256]
  rfl

theorem aNew256_apply (v : FVec Ideal S256x128 .bf16) (s : FVec Ideal S256x256 .f32) (m a : FVec Ideal S256x128 .f32) (r : Fin 256) (j : Fin 128) :
    aNew256 v s m a (ix2 r j) = Ideal.exp2 (m (ix2 r j) - mNew256 s m (ix2 r j)) * a (ix2 r j) + ∑ k : Fin 256, pNew256 s m (ix2 r k) * v (ix2 k j) := by
  pointwise [aNew256]
  rfl

theorem dot256_apply (q : FVec Ideal S256x128 .bf16) (k : FVec Ideal S256x128 .bf16) (r : Fin 256) (i : Fin 256) :
    dot256 q k (ix2 r i) = ∑ d : Fin 128, q (ix2 r d) * k (ix2 i d) := by
  pointwise [dot256]

/-- One block carried into the running state: from the state after `n` keys to the state after `n + 256`. -/
theorem step256 (x : ℕ → EReal) (n : ℕ) (s : FVec Ideal S256x256 .f32) (m l : FVec Ideal S256x128 .f32) (r : Fin 256)
    (hs : ∀ k : Fin 256, s (ix2 r k) = x (n + k)) (hm : ∀ j, m (ix2 r j) = mx x n) (hl : ∀ j, l (ix2 r j) = den x n) :
    (∀ j, mNew256 s m (ix2 r j) = mx x (n + 256)) ∧ (∀ j, lNew256 s m l (ix2 r j) = den x (n + 256)) := by
  have h1 : ∀ j, mNew256 s m (ix2 r j) = mx x (n + 256) := fun j => by
    rw [mNew256_apply, hm, mx_add]; simp only [hs]
  refine ⟨h1, fun j => ?_⟩
  rw [lNew256_apply, hm, h1, hl, den_add]
  congr 1
  exact Finset.sum_congr rfl fun k _ => by rw [pNew256_apply s m r k _ h1, hs]

/-- The same for the weighted sum of one column of the values. -/
theorem stepA256 (x y : ℕ → EReal) (n : ℕ) (v : FVec Ideal S256x128 .bf16) (s : FVec Ideal S256x256 .f32) (m a : FVec Ideal S256x128 .f32) (r : Fin 256) (j : Fin 128)
    (hs : ∀ k : Fin 256, s (ix2 r k) = x (n + k)) (hv : ∀ k : Fin 256, v (ix2 k j) = y (n + k)) (hm : ∀ j, m (ix2 r j) = mx x n)
    (ha : a (ix2 r j) = num x y n) :
    aNew256 v s m a (ix2 r j) = num x y (n + 256) := by
  have h1 : ∀ j, mNew256 s m (ix2 r j) = mx x (n + 256) := fun j => by
    rw [mNew256_apply, hm, mx_add]; simp only [hs]
  rw [aNew256_apply, hm, h1, ha, num_add]
  congr 1
  exact Finset.sum_congr rfl fun k _ => by rw [pNew256_apply s m r k _ h1, hs, hv]

end Cert.KernelIdeal.Chunk
-- ==== Proof.Attn.Rows.lean ====
/- The scratches' rows: 256 stacked query rows read out of, or stored into, a scratch of 2048 at a row offset, and
   what one such chunk of rows stores after one block of keys. -/
module

public import proofs.«01_k».proof.Proof.Attn.Chunk
public import proofs.«01_k».proof.Proof.AttnIdeal.Runs
public import Idealize.ShloMosaic.Lib.VecWindow

@[expose] public section

set_option maxRecDepth 16384

noncomputable section

namespace Cert.KernelIdeal.Rows

open Idealize.ShloMosaic Idealize.ShloMosaic.TcCoe Cert.KernelIdeal Cert.KernelIdeal.Gen Cert.KernelIdeal.Chunk Cert.Online

theorem idx2 {n0 n1 : ℕ} (y : (⟨2, ![n0, n1]⟩ : Shape).Idx) : y = ix2 (y 0) (y 1) := by
  funext a
  match a with
  | ⟨0, _⟩ => rfl
  | ⟨1, _⟩ => rfl

/-- Row `r` of the chunk at offset `o`. -/
def row (o : ℕ) (ho : o + 256 ≤ 2048) (r : Fin 256) : Fin 2048 := ⟨o + r.val, by have := r.isLt; omega⟩

abbrev RB (o : ℕ) (inb : ∀ a, (![o, 0] : Fin 2 → ℕ) a + S256x128.size a ≤ S2048x128.size a) : Rect S2048x128 :=
  Rect.unit (s := S2048x128) ![o, 0] S256x128.size inb

theorem emb_rows (o : ℕ) (inb : ∀ a, (![o, 0] : Fin 2 → ℕ) a + S256x128.size a ≤ S2048x128.size a) (ho : o + 256 ≤ 2048) (r : Fin 256) (j : Fin 128) :
    (RB o inb).emb (ix2 r j) = ix2 (row o ho r) j := by
  funext a
  refine Fin.ext ?_
  match a with
  | ⟨0, _⟩ => simp [row, ix2]
  | ⟨1, _⟩ => simp [ix2]

/-! ## Loads of a chunk of rows -/

theorem rd0 (o : ℕ) (inb : ∀ a, (![o, 0] : Fin 2 → ℕ) a + S256x128.size a ≤ S2048x128.size a) (ho : o + 256 ≤ 2048)
    (x : S2048x128.Idx → Elt Ideal .bf16) (r : Fin 256) (j : Fin 128) :
    View.readAt (Elt Ideal) scM0_0.view (RB o inb).toLoadRect x (ix2 r j) = x (ix2 (row o ho r) j) :=
  congrArg x (emb_rows o inb ho r j)
theorem rd1 (o : ℕ) (inb : ∀ a, (![o, 0] : Fin 2 → ℕ) a + S256x128.size a ≤ S2048x128.size a) (ho : o + 256 ≤ 2048)
    (x : S2048x128.Idx → Elt Ideal .f32) (r : Fin 256) (j : Fin 128) :
    View.readAt (Elt Ideal) scM0_1.view (RB o inb).toLoadRect x (ix2 r j) = x (ix2 (row o ho r) j) :=
  congrArg x (emb_rows o inb ho r j)
theorem rd2 (o : ℕ) (inb : ∀ a, (![o, 0] : Fin 2 → ℕ) a + S256x128.size a ≤ S2048x128.size a) (ho : o + 256 ≤ 2048)
    (x : S2048x128.Idx → Elt Ideal .f32) (r : Fin 256) (j : Fin 128) :
    View.readAt (Elt Ideal) scM0_2.view (RB o inb).toLoadRect x (ix2 r j) = x (ix2 (row o ho r) j) :=
  congrArg x (emb_rows o inb ho r j)
theorem rd3 (o : ℕ) (inb : ∀ a, (![o, 0] : Fin 2 → ℕ) a + S256x128.size a ≤ S2048x128.size a) (ho : o + 256 ≤ 2048)
    (x : S2048x128.Idx → Elt Ideal .f32) (r : Fin 256) (j : Fin 128) :
    View.readAt (Elt Ideal) scM0_3.view (RB o inb).toLoadRect x (ix2 r j) = x (ix2 (row o ho r) j) :=
  congrArg x (emb_rows o inb ho r j)

/-- A load of a chunk of rows from what a list of stores left reads the list at those rows. -/
theorem rdL {e : EltTy} (v : View sig .tc .vmem S2048x128 e) (o : ℕ) (inb : ∀ a, (![o, 0] : Fin 2 → ℕ) a + S256x128.size a ≤ S2048x128.size a) (ho : o + 256 ≤ 2048)
    (L : List (View.Piece (Elt Ideal) S2048x128 e)) (r : Fin 256) (j : Fin 128) :
    v.readCov L (RB o inb).toLoadRect (ix2 r j) = View.canon L (ix2 (row o ho r) j) :=
  (congrFun (View.readCov_eq_canon' v L _) _).trans (congrArg (View.canon L) (emb_rows o inb ho r j))

/-- The newest store was at other rows: the list reads as before it. -/
theorem skip {e : EltTy} {o o' : ℕ} (inb : ∀ a, (![o', 0] : Fin 2 → ℕ) a + S256x128.size a ≤ S2048x128.size a) (ho : o + 256 ≤ 2048)
    (w : (RB o' inb).shape.Idx → Elt Ideal e) (L : List (View.Piece (Elt Ideal) S2048x128 e)) (r : Fin 256) (j : Fin 128) (h : o + 256 ≤ o' ∨ o' + 256 ≤ o) :
    View.canon (⟨RB o' inb, w⟩ :: L) (ix2 (row o ho r) j) = View.canon L (ix2 (row o ho r) j) := by
  refine View.canon_cons_of_not_mem _ L fun hm => ?_
  obtain ⟨x, hx⟩ := (RB o' inb).exists_idx_of_mem hm
  have h0 := congrArg (fun y : S2048x128.Idx => (y 0).val) hx
  have hl := (x 0).isLt
  have hr := r.isLt
  simp [row, ix2] at h0 hl
  omega

/-- A store of the whole scratch is what the list reads. -/
theorem fill {e : EltTy} (inb : ∀ a, (![0, 0] : Fin 2 → ℕ) a + S2048x128.size a ≤ S2048x128.size a) (w : S2048x128.Idx → Elt Ideal e)
    (L : List (View.Piece (Elt Ideal) S2048x128 e)) (R : Fin 2048) (j : Fin 128) :
    View.canon (⟨Rect.unit (s := S2048x128) ![0, 0] S2048x128.size inb, w⟩ :: L) (ix2 R j) = w (ix2 R j) := by
  have h : (Rect.unit (s := S2048x128) ![0, 0] S2048x128.size inb).emb (ix2 R j) = ix2 R j := by
    funext a
    refine Fin.ext ?_
    match a with
    | ⟨0, _⟩ => simp [ix2]
    | ⟨1, _⟩ => simp [ix2]
  have h2 := View.canon_cons_emb (Val := Elt Ideal) (Rect.unit (s := S2048x128) ![0, 0] S2048x128.size inb) w L (ix2 R j)
  rw [h] at h2
  exact h2

/-- Eight chunks of 256 rows make up the scratch: a list that stores them all reads, at any index, what each chunk's
    store agrees to be. -/
theorem rows8 {e : EltTy} (v : View sig .tc .vmem S2048x128 e) (f : v.ty.Contents (Elt Ideal)) (L : List (View.Piece (Elt Ideal) S2048x128 e)) (G : S2048x128.Idx → Elt Ideal e)
    (i0 : ∀ a, (![0, 0] : Fin 2 → ℕ) a + S256x128.size a ≤ S2048x128.size a) (w0 : (RB 0 i0).shape.Idx → Elt Ideal e) (h0 : ∀ x, w0 x = G ((RB 0 i0).emb x))
    (i1 : ∀ a, (![256, 0] : Fin 2 → ℕ) a + S256x128.size a ≤ S2048x128.size a) (w1 : (RB 256 i1).shape.Idx → Elt Ideal e) (h1 : ∀ x, w1 x = G ((RB 256 i1).emb x))
    (i2 : ∀ a, (![512, 0] : Fin 2 → ℕ) a + S256x128.size a ≤ S2048x128.size a) (w2 : (RB 512 i2).shape.Idx → Elt Ideal e) (h2 : ∀ x, w2 x = G ((RB 512 i2).emb x))
    (i3 : ∀ a, (![768, 0] : Fin 2 → ℕ) a + S256x128.size a ≤ S2048x128.size a) (w3 : (RB 768 i3).shape.Idx → Elt Ideal e) (h3 : ∀ x, w3 x = G ((RB 768 i3).emb x))
    (i4 : ∀ a, (![1024, 0] : Fin 2 → ℕ) a + S256x128.size a ≤ S2048x128.size a) (w4 : (RB 1024 i4).shape.Idx → Elt Ideal e) (h4 : ∀ x, w4 x = G ((RB 1024 i4).emb x))
    (i5 : ∀ a, (![1280, 0] : Fin 2 → ℕ) a + S256x128.size a ≤ S2048x128.size a) (w5 : (RB 1280 i5).shape.Idx → Elt Ideal e) (h5 : ∀ x, w5 x = G ((RB 1280 i5).emb x))
    (i6 : ∀ a, (![1536, 0] : Fin 2 → ℕ) a + S256x128.size a ≤ S2048x128.size a) (w6 : (RB 1536 i6).shape.Idx → Elt Ideal e) (h6 : ∀ x, w6 x = G ((RB 1536 i6).emb x))
    (i7 : ∀ a, (![1792, 0] : Fin 2 → ℕ) a + S256x128.size a ≤ S2048x128.size a) (w7 : (RB 1792 i7).shape.Idx → Elt Ideal e) (h7 : ∀ x, w7 x = G ((RB 1792 i7).emb x))
    (y : S2048x128.Idx) :
    v.read (Elt Ideal) (v.writes (Elt Ideal) f (⟨RB 1792 i7, w7⟩ :: ⟨RB 1536 i6, w6⟩ :: ⟨RB 1280 i5, w5⟩ :: ⟨RB 1024 i4, w4⟩ :: ⟨RB 768 i3, w3⟩ :: ⟨RB 512 i2, w2⟩ :: ⟨RB 256 i1, w1⟩ :: ⟨RB 0 i0, w0⟩ :: L)) y = G y := by
  show v.read (Elt Ideal) (v.writes (Elt Ideal) (v.writes (Elt Ideal) f L) (⟨RB 1792 i7, w7⟩ :: ⟨RB 1536 i6, w6⟩ :: ⟨RB 1280 i5, w5⟩ :: ⟨RB 1024 i4, w4⟩ :: ⟨RB 768 i3, w3⟩ :: ⟨RB 512 i2, w2⟩ :: ⟨RB 256 i1, w1⟩ :: ⟨RB 0 i0, w0⟩ :: [])) y = G y
  refine View.read_writes_apply_of_pieces v _ G _ ?_ y ?_
  · intro p hp
    simp only [List.mem_cons, List.not_mem_nil, or_false] at hp
    rcases hp with rfl | rfl | rfl | rfl | rfl | rfl | rfl | rfl
    · exact h7
    · exact h6
    · exact h5
    · exact h4
    · exact h3
    · exact h2
    · exact h1
    · exact h0
  · have hy : ∃ (R : Fin 2048) (j : Fin 128), y = ix2 R j := ⟨y 0, y 1, idx2 y⟩
    obtain ⟨R, j, rfl⟩ := hy
    have hR := R.isLt
    have key : ∀ (o : ℕ) (inb : ∀ a, (![o, 0] : Fin 2 → ℕ) a + S256x128.size a ≤ S2048x128.size a) (ho : o + 256 ≤ 2048), o ≤ R.val → R.val < o + 256 →
        (ix2 R j : S2048x128.Idx) ∈ (RB o inb).set := fun o inb ho h1 h2 => by
      have e : R = row o ho ⟨R.val - o, by omega⟩ := Fin.ext (by simp [row]; omega)
      rw [e, ← emb_rows o inb ho]
      exact (RB o inb).idx_mem _
    rcases (by omega : R.val < 256 ∨ (256 ≤ R.val ∧ R.val < 512) ∨ (512 ≤ R.val ∧ R.val < 768) ∨ (768 ≤ R.val ∧ R.val < 1024) ∨ (1024 ≤ R.val ∧ R.val < 1280) ∨ (1280 ≤ R.val ∧ R.val < 1536) ∨ (1536 ≤ R.val ∧ R.val < 1792) ∨ 1792 ≤ R.val) with h | h | h | h | h | h | h | h
    · exact ⟨⟨RB 0 i0, w0⟩, by simp, key 0 i0 (by omega) (by omega) (by omega)⟩
    · exact ⟨⟨RB 256 i1, w1⟩, by simp, key 256 i1 (by omega) (by omega) (by omega)⟩
    · exact ⟨⟨RB 512 i2, w2⟩, by simp, key 512 i2 (by omega) (by omega) (by omega)⟩
    · exact ⟨⟨RB 768 i3, w3⟩, by simp, key 768 i3 (by omega) (by omega) (by omega)⟩
    · exact ⟨⟨RB 1024 i4, w4⟩, by simp, key 1024 i4 (by omega) (by omega) (by omega)⟩
    · exact ⟨⟨RB 1280 i5, w5⟩, by simp, key 1280 i5 (by omega) (by omega) (by omega)⟩
    · exact ⟨⟨RB 1536 i6, w6⟩, by simp, key 1536 i6 (by omega) (by omega) (by omega)⟩
    · exact ⟨⟨RB 1792 i7, w7⟩, by simp, key 1792 i7 (by omega) (by omega) (by omega)⟩

/-! ## Operands -/

/-- A block rounded to bf16 — at the ideal, the block. -/
theorem kv (M : Memref sig .tc .vmem S1024x128 .f32) (x : S1024x128.Idx → Elt Ideal .f32) (inb : ∀ a, (![0, 0] : Fin 2 → ℕ) a + S1024x128.size a ≤ S1024x128.size a)
    (h : FTy.bf16.bits < FTy.f32.bits) (y : S1024x128.Idx) :
    (truncf .bf16 (View.readAt (Elt Ideal) M.view (Rect.unit (s := S1024x128) ![0, 0] S1024x128.size inb).toLoadRect (M.view.rep x)) h : FVec Ideal S1024x128 .bf16) y = x y := by
  rw [View.readAt_rep_full]; rfl

theorem slice256 (x : FVec Ideal S1024x128 .bf16) (i : Fin 256) (j : Fin 128) :
    extractStridedSlice S256x128 ![0, 0] x slices_S1024x128_o0_0_S256x128 (ix2 i j) = x (ix2 ⟨i.val, by have := i.isLt; omega⟩ j) := by
  pointwise
theorem slice512 (x : FVec Ideal S1024x128 .bf16) (i : Fin 512) (j : Fin 128) :
    extractStridedSlice S512x128 ![0, 0] x slices_S1024x128_o0_0_S512x128 (ix2 i j) = x (ix2 ⟨i.val, by have := i.isLt; omega⟩ j) := by
  pointwise
theorem slice768 (x : FVec Ideal S1024x128 .bf16) (i : Fin 768) (j : Fin 128) :
    extractStridedSlice S768x128 ![0, 0] x slices_S1024x128_o0_0_S768x128 (ix2 i j) = x (ix2 ⟨i.val, by have := i.isLt; omega⟩ j) := by
  pointwise
theorem cast256 (y : S1x1x256x256.Idx → Elt Ideal .f32) (r : Fin 256) (k : Fin 256) :
    (shapeCast S256x256 y shapeCasts_S1x1x256x256_S256x256 : FVec Ideal S256x256 .f32) (ix2 r k) = y (ix4 0 0 r k) := by
  pointwise
theorem bias256 (b o : ℕ) (hb : b < 2) (ho : o + 256 ≤ 1024) (M : Memref sig .tc .vmem S1x2x1024x1024 .f32) (x : S1x2x1024x1024.Idx → Elt Ideal .f32)
    (inb : ∀ a, (![0, b, o, 0] : Fin 4 → ℕ) a + S1x1x256x256.size a ≤ S1x2x1024x1024.size a) (r : Fin 256) (k : Fin 256) :
    shapeCast S256x256 (View.readAt (Elt Ideal) M.view (Rect.unit (s := S1x2x1024x1024) ![0, b, o, 0] S1x1x256x256.size inb).toLoadRect (M.view.rep x)) shapeCasts_S1x1x256x256_S256x256 (ix2 r k)
      = x (ix4 0 ⟨b, hb⟩ ⟨o + r.val, by have := r.isLt; omega⟩ ⟨k.val, by have := k.isLt; omega⟩) := by
  rw [View.readAt_rep_unit M.view x inb rfl inb]
  refine (cast256 _ r k).trans ?_
  refine congrArg x (funext fun a => Fin.ext ?_)
  match a with
  | ⟨0, _⟩ => simp [ix4]
  | ⟨1, _⟩ => simp [ix4]
  | ⟨2, _⟩ => simp [ix4]
  | ⟨3, _⟩ => simp [ix4]
theorem cast512 (y : S1x1x256x512.Idx → Elt Ideal .f32) (r : Fin 256) (k : Fin 512) :
    (shapeCast S256x512 y shapeCasts_S1x1x256x512_S256x512 : FVec Ideal S256x512 .f32) (ix2 r k) = y (ix4 0 0 r k) := by
  pointwise
theorem bias512 (b o : ℕ) (hb : b < 2) (ho : o + 256 ≤ 1024) (M : Memref sig .tc .vmem S1x2x1024x1024 .f32) (x : S1x2x1024x1024.Idx → Elt Ideal .f32)
    (inb : ∀ a, (![0, b, o, 0] : Fin 4 → ℕ) a + S1x1x256x512.size a ≤ S1x2x1024x1024.size a) (r : Fin 256) (k : Fin 512) :
    shapeCast S256x512 (View.readAt (Elt Ideal) M.view (Rect.unit (s := S1x2x1024x1024) ![0, b, o, 0] S1x1x256x512.size inb).toLoadRect (M.view.rep x)) shapeCasts_S1x1x256x512_S256x512 (ix2 r k)
      = x (ix4 0 ⟨b, hb⟩ ⟨o + r.val, by have := r.isLt; omega⟩ ⟨k.val, by have := k.isLt; omega⟩) := by
  rw [View.readAt_rep_unit M.view x inb rfl inb]
  refine (cast512 _ r k).trans ?_
  refine congrArg x (funext fun a => Fin.ext ?_)
  match a with
  | ⟨0, _⟩ => simp [ix4]
  | ⟨1, _⟩ => simp [ix4]
  | ⟨2, _⟩ => simp [ix4]
  | ⟨3, _⟩ => simp [ix4]
theorem cast768 (y : S1x1x256x768.Idx → Elt Ideal .f32) (r : Fin 256) (k : Fin 768) :
    (shapeCast S256x768 y shapeCasts_S1x1x256x768_S256x768 : FVec Ideal S256x768 .f32) (ix2 r k) = y (ix4 0 0 r k) := by
  pointwise
theorem bias768 (b o : ℕ) (hb : b < 2) (ho : o + 256 ≤ 1024) (M : Memref sig .tc .vmem S1x2x1024x1024 .f32) (x : S1x2x1024x1024.Idx → Elt Ideal .f32)
    (inb : ∀ a, (![0, b, o, 0] : Fin 4 → ℕ) a + S1x1x256x768.size a ≤ S1x2x1024x1024.size a) (r : Fin 256) (k : Fin 768) :
    shapeCast S256x768 (View.readAt (Elt Ideal) M.view (Rect.unit (s := S1x2x1024x1024) ![0, b, o, 0] S1x1x256x768.size inb).toLoadRect (M.view.rep x)) shapeCasts_S1x1x256x768_S256x768 (ix2 r k)
      = x (ix4 0 ⟨b, hb⟩ ⟨o + r.val, by have := r.isLt; omega⟩ ⟨k.val, by have := k.isLt; omega⟩) := by
  rw [View.readAt_rep_unit M.view x inb rfl inb]
  refine (cast768 _ r k).trans ?_
  refine congrArg x (funext fun a => Fin.ext ?_)
  match a with
  | ⟨0, _⟩ => simp [ix4]
  | ⟨1, _⟩ => simp [ix4]
  | ⟨2, _⟩ => simp [ix4]
  | ⟨3, _⟩ => simp [ix4]
theorem cast1024 (y : S1x1x256x1024.Idx → Elt Ideal .f32) (r : Fin 256) (k : Fin 1024) :
    (shapeCast S256x1024 y shapeCasts_S1x1x256x1024_S256x1024 : FVec Ideal S256x1024 .f32) (ix2 r k) = y (ix4 0 0 r k) := by
  pointwise
theorem bias1024 (b o : ℕ) (hb : b < 2) (ho : o + 256 ≤ 1024) (M : Memref sig .tc .vmem S1x2x1024x1024 .f32) (x : S1x2x1024x1024.Idx → Elt Ideal .f32)
    (inb : ∀ a, (![0, b, o, 0] : Fin 4 → ℕ) a + S1x1x256x1024.size a ≤ S1x2x1024x1024.size a) (r : Fin 256) (k : Fin 1024) :
    shapeCast S256x1024 (View.readAt (Elt Ideal) M.view (Rect.unit (s := S1x2x1024x1024) ![0, b, o, 0] S1x1x256x1024.size inb).toLoadRect (M.view.rep x)) shapeCasts_S1x1x256x1024_S256x1024 (ix2 r k)
      = x (ix4 0 ⟨b, hb⟩ ⟨o + r.val, by have := r.isLt; omega⟩ ⟨k.val, by have := k.isLt; omega⟩) := by
  rw [View.readAt_rep_unit M.view x inb rfl inb]
  refine (cast1024 _ r k).trans ?_
  refine congrArg x (funext fun a => Fin.ext ?_)
  match a with
  | ⟨0, _⟩ => simp [ix4]
  | ⟨1, _⟩ => simp [ix4]
  | ⟨2, _⟩ => simp [ix4]
  | ⟨3, _⟩ => simp [ix4]

/-! ## What a chunk of rows stores after a block of 256 keys -/

theorem scores256 {o : ℕ} {ho : o + 256 ≤ 2048} (q : FVec Ideal S256x128 .bf16) (k : FVec Ideal S256x128 .bf16) (Q : Fin 2048 → Fin 128 → EReal) (x : S1024x128.Idx → EReal)
    (hq : ∀ r d, q (ix2 r d) = Q (row o ho r) d) (hk : ∀ (i : Fin 256) d, k (ix2 i d) = x (ix2 ⟨i.val, by have := i.isLt; omega⟩ d)) (r : Fin 256) (i : Fin 256) :
    dot256 q k (ix2 r i) = ∑ d : Fin 128, Q (row o ho r) d * x (ix2 ⟨i.val, by have := i.isLt; omega⟩ d) := by
  rw [dot256_apply]; exact Finset.sum_congr rfl fun d _ => by rw [hq, hk]

theorem pieceM256 {o : ℕ} {ho : o + 256 ≤ 2048} (inb : ∀ a, (![o, 0] : Fin 2 → ℕ) a + S256x128.size a ≤ S2048x128.size a) (X : Fin 2048 → ℕ → EReal) (N : Fin 2048 → ℕ) (n : ℕ)
    (s : FVec Ideal S256x256 .f32) (m : FVec Ideal S256x128 .f32) (hN : ∀ r, N (row o ho r) = n + 256)
    (hs : ∀ r (k : Fin 256), s (ix2 r k) = X (row o ho r) (n + k)) (hm : ∀ r j, m (ix2 r j) = mx (X (row o ho r)) n) (x : S256x128.Idx) :
    shapeCast S256x128 (mNew256 s m) shapeCasts_S256x128_S256x128 x = mx (X ((RB o inb).emb x 0)) (N ((RB o inb).emb x 0)) := by
  obtain ⟨r, j, rfl⟩ : ∃ (r : Fin 256) (j : Fin 128), x = ix2 r j := ⟨x 0, x 1, idx2 x⟩
  rw [emb_rows o inb ho, shapeCast_self]
  show _ = mx (X (row o ho r)) (N (row o ho r))
  rw [hN, mNew256_apply, hm, mx_add]; simp only [hs]

theorem pieceL256 {o : ℕ} {ho : o + 256 ≤ 2048} (inb : ∀ a, (![o, 0] : Fin 2 → ℕ) a + S256x128.size a ≤ S2048x128.size a) (X : Fin 2048 → ℕ → EReal) (N : Fin 2048 → ℕ) (n : ℕ)
    (s : FVec Ideal S256x256 .f32) (m l : FVec Ideal S256x128 .f32) (hN : ∀ r, N (row o ho r) = n + 256)
    (hs : ∀ r (k : Fin 256), s (ix2 r k) = X (row o ho r) (n + k)) (hm : ∀ r j, m (ix2 r j) = mx (X (row o ho r)) n)
    (hl : ∀ r j, l (ix2 r j) = den (X (row o ho r)) n) (x : S256x128.Idx) :
    shapeCast S256x128 (lNew256 s m l) shapeCasts_S256x128_S256x128 x = den (X ((RB o inb).emb x 0)) (N ((RB o inb).emb x 0)) := by
  obtain ⟨r, j, rfl⟩ : ∃ (r : Fin 256) (j : Fin 128), x = ix2 r j := ⟨x 0, x 1, idx2 x⟩
  rw [emb_rows o inb ho, shapeCast_self]
  show _ = den (X (row o ho r)) (N (row o ho r))
  rw [hN]
  exact (step256 (X (row o ho r)) n s m l r (hs r) (hm r) (hl r)).2 j

theorem pieceA256 {o : ℕ} {ho : o + 256 ≤ 2048} (inb : ∀ a, (![o, 0] : Fin 2 → ℕ) a + S256x128.size a ≤ S2048x128.size a) (X : Fin 2048 → ℕ → EReal) (Y : Fin 128 → ℕ → EReal) (N : Fin 2048 → ℕ) (n : ℕ)
    (v : FVec Ideal S256x128 .bf16) (s : FVec Ideal S256x256 .f32) (m a : FVec Ideal S256x128 .f32) (hN : ∀ r, N (row o ho r) = n + 256)
    (hs : ∀ r (k : Fin 256), s (ix2 r k) = X (row o ho r) (n + k)) (hv : ∀ (k : Fin 256) j, v (ix2 k j) = Y j (n + k)) (hm : ∀ r j, m (ix2 r j) = mx (X (row o ho r)) n)
    (ha : ∀ r j, a (ix2 r j) = num (X (row o ho r)) (Y j) n) (x : S256x128.Idx) :
    shapeCast S256x128 (aNew256 v s m a) shapeCasts_S256x128_S256x128 x = num (X ((RB o inb).emb x 0)) (Y ((RB o inb).emb x 1)) (N ((RB o inb).emb x 0)) := by
  obtain ⟨r, j, rfl⟩ : ∃ (r : Fin 256) (j : Fin 128), x = ix2 r j := ⟨x 0, x 1, idx2 x⟩
  rw [emb_rows o inb ho, shapeCast_self]
  show _ = num (X (row o ho r)) (Y j) (N (row o ho r))
  rw [hN]
  exact stepA256 (X (row o ho r)) (Y j) n v s m a r j (hs r) (fun k => hv k j) (hm r) (ha r j)

/-! ## What a chunk of rows stores after a block of 512 keys -/

theorem scores512 {o : ℕ} {ho : o + 256 ≤ 2048} (q : FVec Ideal S256x128 .bf16) (k : FVec Ideal S512x128 .bf16) (Q : Fin 2048 → Fin 128 → EReal) (x : S1024x128.Idx → EReal)
    (hq : ∀ r d, q (ix2 r d) = Q (row o ho r) d) (hk : ∀ (i : Fin 512) d, k (ix2 i d) = x (ix2 ⟨i.val, by have := i.isLt; omega⟩ d)) (r : Fin 256) (i : Fin 512) :
    dot512 q k (ix2 r i) = ∑ d : Fin 128, Q (row o ho r) d * x (ix2 ⟨i.val, by have := i.isLt; omega⟩ d) := by
  rw [dot512_apply]; exact Finset.sum_congr rfl fun d _ => by rw [hq, hk]

theorem pieceM512 {o : ℕ} {ho : o + 256 ≤ 2048} (inb : ∀ a, (![o, 0] : Fin 2 → ℕ) a + S256x128.size a ≤ S2048x128.size a) (X : Fin 2048 → ℕ → EReal) (N : Fin 2048 → ℕ) (n : ℕ)
    (s : FVec Ideal S256x512 .f32) (m : FVec Ideal S256x128 .f32) (hN : ∀ r, N (row o ho r) = n + 512)
    (hs : ∀ r (k : Fin 512), s (ix2 r k) = X (row o ho r) (n + k)) (hm : ∀ r j, m (ix2 r j) = mx (X (row o ho r)) n) (x : S256x128.Idx) :
    shapeCast S256x128 (mNew512 s m) shapeCasts_S256x128_S256x128 x = mx (X ((RB o inb).emb x 0)) (N ((RB o inb).emb x 0)) := by
  obtain ⟨r, j, rfl⟩ : ∃ (r : Fin 256) (j : Fin 128), x = ix2 r j := ⟨x 0, x 1, idx2 x⟩
  rw [emb_rows o inb ho, shapeCast_self]
  show _ = mx (X (row o ho r)) (N (row o ho r))
  rw [hN, mNew512_apply, hm, mx_add]; simp only [hs]

theorem pieceL512 {o : ℕ} {ho : o + 256 ≤ 2048} (inb : ∀ a, (![o, 0] : Fin 2 → ℕ) a + S256x128.size a ≤ S2048x128.size a) (X : Fin 2048 → ℕ → EReal) (N : Fin 2048 → ℕ) (n : ℕ)
    (s : FVec Ideal S256x512 .f32) (m l : FVec Ideal S256x128 .f32) (hN : ∀ r, N (row o ho r) = n + 512)
    (hs : ∀ r (k : Fin 512), s (ix2 r k) = X (row o ho r) (n + k)) (hm : ∀ r j, m (ix2 r j) = mx (X (row o ho r)) n)
    (hl : ∀ r j, l (ix2 r j) = den (X (row o ho r)) n) (x : S256x128.Idx) :
    shapeCast S256x128 (lNew512 s m l) shapeCasts_S256x128_S256x128 x = den (X ((RB o inb).emb x 0)) (N ((RB o inb).emb x 0)) := by
  obtain ⟨r, j, rfl⟩ : ∃ (r : Fin 256) (j : Fin 128), x = ix2 r j := ⟨x 0, x 1, idx2 x⟩
  rw [emb_rows o inb ho, shapeCast_self]
  show _ = den (X (row o ho r)) (N (row o ho r))
  rw [hN]
  exact (step512 (X (row o ho r)) n s m l r (hs r) (hm r) (hl r)).2 j

theorem pieceA512 {o : ℕ} {ho : o + 256 ≤ 2048} (inb : ∀ a, (![o, 0] : Fin 2 → ℕ) a + S256x128.size a ≤ S2048x128.size a) (X : Fin 2048 → ℕ → EReal) (Y : Fin 128 → ℕ → EReal) (N : Fin 2048 → ℕ) (n : ℕ)
    (v : FVec Ideal S512x128 .bf16) (s : FVec Ideal S256x512 .f32) (m a : FVec Ideal S256x128 .f32) (hN : ∀ r, N (row o ho r) = n + 512)
    (hs : ∀ r (k : Fin 512), s (ix2 r k) = X (row o ho r) (n + k)) (hv : ∀ (k : Fin 512) j, v (ix2 k j) = Y j (n + k)) (hm : ∀ r j, m (ix2 r j) = mx (X (row o ho r)) n)
    (ha : ∀ r j, a (ix2 r j) = num (X (row o ho r)) (Y j) n) (x : S256x128.Idx) :
    shapeCast S256x128 (aNew512 v s m a) shapeCasts_S256x128_S256x128 x = num (X ((RB o inb).emb x 0)) (Y ((RB o inb).emb x 1)) (N ((RB o inb).emb x 0)) := by
  obtain ⟨r, j, rfl⟩ : ∃ (r : Fin 256) (j : Fin 128), x = ix2 r j := ⟨x 0, x 1, idx2 x⟩
  rw [emb_rows o inb ho, shapeCast_self]
  show _ = num (X (row o ho r)) (Y j) (N (row o ho r))
  rw [hN]
  exact stepA512 (X (row o ho r)) (Y j) n v s m a r j (hs r) (fun k => hv k j) (hm r) (ha r j)

/-! ## What a chunk of rows stores after a block of 768 keys -/

theorem scores768 {o : ℕ} {ho : o + 256 ≤ 2048} (q : FVec Ideal S256x128 .bf16) (k : FVec Ideal S768x128 .bf16) (Q : Fin 2048 → Fin 128 → EReal) (x : S1024x128.Idx → EReal)
    (hq : ∀ r d, q (ix2 r d) = Q (row o ho r) d) (hk : ∀ (i : Fin 768) d, k (ix2 i d) = x (ix2 ⟨i.val, by have := i.isLt; omega⟩ d)) (r : Fin 256) (i : Fin 768) :
    dot768 q k (ix2 r i) = ∑ d : Fin 128, Q (row o ho r) d * x (ix2 ⟨i.val, by have := i.isLt; omega⟩ d) := by
  rw [dot768_apply]; exact Finset.sum_congr rfl fun d _ => by rw [hq, hk]

theorem pieceM768 {o : ℕ} {ho : o + 256 ≤ 2048} (inb : ∀ a, (![o, 0] : Fin 2 → ℕ) a + S256x128.size a ≤ S2048x128.size a) (X : Fin 2048 → ℕ → EReal) (N : Fin 2048 → ℕ) (n : ℕ)
    (s : FVec Ideal S256x768 .f32) (m : FVec Ideal S256x128 .f32) (hN : ∀ r, N (row o ho r) = n + 768)
    (hs : ∀ r (k : Fin 768), s (ix2 r k) = X (row o ho r) (n + k)) (hm : ∀ r j, m (ix2 r j) = mx (X (row o ho r)) n) (x : S256x128.Idx) :
    shapeCast S256x128 (mNew768 s m) shapeCasts_S256x128_S256x128 x = mx (X ((RB o inb).emb x 0)) (N ((RB o inb).emb x 0)) := by
  obtain ⟨r, j, rfl⟩ : ∃ (r : Fin 256) (j : Fin 128), x = ix2 r j := ⟨x 0, x 1, idx2 x⟩
  rw [emb_rows o inb ho, shapeCast_self]
  show _ = mx (X (row o ho r)) (N (row o ho r))
  rw [hN, mNew768_apply, hm, mx_add]; simp only [hs]

theorem pieceL768 {o : ℕ} {ho : o + 256 ≤ 2048} (inb : ∀ a, (![o, 0] : Fin 2 → ℕ) a + S256x128.size a ≤ S2048x128.size a) (X : Fin 2048 → ℕ → EReal) (N : Fin 2048 → ℕ) (n : ℕ)
    (s : FVec Ideal S256x768 .f32) (m l : FVec Ideal S256x128 .f32) (hN : ∀ r, N (row o ho r) = n + 768)
    (hs : ∀ r (k : Fin 768), s (ix2 r k) = X (row o ho r) (n + k)) (hm : ∀ r j, m (ix2 r j) = mx (X (row o ho r)) n)
    (hl : ∀ r j, l (ix2 r j) = den (X (row o ho r)) n) (x : S256x128.Idx) :
    shapeCast S256x128 (lNew768 s m l) shapeCasts_S256x128_S256x128 x = den (X ((RB o inb).emb x 0)) (N ((RB o inb).emb x 0)) := by
  obtain ⟨r, j, rfl⟩ : ∃ (r : Fin 256) (j : Fin 128), x = ix2 r j := ⟨x 0, x 1, idx2 x⟩
  rw [emb_rows o inb ho, shapeCast_self]
  show _ = den (X (row o ho r)) (N (row o ho r))
  rw [hN]
  exact (step768 (X (row o ho r)) n s m l r (hs r) (hm r) (hl r)).2 j

theorem pieceA768 {o : ℕ} {ho : o + 256 ≤ 2048} (inb : ∀ a, (![o, 0] : Fin 2 → ℕ) a + S256x128.size a ≤ S2048x128.size a) (X : Fin 2048 → ℕ → EReal) (Y : Fin 128 → ℕ → EReal) (N : Fin 2048 → ℕ) (n : ℕ)
    (v : FVec Ideal S768x128 .bf16) (s : FVec Ideal S256x768 .f32) (m a : FVec Ideal S256x128 .f32) (hN : ∀ r, N (row o ho r) = n + 768)
    (hs : ∀ r (k : Fin 768), s (ix2 r k) = X (row o ho r) (n + k)) (hv : ∀ (k : Fin 768) j, v (ix2 k j) = Y j (n + k)) (hm : ∀ r j, m (ix2 r j) = mx (X (row o ho r)) n)
    (ha : ∀ r j, a (ix2 r j) = num (X (row o ho r)) (Y j) n) (x : S256x128.Idx) :
    shapeCast S256x128 (aNew768 v s m a) shapeCasts_S256x128_S256x128 x = num (X ((RB o inb).emb x 0)) (Y ((RB o inb).emb x 1)) (N ((RB o inb).emb x 0)) := by
  obtain ⟨r, j, rfl⟩ : ∃ (r : Fin 256) (j : Fin 128), x = ix2 r j := ⟨x 0, x 1, idx2 x⟩
  rw [emb_rows o inb ho, shapeCast_self]
  show _ = num (X (row o ho r)) (Y j) (N (row o ho r))
  rw [hN]
  exact stepA768 (X (row o ho r)) (Y j) n v s m a r j (hs r) (fun k => hv k j) (hm r) (ha r j)

/-! ## What a chunk of rows stores after a block of 1024 keys -/

theorem scores1024 {o : ℕ} {ho : o + 256 ≤ 2048} (q : FVec Ideal S256x128 .bf16) (k : FVec Ideal S1024x128 .bf16) (Q : Fin 2048 → Fin 128 → EReal) (x : S1024x128.Idx → EReal)
    (hq : ∀ r d, q (ix2 r d) = Q (row o ho r) d) (hk : ∀ (i : Fin 1024) d, k (ix2 i d) = x (ix2 ⟨i.val, by have := i.isLt; omega⟩ d)) (r : Fin 256) (i : Fin 1024) :
    dot1024 q k (ix2 r i) = ∑ d : Fin 128, Q (row o ho r) d * x (ix2 ⟨i.val, by have := i.isLt; omega⟩ d) := by
  rw [dot1024_apply]; exact Finset.sum_congr rfl fun d _ => by rw [hq, hk]

theorem pieceM1024 {o : ℕ} {ho : o + 256 ≤ 2048} (inb : ∀ a, (![o, 0] : Fin 2 → ℕ) a + S256x128.size a ≤ S2048x128.size a) (X : Fin 2048 → ℕ → EReal) (N : Fin 2048 → ℕ) (n : ℕ)
    (s : FVec Ideal S256x1024 .f32) (m : FVec Ideal S256x128 .f32) (hN : ∀ r, N (row o ho r) = n + 1024)
    (hs : ∀ r (k : Fin 1024), s (ix2 r k) = X (row o ho r) (n + k)) (hm : ∀ r j, m (ix2 r j) = mx (X (row o ho r)) n) (x : S256x128.Idx) :
    shapeCast S256x128 (mNew1024 s m) shapeCasts_S256x128_S256x128 x = mx (X ((RB o inb).emb x 0)) (N ((RB o inb).emb x 0)) := by
  obtain ⟨r, j, rfl⟩ : ∃ (r : Fin 256) (j : Fin 128), x = ix2 r j := ⟨x 0, x 1, idx2 x⟩
  rw [emb_rows o inb ho, shapeCast_self]
  show _ = mx (X (row o ho r)) (N (row o ho r))
  rw [hN, mNew1024_apply, hm, mx_add]; simp only [hs]

theorem pieceL1024 {o : ℕ} {ho : o + 256 ≤ 2048} (inb : ∀ a, (![o, 0] : Fin 2 → ℕ) a + S256x128.size a ≤ S2048x128.size a) (X : Fin 2048 → ℕ → EReal) (N : Fin 2048 → ℕ) (n : ℕ)
    (s : FVec Ideal S256x1024 .f32) (m l : FVec Ideal S256x128 .f32) (hN : ∀ r, N (row o ho r) = n + 1024)
    (hs : ∀ r (k : Fin 1024), s (ix2 r k) = X (row o ho r) (n + k)) (hm : ∀ r j, m (ix2 r j) = mx (X (row o ho r)) n)
    (hl : ∀ r j, l (ix2 r j) = den (X (row o ho r)) n) (x : S256x128.Idx) :
    shapeCast S256x128 (lNew1024 s m l) shapeCasts_S256x128_S256x128 x = den (X ((RB o inb).emb x 0)) (N ((RB o inb).emb x 0)) := by
  obtain ⟨r, j, rfl⟩ : ∃ (r : Fin 256) (j : Fin 128), x = ix2 r j := ⟨x 0, x 1, idx2 x⟩
  rw [emb_rows o inb ho, shapeCast_self]
  show _ = den (X (row o ho r)) (N (row o ho r))
  rw [hN]
  exact (step1024 (X (row o ho r)) n s m l r (hs r) (hm r) (hl r)).2 j

theorem pieceA1024 {o : ℕ} {ho : o + 256 ≤ 2048} (inb : ∀ a, (![o, 0] : Fin 2 → ℕ) a + S256x128.size a ≤ S2048x128.size a) (X : Fin 2048 → ℕ → EReal) (Y : Fin 128 → ℕ → EReal) (N : Fin 2048 → ℕ) (n : ℕ)
    (v : FVec Ideal S1024x128 .bf16) (s : FVec Ideal S256x1024 .f32) (m a : FVec Ideal S256x128 .f32) (hN : ∀ r, N (row o ho r) = n + 1024)
    (hs : ∀ r (k : Fin 1024), s (ix2 r k) = X (row o ho r) (n + k)) (hv : ∀ (k : Fin 1024) j, v (ix2 k j) = Y j (n + k)) (hm : ∀ r j, m (ix2 r j) = mx (X (row o ho r)) n)
    (ha : ∀ r j, a (ix2 r j) = num (X (row o ho r)) (Y j) n) (x : S256x128.Idx) :
    shapeCast S256x128 (aNew1024 v s m a) shapeCasts_S256x128_S256x128 x = num (X ((RB o inb).emb x 0)) (Y ((RB o inb).emb x 1)) (N ((RB o inb).emb x 0)) := by
  obtain ⟨r, j, rfl⟩ : ∃ (r : Fin 256) (j : Fin 128), x = ix2 r j := ⟨x 0, x 1, idx2 x⟩
  rw [emb_rows o inb ho, shapeCast_self]
  show _ = num (X (row o ho r)) (Y j) (N (row o ho r))
  rw [hN]
  exact stepA1024 (X (row o ho r)) (Y j) n v s m a r j (hs r) (fun k => hv k j) (hm r) (ha r j)

end Cert.KernelIdeal.Rows
-- ==== Proof.Attn.PathA.lean ====
/- The stacked rows' running maximum, sum of weights and weighted sum of values after the first block of all, on the diagonal. -/
module

public import proofs.«01_k».proof.Proof.Attn.Rows

@[expose] public section

set_option maxRecDepth 16384
set_option maxHeartbeats 1000000

noncomputable section

namespace Cert.KernelIdeal.PathA

open Idealize.ShloMosaic Idealize.ShloMosaic.TcCoe Cert.KernelIdeal Cert.KernelIdeal.Gen Cert.KernelIdeal.Chunk Cert.KernelIdeal.Rows Cert.Online

theorem s0 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_A.sl.HS0_2 arg5 x1) (ix2 R d) * x2 (ix2 k d)) + x4 (ix4 0 0 r k) = X R (n + k.val)) (r : Fin 256) (k : Fin 256) :
    kernelRun0_A.sl.v27 arg5 arg6 arg8 x1 x2 x4 (ix2 r k) = X (row 0 (by omega) r) (n + k.val) :=
  (congrArg₂ (fun a b : EReal => a + b) (scores256 (ho := by omega) _ _ (fun R d => View.canon (kernelRun0_A.sl.HS0_2 arg5 x1) (ix2 R d)) x2 (fun r d => rdL _ 0 _ (by omega) _ r d) (fun i d => (slice256 _ i d).trans (kv _ _ _ _ _)) r k) (bias256 0 0 (by omega) (by omega) _ x4 _ r k)).trans
    (hX _ _ (by have := r.isLt; simp only [row]; omega) ⟨k.val, by have := k.isLt; omega⟩)

theorem s1 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_A.sl.HS0_2 arg5 x1) (ix2 R d) * x2 (ix2 k d)) + x4 (ix4 0 0 r k) = X R (n + k.val)) (r : Fin 256) (k : Fin 512) :
    kernelRun0_A.sl.v33 arg5 arg6 arg8 x1 x2 x4 (ix2 r k) = X (row 256 (by omega) r) (n + k.val) :=
  (congrArg₂ (fun a b : EReal => a + b) (scores512 (ho := by omega) _ _ (fun R d => View.canon (kernelRun0_A.sl.HS0_2 arg5 x1) (ix2 R d)) x2 (fun r d => rdL _ 256 _ (by omega) _ r d) (fun i d => (slice512 _ i d).trans (kv _ _ _ _ _)) r k) (bias512 0 256 (by omega) (by omega) _ x4 _ r k)).trans
    (hX _ _ (by have := r.isLt; simp only [row]; omega) ⟨k.val, by have := k.isLt; omega⟩)

theorem s2 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_A.sl.HS0_2 arg5 x1) (ix2 R d) * x2 (ix2 k d)) + x4 (ix4 0 0 r k) = X R (n + k.val)) (r : Fin 256) (k : Fin 768) :
    kernelRun0_A.sl.v70 arg5 arg6 arg8 x1 x2 x4 (ix2 r k) = X (row 512 (by omega) r) (n + k.val) :=
  (congrArg₂ (fun a b : EReal => a + b) (scores768 (ho := by omega) _ _ (fun R d => View.canon (kernelRun0_A.sl.HS0_2 arg5 x1) (ix2 R d)) x2 (fun r d => rdL _ 512 _ (by omega) _ r d) (fun i d => (slice768 _ i d).trans (kv _ _ _ _ _)) r k) (bias768 0 512 (by omega) (by omega) _ x4 _ r k)).trans
    (hX _ _ (by have := r.isLt; simp only [row]; omega) ⟨k.val, by have := k.isLt; omega⟩)

theorem s3 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_A.sl.HS0_2 arg5 x1) (ix2 R d) * x2 (ix2 k d)) + x4 (ix4 0 0 r k) = X R (n + k.val)) (r : Fin 256) (k : Fin 1024) :
    kernelRun0_A.sl.v106 arg5 arg6 arg8 x1 x2 x4 (ix2 r k) = X (row 768 (by omega) r) (n + k.val) :=
  (congrArg₂ (fun a b : EReal => a + b) (scores1024 (ho := by omega) _ _ (fun R d => View.canon (kernelRun0_A.sl.HS0_2 arg5 x1) (ix2 R d)) x2 (fun r d => rdL _ 768 _ (by omega) _ r d) (fun i d => kv _ _ _ _ _) r k) (bias1024 0 768 (by omega) (by omega) _ x4 _ r k)).trans
    (hX _ _ (by have := r.isLt; simp only [row]; omega) k)

theorem s4 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_A.sl.HS0_2 arg5 x1) (ix2 R d) * x2 (ix2 k d)) + x4 (ix4 0 0 r k) = X R (n + k.val)) (r : Fin 256) (k : Fin 256) :
    kernelRun0_A.sl.v143 arg5 arg6 arg8 x1 x2 x4 (ix2 r k) = X (row 1024 (by omega) r) (n + k.val) :=
  (congrArg₂ (fun a b : EReal => a + b) (scores256 (ho := by omega) _ _ (fun R d => View.canon (kernelRun0_A.sl.HS0_2 arg5 x1) (ix2 R d)) x2 (fun r d => rdL _ 1024 _ (by omega) _ r d) (fun i d => (slice256 _ i d).trans (kv _ _ _ _ _)) r k) (bias256 0 0 (by omega) (by omega) _ x4 _ r k)).trans
    (hX _ _ (by have := r.isLt; simp only [row]; omega) ⟨k.val, by have := k.isLt; omega⟩)

theorem s5 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_A.sl.HS0_2 arg5 x1) (ix2 R d) * x2 (ix2 k d)) + x4 (ix4 0 0 r k) = X R (n + k.val)) (r : Fin 256) (k : Fin 512) :
    kernelRun0_A.sl.v179 arg5 arg6 arg8 x1 x2 x4 (ix2 r k) = X (row 1280 (by omega) r) (n + k.val) :=
  (congrArg₂ (fun a b : EReal => a + b) (scores512 (ho := by omega) _ _ (fun R d => View.canon (kernelRun0_A.sl.HS0_2 arg5 x1) (ix2 R d)) x2 (fun r d => rdL _ 1280 _ (by omega) _ r d) (fun i d => (slice512 _ i d).trans (kv _ _ _ _ _)) r k) (bias512 0 256 (by omega) (by omega) _ x4 _ r k)).trans
    (hX _ _ (by have := r.isLt; simp only [row]; omega) ⟨k.val, by have := k.isLt; omega⟩)

theorem s6 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_A.sl.HS0_2 arg5 x1) (ix2 R d) * x2 (ix2 k d)) + x4 (ix4 0 0 r k) = X R (n + k.val)) (r : Fin 256) (k : Fin 768) :
    kernelRun0_A.sl.v216 arg5 arg6 arg8 x1 x2 x4 (ix2 r k) = X (row 1536 (by omega) r) (n + k.val) :=
  (congrArg₂ (fun a b : EReal => a + b) (scores768 (ho := by omega) _ _ (fun R d => View.canon (kernelRun0_A.sl.HS0_2 arg5 x1) (ix2 R d)) x2 (fun r d => rdL _ 1536 _ (by omega) _ r d) (fun i d => (slice768 _ i d).trans (kv _ _ _ _ _)) r k) (bias768 0 512 (by omega) (by omega) _ x4 _ r k)).trans
    (hX _ _ (by have := r.isLt; simp only [row]; omega) ⟨k.val, by have := k.isLt; omega⟩)

theorem s7 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_A.sl.HS0_2 arg5 x1) (ix2 R d) * x2 (ix2 k d)) + x4 (ix4 0 0 r k) = X R (n + k.val)) (r : Fin 256) (k : Fin 1024) :
    kernelRun0_A.sl.v252 arg5 arg6 arg8 x1 x2 x4 (ix2 r k) = X (row 1792 (by omega) r) (n + k.val) :=
  (congrArg₂ (fun a b : EReal => a + b) (scores1024 (ho := by omega) _ _ (fun R d => View.canon (kernelRun0_A.sl.HS0_2 arg5 x1) (ix2 R d)) x2 (fun r d => rdL _ 1792 _ (by omega) _ r d) (fun i d => kv _ _ _ _ _) r k) (bias1024 0 768 (by omega) (by omega) _ x4 _ r k)).trans
    (hX _ _ (by have := r.isLt; simp only [row]; omega) k)

theorem outM (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (N : Fin 2048 → ℕ) (n : ℕ)
    (hN : ∀ R : Fin 2048, N R = n + (R.val % 1024 / 256 + 1) * 256)
    (hX : ∀ R (r : Fin 1024), r.val = R.val % 1024 → ∀ (k : Fin 1024), (∑ d : Fin 128, View.canon (kernelRun0_A.sl.HS0_2 arg5 x1) (ix2 R d) * x2 (ix2 k d)) + x4 (ix4 0 0 r k) = X R (n + k.val))
    (hm : ∀ (R : Fin 2048) (j : Fin 128), (k0_pay4 (F := Ideal)) (ix2 R j) = mx (X R) n)
    (f : scM0_1.view.ty.Contents (Elt Ideal)) (y : S2048x128.Idx) :
    scM0_1.view.read (Elt Ideal) (scM0_1.view.writes (Elt Ideal) f (kernelRun0_A.sl.HS1_9 arg5 arg6 arg8 x1 x2 x4)) y = mx (X (y 0)) (N (y 0)) := by
  refine rows8 scM0_1.view f _ (fun y => mx (X (y 0)) (N (y 0))) _ _ ?_ _ _ ?_ _ _ ?_ _ _ ?_ _ _ ?_ _ _ ?_ _ _ ?_ _ _ ?_ y
  · exact pieceM256 (ho := by omega) _ X N n (kernelRun0_A.sl.v27 arg5 arg6 arg8 x1 x2 x4) (kernelRun0_A.sl.v34) (fun r => by have := r.isLt; simp only [hN, row]; omega) (s0 arg5 arg6 arg8 x1 x2 x4 X n hX) (fun r j => (rdL _ 0 _ (by omega) _ r j).trans ((fill _ _ _ _ _).trans (hm _ _)))
  · exact pieceM512 (ho := by omega) _ X N n (kernelRun0_A.sl.v33 arg5 arg6 arg8 x1 x2 x4) (kernelRun0_A.sl.v71 arg5 arg6 arg8 x1 x2 x4) (fun r => by have := r.isLt; simp only [hN, row]; omega) (s1 arg5 arg6 arg8 x1 x2 x4 X n hX) (fun r j => (rdL _ 256 _ (by omega) _ r j).trans ((skip (o := 256) (o' := 0) _ (by omega) _ _ r j (by omega)).trans ((fill _ _ _ _ _).trans (hm _ _))))
  · exact pieceM768 (ho := by omega) _ X N n (kernelRun0_A.sl.v70 arg5 arg6 arg8 x1 x2 x4) (kernelRun0_A.sl.v107 arg5 arg6 arg8 x1 x2 x4) (fun r => by have := r.isLt; simp only [hN, row]; omega) (s2 arg5 arg6 arg8 x1 x2 x4 X n hX) (fun r j => (rdL _ 512 _ (by omega) _ r j).trans ((skip (o := 512) (o' := 256) _ (by omega) _ _ r j (by omega)).trans ((skip (o := 512) (o' := 0) _ (by omega) _ _ r j (by omega)).trans ((fill _ _ _ _ _).trans (hm _ _)))))
  · exact pieceM1024 (ho := by omega) _ X N n (kernelRun0_A.sl.v106 arg5 arg6 arg8 x1 x2 x4) (kernelRun0_A.sl.v144 arg5 arg6 arg8 x1 x2 x4) (fun r => by have := r.isLt; simp only [hN, row]; omega) (s3 arg5 arg6 arg8 x1 x2 x4 X n hX) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (hm _ _))))))
  · exact pieceM256 (ho := by omega) _ X N n (kernelRun0_A.sl.v143 arg5 arg6 arg8 x1 x2 x4) (kernelRun0_A.sl.v180 arg5 arg6 arg8 x1 x2 x4) (fun r => by have := r.isLt; simp only [hN, row]; omega) (s4 arg5 arg6 arg8 x1 x2 x4 X n hX) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (hm _ _)))))))
  · exact pieceM512 (ho := by omega) _ X N n (kernelRun0_A.sl.v179 arg5 arg6 arg8 x1 x2 x4) (kernelRun0_A.sl.v217 arg5 arg6 arg8 x1 x2 x4) (fun r => by have := r.isLt; simp only [hN, row]; omega) (s5 arg5 arg6 arg8 x1 x2 x4 X n hX) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (hm _ _))))))))
  · exact pieceM768 (ho := by omega) _ X N n (kernelRun0_A.sl.v216 arg5 arg6 arg8 x1 x2 x4) (kernelRun0_A.sl.v253 arg5 arg6 arg8 x1 x2 x4) (fun r => by have := r.isLt; simp only [hN, row]; omega) (s6 arg5 arg6 arg8 x1 x2 x4 X n hX) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (hm _ _)))))))))
  · exact pieceM1024 (ho := by omega) _ X N n (kernelRun0_A.sl.v252 arg5 arg6 arg8 x1 x2 x4) (kernelRun0_A.sl.v284 arg5 arg6 arg8 x1 x2 x4) (fun r => by have := r.isLt; simp only [hN, row]; omega) (s7 arg5 arg6 arg8 x1 x2 x4 X n hX) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (hm _ _))))))))))

theorem outL (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (N : Fin 2048 → ℕ) (n : ℕ)
    (hN : ∀ R : Fin 2048, N R = n + (R.val % 1024 / 256 + 1) * 256)
    (hX : ∀ R (r : Fin 1024), r.val = R.val % 1024 → ∀ (k : Fin 1024), (∑ d : Fin 128, View.canon (kernelRun0_A.sl.HS0_2 arg5 x1) (ix2 R d) * x2 (ix2 k d)) + x4 (ix4 0 0 r k) = X R (n + k.val))
    (hm : ∀ (R : Fin 2048) (j : Fin 128), (k0_pay4 (F := Ideal)) (ix2 R j) = mx (X R) n)
    (hl : ∀ (R : Fin 2048) (j : Fin 128), (k0_pay5 (F := Ideal)) (ix2 R j) = den (X R) n)
    (f : scM0_2.view.ty.Contents (Elt Ideal)) (y : S2048x128.Idx) :
    scM0_2.view.read (Elt Ideal) (scM0_2.view.writes (Elt Ideal) f (kernelRun0_A.sl.HS2_9 arg5 arg6 arg8 x1 x2 x4)) y = den (X (y 0)) (N (y 0)) := by
  refine rows8 scM0_2.view f _ (fun y => den (X (y 0)) (N (y 0))) _ _ ?_ _ _ ?_ _ _ ?_ _ _ ?_ _ _ ?_ _ _ ?_ _ _ ?_ _ _ ?_ y
  · exact pieceL256 (ho := by omega) _ X N n (kernelRun0_A.sl.v27 arg5 arg6 arg8 x1 x2 x4) (kernelRun0_A.sl.v34) _ (fun r => by have := r.isLt; simp only [hN, row]; omega) (s0 arg5 arg6 arg8 x1 x2 x4 X n hX) (fun r j => (rdL _ 0 _ (by omega) _ r j).trans ((fill _ _ _ _ _).trans (hm _ _))) (fun r j => (rdL _ 0 _ (by omega) _ r j).trans ((fill _ _ _ _ _).trans (hl _ _)))
  · exact pieceL512 (ho := by omega) _ X N n (kernelRun0_A.sl.v33 arg5 arg6 arg8 x1 x2 x4) (kernelRun0_A.sl.v71 arg5 arg6 arg8 x1 x2 x4) _ (fun r => by have := r.isLt; simp only [hN, row]; omega) (s1 arg5 arg6 arg8 x1 x2 x4 X n hX) (fun r j => (rdL _ 256 _ (by omega) _ r j).trans ((skip (o := 256) (o' := 0) _ (by omega) _ _ r j (by omega)).trans ((fill _ _ _ _ _).trans (hm _ _)))) (fun r j => (rdL _ 256 _ (by omega) _ r j).trans ((skip (o := 256) (o' := 0) _ (by omega) _ _ r j (by omega)).trans ((fill _ _ _ _ _).trans (hl _ _))))
  · exact pieceL768 (ho := by omega) _ X N n (kernelRun0_A.sl.v70 arg5 arg6 arg8 x1 x2 x4) (kernelRun0_A.sl.v107 arg5 arg6 arg8 x1 x2 x4) _ (fun r => by have := r.isLt; simp only [hN, row]; omega) (s2 arg5 arg6 arg8 x1 x2 x4 X n hX) (fun r j => (rdL _ 512 _ (by omega) _ r j).trans ((skip (o := 512) (o' := 256) _ (by omega) _ _ r j (by omega)).trans ((skip (o := 512) (o' := 0) _ (by omega) _ _ r j (by omega)).trans ((fill _ _ _ _ _).trans (hm _ _))))) (fun r j => (rdL _ 512 _ (by omega) _ r j).trans ((skip (o := 512) (o' := 256) _ (by omega) _ _ r j (by omega)).trans ((skip (o := 512) (o' := 0) _ (by omega) _ _ r j (by omega)).trans ((fill _ _ _ _ _).trans (hl _ _)))))
  · exact pieceL1024 (ho := by omega) _ X N n (kernelRun0_A.sl.v106 arg5 arg6 arg8 x1 x2 x4) (kernelRun0_A.sl.v144 arg5 arg6 arg8 x1 x2 x4) _ (fun r => by have := r.isLt; simp only [hN, row]; omega) (s3 arg5 arg6 arg8 x1 x2 x4 X n hX) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (hm _ _)))))) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (hl _ _))))))
  · exact pieceL256 (ho := by omega) _ X N n (kernelRun0_A.sl.v143 arg5 arg6 arg8 x1 x2 x4) (kernelRun0_A.sl.v180 arg5 arg6 arg8 x1 x2 x4) _ (fun r => by have := r.isLt; simp only [hN, row]; omega) (s4 arg5 arg6 arg8 x1 x2 x4 X n hX) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (hm _ _))))))) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (hl _ _)))))))
  · exact pieceL512 (ho := by omega) _ X N n (kernelRun0_A.sl.v179 arg5 arg6 arg8 x1 x2 x4) (kernelRun0_A.sl.v217 arg5 arg6 arg8 x1 x2 x4) _ (fun r => by have := r.isLt; simp only [hN, row]; omega) (s5 arg5 arg6 arg8 x1 x2 x4 X n hX) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (hm _ _)))))))) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (hl _ _))))))))
  · exact pieceL768 (ho := by omega) _ X N n (kernelRun0_A.sl.v216 arg5 arg6 arg8 x1 x2 x4) (kernelRun0_A.sl.v253 arg5 arg6 arg8 x1 x2 x4) _ (fun r => by have := r.isLt; simp only [hN, row]; omega) (s6 arg5 arg6 arg8 x1 x2 x4 X n hX) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (hm _ _))))))))) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (hl _ _)))))))))
  · exact pieceL1024 (ho := by omega) _ X N n (kernelRun0_A.sl.v252 arg5 arg6 arg8 x1 x2 x4) (kernelRun0_A.sl.v284 arg5 arg6 arg8 x1 x2 x4) _ (fun r => by have := r.isLt; simp only [hN, row]; omega) (s7 arg5 arg6 arg8 x1 x2 x4 X n hX) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (hm _ _)))))))))) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (hl _ _))))))))))

theorem outA (arg5 : Memref sig .tc .vmem S1024x128 .f32) (arg6 : Memref sig .tc .vmem S1024x128 .f32) (arg7 : Memref sig .tc .vmem S1024x128 .f32) (arg8 : Memref sig .tc .vmem S1x2x1024x1024 .f32) (x1 : S1024x128.Idx → Elt Ideal .f32) (x2 : S1024x128.Idx → Elt Ideal .f32) (x3 : S1024x128.Idx → Elt Ideal .f32) (x4 : S1x2x1024x1024.Idx → Elt Ideal .f32) (X : Fin 2048 → ℕ → EReal) (Y : Fin 128 → ℕ → EReal) (N : Fin 2048 → ℕ) (n : ℕ)
    (hN : ∀ R : Fin 2048, N R = n + (R.val % 1024 / 256 + 1) * 256)
    (hX : ∀ R (r : Fin 1024), r.val = R.val % 1024 → ∀ (k : Fin 1024), (∑ d : Fin 128, View.canon (kernelRun0_A.sl.HS0_2 arg5 x1) (ix2 R d) * x2 (ix2 k d)) + x4 (ix4 0 0 r k) = X R (n + k.val))
    (hm : ∀ (R : Fin 2048) (j : Fin 128), (k0_pay4 (F := Ideal)) (ix2 R j) = mx (X R) n)
    (hv : ∀ (k : Fin 1024) (j : Fin 128), x3 (ix2 k j) = Y j (n + k.val))
    (ha : ∀ (R : Fin 2048) (j : Fin 128), (k0_pay6 (F := Ideal)) (ix2 R j) = num (X R) (Y j) n)
    (f : scM0_3.view.ty.Contents (Elt Ideal)) (y : S2048x128.Idx) :
    scM0_3.view.read (Elt Ideal) (scM0_3.view.writes (Elt Ideal) f (kernelRun0_A.sl.HS3_9 arg5 arg6 arg7 arg8 x1 x2 x3 x4)) y = num (X (y 0)) (Y (y 1)) (N (y 0)) := by
  refine rows8 scM0_3.view f _ (fun y => num (X (y 0)) (Y (y 1)) (N (y 0))) _ _ ?_ _ _ ?_ _ _ ?_ _ _ ?_ _ _ ?_ _ _ ?_ _ _ ?_ _ _ ?_ y
  · exact pieceA256 (ho := by omega) _ X Y N n _ (kernelRun0_A.sl.v27 arg5 arg6 arg8 x1 x2 x4) (kernelRun0_A.sl.v34) _ (fun r => by have := r.isLt; simp only [hN, row]; omega) (s0 arg5 arg6 arg8 x1 x2 x4 X n hX) (fun i j => ((slice256 _ i j).trans (kv _ _ _ _ _)).trans (hv _ _)) (fun r j => (rdL _ 0 _ (by omega) _ r j).trans ((fill _ _ _ _ _).trans (hm _ _))) (fun r j => (rdL _ 0 _ (by omega) _ r j).trans ((fill _ _ _ _ _).trans (ha _ _)))
  · exact pieceA512 (ho := by omega) _ X Y N n _ (kernelRun0_A.sl.v33 arg5 arg6 arg8 x1 x2 x4) (kernelRun0_A.sl.v71 arg5 arg6 arg8 x1 x2 x4) _ (fun r => by have := r.isLt; simp only [hN, row]; omega) (s1 arg5 arg6 arg8 x1 x2 x4 X n hX) (fun i j => ((slice512 _ i j).trans (kv _ _ _ _ _)).trans (hv _ _)) (fun r j => (rdL _ 256 _ (by omega) _ r j).trans ((skip (o := 256) (o' := 0) _ (by omega) _ _ r j (by omega)).trans ((fill _ _ _ _ _).trans (hm _ _)))) (fun r j => (rdL _ 256 _ (by omega) _ r j).trans ((skip (o := 256) (o' := 0) _ (by omega) _ _ r j (by omega)).trans ((fill _ _ _ _ _).trans (ha _ _))))
  · exact pieceA768 (ho := by omega) _ X Y N n _ (kernelRun0_A.sl.v70 arg5 arg6 arg8 x1 x2 x4) (kernelRun0_A.sl.v107 arg5 arg6 arg8 x1 x2 x4) _ (fun r => by have := r.isLt; simp only [hN, row]; omega) (s2 arg5 arg6 arg8 x1 x2 x4 X n hX) (fun i j => ((slice768 _ i j).trans (kv _ _ _ _ _)).trans (hv _ _)) (fun r j => (rdL _ 512 _ (by omega) _ r j).trans ((skip (o := 512) (o' := 256) _ (by omega) _ _ r j (by omega)).trans ((skip (o := 512) (o' := 0) _ (by omega) _ _ r j (by omega)).trans ((fill _ _ _ _ _).trans (hm _ _))))) (fun r j => (rdL _ 512 _ (by omega) _ r j).trans ((skip (o := 512) (o' := 256) _ (by omega) _ _ r j (by omega)).trans ((skip (o := 512) (o' := 0) _ (by omega) _ _ r j (by omega)).trans ((fill _ _ _ _ _).trans (ha _ _)))))
  · exact pieceA1024 (ho := by omega) _ X Y N n _ (kernelRun0_A.sl.v106 arg5 arg6 arg8 x1 x2 x4) (kernelRun0_A.sl.v144 arg5 arg6 arg8 x1 x2 x4) _ (fun r => by have := r.isLt; simp only [hN, row]; omega) (s3 arg5 arg6 arg8 x1 x2 x4 X n hX) (fun i j => (kv _ _ _ _ _).trans (hv _ _)) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (hm _ _)))))) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (ha _ _))))))
  · exact pieceA256 (ho := by omega) _ X Y N n _ (kernelRun0_A.sl.v143 arg5 arg6 arg8 x1 x2 x4) (kernelRun0_A.sl.v180 arg5 arg6 arg8 x1 x2 x4) _ (fun r => by have := r.isLt; simp only [hN, row]; omega) (s4 arg5 arg6 arg8 x1 x2 x4 X n hX) (fun i j => ((slice256 _ i j).trans (kv _ _ _ _ _)).trans (hv _ _)) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (hm _ _))))))) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (ha _ _)))))))
  · exact pieceA512 (ho := by omega) _ X Y N n _ (kernelRun0_A.sl.v179 arg5 arg6 arg8 x1 x2 x4) (kernelRun0_A.sl.v217 arg5 arg6 arg8 x1 x2 x4) _ (fun r => by have := r.isLt; simp only [hN, row]; omega) (s5 arg5 arg6 arg8 x1 x2 x4 X n hX) (fun i j => ((slice512 _ i j).trans (kv _ _ _ _ _)).trans (hv _ _)) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (hm _ _)))))))) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (ha _ _))))))))
  · exact pieceA768 (ho := by omega) _ X Y N n _ (kernelRun0_A.sl.v216 arg5 arg6 arg8 x1 x2 x4) (kernelRun0_A.sl.v253 arg5 arg6 arg8 x1 x2 x4) _ (fun r => by have := r.isLt; simp only [hN, row]; omega) (s6 arg5 arg6 arg8 x1 x2 x4 X n hX) (fun i j => ((slice768 _ i j).trans (kv _ _ _ _ _)).trans (hv _ _)) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (hm _ _))))))))) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (ha _ _)))))))))
  · exact pieceA1024 (ho := by omega) _ X Y N n _ (kernelRun0_A.sl.v252 arg5 arg6 arg8 x1 x2 x4) (kernelRun0_A.sl.v284 arg5 arg6 arg8 x1 x2 x4) _ (fun r => by have := r.isLt; simp only [hN, row]; omega) (s7 arg5 arg6 arg8 x1 x2 x4 X n hX) (fun i j => (kv _ _ _ _ _).trans (hv _ _)) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (hm _ _)))))))))) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (ha _ _))))))))))

end Cert.KernelIdeal.PathA
-- ==== Proof.Attn.PathB.lean ====
/- The stacked rows' running maximum, sum of weights and weighted sum of values after the first block of a row of blocks, next to the diagonal. -/
module

public import proofs.«01_k».proof.Proof.Attn.Rows

@[expose] public section

set_option maxRecDepth 16384
set_option maxHeartbeats 1000000

noncomputable section

namespace Cert.KernelIdeal.PathB

open Idealize.ShloMosaic Idealize.ShloMosaic.TcCoe Cert.KernelIdeal Cert.KernelIdeal.Gen Cert.KernelIdeal.Chunk Cert.KernelIdeal.Rows Cert.Online

theorem s0 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_B.sl.HS0_2 arg5 x1) (ix2 R d) * x2 (ix2 k d)) + x4 (ix4 0 1 r k) = X R (n + k.val)) (r : Fin 256) (k : Fin 1024) :
    kernelRun0_B.sl.v26 arg5 arg6 arg8 x1 x2 x4 (ix2 r k) = X (row 0 (by omega) r) (n + k.val) :=
  (congrArg₂ (fun a b : EReal => a + b) (scores1024 (ho := by omega) _ _ (fun R d => View.canon (kernelRun0_B.sl.HS0_2 arg5 x1) (ix2 R d)) x2 (fun r d => rdL _ 0 _ (by omega) _ r d) (fun i d => kv _ _ _ _ _) r k) (bias1024 1 0 (by omega) (by omega) _ x4 _ r k)).trans
    (hX _ _ (by have := r.isLt; simp only [row]; omega) k)

theorem s1 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_B.sl.HS0_2 arg5 x1) (ix2 R d) * x2 (ix2 k d)) + x4 (ix4 0 1 r k) = X R (n + k.val)) (r : Fin 256) (k : Fin 1024) :
    kernelRun0_B.sl.v31 arg5 arg6 arg8 x1 x2 x4 (ix2 r k) = X (row 256 (by omega) r) (n + k.val) :=
  (congrArg₂ (fun a b : EReal => a + b) (scores1024 (ho := by omega) _ _ (fun R d => View.canon (kernelRun0_B.sl.HS0_2 arg5 x1) (ix2 R d)) x2 (fun r d => rdL _ 256 _ (by omega) _ r d) (fun i d => kv _ _ _ _ _) r k) (bias1024 1 256 (by omega) (by omega) _ x4 _ r k)).trans
    (hX _ _ (by have := r.isLt; simp only [row]; omega) k)

theorem s2 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_B.sl.HS0_2 arg5 x1) (ix2 R d) * x2 (ix2 k d)) + x4 (ix4 0 1 r k) = X R (n + k.val)) (r : Fin 256) (k : Fin 1024) :
    kernelRun0_B.sl.v66 arg5 arg6 arg8 x1 x2 x4 (ix2 r k) = X (row 512 (by omega) r) (n + k.val) :=
  (congrArg₂ (fun a b : EReal => a + b) (scores1024 (ho := by omega) _ _ (fun R d => View.canon (kernelRun0_B.sl.HS0_2 arg5 x1) (ix2 R d)) x2 (fun r d => rdL _ 512 _ (by omega) _ r d) (fun i d => kv _ _ _ _ _) r k) (bias1024 1 512 (by omega) (by omega) _ x4 _ r k)).trans
    (hX _ _ (by have := r.isLt; simp only [row]; omega) k)

theorem s3 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_B.sl.HS0_2 arg5 x1) (ix2 R d) * x2 (ix2 k d)) + x4 (ix4 0 1 r k) = X R (n + k.val)) (r : Fin 256) (k : Fin 1024) :
    kernelRun0_B.sl.v101 arg5 arg6 arg8 x1 x2 x4 (ix2 r k) = X (row 768 (by omega) r) (n + k.val) :=
  (congrArg₂ (fun a b : EReal => a + b) (scores1024 (ho := by omega) _ _ (fun R d => View.canon (kernelRun0_B.sl.HS0_2 arg5 x1) (ix2 R d)) x2 (fun r d => rdL _ 768 _ (by omega) _ r d) (fun i d => kv _ _ _ _ _) r k) (bias1024 1 768 (by omega) (by omega) _ x4 _ r k)).trans
    (hX _ _ (by have := r.isLt; simp only [row]; omega) k)

theorem s4 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_B.sl.HS0_2 arg5 x1) (ix2 R d) * x2 (ix2 k d)) + x4 (ix4 0 1 r k) = X R (n + k.val)) (r : Fin 256) (k : Fin 1024) :
    kernelRun0_B.sl.v136 arg5 arg6 arg8 x1 x2 x4 (ix2 r k) = X (row 1024 (by omega) r) (n + k.val) :=
  (congrArg₂ (fun a b : EReal => a + b) (scores1024 (ho := by omega) _ _ (fun R d => View.canon (kernelRun0_B.sl.HS0_2 arg5 x1) (ix2 R d)) x2 (fun r d => rdL _ 1024 _ (by omega) _ r d) (fun i d => kv _ _ _ _ _) r k) (bias1024 1 0 (by omega) (by omega) _ x4 _ r k)).trans
    (hX _ _ (by have := r.isLt; simp only [row]; omega) k)

theorem s5 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_B.sl.HS0_2 arg5 x1) (ix2 R d) * x2 (ix2 k d)) + x4 (ix4 0 1 r k) = X R (n + k.val)) (r : Fin 256) (k : Fin 1024) :
    kernelRun0_B.sl.v171 arg5 arg6 arg8 x1 x2 x4 (ix2 r k) = X (row 1280 (by omega) r) (n + k.val) :=
  (congrArg₂ (fun a b : EReal => a + b) (scores1024 (ho := by omega) _ _ (fun R d => View.canon (kernelRun0_B.sl.HS0_2 arg5 x1) (ix2 R d)) x2 (fun r d => rdL _ 1280 _ (by omega) _ r d) (fun i d => kv _ _ _ _ _) r k) (bias1024 1 256 (by omega) (by omega) _ x4 _ r k)).trans
    (hX _ _ (by have := r.isLt; simp only [row]; omega) k)

theorem s6 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_B.sl.HS0_2 arg5 x1) (ix2 R d) * x2 (ix2 k d)) + x4 (ix4 0 1 r k) = X R (n + k.val)) (r : Fin 256) (k : Fin 1024) :
    kernelRun0_B.sl.v206 arg5 arg6 arg8 x1 x2 x4 (ix2 r k) = X (row 1536 (by omega) r) (n + k.val) :=
  (congrArg₂ (fun a b : EReal => a + b) (scores1024 (ho := by omega) _ _ (fun R d => View.canon (kernelRun0_B.sl.HS0_2 arg5 x1) (ix2 R d)) x2 (fun r d => rdL _ 1536 _ (by omega) _ r d) (fun i d => kv _ _ _ _ _) r k) (bias1024 1 512 (by omega) (by omega) _ x4 _ r k)).trans
    (hX _ _ (by have := r.isLt; simp only [row]; omega) k)

theorem s7 (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (n : ℕ)
    (hX : ∀ R (r : Fin 1024), r.val = R.val % 1024 → ∀ (k : Fin 1024), (∑ d : Fin 128, View.canon (kernelRun0_B.sl.HS0_2 arg5 x1) (ix2 R d) * x2 (ix2 k d)) + x4 (ix4 0 1 r k) = X R (n + k.val)) (r : Fin 256) (k : Fin 1024) :
    kernelRun0_B.sl.v241 arg5 arg6 arg8 x1 x2 x4 (ix2 r k) = X (row 1792 (by omega) r) (n + k.val) :=
  (congrArg₂ (fun a b : EReal => a + b) (scores1024 (ho := by omega) _ _ (fun R d => View.canon (kernelRun0_B.sl.HS0_2 arg5 x1) (ix2 R d)) x2 (fun r d => rdL _ 1792 _ (by omega) _ r d) (fun i d => kv _ _ _ _ _) r k) (bias1024 1 768 (by omega) (by omega) _ x4 _ r k)).trans
    (hX _ _ (by have := r.isLt; simp only [row]; omega) k)

theorem outM (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (N : Fin 2048 → ℕ) (n : ℕ)
    (hN : ∀ R : Fin 2048, N R = n + 1024)
    (hX : ∀ R (r : Fin 1024), r.val = R.val % 1024 → ∀ (k : Fin 1024), (∑ d : Fin 128, View.canon (kernelRun0_B.sl.HS0_2 arg5 x1) (ix2 R d) * x2 (ix2 k d)) + x4 (ix4 0 1 r k) = X R (n + k.val))
    (hm : ∀ (R : Fin 2048) (j : Fin 128), (k0_pay4 (F := Ideal)) (ix2 R j) = mx (X R) n)
    (f : scM0_1.view.ty.Contents (Elt Ideal)) (y : S2048x128.Idx) :
    scM0_1.view.read (Elt Ideal) (scM0_1.view.writes (Elt Ideal) f (kernelRun0_B.sl.HS1_9 arg5 arg6 arg8 x1 x2 x4)) y = mx (X (y 0)) (N (y 0)) := by
  refine rows8 scM0_1.view f _ (fun y => mx (X (y 0)) (N (y 0))) _ _ ?_ _ _ ?_ _ _ ?_ _ _ ?_ _ _ ?_ _ _ ?_ _ _ ?_ _ _ ?_ y
  · exact pieceM1024 (ho := by omega) _ X N n (kernelRun0_B.sl.v26 arg5 arg6 arg8 x1 x2 x4) (kernelRun0_B.sl.v32) (fun r => hN _) (s0 arg5 arg6 arg8 x1 x2 x4 X n hX) (fun r j => (rdL _ 0 _ (by omega) _ r j).trans ((fill _ _ _ _ _).trans (hm _ _)))
  · exact pieceM1024 (ho := by omega) _ X N n (kernelRun0_B.sl.v31 arg5 arg6 arg8 x1 x2 x4) (kernelRun0_B.sl.v67 arg5 arg6 arg8 x1 x2 x4) (fun r => hN _) (s1 arg5 arg6 arg8 x1 x2 x4 X n hX) (fun r j => (rdL _ 256 _ (by omega) _ r j).trans ((skip (o := 256) (o' := 0) _ (by omega) _ _ r j (by omega)).trans ((fill _ _ _ _ _).trans (hm _ _))))
  · exact pieceM1024 (ho := by omega) _ X N n (kernelRun0_B.sl.v66 arg5 arg6 arg8 x1 x2 x4) (kernelRun0_B.sl.v102 arg5 arg6 arg8 x1 x2 x4) (fun r => hN _) (s2 arg5 arg6 arg8 x1 x2 x4 X n hX) (fun r j => (rdL _ 512 _ (by omega) _ r j).trans ((skip (o := 512) (o' := 256) _ (by omega) _ _ r j (by omega)).trans ((skip (o := 512) (o' := 0) _ (by omega) _ _ r j (by omega)).trans ((fill _ _ _ _ _).trans (hm _ _)))))
  · exact pieceM1024 (ho := by omega) _ X N n (kernelRun0_B.sl.v101 arg5 arg6 arg8 x1 x2 x4) (kernelRun0_B.sl.v137 arg5 arg6 arg8 x1 x2 x4) (fun r => hN _) (s3 arg5 arg6 arg8 x1 x2 x4 X n hX) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (hm _ _))))))
  · exact pieceM1024 (ho := by omega) _ X N n (kernelRun0_B.sl.v136 arg5 arg6 arg8 x1 x2 x4) (kernelRun0_B.sl.v172 arg5 arg6 arg8 x1 x2 x4) (fun r => hN _) (s4 arg5 arg6 arg8 x1 x2 x4 X n hX) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (hm _ _)))))))
  · exact pieceM1024 (ho := by omega) _ X N n (kernelRun0_B.sl.v171 arg5 arg6 arg8 x1 x2 x4) (kernelRun0_B.sl.v207 arg5 arg6 arg8 x1 x2 x4) (fun r => hN _) (s5 arg5 arg6 arg8 x1 x2 x4 X n hX) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (hm _ _))))))))
  · exact pieceM1024 (ho := by omega) _ X N n (kernelRun0_B.sl.v206 arg5 arg6 arg8 x1 x2 x4) (kernelRun0_B.sl.v242 arg5 arg6 arg8 x1 x2 x4) (fun r => hN _) (s6 arg5 arg6 arg8 x1 x2 x4 X n hX) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (hm _ _)))))))))
  · exact pieceM1024 (ho := by omega) _ X N n (kernelRun0_B.sl.v241 arg5 arg6 arg8 x1 x2 x4) (kernelRun0_B.sl.v272 arg5 arg6 arg8 x1 x2 x4) (fun r => hN _) (s7 arg5 arg6 arg8 x1 x2 x4 X n hX) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (hm _ _))))))))))

theorem outL (arg5 : Memref sig .tc .vmem S1024x128 .f32) (arg6 : Memref sig .tc .vmem S1024x128 .f32) (arg8 : Memref sig .tc .vmem S1x2x1024x1024 .f32) (x1 : S1024x128.Idx → Elt Ideal .f32) (x2 : S1024x128.Idx → Elt Ideal .f32) (x4 : S1x2x1024x1024.Idx → Elt Ideal .f32) (X : Fin 2048 → ℕ → EReal) (N : Fin 2048 → ℕ) (n : ℕ)
    (hN : ∀ R : Fin 2048, N R = n + 1024)
    (hX : ∀ R (r : Fin 1024), r.val = R.val % 1024 → ∀ (k : Fin 1024), (∑ d : Fin 128, View.canon (kernelRun0_B.sl.HS0_2 arg5 x1) (ix2 R d) * x2 (ix2 k d)) + x4 (ix4 0 1 r k) = X R (n + k.val))
    (hm : ∀ (R : Fin 2048) (j : Fin 128), (k0_pay4 (F := Ideal)) (ix2 R j) = mx (X R) n)
    (hl : ∀ (R : Fin 2048) (j : Fin 128), (k0_pay5 (F := Ideal)) (ix2 R j) = den (X R) n)
    (f : scM0_2.view.ty.Contents (Elt Ideal)) (y : S2048x128.Idx) :
    scM0_2.view.read (Elt Ideal) (scM0_2.view.writes (Elt Ideal) f (kernelRun0_B.sl.HS2_9 arg5 arg6 arg8 x1 x2 x4)) y = den (X (y 0)) (N (y 0)) := by
  refine rows8 scM0_2.view f _ (fun y => den (X (y 0)) (N (y 0))) _ _ ?_ _ _ ?_ _ _ ?_ _ _ ?_ _ _ ?_ _ _ ?_ _ _ ?_ _ _ ?_ y
  · exact pieceL1024 (ho := by omega) _ X N n (kernelRun0_B.sl.v26 arg5 arg6 arg8 x1 x2 x4) (kernelRun0_B.sl.v32) _ (fun r => hN _) (s0 arg5 arg6 arg8 x1 x2 x4 X n hX) (fun r j => (rdL _ 0 _ (by omega) _ r j).trans ((fill _ _ _ _ _).trans (hm _ _))) (fun r j => (rdL _ 0 _ (by omega) _ r j).trans ((fill _ _ _ _ _).trans (hl _ _)))
  · exact pieceL1024 (ho := by omega) _ X N n (kernelRun0_B.sl.v31 arg5 arg6 arg8 x1 x2 x4) (kernelRun0_B.sl.v67 arg5 arg6 arg8 x1 x2 x4) _ (fun r => hN _) (s1 arg5 arg6 arg8 x1 x2 x4 X n hX) (fun r j => (rdL _ 256 _ (by omega) _ r j).trans ((skip (o := 256) (o' := 0) _ (by omega) _ _ r j (by omega)).trans ((fill _ _ _ _ _).trans (hm _ _)))) (fun r j => (rdL _ 256 _ (by omega) _ r j).trans ((skip (o := 256) (o' := 0) _ (by omega) _ _ r j (by omega)).trans ((fill _ _ _ _ _).trans (hl _ _))))
  · exact pieceL1024 (ho := by omega) _ X N n (kernelRun0_B.sl.v66 arg5 arg6 arg8 x1 x2 x4) (kernelRun0_B.sl.v102 arg5 arg6 arg8 x1 x2 x4) _ (fun r => hN _) (s2 arg5 arg6 arg8 x1 x2 x4 X n hX) (fun r j => (rdL _ 512 _ (by omega) _ r j).trans ((skip (o := 512) (o' := 256) _ (by omega) _ _ r j (by omega)).trans ((skip (o := 512) (o' := 0) _ (by omega) _ _ r j (by omega)).trans ((fill _ _ _ _ _).trans (hm _ _))))) (fun r j => (rdL _ 512 _ (by omega) _ r j).trans ((skip (o := 512) (o' := 256) _ (by omega) _ _ r j (by omega)).trans ((skip (o := 512) (o' := 0) _ (by omega) _ _ r j (by omega)).trans ((fill _ _ _ _ _).trans (hl _ _)))))
  · exact pieceL1024 (ho := by omega) _ X N n (kernelRun0_B.sl.v101 arg5 arg6 arg8 x1 x2 x4) (kernelRun0_B.sl.v137 arg5 arg6 arg8 x1 x2 x4) _ (fun r => hN _) (s3 arg5 arg6 arg8 x1 x2 x4 X n hX) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (hm _ _)))))) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (hl _ _))))))
  · exact pieceL1024 (ho := by omega) _ X N n (kernelRun0_B.sl.v136 arg5 arg6 arg8 x1 x2 x4) (kernelRun0_B.sl.v172 arg5 arg6 arg8 x1 x2 x4) _ (fun r => hN _) (s4 arg5 arg6 arg8 x1 x2 x4 X n hX) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (hm _ _))))))) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (hl _ _)))))))
  · exact pieceL1024 (ho := by omega) _ X N n (kernelRun0_B.sl.v171 arg5 arg6 arg8 x1 x2 x4) (kernelRun0_B.sl.v207 arg5 arg6 arg8 x1 x2 x4) _ (fun r => hN _) (s5 arg5 arg6 arg8 x1 x2 x4 X n hX) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (hm _ _)))))))) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (hl _ _))))))))
  · exact pieceL1024 (ho := by omega) _ X N n (kernelRun0_B.sl.v206 arg5 arg6 arg8 x1 x2 x4) (kernelRun0_B.sl.v242 arg5 arg6 arg8 x1 x2 x4) _ (fun r => hN _) (s6 arg5 arg6 arg8 x1 x2 x4 X n hX) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (hm _ _))))))))) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (hl _ _)))))))))
  · exact pieceL1024 (ho := by omega) _ X N n (kernelRun0_B.sl.v241 arg5 arg6 arg8 x1 x2 x4) (kernelRun0_B.sl.v272 arg5 arg6 arg8 x1 x2 x4) _ (fun r => hN _) (s7 arg5 arg6 arg8 x1 x2 x4 X n hX) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (hm _ _)))))))))) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (hl _ _))))))))))

theorem outA (arg5 : Memref sig .tc .vmem S1024x128 .f32) (arg6 : Memref sig .tc .vmem S1024x128 .f32) (arg7 : Memref sig .tc .vmem S1024x128 .f32) (arg8 : Memref sig .tc .vmem S1x2x1024x1024 .f32) (x1 : S1024x128.Idx → Elt Ideal .f32) (x2 : S1024x128.Idx → Elt Ideal .f32) (x3 : S1024x128.Idx → Elt Ideal .f32) (x4 : S1x2x1024x1024.Idx → Elt Ideal .f32) (X : Fin 2048 → ℕ → EReal) (Y : Fin 128 → ℕ → EReal) (N : Fin 2048 → ℕ) (n : ℕ)
    (hN : ∀ R : Fin 2048, N R = n + 1024)
    (hX : ∀ R (r : Fin 1024), r.val = R.val % 1024 → ∀ (k : Fin 1024), (∑ d : Fin 128, View.canon (kernelRun0_B.sl.HS0_2 arg5 x1) (ix2 R d) * x2 (ix2 k d)) + x4 (ix4 0 1 r k) = X R (n + k.val))
    (hm : ∀ (R : Fin 2048) (j : Fin 128), (k0_pay4 (F := Ideal)) (ix2 R j) = mx (X R) n)
    (hv : ∀ (k : Fin 1024) (j : Fin 128), x3 (ix2 k j) = Y j (n + k.val))
    (ha : ∀ (R : Fin 2048) (j : Fin 128), (k0_pay6 (F := Ideal)) (ix2 R j) = num (X R) (Y j) n)
    (f : scM0_3.view.ty.Contents (Elt Ideal)) (y : S2048x128.Idx) :
    scM0_3.view.read (Elt Ideal) (scM0_3.view.writes (Elt Ideal) f (kernelRun0_B.sl.HS3_9 arg5 arg6 arg7 arg8 x1 x2 x3 x4)) y = num (X (y 0)) (Y (y 1)) (N (y 0)) := by
  refine rows8 scM0_3.view f _ (fun y => num (X (y 0)) (Y (y 1)) (N (y 0))) _ _ ?_ _ _ ?_ _ _ ?_ _ _ ?_ _ _ ?_ _ _ ?_ _ _ ?_ _ _ ?_ y
  · exact pieceA1024 (ho := by omega) _ X Y N n _ (kernelRun0_B.sl.v26 arg5 arg6 arg8 x1 x2 x4) (kernelRun0_B.sl.v32) _ (fun r => hN _) (s0 arg5 arg6 arg8 x1 x2 x4 X n hX) (fun i j => (kv _ _ _ _ _).trans (hv _ _)) (fun r j => (rdL _ 0 _ (by omega) _ r j).trans ((fill _ _ _ _ _).trans (hm _ _))) (fun r j => (rdL _ 0 _ (by omega) _ r j).trans ((fill _ _ _ _ _).trans (ha _ _)))
  · exact pieceA1024 (ho := by omega) _ X Y N n _ (kernelRun0_B.sl.v31 arg5 arg6 arg8 x1 x2 x4) (kernelRun0_B.sl.v67 arg5 arg6 arg8 x1 x2 x4) _ (fun r => hN _) (s1 arg5 arg6 arg8 x1 x2 x4 X n hX) (fun i j => (kv _ _ _ _ _).trans (hv _ _)) (fun r j => (rdL _ 256 _ (by omega) _ r j).trans ((skip (o := 256) (o' := 0) _ (by omega) _ _ r j (by omega)).trans ((fill _ _ _ _ _).trans (hm _ _)))) (fun r j => (rdL _ 256 _ (by omega) _ r j).trans ((skip (o := 256) (o' := 0) _ (by omega) _ _ r j (by omega)).trans ((fill _ _ _ _ _).trans (ha _ _))))
  · exact pieceA1024 (ho := by omega) _ X Y N n _ (kernelRun0_B.sl.v66 arg5 arg6 arg8 x1 x2 x4) (kernelRun0_B.sl.v102 arg5 arg6 arg8 x1 x2 x4) _ (fun r => hN _) (s2 arg5 arg6 arg8 x1 x2 x4 X n hX) (fun i j => (kv _ _ _ _ _).trans (hv _ _)) (fun r j => (rdL _ 512 _ (by omega) _ r j).trans ((skip (o := 512) (o' := 256) _ (by omega) _ _ r j (by omega)).trans ((skip (o := 512) (o' := 0) _ (by omega) _ _ r j (by omega)).trans ((fill _ _ _ _ _).trans (hm _ _))))) (fun r j => (rdL _ 512 _ (by omega) _ r j).trans ((skip (o := 512) (o' := 256) _ (by omega) _ _ r j (by omega)).trans ((skip (o := 512) (o' := 0) _ (by omega) _ _ r j (by omega)).trans ((fill _ _ _ _ _).trans (ha _ _)))))
  · exact pieceA1024 (ho := by omega) _ X Y N n _ (kernelRun0_B.sl.v101 arg5 arg6 arg8 x1 x2 x4) (kernelRun0_B.sl.v137 arg5 arg6 arg8 x1 x2 x4) _ (fun r => hN _) (s3 arg5 arg6 arg8 x1 x2 x4 X n hX) (fun i j => (kv _ _ _ _ _).trans (hv _ _)) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (hm _ _)))))) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (ha _ _))))))
  · exact pieceA1024 (ho := by omega) _ X Y N n _ (kernelRun0_B.sl.v136 arg5 arg6 arg8 x1 x2 x4) (kernelRun0_B.sl.v172 arg5 arg6 arg8 x1 x2 x4) _ (fun r => hN _) (s4 arg5 arg6 arg8 x1 x2 x4 X n hX) (fun i j => (kv _ _ _ _ _).trans (hv _ _)) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (hm _ _))))))) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (ha _ _)))))))
  · exact pieceA1024 (ho := by omega) _ X Y N n _ (kernelRun0_B.sl.v171 arg5 arg6 arg8 x1 x2 x4) (kernelRun0_B.sl.v207 arg5 arg6 arg8 x1 x2 x4) _ (fun r => hN _) (s5 arg5 arg6 arg8 x1 x2 x4 X n hX) (fun i j => (kv _ _ _ _ _).trans (hv _ _)) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (hm _ _)))))))) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (ha _ _))))))))
  · exact pieceA1024 (ho := by omega) _ X Y N n _ (kernelRun0_B.sl.v206 arg5 arg6 arg8 x1 x2 x4) (kernelRun0_B.sl.v242 arg5 arg6 arg8 x1 x2 x4) _ (fun r => hN _) (s6 arg5 arg6 arg8 x1 x2 x4 X n hX) (fun i j => (kv _ _ _ _ _).trans (hv _ _)) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (hm _ _))))))))) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (ha _ _)))))))))
  · exact pieceA1024 (ho := by omega) _ X Y N n _ (kernelRun0_B.sl.v241 arg5 arg6 arg8 x1 x2 x4) (kernelRun0_B.sl.v272 arg5 arg6 arg8 x1 x2 x4) _ (fun r => hN _) (s7 arg5 arg6 arg8 x1 x2 x4 X n hX) (fun i j => (kv _ _ _ _ _).trans (hv _ _)) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (hm _ _)))))))))) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (ha _ _))))))))))

end Cert.KernelIdeal.PathB
-- ==== Proof.Attn.PathC.lean ====
/- The stacked rows' running maximum, sum of weights and weighted sum of values after the diagonal block, later in its row of blocks. -/
module

public import proofs.«01_k».proof.Proof.Attn.Rows

@[expose] public section

set_option maxRecDepth 16384
set_option maxHeartbeats 1000000

noncomputable section

namespace Cert.KernelIdeal.PathC

open Idealize.ShloMosaic Idealize.ShloMosaic.TcCoe Cert.KernelIdeal Cert.KernelIdeal.Gen Cert.KernelIdeal.Chunk Cert.KernelIdeal.Rows Cert.Online

theorem s0 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 0 r k) = X R (n + k.val)) (r : Fin 256) (k : Fin 256) :
    kernelRun0_C.sl.v27 c arg6 arg8 x2 x4 xa0 (ix2 r k) = X (row 0 (by omega) r) (n + k.val) :=
  (congrArg₂ (fun a b : EReal => a + b) (scores256 (ho := by omega) _ _ (fun R d => xa0 (ix2 R d)) x2 (fun r d => rd0 0 _ (by omega) xa0 r d) (fun i d => (slice256 _ i d).trans (kv _ _ _ _ _)) r k) (bias256 0 0 (by omega) (by omega) _ x4 _ r k)).trans
    (hX _ _ (by have := r.isLt; simp only [row]; omega) ⟨k.val, by have := k.isLt; omega⟩)

theorem s1 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 0 r k) = X R (n + k.val)) (r : Fin 256) (k : Fin 512) :
    kernelRun0_C.sl.v33 c arg6 arg8 x2 x4 xa0 (ix2 r k) = X (row 256 (by omega) r) (n + k.val) :=
  (congrArg₂ (fun a b : EReal => a + b) (scores512 (ho := by omega) _ _ (fun R d => xa0 (ix2 R d)) x2 (fun r d => rd0 256 _ (by omega) xa0 r d) (fun i d => (slice512 _ i d).trans (kv _ _ _ _ _)) r k) (bias512 0 256 (by omega) (by omega) _ x4 _ r k)).trans
    (hX _ _ (by have := r.isLt; simp only [row]; omega) ⟨k.val, by have := k.isLt; omega⟩)

theorem s2 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 0 r k) = X R (n + k.val)) (r : Fin 256) (k : Fin 768) :
    kernelRun0_C.sl.v70 c arg6 arg8 x2 x4 xa0 (ix2 r k) = X (row 512 (by omega) r) (n + k.val) :=
  (congrArg₂ (fun a b : EReal => a + b) (scores768 (ho := by omega) _ _ (fun R d => xa0 (ix2 R d)) x2 (fun r d => rd0 512 _ (by omega) xa0 r d) (fun i d => (slice768 _ i d).trans (kv _ _ _ _ _)) r k) (bias768 0 512 (by omega) (by omega) _ x4 _ r k)).trans
    (hX _ _ (by have := r.isLt; simp only [row]; omega) ⟨k.val, by have := k.isLt; omega⟩)

theorem s3 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 0 r k) = X R (n + k.val)) (r : Fin 256) (k : Fin 1024) :
    kernelRun0_C.sl.v106 c arg6 arg8 x2 x4 xa0 (ix2 r k) = X (row 768 (by omega) r) (n + k.val) :=
  (congrArg₂ (fun a b : EReal => a + b) (scores1024 (ho := by omega) _ _ (fun R d => xa0 (ix2 R d)) x2 (fun r d => rd0 768 _ (by omega) xa0 r d) (fun i d => kv _ _ _ _ _) r k) (bias1024 0 768 (by omega) (by omega) _ x4 _ r k)).trans
    (hX _ _ (by have := r.isLt; simp only [row]; omega) k)

theorem s4 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 0 r k) = X R (n + k.val)) (r : Fin 256) (k : Fin 256) :
    kernelRun0_C.sl.v143 c arg6 arg8 x2 x4 xa0 (ix2 r k) = X (row 1024 (by omega) r) (n + k.val) :=
  (congrArg₂ (fun a b : EReal => a + b) (scores256 (ho := by omega) _ _ (fun R d => xa0 (ix2 R d)) x2 (fun r d => rd0 1024 _ (by omega) xa0 r d) (fun i d => (slice256 _ i d).trans (kv _ _ _ _ _)) r k) (bias256 0 0 (by omega) (by omega) _ x4 _ r k)).trans
    (hX _ _ (by have := r.isLt; simp only [row]; omega) ⟨k.val, by have := k.isLt; omega⟩)

theorem s5 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 0 r k) = X R (n + k.val)) (r : Fin 256) (k : Fin 512) :
    kernelRun0_C.sl.v179 c arg6 arg8 x2 x4 xa0 (ix2 r k) = X (row 1280 (by omega) r) (n + k.val) :=
  (congrArg₂ (fun a b : EReal => a + b) (scores512 (ho := by omega) _ _ (fun R d => xa0 (ix2 R d)) x2 (fun r d => rd0 1280 _ (by omega) xa0 r d) (fun i d => (slice512 _ i d).trans (kv _ _ _ _ _)) r k) (bias512 0 256 (by omega) (by omega) _ x4 _ r k)).trans
    (hX _ _ (by have := r.isLt; simp only [row]; omega) ⟨k.val, by have := k.isLt; omega⟩)

theorem s6 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 0 r k) = X R (n + k.val)) (r : Fin 256) (k : Fin 768) :
    kernelRun0_C.sl.v216 c arg6 arg8 x2 x4 xa0 (ix2 r k) = X (row 1536 (by omega) r) (n + k.val) :=
  (congrArg₂ (fun a b : EReal => a + b) (scores768 (ho := by omega) _ _ (fun R d => xa0 (ix2 R d)) x2 (fun r d => rd0 1536 _ (by omega) xa0 r d) (fun i d => (slice768 _ i d).trans (kv _ _ _ _ _)) r k) (bias768 0 512 (by omega) (by omega) _ x4 _ r k)).trans
    (hX _ _ (by have := r.isLt; simp only [row]; omega) ⟨k.val, by have := k.isLt; omega⟩)

theorem s7 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 0 r k) = X R (n + k.val)) (r : Fin 256) (k : Fin 1024) :
    kernelRun0_C.sl.v252 c arg6 arg8 x2 x4 xa0 (ix2 r k) = X (row 1792 (by omega) r) (n + k.val) :=
  (congrArg₂ (fun a b : EReal => a + b) (scores1024 (ho := by omega) _ _ (fun R d => xa0 (ix2 R d)) x2 (fun r d => rd0 1792 _ (by omega) xa0 r d) (fun i d => kv _ _ _ _ _) r k) (bias1024 0 768 (by omega) (by omega) _ x4 _ r k)).trans
    (hX _ _ (by have := r.isLt; simp only [row]; omega) k)

theorem outM (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (xa1 : S2048x128.Idx → Elt Ideal .f32) (X : Fin 2048 → ℕ → EReal) (N : Fin 2048 → ℕ) (n : ℕ)
    (hN : ∀ R : Fin 2048, N R = n + (R.val % 1024 / 256 + 1) * 256)
    (hX : ∀ R (r : Fin 1024), r.val = R.val % 1024 → ∀ (k : Fin 1024), (∑ d : Fin 128, xa0 (ix2 R d) * x2 (ix2 k d)) + x4 (ix4 0 0 r k) = X R (n + k.val))
    (hm : ∀ (R : Fin 2048) (j : Fin 128), xa1 (ix2 R j) = mx (X R) n)
    (f : scM0_1.view.ty.Contents (Elt Ideal)) (y : S2048x128.Idx) :
    scM0_1.view.read (Elt Ideal) (scM0_1.view.writes (Elt Ideal) f (kernelRun0_C.sl.HS1_8 c arg6 arg8 x2 x4 xa0 xa1)) y = mx (X (y 0)) (N (y 0)) := by
  refine rows8 scM0_1.view f _ (fun y => mx (X (y 0)) (N (y 0))) _ _ ?_ _ _ ?_ _ _ ?_ _ _ ?_ _ _ ?_ _ _ ?_ _ _ ?_ _ _ ?_ y
  · exact pieceM256 (ho := by omega) _ X N n (kernelRun0_C.sl.v27 c arg6 arg8 x2 x4 xa0) _ (fun r => by have := r.isLt; simp only [hN, row]; omega) (s0 c arg6 arg8 x2 x4 xa0 X n hX) (fun r j => (rd1 0 _ (by omega) xa1 r j).trans (hm _ _))
  · exact pieceM512 (ho := by omega) _ X N n (kernelRun0_C.sl.v33 c arg6 arg8 x2 x4 xa0) (kernelRun0_C.sl.v71 c xa1) (fun r => by have := r.isLt; simp only [hN, row]; omega) (s1 c arg6 arg8 x2 x4 xa0 X n hX) (fun r j => (rd1 256 _ (by omega) xa1 r j).trans (hm _ _))
  · exact pieceM768 (ho := by omega) _ X N n (kernelRun0_C.sl.v70 c arg6 arg8 x2 x4 xa0) (kernelRun0_C.sl.v107 c xa1) (fun r => by have := r.isLt; simp only [hN, row]; omega) (s2 c arg6 arg8 x2 x4 xa0 X n hX) (fun r j => (rd1 512 _ (by omega) xa1 r j).trans (hm _ _))
  · exact pieceM1024 (ho := by omega) _ X N n (kernelRun0_C.sl.v106 c arg6 arg8 x2 x4 xa0) (kernelRun0_C.sl.v144 c xa1) (fun r => by have := r.isLt; simp only [hN, row]; omega) (s3 c arg6 arg8 x2 x4 xa0 X n hX) (fun r j => (rd1 768 _ (by omega) xa1 r j).trans (hm _ _))
  · exact pieceM256 (ho := by omega) _ X N n (kernelRun0_C.sl.v143 c arg6 arg8 x2 x4 xa0) (kernelRun0_C.sl.v180 c xa1) (fun r => by have := r.isLt; simp only [hN, row]; omega) (s4 c arg6 arg8 x2 x4 xa0 X n hX) (fun r j => (rd1 1024 _ (by omega) xa1 r j).trans (hm _ _))
  · exact pieceM512 (ho := by omega) _ X N n (kernelRun0_C.sl.v179 c arg6 arg8 x2 x4 xa0) (kernelRun0_C.sl.v217 c xa1) (fun r => by have := r.isLt; simp only [hN, row]; omega) (s5 c arg6 arg8 x2 x4 xa0 X n hX) (fun r j => (rd1 1280 _ (by omega) xa1 r j).trans (hm _ _))
  · exact pieceM768 (ho := by omega) _ X N n (kernelRun0_C.sl.v216 c arg6 arg8 x2 x4 xa0) (kernelRun0_C.sl.v253 c xa1) (fun r => by have := r.isLt; simp only [hN, row]; omega) (s6 c arg6 arg8 x2 x4 xa0 X n hX) (fun r j => (rd1 1536 _ (by omega) xa1 r j).trans (hm _ _))
  · exact pieceM1024 (ho := by omega) _ X N n (kernelRun0_C.sl.v252 c arg6 arg8 x2 x4 xa0) (kernelRun0_C.sl.v284 c xa1) (fun r => by have := r.isLt; simp only [hN, row]; omega) (s7 c arg6 arg8 x2 x4 xa0 X n hX) (fun r j => (rd1 1792 _ (by omega) xa1 r j).trans (hm _ _))

theorem outL (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (xa1 : S2048x128.Idx → Elt Ideal .f32) (xa2 : S2048x128.Idx → Elt Ideal .f32) (X : Fin 2048 → ℕ → EReal) (N : Fin 2048 → ℕ) (n : ℕ)
    (hN : ∀ R : Fin 2048, N R = n + (R.val % 1024 / 256 + 1) * 256)
    (hX : ∀ R (r : Fin 1024), r.val = R.val % 1024 → ∀ (k : Fin 1024), (∑ d : Fin 128, xa0 (ix2 R d) * x2 (ix2 k d)) + x4 (ix4 0 0 r k) = X R (n + k.val))
    (hm : ∀ (R : Fin 2048) (j : Fin 128), xa1 (ix2 R j) = mx (X R) n)
    (hl : ∀ (R : Fin 2048) (j : Fin 128), xa2 (ix2 R j) = den (X R) n)
    (f : scM0_2.view.ty.Contents (Elt Ideal)) (y : S2048x128.Idx) :
    scM0_2.view.read (Elt Ideal) (scM0_2.view.writes (Elt Ideal) f (kernelRun0_C.sl.HS2_8 c arg6 arg8 x2 x4 xa0 xa1 xa2)) y = den (X (y 0)) (N (y 0)) := by
  refine rows8 scM0_2.view f _ (fun y => den (X (y 0)) (N (y 0))) _ _ ?_ _ _ ?_ _ _ ?_ _ _ ?_ _ _ ?_ _ _ ?_ _ _ ?_ _ _ ?_ y
  · exact pieceL256 (ho := by omega) _ X N n (kernelRun0_C.sl.v27 c arg6 arg8 x2 x4 xa0) _ _ (fun r => by have := r.isLt; simp only [hN, row]; omega) (s0 c arg6 arg8 x2 x4 xa0 X n hX) (fun r j => (rd1 0 _ (by omega) xa1 r j).trans (hm _ _)) (fun r j => (rd2 0 _ (by omega) xa2 r j).trans (hl _ _))
  · exact pieceL512 (ho := by omega) _ X N n (kernelRun0_C.sl.v33 c arg6 arg8 x2 x4 xa0) (kernelRun0_C.sl.v71 c xa1) _ (fun r => by have := r.isLt; simp only [hN, row]; omega) (s1 c arg6 arg8 x2 x4 xa0 X n hX) (fun r j => (rd1 256 _ (by omega) xa1 r j).trans (hm _ _)) (fun r j => (rd2 256 _ (by omega) xa2 r j).trans (hl _ _))
  · exact pieceL768 (ho := by omega) _ X N n (kernelRun0_C.sl.v70 c arg6 arg8 x2 x4 xa0) (kernelRun0_C.sl.v107 c xa1) _ (fun r => by have := r.isLt; simp only [hN, row]; omega) (s2 c arg6 arg8 x2 x4 xa0 X n hX) (fun r j => (rd1 512 _ (by omega) xa1 r j).trans (hm _ _)) (fun r j => (rd2 512 _ (by omega) xa2 r j).trans (hl _ _))
  · exact pieceL1024 (ho := by omega) _ X N n (kernelRun0_C.sl.v106 c arg6 arg8 x2 x4 xa0) (kernelRun0_C.sl.v144 c xa1) _ (fun r => by have := r.isLt; simp only [hN, row]; omega) (s3 c arg6 arg8 x2 x4 xa0 X n hX) (fun r j => (rd1 768 _ (by omega) xa1 r j).trans (hm _ _)) (fun r j => (rd2 768 _ (by omega) xa2 r j).trans (hl _ _))
  · exact pieceL256 (ho := by omega) _ X N n (kernelRun0_C.sl.v143 c arg6 arg8 x2 x4 xa0) (kernelRun0_C.sl.v180 c xa1) _ (fun r => by have := r.isLt; simp only [hN, row]; omega) (s4 c arg6 arg8 x2 x4 xa0 X n hX) (fun r j => (rd1 1024 _ (by omega) xa1 r j).trans (hm _ _)) (fun r j => (rd2 1024 _ (by omega) xa2 r j).trans (hl _ _))
  · exact pieceL512 (ho := by omega) _ X N n (kernelRun0_C.sl.v179 c arg6 arg8 x2 x4 xa0) (kernelRun0_C.sl.v217 c xa1) _ (fun r => by have := r.isLt; simp only [hN, row]; omega) (s5 c arg6 arg8 x2 x4 xa0 X n hX) (fun r j => (rd1 1280 _ (by omega) xa1 r j).trans (hm _ _)) (fun r j => (rd2 1280 _ (by omega) xa2 r j).trans (hl _ _))
  · exact pieceL768 (ho := by omega) _ X N n (kernelRun0_C.sl.v216 c arg6 arg8 x2 x4 xa0) (kernelRun0_C.sl.v253 c xa1) _ (fun r => by have := r.isLt; simp only [hN, row]; omega) (s6 c arg6 arg8 x2 x4 xa0 X n hX) (fun r j => (rd1 1536 _ (by omega) xa1 r j).trans (hm _ _)) (fun r j => (rd2 1536 _ (by omega) xa2 r j).trans (hl _ _))
  · exact pieceL1024 (ho := by omega) _ X N n (kernelRun0_C.sl.v252 c arg6 arg8 x2 x4 xa0) (kernelRun0_C.sl.v284 c xa1) _ (fun r => by have := r.isLt; simp only [hN, row]; omega) (s7 c arg6 arg8 x2 x4 xa0 X n hX) (fun r j => (rd1 1792 _ (by omega) xa1 r j).trans (hm _ _)) (fun r j => (rd2 1792 _ (by omega) xa2 r j).trans (hl _ _))

theorem outA (c : Dev nD) (arg6 : Memref sig .tc .vmem S1024x128 .f32) (arg7 : Memref sig .tc .vmem S1024x128 .f32) (arg8 : Memref sig .tc .vmem S1x2x1024x1024 .f32) (x2 : S1024x128.Idx → Elt Ideal .f32) (x3 : S1024x128.Idx → Elt Ideal .f32) (x4 : S1x2x1024x1024.Idx → Elt Ideal .f32) (xa0 : S2048x128.Idx → Elt Ideal .bf16) (xa1 : S2048x128.Idx → Elt Ideal .f32) (xa3 : S2048x128.Idx → Elt Ideal .f32) (X : Fin 2048 → ℕ → EReal) (Y : Fin 128 → ℕ → EReal) (N : Fin 2048 → ℕ) (n : ℕ)
    (hN : ∀ R : Fin 2048, N R = n + (R.val % 1024 / 256 + 1) * 256)
    (hX : ∀ R (r : Fin 1024), r.val = R.val % 1024 → ∀ (k : Fin 1024), (∑ d : Fin 128, xa0 (ix2 R d) * x2 (ix2 k d)) + x4 (ix4 0 0 r k) = X R (n + k.val))
    (hm : ∀ (R : Fin 2048) (j : Fin 128), xa1 (ix2 R j) = mx (X R) n)
    (hv : ∀ (k : Fin 1024) (j : Fin 128), x3 (ix2 k j) = Y j (n + k.val))
    (ha : ∀ (R : Fin 2048) (j : Fin 128), xa3 (ix2 R j) = num (X R) (Y j) n)
    (f : scM0_3.view.ty.Contents (Elt Ideal)) (y : S2048x128.Idx) :
    scM0_3.view.read (Elt Ideal) (scM0_3.view.writes (Elt Ideal) f (kernelRun0_C.sl.HS3_8 c arg6 arg7 arg8 x2 x3 x4 xa0 xa1 xa3)) y = num (X (y 0)) (Y (y 1)) (N (y 0)) := by
  refine rows8 scM0_3.view f _ (fun y => num (X (y 0)) (Y (y 1)) (N (y 0))) _ _ ?_ _ _ ?_ _ _ ?_ _ _ ?_ _ _ ?_ _ _ ?_ _ _ ?_ _ _ ?_ y
  · exact pieceA256 (ho := by omega) _ X Y N n _ (kernelRun0_C.sl.v27 c arg6 arg8 x2 x4 xa0) _ _ (fun r => by have := r.isLt; simp only [hN, row]; omega) (s0 c arg6 arg8 x2 x4 xa0 X n hX) (fun i j => ((slice256 _ i j).trans (kv _ _ _ _ _)).trans (hv _ _)) (fun r j => (rd1 0 _ (by omega) xa1 r j).trans (hm _ _)) (fun r j => (rd3 0 _ (by omega) xa3 r j).trans (ha _ _))
  · exact pieceA512 (ho := by omega) _ X Y N n _ (kernelRun0_C.sl.v33 c arg6 arg8 x2 x4 xa0) (kernelRun0_C.sl.v71 c xa1) _ (fun r => by have := r.isLt; simp only [hN, row]; omega) (s1 c arg6 arg8 x2 x4 xa0 X n hX) (fun i j => ((slice512 _ i j).trans (kv _ _ _ _ _)).trans (hv _ _)) (fun r j => (rd1 256 _ (by omega) xa1 r j).trans (hm _ _)) (fun r j => (rd3 256 _ (by omega) xa3 r j).trans (ha _ _))
  · exact pieceA768 (ho := by omega) _ X Y N n _ (kernelRun0_C.sl.v70 c arg6 arg8 x2 x4 xa0) (kernelRun0_C.sl.v107 c xa1) _ (fun r => by have := r.isLt; simp only [hN, row]; omega) (s2 c arg6 arg8 x2 x4 xa0 X n hX) (fun i j => ((slice768 _ i j).trans (kv _ _ _ _ _)).trans (hv _ _)) (fun r j => (rd1 512 _ (by omega) xa1 r j).trans (hm _ _)) (fun r j => (rd3 512 _ (by omega) xa3 r j).trans (ha _ _))
  · exact pieceA1024 (ho := by omega) _ X Y N n _ (kernelRun0_C.sl.v106 c arg6 arg8 x2 x4 xa0) (kernelRun0_C.sl.v144 c xa1) _ (fun r => by have := r.isLt; simp only [hN, row]; omega) (s3 c arg6 arg8 x2 x4 xa0 X n hX) (fun i j => (kv _ _ _ _ _).trans (hv _ _)) (fun r j => (rd1 768 _ (by omega) xa1 r j).trans (hm _ _)) (fun r j => (rd3 768 _ (by omega) xa3 r j).trans (ha _ _))
  · exact pieceA256 (ho := by omega) _ X Y N n _ (kernelRun0_C.sl.v143 c arg6 arg8 x2 x4 xa0) (kernelRun0_C.sl.v180 c xa1) _ (fun r => by have := r.isLt; simp only [hN, row]; omega) (s4 c arg6 arg8 x2 x4 xa0 X n hX) (fun i j => ((slice256 _ i j).trans (kv _ _ _ _ _)).trans (hv _ _)) (fun r j => (rd1 1024 _ (by omega) xa1 r j).trans (hm _ _)) (fun r j => (rd3 1024 _ (by omega) xa3 r j).trans (ha _ _))
  · exact pieceA512 (ho := by omega) _ X Y N n _ (kernelRun0_C.sl.v179 c arg6 arg8 x2 x4 xa0) (kernelRun0_C.sl.v217 c xa1) _ (fun r => by have := r.isLt; simp only [hN, row]; omega) (s5 c arg6 arg8 x2 x4 xa0 X n hX) (fun i j => ((slice512 _ i j).trans (kv _ _ _ _ _)).trans (hv _ _)) (fun r j => (rd1 1280 _ (by omega) xa1 r j).trans (hm _ _)) (fun r j => (rd3 1280 _ (by omega) xa3 r j).trans (ha _ _))
  · exact pieceA768 (ho := by omega) _ X Y N n _ (kernelRun0_C.sl.v216 c arg6 arg8 x2 x4 xa0) (kernelRun0_C.sl.v253 c xa1) _ (fun r => by have := r.isLt; simp only [hN, row]; omega) (s6 c arg6 arg8 x2 x4 xa0 X n hX) (fun i j => ((slice768 _ i j).trans (kv _ _ _ _ _)).trans (hv _ _)) (fun r j => (rd1 1536 _ (by omega) xa1 r j).trans (hm _ _)) (fun r j => (rd3 1536 _ (by omega) xa3 r j).trans (ha _ _))
  · exact pieceA1024 (ho := by omega) _ X Y N n _ (kernelRun0_C.sl.v252 c arg6 arg8 x2 x4 xa0) (kernelRun0_C.sl.v284 c xa1) _ (fun r => by have := r.isLt; simp only [hN, row]; omega) (s7 c arg6 arg8 x2 x4 xa0 X n hX) (fun i j => (kv _ _ _ _ _).trans (hv _ _)) (fun r j => (rd1 1792 _ (by omega) xa1 r j).trans (hm _ _)) (fun r j => (rd3 1792 _ (by omega) xa3 r j).trans (ha _ _))

end Cert.KernelIdeal.PathC
-- ==== Proof.Attn.PathD.lean ====
/- The stacked rows' running maximum, sum of weights and weighted sum of values after the first block of a row of blocks, far from the diagonal. -/
module

public import proofs.«01_k».proof.Proof.Attn.Rows

@[expose] public section

set_option maxRecDepth 16384
set_option maxHeartbeats 1000000

noncomputable section

namespace Cert.KernelIdeal.PathD

open Idealize.ShloMosaic Idealize.ShloMosaic.TcCoe Cert.KernelIdeal Cert.KernelIdeal.Gen Cert.KernelIdeal.Chunk Cert.KernelIdeal.Rows Cert.Online

theorem s0 (arg5 : Memref sig .tc .vmem S1024x128 .f32) (arg6 : Memref sig .tc .vmem S1024x128 .f32) (x1 : S1024x128.Idx → Elt Ideal .f32) (x2 : S1024x128.Idx → Elt Ideal .f32) (X : Fin 2048 → ℕ → EReal) (n : ℕ)
    (hX : ∀ R (k : Fin 1024), (∑ d : Fin 128, View.canon (kernelRun0_D.sl.HS0_2 arg5 x1) (ix2 R d) * x2 (ix2 k d)) = X R (n + k.val)) (r : Fin 256) (k : Fin 1024) :
    kernelRun0_D.sl.v23 arg5 arg6 x1 x2 (ix2 r k) = X (row 0 (by omega) r) (n + k.val) :=
  (scores1024 (ho := by omega) _ _ (fun R d => View.canon (kernelRun0_D.sl.HS0_2 arg5 x1) (ix2 R d)) x2 (fun r d => rdL _ 0 _ (by omega) _ r d) (fun i d => kv _ _ _ _ _) r k).trans (hX _ _)

theorem s1 (arg5 : Memref sig .tc .vmem S1024x128 .f32) (arg6 : Memref sig .tc .vmem S1024x128 .f32) (x1 : S1024x128.Idx → Elt Ideal .f32) (x2 : S1024x128.Idx → Elt Ideal .f32) (X : Fin 2048 → ℕ → EReal) (n : ℕ)
    (hX : ∀ R (k : Fin 1024), (∑ d : Fin 128, View.canon (kernelRun0_D.sl.HS0_2 arg5 x1) (ix2 R d) * x2 (ix2 k d)) = X R (n + k.val)) (r : Fin 256) (k : Fin 1024) :
    kernelRun0_D.sl.v25 arg5 arg6 x1 x2 (ix2 r k) = X (row 256 (by omega) r) (n + k.val) :=
  (scores1024 (ho := by omega) _ _ (fun R d => View.canon (kernelRun0_D.sl.HS0_2 arg5 x1) (ix2 R d)) x2 (fun r d => rdL _ 256 _ (by omega) _ r d) (fun i d => kv _ _ _ _ _) r k).trans (hX _ _)

theorem s2 (arg5 : Memref sig .tc .vmem S1024x128 .f32) (arg6 : Memref sig .tc .vmem S1024x128 .f32) (x1 : S1024x128.Idx → Elt Ideal .f32) (x2 : S1024x128.Idx → Elt Ideal .f32) (X : Fin 2048 → ℕ → EReal) (n : ℕ)
    (hX : ∀ R (k : Fin 1024), (∑ d : Fin 128, View.canon (kernelRun0_D.sl.HS0_2 arg5 x1) (ix2 R d) * x2 (ix2 k d)) = X R (n + k.val)) (r : Fin 256) (k : Fin 1024) :
    kernelRun0_D.sl.v57 arg5 arg6 x1 x2 (ix2 r k) = X (row 512 (by omega) r) (n + k.val) :=
  (scores1024 (ho := by omega) _ _ (fun R d => View.canon (kernelRun0_D.sl.HS0_2 arg5 x1) (ix2 R d)) x2 (fun r d => rdL _ 512 _ (by omega) _ r d) (fun i d => kv _ _ _ _ _) r k).trans (hX _ _)

theorem s3 (arg5 : Memref sig .tc .vmem S1024x128 .f32) (arg6 : Memref sig .tc .vmem S1024x128 .f32) (x1 : S1024x128.Idx → Elt Ideal .f32) (x2 : S1024x128.Idx → Elt Ideal .f32) (X : Fin 2048 → ℕ → EReal) (n : ℕ)
    (hX : ∀ R (k : Fin 1024), (∑ d : Fin 128, View.canon (kernelRun0_D.sl.HS0_2 arg5 x1) (ix2 R d) * x2 (ix2 k d)) = X R (n + k.val)) (r : Fin 256) (k : Fin 1024) :
    kernelRun0_D.sl.v89 arg5 arg6 x1 x2 (ix2 r k) = X (row 768 (by omega) r) (n + k.val) :=
  (scores1024 (ho := by omega) _ _ (fun R d => View.canon (kernelRun0_D.sl.HS0_2 arg5 x1) (ix2 R d)) x2 (fun r d => rdL _ 768 _ (by omega) _ r d) (fun i d => kv _ _ _ _ _) r k).trans (hX _ _)

theorem s4 (arg5 : Memref sig .tc .vmem S1024x128 .f32) (arg6 : Memref sig .tc .vmem S1024x128 .f32) (x1 : S1024x128.Idx → Elt Ideal .f32) (x2 : S1024x128.Idx → Elt Ideal .f32) (X : Fin 2048 → ℕ → EReal) (n : ℕ)
    (hX : ∀ R (k : Fin 1024), (∑ d : Fin 128, View.canon (kernelRun0_D.sl.HS0_2 arg5 x1) (ix2 R d) * x2 (ix2 k d)) = X R (n + k.val)) (r : Fin 256) (k : Fin 1024) :
    kernelRun0_D.sl.v121 arg5 arg6 x1 x2 (ix2 r k) = X (row 1024 (by omega) r) (n + k.val) :=
  (scores1024 (ho := by omega) _ _ (fun R d => View.canon (kernelRun0_D.sl.HS0_2 arg5 x1) (ix2 R d)) x2 (fun r d => rdL _ 1024 _ (by omega) _ r d) (fun i d => kv _ _ _ _ _) r k).trans (hX _ _)

theorem s5 (arg5 : Memref sig .tc .vmem S1024x128 .f32) (arg6 : Memref sig .tc .vmem S1024x128 .f32) (x1 : S1024x128.Idx → Elt Ideal .f32) (x2 : S1024x128.Idx → Elt Ideal .f32) (X : Fin 2048 → ℕ → EReal) (n : ℕ)
    (hX : ∀ R (k : Fin 1024), (∑ d : Fin 128, View.canon (kernelRun0_D.sl.HS0_2 arg5 x1) (ix2 R d) * x2 (ix2 k d)) = X R (n + k.val)) (r : Fin 256) (k : Fin 1024) :
    kernelRun0_D.sl.v153 arg5 arg6 x1 x2 (ix2 r k) = X (row 1280 (by omega) r) (n + k.val) :=
  (scores1024 (ho := by omega) _ _ (fun R d => View.canon (kernelRun0_D.sl.HS0_2 arg5 x1) (ix2 R d)) x2 (fun r d => rdL _ 1280 _ (by omega) _ r d) (fun i d => kv _ _ _ _ _) r k).trans (hX _ _)

theorem s6 (arg5 : Memref sig .tc .vmem S1024x128 .f32) (arg6 : Memref sig .tc .vmem S1024x128 .f32) (x1 : S1024x128.Idx → Elt Ideal .f32) (x2 : S1024x128.Idx → Elt Ideal .f32) (X : Fin 2048 → ℕ → EReal) (n : ℕ)
    (hX : ∀ R (k : Fin 1024), (∑ d : Fin 128, View.canon (kernelRun0_D.sl.HS0_2 arg5 x1) (ix2 R d) * x2 (ix2 k d)) = X R (n + k.val)) (r : Fin 256) (k : Fin 1024) :
    kernelRun0_D.sl.v185 arg5 arg6 x1 x2 (ix2 r k) = X (row 1536 (by omega) r) (n + k.val) :=
  (scores1024 (ho := by omega) _ _ (fun R d => View.canon (kernelRun0_D.sl.HS0_2 arg5 x1) (ix2 R d)) x2 (fun r d => rdL _ 1536 _ (by omega) _ r d) (fun i d => kv _ _ _ _ _) r k).trans (hX _ _)

theorem s7 (arg5 : Memref sig .tc .vmem S1024x128 .f32) (arg6 : Memref sig .tc .vmem S1024x128 .f32) (x1 : S1024x128.Idx → Elt Ideal .f32) (x2 : S1024x128.Idx → Elt Ideal .f32) (X : Fin 2048 → ℕ → EReal) (n : ℕ)
    (hX : ∀ R (k : Fin 1024), (∑ d : Fin 128, View.canon (kernelRun0_D.sl.HS0_2 arg5 x1) (ix2 R d) * x2 (ix2 k d)) = X R (n + k.val)) (r : Fin 256) (k : Fin 1024) :
    kernelRun0_D.sl.v217 arg5 arg6 x1 x2 (ix2 r k) = X (row 1792 (by omega) r) (n + k.val) :=
  (scores1024 (ho := by omega) _ _ (fun R d => View.canon (kernelRun0_D.sl.HS0_2 arg5 x1) (ix2 R d)) x2 (fun r d => rdL _ 1792 _ (by omega) _ r d) (fun i d => kv _ _ _ _ _) r k).trans (hX _ _)

theorem outM (arg5 : Memref sig .tc .vmem S1024x128 .f32) (arg6 : Memref sig .tc .vmem S1024x128 .f32) (x1 : S1024x128.Idx → Elt Ideal .f32) (x2 : S1024x128.Idx → Elt Ideal .f32) (X : Fin 2048 → ℕ → EReal) (N : Fin 2048 → ℕ) (n : ℕ)
    (hN : ∀ R : Fin 2048, N R = n + 1024)
    (hX : ∀ R (k : Fin 1024), (∑ d : Fin 128, View.canon (kernelRun0_D.sl.HS0_2 arg5 x1) (ix2 R d) * x2 (ix2 k d)) = X R (n + k.val))
    (hm : ∀ (R : Fin 2048) (j : Fin 128), (k0_pay4 (F := Ideal)) (ix2 R j) = mx (X R) n)
    (f : scM0_1.view.ty.Contents (Elt Ideal)) (y : S2048x128.Idx) :
    scM0_1.view.read (Elt Ideal) (scM0_1.view.writes (Elt Ideal) f (kernelRun0_D.sl.HS1_9 arg5 arg6 x1 x2)) y = mx (X (y 0)) (N (y 0)) := by
  refine rows8 scM0_1.view f _ (fun y => mx (X (y 0)) (N (y 0))) _ _ ?_ _ _ ?_ _ _ ?_ _ _ ?_ _ _ ?_ _ _ ?_ _ _ ?_ _ _ ?_ y
  · exact pieceM1024 (ho := by omega) _ X N n (kernelRun0_D.sl.v23 arg5 arg6 x1 x2) (kernelRun0_D.sl.v26) (fun r => hN _) (s0 arg5 arg6 x1 x2 X n hX) (fun r j => (rdL _ 0 _ (by omega) _ r j).trans ((fill _ _ _ _ _).trans (hm _ _)))
  · exact pieceM1024 (ho := by omega) _ X N n (kernelRun0_D.sl.v25 arg5 arg6 x1 x2) (kernelRun0_D.sl.v58 arg5 arg6 x1 x2) (fun r => hN _) (s1 arg5 arg6 x1 x2 X n hX) (fun r j => (rdL _ 256 _ (by omega) _ r j).trans ((skip (o := 256) (o' := 0) _ (by omega) _ _ r j (by omega)).trans ((fill _ _ _ _ _).trans (hm _ _))))
  · exact pieceM1024 (ho := by omega) _ X N n (kernelRun0_D.sl.v57 arg5 arg6 x1 x2) (kernelRun0_D.sl.v90 arg5 arg6 x1 x2) (fun r => hN _) (s2 arg5 arg6 x1 x2 X n hX) (fun r j => (rdL _ 512 _ (by omega) _ r j).trans ((skip (o := 512) (o' := 256) _ (by omega) _ _ r j (by omega)).trans ((skip (o := 512) (o' := 0) _ (by omega) _ _ r j (by omega)).trans ((fill _ _ _ _ _).trans (hm _ _)))))
  · exact pieceM1024 (ho := by omega) _ X N n (kernelRun0_D.sl.v89 arg5 arg6 x1 x2) (kernelRun0_D.sl.v122 arg5 arg6 x1 x2) (fun r => hN _) (s3 arg5 arg6 x1 x2 X n hX) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (hm _ _))))))
  · exact pieceM1024 (ho := by omega) _ X N n (kernelRun0_D.sl.v121 arg5 arg6 x1 x2) (kernelRun0_D.sl.v154 arg5 arg6 x1 x2) (fun r => hN _) (s4 arg5 arg6 x1 x2 X n hX) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (hm _ _)))))))
  · exact pieceM1024 (ho := by omega) _ X N n (kernelRun0_D.sl.v153 arg5 arg6 x1 x2) (kernelRun0_D.sl.v186 arg5 arg6 x1 x2) (fun r => hN _) (s5 arg5 arg6 x1 x2 X n hX) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (hm _ _))))))))
  · exact pieceM1024 (ho := by omega) _ X N n (kernelRun0_D.sl.v185 arg5 arg6 x1 x2) (kernelRun0_D.sl.v218 arg5 arg6 x1 x2) (fun r => hN _) (s6 arg5 arg6 x1 x2 X n hX) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (hm _ _)))))))))
  · exact pieceM1024 (ho := by omega) _ X N n (kernelRun0_D.sl.v217 arg5 arg6 x1 x2) (kernelRun0_D.sl.v248 arg5 arg6 x1 x2) (fun r => hN _) (s7 arg5 arg6 x1 x2 X n hX) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (hm _ _))))))))))

theorem outL (arg5 : Memref sig .tc .vmem S1024x128 .f32) (arg6 : Memref sig .tc .vmem S1024x128 .f32) (x1 : S1024x128.Idx → Elt Ideal .f32) (x2 : S1024x128.Idx → Elt Ideal .f32) (X : Fin 2048 → ℕ → EReal) (N : Fin 2048 → ℕ) (n : ℕ)
    (hN : ∀ R : Fin 2048, N R = n + 1024)
    (hX : ∀ R (k : Fin 1024), (∑ d : Fin 128, View.canon (kernelRun0_D.sl.HS0_2 arg5 x1) (ix2 R d) * x2 (ix2 k d)) = X R (n + k.val))
    (hm : ∀ (R : Fin 2048) (j : Fin 128), (k0_pay4 (F := Ideal)) (ix2 R j) = mx (X R) n)
    (hl : ∀ (R : Fin 2048) (j : Fin 128), (k0_pay5 (F := Ideal)) (ix2 R j) = den (X R) n)
    (f : scM0_2.view.ty.Contents (Elt Ideal)) (y : S2048x128.Idx) :
    scM0_2.view.read (Elt Ideal) (scM0_2.view.writes (Elt Ideal) f (kernelRun0_D.sl.HS2_9 arg5 arg6 x1 x2)) y = den (X (y 0)) (N (y 0)) := by
  refine rows8 scM0_2.view f _ (fun y => den (X (y 0)) (N (y 0))) _ _ ?_ _ _ ?_ _ _ ?_ _ _ ?_ _ _ ?_ _ _ ?_ _ _ ?_ _ _ ?_ y
  · exact pieceL1024 (ho := by omega) _ X N n (kernelRun0_D.sl.v23 arg5 arg6 x1 x2) (kernelRun0_D.sl.v26) _ (fun r => hN _) (s0 arg5 arg6 x1 x2 X n hX) (fun r j => (rdL _ 0 _ (by omega) _ r j).trans ((fill _ _ _ _ _).trans (hm _ _))) (fun r j => (rdL _ 0 _ (by omega) _ r j).trans ((fill _ _ _ _ _).trans (hl _ _)))
  · exact pieceL1024 (ho := by omega) _ X N n (kernelRun0_D.sl.v25 arg5 arg6 x1 x2) (kernelRun0_D.sl.v58 arg5 arg6 x1 x2) _ (fun r => hN _) (s1 arg5 arg6 x1 x2 X n hX) (fun r j => (rdL _ 256 _ (by omega) _ r j).trans ((skip (o := 256) (o' := 0) _ (by omega) _ _ r j (by omega)).trans ((fill _ _ _ _ _).trans (hm _ _)))) (fun r j => (rdL _ 256 _ (by omega) _ r j).trans ((skip (o := 256) (o' := 0) _ (by omega) _ _ r j (by omega)).trans ((fill _ _ _ _ _).trans (hl _ _))))
  · exact pieceL1024 (ho := by omega) _ X N n (kernelRun0_D.sl.v57 arg5 arg6 x1 x2) (kernelRun0_D.sl.v90 arg5 arg6 x1 x2) _ (fun r => hN _) (s2 arg5 arg6 x1 x2 X n hX) (fun r j => (rdL _ 512 _ (by omega) _ r j).trans ((skip (o := 512) (o' := 256) _ (by omega) _ _ r j (by omega)).trans ((skip (o := 512) (o' := 0) _ (by omega) _ _ r j (by omega)).trans ((fill _ _ _ _ _).trans (hm _ _))))) (fun r j => (rdL _ 512 _ (by omega) _ r j).trans ((skip (o := 512) (o' := 256) _ (by omega) _ _ r j (by omega)).trans ((skip (o := 512) (o' := 0) _ (by omega) _ _ r j (by omega)).trans ((fill _ _ _ _ _).trans (hl _ _)))))
  · exact pieceL1024 (ho := by omega) _ X N n (kernelRun0_D.sl.v89 arg5 arg6 x1 x2) (kernelRun0_D.sl.v122 arg5 arg6 x1 x2) _ (fun r => hN _) (s3 arg5 arg6 x1 x2 X n hX) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (hm _ _)))))) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (hl _ _))))))
  · exact pieceL1024 (ho := by omega) _ X N n (kernelRun0_D.sl.v121 arg5 arg6 x1 x2) (kernelRun0_D.sl.v154 arg5 arg6 x1 x2) _ (fun r => hN _) (s4 arg5 arg6 x1 x2 X n hX) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (hm _ _))))))) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (hl _ _)))))))
  · exact pieceL1024 (ho := by omega) _ X N n (kernelRun0_D.sl.v153 arg5 arg6 x1 x2) (kernelRun0_D.sl.v186 arg5 arg6 x1 x2) _ (fun r => hN _) (s5 arg5 arg6 x1 x2 X n hX) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (hm _ _)))))))) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (hl _ _))))))))
  · exact pieceL1024 (ho := by omega) _ X N n (kernelRun0_D.sl.v185 arg5 arg6 x1 x2) (kernelRun0_D.sl.v218 arg5 arg6 x1 x2) _ (fun r => hN _) (s6 arg5 arg6 x1 x2 X n hX) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (hm _ _))))))))) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (hl _ _)))))))))
  · exact pieceL1024 (ho := by omega) _ X N n (kernelRun0_D.sl.v217 arg5 arg6 x1 x2) (kernelRun0_D.sl.v248 arg5 arg6 x1 x2) _ (fun r => hN _) (s7 arg5 arg6 x1 x2 X n hX) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (hm _ _)))))))))) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (hl _ _))))))))))

theorem outA (arg5 : Memref sig .tc .vmem S1024x128 .f32) (arg6 : Memref sig .tc .vmem S1024x128 .f32) (arg7 : Memref sig .tc .vmem S1024x128 .f32) (x1 : S1024x128.Idx → Elt Ideal .f32) (x2 : S1024x128.Idx → Elt Ideal .f32) (x3 : S1024x128.Idx → Elt Ideal .f32) (X : Fin 2048 → ℕ → EReal) (Y : Fin 128 → ℕ → EReal) (N : Fin 2048 → ℕ) (n : ℕ)
    (hN : ∀ R : Fin 2048, N R = n + 1024)
    (hX : ∀ R (k : Fin 1024), (∑ d : Fin 128, View.canon (kernelRun0_D.sl.HS0_2 arg5 x1) (ix2 R d) * x2 (ix2 k d)) = X R (n + k.val))
    (hm : ∀ (R : Fin 2048) (j : Fin 128), (k0_pay4 (F := Ideal)) (ix2 R j) = mx (X R) n)
    (hv : ∀ (k : Fin 1024) (j : Fin 128), x3 (ix2 k j) = Y j (n + k.val))
    (ha : ∀ (R : Fin 2048) (j : Fin 128), (k0_pay6 (F := Ideal)) (ix2 R j) = num (X R) (Y j) n)
    (f : scM0_3.view.ty.Contents (Elt Ideal)) (y : S2048x128.Idx) :
    scM0_3.view.read (Elt Ideal) (scM0_3.view.writes (Elt Ideal) f (kernelRun0_D.sl.HS3_9 arg5 arg6 arg7 x1 x2 x3)) y = num (X (y 0)) (Y (y 1)) (N (y 0)) := by
  refine rows8 scM0_3.view f _ (fun y => num (X (y 0)) (Y (y 1)) (N (y 0))) _ _ ?_ _ _ ?_ _ _ ?_ _ _ ?_ _ _ ?_ _ _ ?_ _ _ ?_ _ _ ?_ y
  · exact pieceA1024 (ho := by omega) _ X Y N n _ (kernelRun0_D.sl.v23 arg5 arg6 x1 x2) (kernelRun0_D.sl.v26) _ (fun r => hN _) (s0 arg5 arg6 x1 x2 X n hX) (fun i j => (kv _ _ _ _ _).trans (hv _ _)) (fun r j => (rdL _ 0 _ (by omega) _ r j).trans ((fill _ _ _ _ _).trans (hm _ _))) (fun r j => (rdL _ 0 _ (by omega) _ r j).trans ((fill _ _ _ _ _).trans (ha _ _)))
  · exact pieceA1024 (ho := by omega) _ X Y N n _ (kernelRun0_D.sl.v25 arg5 arg6 x1 x2) (kernelRun0_D.sl.v58 arg5 arg6 x1 x2) _ (fun r => hN _) (s1 arg5 arg6 x1 x2 X n hX) (fun i j => (kv _ _ _ _ _).trans (hv _ _)) (fun r j => (rdL _ 256 _ (by omega) _ r j).trans ((skip (o := 256) (o' := 0) _ (by omega) _ _ r j (by omega)).trans ((fill _ _ _ _ _).trans (hm _ _)))) (fun r j => (rdL _ 256 _ (by omega) _ r j).trans ((skip (o := 256) (o' := 0) _ (by omega) _ _ r j (by omega)).trans ((fill _ _ _ _ _).trans (ha _ _))))
  · exact pieceA1024 (ho := by omega) _ X Y N n _ (kernelRun0_D.sl.v57 arg5 arg6 x1 x2) (kernelRun0_D.sl.v90 arg5 arg6 x1 x2) _ (fun r => hN _) (s2 arg5 arg6 x1 x2 X n hX) (fun i j => (kv _ _ _ _ _).trans (hv _ _)) (fun r j => (rdL _ 512 _ (by omega) _ r j).trans ((skip (o := 512) (o' := 256) _ (by omega) _ _ r j (by omega)).trans ((skip (o := 512) (o' := 0) _ (by omega) _ _ r j (by omega)).trans ((fill _ _ _ _ _).trans (hm _ _))))) (fun r j => (rdL _ 512 _ (by omega) _ r j).trans ((skip (o := 512) (o' := 256) _ (by omega) _ _ r j (by omega)).trans ((skip (o := 512) (o' := 0) _ (by omega) _ _ r j (by omega)).trans ((fill _ _ _ _ _).trans (ha _ _)))))
  · exact pieceA1024 (ho := by omega) _ X Y N n _ (kernelRun0_D.sl.v89 arg5 arg6 x1 x2) (kernelRun0_D.sl.v122 arg5 arg6 x1 x2) _ (fun r => hN _) (s3 arg5 arg6 x1 x2 X n hX) (fun i j => (kv _ _ _ _ _).trans (hv _ _)) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (hm _ _)))))) (fun r j => (rdL _ 768 _ (by omega) _ r j).trans ((skip (o := 768) (o' := 512) _ (by omega) _ _ r j (by omega)).trans ((skip (o := 768) (o' := 256) _ (by omega) _ _ r j (by omega)).trans ((skip (o := 768) (o' := 0) _ (by omega) _ _ r j (by omega)).trans ((fill _ _ _ _ _).trans (ha _ _))))))
  · exact pieceA1024 (ho := by omega) _ X Y N n _ (kernelRun0_D.sl.v121 arg5 arg6 x1 x2) (kernelRun0_D.sl.v154 arg5 arg6 x1 x2) _ (fun r => hN _) (s4 arg5 arg6 x1 x2 X n hX) (fun i j => (kv _ _ _ _ _).trans (hv _ _)) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (hm _ _))))))) (fun r j => (rdL _ 1024 _ (by omega) _ r j).trans ((skip (o := 1024) (o' := 768) _ (by omega) _ _ r j (by omega)).trans ((skip (o := 1024) (o' := 512) _ (by omega) _ _ r j (by omega)).trans ((skip (o := 1024) (o' := 256) _ (by omega) _ _ r j (by omega)).trans ((skip (o := 1024) (o' := 0) _ (by omega) _ _ r j (by omega)).trans ((fill _ _ _ _ _).trans (ha _ _)))))))
  · exact pieceA1024 (ho := by omega) _ X Y N n _ (kernelRun0_D.sl.v153 arg5 arg6 x1 x2) (kernelRun0_D.sl.v186 arg5 arg6 x1 x2) _ (fun r => hN _) (s5 arg5 arg6 x1 x2 X n hX) (fun i j => (kv _ _ _ _ _).trans (hv _ _)) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (hm _ _)))))))) (fun r j => (rdL _ 1280 _ (by omega) _ r j).trans ((skip (o := 1280) (o' := 1024) _ (by omega) _ _ r j (by omega)).trans ((skip (o := 1280) (o' := 768) _ (by omega) _ _ r j (by omega)).trans ((skip (o := 1280) (o' := 512) _ (by omega) _ _ r j (by omega)).trans ((skip (o := 1280) (o' := 256) _ (by omega) _ _ r j (by omega)).trans ((skip (o := 1280) (o' := 0) _ (by omega) _ _ r j (by omega)).trans ((fill _ _ _ _ _).trans (ha _ _))))))))
  · exact pieceA1024 (ho := by omega) _ X Y N n _ (kernelRun0_D.sl.v185 arg5 arg6 x1 x2) (kernelRun0_D.sl.v218 arg5 arg6 x1 x2) _ (fun r => hN _) (s6 arg5 arg6 x1 x2 X n hX) (fun i j => (kv _ _ _ _ _).trans (hv _ _)) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (hm _ _))))))))) (fun r j => (rdL _ 1536 _ (by omega) _ r j).trans ((skip (o := 1536) (o' := 1280) _ (by omega) _ _ r j (by omega)).trans ((skip (o := 1536) (o' := 1024) _ (by omega) _ _ r j (by omega)).trans ((skip (o := 1536) (o' := 768) _ (by omega) _ _ r j (by omega)).trans ((skip (o := 1536) (o' := 512) _ (by omega) _ _ r j (by omega)).trans ((skip (o := 1536) (o' := 256) _ (by omega) _ _ r j (by omega)).trans ((skip (o := 1536) (o' := 0) _ (by omega) _ _ r j (by omega)).trans ((fill _ _ _ _ _).trans (ha _ _)))))))))
  · exact pieceA1024 (ho := by omega) _ X Y N n _ (kernelRun0_D.sl.v217 arg5 arg6 x1 x2) (kernelRun0_D.sl.v248 arg5 arg6 x1 x2) _ (fun r => hN _) (s7 arg5 arg6 x1 x2 X n hX) (fun i j => (kv _ _ _ _ _).trans (hv _ _)) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (hm _ _)))))))))) (fun r j => (rdL _ 1792 _ (by omega) _ r j).trans ((skip (o := 1792) (o' := 1536) _ (by omega) _ _ r j (by omega)).trans ((skip (o := 1792) (o' := 1280) _ (by omega) _ _ r j (by omega)).trans ((skip (o := 1792) (o' := 1024) _ (by omega) _ _ r j (by omega)).trans ((skip (o := 1792) (o' := 768) _ (by omega) _ _ r j (by omega)).trans ((skip (o := 1792) (o' := 512) _ (by omega) _ _ r j (by omega)).trans ((skip (o := 1792) (o' := 256) _ (by omega) _ _ r j (by omega)).trans ((skip (o := 1792) (o' := 0) _ (by omega) _ _ r j (by omega)).trans ((fill _ _ _ _ _).trans (ha _ _))))))))))

end Cert.KernelIdeal.PathD
-- ==== Proof.Attn.PathE.lean ====
/- The stacked rows' running maximum, sum of weights and weighted sum of values after the block next to the diagonal, later in its row of blocks. -/
module

public import proofs.«01_k».proof.Proof.Attn.Rows

@[expose] public section

set_option maxRecDepth 16384
set_option maxHeartbeats 1000000

noncomputable section

namespace Cert.KernelIdeal.PathE

open Idealize.ShloMosaic Idealize.ShloMosaic.TcCoe Cert.KernelIdeal Cert.KernelIdeal.Gen Cert.KernelIdeal.Chunk Cert.KernelIdeal.Rows Cert.Online

theorem s0 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 1 r k) = X R (n + k.val)) (r : Fin 256) (k : Fin 1024) :
    kernelRun0_E.sl.v26 c arg6 arg8 x2 x4 xa0 (ix2 r k) = X (row 0 (by omega) r) (n + k.val) :=
  (congrArg₂ (fun a b : EReal => a + b) (scores1024 (ho := by omega) _ _ (fun R d => xa0 (ix2 R d)) x2 (fun r d => rd0 0 _ (by omega) xa0 r d) (fun i d => kv _ _ _ _ _) r k) (bias1024 1 0 (by omega) (by omega) _ x4 _ r k)).trans
    (hX _ _ (by have := r.isLt; simp only [row]; omega) k)

theorem s1 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 1 r k) = X R (n + k.val)) (r : Fin 256) (k : Fin 1024) :
    kernelRun0_E.sl.v31 c arg6 arg8 x2 x4 xa0 (ix2 r k) = X (row 256 (by omega) r) (n + k.val) :=
  (congrArg₂ (fun a b : EReal => a + b) (scores1024 (ho := by omega) _ _ (fun R d => xa0 (ix2 R d)) x2 (fun r d => rd0 256 _ (by omega) xa0 r d) (fun i d => kv _ _ _ _ _) r k) (bias1024 1 256 (by omega) (by omega) _ x4 _ r k)).trans
    (hX _ _ (by have := r.isLt; simp only [row]; omega) k)

theorem s2 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 1 r k) = X R (n + k.val)) (r : Fin 256) (k : Fin 1024) :
    kernelRun0_E.sl.v66 c arg6 arg8 x2 x4 xa0 (ix2 r k) = X (row 512 (by omega) r) (n + k.val) :=
  (congrArg₂ (fun a b : EReal => a + b) (scores1024 (ho := by omega) _ _ (fun R d => xa0 (ix2 R d)) x2 (fun r d => rd0 512 _ (by omega) xa0 r d) (fun i d => kv _ _ _ _ _) r k) (bias1024 1 512 (by omega) (by omega) _ x4 _ r k)).trans
    (hX _ _ (by have := r.isLt; simp only [row]; omega) k)

theorem s3 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 1 r k) = X R (n + k.val)) (r : Fin 256) (k : Fin 1024) :
    kernelRun0_E.sl.v101 c arg6 arg8 x2 x4 xa0 (ix2 r k) = X (row 768 (by omega) r) (n + k.val) :=
  (congrArg₂ (fun a b : EReal => a + b) (scores1024 (ho := by omega) _ _ (fun R d => xa0 (ix2 R d)) x2 (fun r d => rd0 768 _ (by omega) xa0 r d) (fun i d => kv _ _ _ _ _) r k) (bias1024 1 768 (by omega) (by omega) _ x4 _ r k)).trans
    (hX _ _ (by have := r.isLt; simp only [row]; omega) k)

theorem s4 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 1 r k) = X R (n + k.val)) (r : Fin 256) (k : Fin 1024) :
    kernelRun0_E.sl.v136 c arg6 arg8 x2 x4 xa0 (ix2 r k) = X (row 1024 (by omega) r) (n + k.val) :=
  (congrArg₂ (fun a b : EReal => a + b) (scores1024 (ho := by omega) _ _ (fun R d => xa0 (ix2 R d)) x2 (fun r d => rd0 1024 _ (by omega) xa0 r d) (fun i d => kv _ _ _ _ _) r k) (bias1024 1 0 (by omega) (by omega) _ x4 _ r k)).trans
    (hX _ _ (by have := r.isLt; simp only [row]; omega) k)

theorem s5 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 1 r k) = X R (n + k.val)) (r : Fin 256) (k : Fin 1024) :
    kernelRun0_E.sl.v171 c arg6 arg8 x2 x4 xa0 (ix2 r k) = X (row 1280 (by omega) r) (n + k.val) :=
  (congrArg₂ (fun a b : EReal => a + b) (scores1024 (ho := by omega) _ _ (fun R d => xa0 (ix2 R d)) x2 (fun r d => rd0 1280 _ (by omega) xa0 r d) (fun i d => kv _ _ _ _ _) r k) (bias1024 1 256 (by omega) (by omega) _ x4 _ r k)).trans
    (hX _ _ (by have := r.isLt; simp only [row]; omega) k)

theorem s6 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 1 r k) = X R (n + k.val)) (r : Fin 256) (k : Fin 1024) :
    kernelRun0_E.sl.v206 c arg6 arg8 x2 x4 xa0 (ix2 r k) = X (row 1536 (by omega) r) (n + k.val) :=
  (congrArg₂ (fun a b : EReal => a + b) (scores1024 (ho := by omega) _ _ (fun R d => xa0 (ix2 R d)) x2 (fun r d => rd0 1536 _ (by omega) xa0 r d) (fun i d => kv _ _ _ _ _) r k) (bias1024 1 512 (by omega) (by omega) _ x4 _ r k)).trans
    (hX _ _ (by have := r.isLt; simp only [row]; omega) k)

theorem s7 (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (X : Fin 2048 → ℕ → EReal) (n : ℕ)
    (hX : ∀ R (r : Fin 1024), r.val = R.val % 1024 → ∀ (k : Fin 1024), (∑ d : Fin 128, xa0 (ix2 R d) * x2 (ix2 k d)) + x4 (ix4 0 1 r k) = X R (n + k.val)) (r : Fin 256) (k : Fin 1024) :
    kernelRun0_E.sl.v241 c arg6 arg8 x2 x4 xa0 (ix2 r k) = X (row 1792 (by omega) r) (n + k.val) :=
  (congrArg₂ (fun a b : EReal => a + b) (scores1024 (ho := by omega) _ _ (fun R d => xa0 (ix2 R d)) x2 (fun r d => rd0 1792 _ (by omega) xa0 r d) (fun i d => kv _ _ _ _ _) r k) (bias1024 1 768 (by omega) (by omega) _ x4 _ r k)).trans
    (hX _ _ (by have := r.isLt; simp only [row]; omega) k)

theorem outM (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (xa1 : S2048x128.Idx → Elt Ideal .f32) (X : Fin 2048 → ℕ → EReal) (N : Fin 2048 → ℕ) (n : ℕ)
    (hN : ∀ R : Fin 2048, N R = n + 1024)
    (hX : ∀ R (r : Fin 1024), r.val = R.val % 1024 → ∀ (k : Fin 1024), (∑ d : Fin 128, xa0 (ix2 R d) * x2 (ix2 k d)) + x4 (ix4 0 1 r k) = X R (n + k.val))
    (hm : ∀ (R : Fin 2048) (j : Fin 128), xa1 (ix2 R j) = mx (X R) n)
    (f : scM0_1.view.ty.Contents (Elt Ideal)) (y : S2048x128.Idx) :
    scM0_1.view.read (Elt Ideal) (scM0_1.view.writes (Elt Ideal) f (kernelRun0_E.sl.HS1_8 c arg6 arg8 x2 x4 xa0 xa1)) y = mx (X (y 0)) (N (y 0)) := by
  refine rows8 scM0_1.view f _ (fun y => mx (X (y 0)) (N (y 0))) _ _ ?_ _ _ ?_ _ _ ?_ _ _ ?_ _ _ ?_ _ _ ?_ _ _ ?_ _ _ ?_ y
  · exact pieceM1024 (ho := by omega) _ X N n (kernelRun0_E.sl.v26 c arg6 arg8 x2 x4 xa0) _ (fun r => hN _) (s0 c arg6 arg8 x2 x4 xa0 X n hX) (fun r j => (rd1 0 _ (by omega) xa1 r j).trans (hm _ _))
  · exact pieceM1024 (ho := by omega) _ X N n (kernelRun0_E.sl.v31 c arg6 arg8 x2 x4 xa0) (kernelRun0_E.sl.v67 c xa1) (fun r => hN _) (s1 c arg6 arg8 x2 x4 xa0 X n hX) (fun r j => (rd1 256 _ (by omega) xa1 r j).trans (hm _ _))
  · exact pieceM1024 (ho := by omega) _ X N n (kernelRun0_E.sl.v66 c arg6 arg8 x2 x4 xa0) (kernelRun0_E.sl.v102 c xa1) (fun r => hN _) (s2 c arg6 arg8 x2 x4 xa0 X n hX) (fun r j => (rd1 512 _ (by omega) xa1 r j).trans (hm _ _))
  · exact pieceM1024 (ho := by omega) _ X N n (kernelRun0_E.sl.v101 c arg6 arg8 x2 x4 xa0) (kernelRun0_E.sl.v137 c xa1) (fun r => hN _) (s3 c arg6 arg8 x2 x4 xa0 X n hX) (fun r j => (rd1 768 _ (by omega) xa1 r j).trans (hm _ _))
  · exact pieceM1024 (ho := by omega) _ X N n (kernelRun0_E.sl.v136 c arg6 arg8 x2 x4 xa0) (kernelRun0_E.sl.v172 c xa1) (fun r => hN _) (s4 c arg6 arg8 x2 x4 xa0 X n hX) (fun r j => (rd1 1024 _ (by omega) xa1 r j).trans (hm _ _))
  · exact pieceM1024 (ho := by omega) _ X N n (kernelRun0_E.sl.v171 c arg6 arg8 x2 x4 xa0) (kernelRun0_E.sl.v207 c xa1) (fun r => hN _) (s5 c arg6 arg8 x2 x4 xa0 X n hX) (fun r j => (rd1 1280 _ (by omega) xa1 r j).trans (hm _ _))
  · exact pieceM1024 (ho := by omega) _ X N n (kernelRun0_E.sl.v206 c arg6 arg8 x2 x4 xa0) (kernelRun0_E.sl.v242 c xa1) (fun r => hN _) (s6 c arg6 arg8 x2 x4 xa0 X n hX) (fun r j => (rd1 1536 _ (by omega) xa1 r j).trans (hm _ _))
  · exact pieceM1024 (ho := by omega) _ X N n (kernelRun0_E.sl.v241 c arg6 arg8 x2 x4 xa0) (kernelRun0_E.sl.v272 c xa1) (fun r => hN _) (s7 c arg6 arg8 x2 x4 xa0 X n hX) (fun r j => (rd1 1792 _ (by omega) xa1 r j).trans (hm _ _))

theorem outL (c : Dev nD) (arg6 : Memref sig .tc .vmem S1024x128 .f32) (arg8 : Memref sig .tc .vmem S1x2x1024x1024 .f32) (x2 : S1024x128.Idx → Elt Ideal .f32) (x4 : S1x2x1024x1024.Idx → Elt Ideal .f32) (xa0 : S2048x128.Idx → Elt Ideal .bf16) (xa1 : S2048x128.Idx → Elt Ideal .f32) (xa2 : S2048x128.Idx → Elt Ideal .f32) (X : Fin 2048 → ℕ → EReal) (N : Fin 2048 → ℕ) (n : ℕ)
    (hN : ∀ R : Fin 2048, N R = n + 1024)
    (hX : ∀ R (r : Fin 1024), r.val = R.val % 1024 → ∀ (k : Fin 1024), (∑ d : Fin 128, xa0 (ix2 R d) * x2 (ix2 k d)) + x4 (ix4 0 1 r k) = X R (n + k.val))
    (hm : ∀ (R : Fin 2048) (j : Fin 128), xa1 (ix2 R j) = mx (X R) n)
    (hl : ∀ (R : Fin 2048) (j : Fin 128), xa2 (ix2 R j) = den (X R) n)
    (f : scM0_2.view.ty.Contents (Elt Ideal)) (y : S2048x128.Idx) :
    scM0_2.view.read (Elt Ideal) (scM0_2.view.writes (Elt Ideal) f (kernelRun0_E.sl.HS2_8 c arg6 arg8 x2 x4 xa0 xa1 xa2)) y = den (X (y 0)) (N (y 0)) := by
  refine rows8 scM0_2.view f _ (fun y => den (X (y 0)) (N (y 0))) _ _ ?_ _ _ ?_ _ _ ?_ _ _ ?_ _ _ ?_ _ _ ?_ _ _ ?_ _ _ ?_ y
  · exact pieceL1024 (ho := by omega) _ X N n (kernelRun0_E.sl.v26 c arg6 arg8 x2 x4 xa0) _ _ (fun r => hN _) (s0 c arg6 arg8 x2 x4 xa0 X n hX) (fun r j => (rd1 0 _ (by omega) xa1 r j).trans (hm _ _)) (fun r j => (rd2 0 _ (by omega) xa2 r j).trans (hl _ _))
  · exact pieceL1024 (ho := by omega) _ X N n (kernelRun0_E.sl.v31 c arg6 arg8 x2 x4 xa0) (kernelRun0_E.sl.v67 c xa1) _ (fun r => hN _) (s1 c arg6 arg8 x2 x4 xa0 X n hX) (fun r j => (rd1 256 _ (by omega) xa1 r j).trans (hm _ _)) (fun r j => (rd2 256 _ (by omega) xa2 r j).trans (hl _ _))
  · exact pieceL1024 (ho := by omega) _ X N n (kernelRun0_E.sl.v66 c arg6 arg8 x2 x4 xa0) (kernelRun0_E.sl.v102 c xa1) _ (fun r => hN _) (s2 c arg6 arg8 x2 x4 xa0 X n hX) (fun r j => (rd1 512 _ (by omega) xa1 r j).trans (hm _ _)) (fun r j => (rd2 512 _ (by omega) xa2 r j).trans (hl _ _))
  · exact pieceL1024 (ho := by omega) _ X N n (kernelRun0_E.sl.v101 c arg6 arg8 x2 x4 xa0) (kernelRun0_E.sl.v137 c xa1) _ (fun r => hN _) (s3 c arg6 arg8 x2 x4 xa0 X n hX) (fun r j => (rd1 768 _ (by omega) xa1 r j).trans (hm _ _)) (fun r j => (rd2 768 _ (by omega) xa2 r j).trans (hl _ _))
  · exact pieceL1024 (ho := by omega) _ X N n (kernelRun0_E.sl.v136 c arg6 arg8 x2 x4 xa0) (kernelRun0_E.sl.v172 c xa1) _ (fun r => hN _) (s4 c arg6 arg8 x2 x4 xa0 X n hX) (fun r j => (rd1 1024 _ (by omega) xa1 r j).trans (hm _ _)) (fun r j => (rd2 1024 _ (by omega) xa2 r j).trans (hl _ _))
  · exact pieceL1024 (ho := by omega) _ X N n (kernelRun0_E.sl.v171 c arg6 arg8 x2 x4 xa0) (kernelRun0_E.sl.v207 c xa1) _ (fun r => hN _) (s5 c arg6 arg8 x2 x4 xa0 X n hX) (fun r j => (rd1 1280 _ (by omega) xa1 r j).trans (hm _ _)) (fun r j => (rd2 1280 _ (by omega) xa2 r j).trans (hl _ _))
  · exact pieceL1024 (ho := by omega) _ X N n (kernelRun0_E.sl.v206 c arg6 arg8 x2 x4 xa0) (kernelRun0_E.sl.v242 c xa1) _ (fun r => hN _) (s6 c arg6 arg8 x2 x4 xa0 X n hX) (fun r j => (rd1 1536 _ (by omega) xa1 r j).trans (hm _ _)) (fun r j => (rd2 1536 _ (by omega) xa2 r j).trans (hl _ _))
  · exact pieceL1024 (ho := by omega) _ X N n (kernelRun0_E.sl.v241 c arg6 arg8 x2 x4 xa0) (kernelRun0_E.sl.v272 c xa1) _ (fun r => hN _) (s7 c arg6 arg8 x2 x4 xa0 X n hX) (fun r j => (rd1 1792 _ (by omega) xa1 r j).trans (hm _ _)) (fun r j => (rd2 1792 _ (by omega) xa2 r j).trans (hl _ _))

theorem outA (c : Dev nD) (arg6 : Memref sig .tc .vmem S1024x128 .f32) (arg7 : Memref sig .tc .vmem S1024x128 .f32) (arg8 : Memref sig .tc .vmem S1x2x1024x1024 .f32) (x2 : S1024x128.Idx → Elt Ideal .f32) (x3 : S1024x128.Idx → Elt Ideal .f32) (x4 : S1x2x1024x1024.Idx → Elt Ideal .f32) (xa0 : S2048x128.Idx → Elt Ideal .bf16) (xa1 : S2048x128.Idx → Elt Ideal .f32) (xa3 : S2048x128.Idx → Elt Ideal .f32) (X : Fin 2048 → ℕ → EReal) (Y : Fin 128 → ℕ → EReal) (N : Fin 2048 → ℕ) (n : ℕ)
    (hN : ∀ R : Fin 2048, N R = n + 1024)
    (hX : ∀ R (r : Fin 1024), r.val = R.val % 1024 → ∀ (k : Fin 1024), (∑ d : Fin 128, xa0 (ix2 R d) * x2 (ix2 k d)) + x4 (ix4 0 1 r k) = X R (n + k.val))
    (hm : ∀ (R : Fin 2048) (j : Fin 128), xa1 (ix2 R j) = mx (X R) n)
    (hv : ∀ (k : Fin 1024) (j : Fin 128), x3 (ix2 k j) = Y j (n + k.val))
    (ha : ∀ (R : Fin 2048) (j : Fin 128), xa3 (ix2 R j) = num (X R) (Y j) n)
    (f : scM0_3.view.ty.Contents (Elt Ideal)) (y : S2048x128.Idx) :
    scM0_3.view.read (Elt Ideal) (scM0_3.view.writes (Elt Ideal) f (kernelRun0_E.sl.HS3_8 c arg6 arg7 arg8 x2 x3 x4 xa0 xa1 xa3)) y = num (X (y 0)) (Y (y 1)) (N (y 0)) := by
  refine rows8 scM0_3.view f _ (fun y => num (X (y 0)) (Y (y 1)) (N (y 0))) _ _ ?_ _ _ ?_ _ _ ?_ _ _ ?_ _ _ ?_ _ _ ?_ _ _ ?_ _ _ ?_ y
  · exact pieceA1024 (ho := by omega) _ X Y N n _ (kernelRun0_E.sl.v26 c arg6 arg8 x2 x4 xa0) _ _ (fun r => hN _) (s0 c arg6 arg8 x2 x4 xa0 X n hX) (fun i j => (kv _ _ _ _ _).trans (hv _ _)) (fun r j => (rd1 0 _ (by omega) xa1 r j).trans (hm _ _)) (fun r j => (rd3 0 _ (by omega) xa3 r j).trans (ha _ _))
  · exact pieceA1024 (ho := by omega) _ X Y N n _ (kernelRun0_E.sl.v31 c arg6 arg8 x2 x4 xa0) (kernelRun0_E.sl.v67 c xa1) _ (fun r => hN _) (s1 c arg6 arg8 x2 x4 xa0 X n hX) (fun i j => (kv _ _ _ _ _).trans (hv _ _)) (fun r j => (rd1 256 _ (by omega) xa1 r j).trans (hm _ _)) (fun r j => (rd3 256 _ (by omega) xa3 r j).trans (ha _ _))
  · exact pieceA1024 (ho := by omega) _ X Y N n _ (kernelRun0_E.sl.v66 c arg6 arg8 x2 x4 xa0) (kernelRun0_E.sl.v102 c xa1) _ (fun r => hN _) (s2 c arg6 arg8 x2 x4 xa0 X n hX) (fun i j => (kv _ _ _ _ _).trans (hv _ _)) (fun r j => (rd1 512 _ (by omega) xa1 r j).trans (hm _ _)) (fun r j => (rd3 512 _ (by omega) xa3 r j).trans (ha _ _))
  · exact pieceA1024 (ho := by omega) _ X Y N n _ (kernelRun0_E.sl.v101 c arg6 arg8 x2 x4 xa0) (kernelRun0_E.sl.v137 c xa1) _ (fun r => hN _) (s3 c arg6 arg8 x2 x4 xa0 X n hX) (fun i j => (kv _ _ _ _ _).trans (hv _ _)) (fun r j => (rd1 768 _ (by omega) xa1 r j).trans (hm _ _)) (fun r j => (rd3 768 _ (by omega) xa3 r j).trans (ha _ _))
  · exact pieceA1024 (ho := by omega) _ X Y N n _ (kernelRun0_E.sl.v136 c arg6 arg8 x2 x4 xa0) (kernelRun0_E.sl.v172 c xa1) _ (fun r => hN _) (s4 c arg6 arg8 x2 x4 xa0 X n hX) (fun i j => (kv _ _ _ _ _).trans (hv _ _)) (fun r j => (rd1 1024 _ (by omega) xa1 r j).trans (hm _ _)) (fun r j => (rd3 1024 _ (by omega) xa3 r j).trans (ha _ _))
  · exact pieceA1024 (ho := by omega) _ X Y N n _ (kernelRun0_E.sl.v171 c arg6 arg8 x2 x4 xa0) (kernelRun0_E.sl.v207 c xa1) _ (fun r => hN _) (s5 c arg6 arg8 x2 x4 xa0 X n hX) (fun i j => (kv _ _ _ _ _).trans (hv _ _)) (fun r j => (rd1 1280 _ (by omega) xa1 r j).trans (hm _ _)) (fun r j => (rd3 1280 _ (by omega) xa3 r j).trans (ha _ _))
  · exact pieceA1024 (ho := by omega) _ X Y N n _ (kernelRun0_E.sl.v206 c arg6 arg8 x2 x4 xa0) (kernelRun0_E.sl.v242 c xa1) _ (fun r => hN _) (s6 c arg6 arg8 x2 x4 xa0 X n hX) (fun i j => (kv _ _ _ _ _).trans (hv _ _)) (fun r j => (rd1 1536 _ (by omega) xa1 r j).trans (hm _ _)) (fun r j => (rd3 1536 _ (by omega) xa3 r j).trans (ha _ _))
  · exact pieceA1024 (ho := by omega) _ X Y N n _ (kernelRun0_E.sl.v241 c arg6 arg8 x2 x4 xa0) (kernelRun0_E.sl.v272 c xa1) _ (fun r => hN _) (s7 c arg6 arg8 x2 x4 xa0 X n hX) (fun i j => (kv _ _ _ _ _).trans (hv _ _)) (fun r j => (rd1 1792 _ (by omega) xa1 r j).trans (hm _ _)) (fun r j => (rd3 1792 _ (by omega) xa3 r j).trans (ha _ _))

end Cert.KernelIdeal.PathE
-- ==== Proof.Attn.PathF.lean ====
/- The stacked rows' running maximum, sum of weights and weighted sum of values after a block far from the diagonal, later in its row of blocks. -/
module

public import proofs.«01_k».proof.Proof.Attn.Rows

@[expose] public section

set_option maxRecDepth 16384
set_option maxHeartbeats 1000000

noncomputable section

namespace Cert.KernelIdeal.PathF

open Idealize.ShloMosaic Idealize.ShloMosaic.TcCoe Cert.KernelIdeal Cert.KernelIdeal.Gen Cert.KernelIdeal.Chunk Cert.KernelIdeal.Rows Cert.Online

theorem s0 (c : Dev nD) (arg6 : Memref sig .tc .vmem S1024x128 .f32) (x2 : S1024x128.Idx → Elt Ideal .f32) (xa0 : S2048x128.Idx → Elt Ideal .bf16) (X : Fin 2048 → ℕ → EReal) (n : ℕ)
    (hX : ∀ R (k : Fin 1024), (∑ d : Fin 128, xa0 (ix2 R d) * x2 (ix2 k d)) = X R (n + k.val)) (r : Fin 256) (k : Fin 1024) :
    kernelRun0_F.sl.v23 c arg6 x2 xa0 (ix2 r k) = X (row 0 (by omega) r) (n + k.val) :=
  (scores1024 (ho := by omega) _ _ (fun R d => xa0 (ix2 R d)) x2 (fun r d => rd0 0 _ (by omega) xa0 r d) (fun i d => kv _ _ _ _ _) r k).trans (hX _ _)

theorem s1 (c : Dev nD) (arg6 : Memref sig .tc .vmem S1024x128 .f32) (x2 : S1024x128.Idx → Elt Ideal .f32) (xa0 : S2048x128.Idx → Elt Ideal .bf16) (X : Fin 2048 → ℕ → EReal) (n : ℕ)
    (hX : ∀ R (k : Fin 1024), (∑ d : Fin 128, xa0 (ix2 R d) * x2 (ix2 k d)) = X R (n + k.val)) (r : Fin 256) (k : Fin 1024) :
    kernelRun0_F.sl.v25 c arg6 x2 xa0 (ix2 r k) = X (row 256 (by omega) r) (n + k.val) :=
  (scores1024 (ho := by omega) _ _ (fun R d => xa0 (ix2 R d)) x2 (fun r d => rd0 256 _ (by omega) xa0 r d) (fun i d => kv _ _ _ _ _) r k).trans (hX _ _)

theorem s2 (c : Dev nD) (arg6 : Memref sig .tc .vmem S1024x128 .f32) (x2 : S1024x128.Idx → Elt Ideal .f32) (xa0 : S2048x128.Idx → Elt Ideal .bf16) (X : Fin 2048 → ℕ → EReal) (n : ℕ)
    (hX : ∀ R (k : Fin 1024), (∑ d : Fin 128, xa0 (ix2 R d) * x2 (ix2 k d)) = X R (n + k.val)) (r : Fin 256) (k : Fin 1024) :
    kernelRun0_F.sl.v57 c arg6 x2 xa0 (ix2 r k) = X (row 512 (by omega) r) (n + k.val) :=
  (scores1024 (ho := by omega) _ _ (fun R d => xa0 (ix2 R d)) x2 (fun r d => rd0 512 _ (by omega) xa0 r d) (fun i d => kv _ _ _ _ _) r k).trans (hX _ _)

theorem s3 (c : Dev nD) (arg6 : Memref sig .tc .vmem S1024x128 .f32) (x2 : S1024x128.Idx → Elt Ideal .f32) (xa0 : S2048x128.Idx → Elt Ideal .bf16) (X : Fin 2048 → ℕ → EReal) (n : ℕ)
    (hX : ∀ R (k : Fin 1024), (∑ d : Fin 128, xa0 (ix2 R d) * x2 (ix2 k d)) = X R (n + k.val)) (r : Fin 256) (k : Fin 1024) :
    kernelRun0_F.sl.v89 c arg6 x2 xa0 (ix2 r k) = X (row 768 (by omega) r) (n + k.val) :=
  (scores1024 (ho := by omega) _ _ (fun R d => xa0 (ix2 R d)) x2 (fun r d => rd0 768 _ (by omega) xa0 r d) (fun i d => kv _ _ _ _ _) r k).trans (hX _ _)

theorem s4 (c : Dev nD) (arg6 : Memref sig .tc .vmem S1024x128 .f32) (x2 : S1024x128.Idx → Elt Ideal .f32) (xa0 : S2048x128.Idx → Elt Ideal .bf16) (X : Fin 2048 → ℕ → EReal) (n : ℕ)
    (hX : ∀ R (k : Fin 1024), (∑ d : Fin 128, xa0 (ix2 R d) * x2 (ix2 k d)) = X R (n + k.val)) (r : Fin 256) (k : Fin 1024) :
    kernelRun0_F.sl.v121 c arg6 x2 xa0 (ix2 r k) = X (row 1024 (by omega) r) (n + k.val) :=
  (scores1024 (ho := by omega) _ _ (fun R d => xa0 (ix2 R d)) x2 (fun r d => rd0 1024 _ (by omega) xa0 r d) (fun i d => kv _ _ _ _ _) r k).trans (hX _ _)

theorem s5 (c : Dev nD) (arg6 : Memref sig .tc .vmem S1024x128 .f32) (x2 : S1024x128.Idx → Elt Ideal .f32) (xa0 : S2048x128.Idx → Elt Ideal .bf16) (X : Fin 2048 → ℕ → EReal) (n : ℕ)
    (hX : ∀ R (k : Fin 1024), (∑ d : Fin 128, xa0 (ix2 R d) * x2 (ix2 k d)) = X R (n + k.val)) (r : Fin 256) (k : Fin 1024) :
    kernelRun0_F.sl.v153 c arg6 x2 xa0 (ix2 r k) = X (row 1280 (by omega) r) (n + k.val) :=
  (scores1024 (ho := by omega) _ _ (fun R d => xa0 (ix2 R d)) x2 (fun r d => rd0 1280 _ (by omega) xa0 r d) (fun i d => kv _ _ _ _ _) r k).trans (hX _ _)

theorem s6 (c : Dev nD) (arg6 : Memref sig .tc .vmem S1024x128 .f32) (x2 : S1024x128.Idx → Elt Ideal .f32) (xa0 : S2048x128.Idx → Elt Ideal .bf16) (X : Fin 2048 → ℕ → EReal) (n : ℕ)
    (hX : ∀ R (k : Fin 1024), (∑ d : Fin 128, xa0 (ix2 R d) * x2 (ix2 k d)) = X R (n + k.val)) (r : Fin 256) (k : Fin 1024) :
    kernelRun0_F.sl.v185 c arg6 x2 xa0 (ix2 r k) = X (row 1536 (by omega) r) (n + k.val) :=
  (scores1024 (ho := by omega) _ _ (fun R d => xa0 (ix2 R d)) x2 (fun r d => rd0 1536 _ (by omega) xa0 r d) (fun i d => kv _ _ _ _ _) r k).trans (hX _ _)

theorem s7 (c : Dev nD) (arg6 : Memref sig .tc .vmem S1024x128 .f32) (x2 : S1024x128.Idx → Elt Ideal .f32) (xa0 : S2048x128.Idx → Elt Ideal .bf16) (X : Fin 2048 → ℕ → EReal) (n : ℕ)
    (hX : ∀ R (k : Fin 1024), (∑ d : Fin 128, xa0 (ix2 R d) * x2 (ix2 k d)) = X R (n + k.val)) (r : Fin 256) (k : Fin 1024) :
    kernelRun0_F.sl.v217 c arg6 x2 xa0 (ix2 r k) = X (row 1792 (by omega) r) (n + k.val) :=
  (scores1024 (ho := by omega) _ _ (fun R d => xa0 (ix2 R d)) x2 (fun r d => rd0 1792 _ (by omega) xa0 r d) (fun i d => kv _ _ _ _ _) r k).trans (hX _ _)

theorem outM (c : Dev nD) (arg6 : Memref sig .tc .vmem S1024x128 .f32) (x2 : S1024x128.Idx → Elt Ideal .f32) (xa0 : S2048x128.Idx → Elt Ideal .bf16) (xa1 : S2048x128.Idx → Elt Ideal .f32) (X : Fin 2048 → ℕ → EReal) (N : Fin 2048 → ℕ) (n : ℕ)
    (hN : ∀ R : Fin 2048, N R = n + 1024)
    (hX : ∀ R (k : Fin 1024), (∑ d : Fin 128, xa0 (ix2 R d) * x2 (ix2 k d)) = X R (n + k.val))
    (hm : ∀ (R : Fin 2048) (j : Fin 128), xa1 (ix2 R j) = mx (X R) n)
    (f : scM0_1.view.ty.Contents (Elt Ideal)) (y : S2048x128.Idx) :
    scM0_1.view.read (Elt Ideal) (scM0_1.view.writes (Elt Ideal) f (kernelRun0_F.sl.HS1_8 c arg6 x2 xa0 xa1)) y = mx (X (y 0)) (N (y 0)) := by
  refine rows8 scM0_1.view f _ (fun y => mx (X (y 0)) (N (y 0))) _ _ ?_ _ _ ?_ _ _ ?_ _ _ ?_ _ _ ?_ _ _ ?_ _ _ ?_ _ _ ?_ y
  · exact pieceM1024 (ho := by omega) _ X N n (kernelRun0_F.sl.v23 c arg6 x2 xa0) _ (fun r => hN _) (s0 c arg6 x2 xa0 X n hX) (fun r j => (rd1 0 _ (by omega) xa1 r j).trans (hm _ _))
  · exact pieceM1024 (ho := by omega) _ X N n (kernelRun0_F.sl.v25 c arg6 x2 xa0) (kernelRun0_F.sl.v58 c xa1) (fun r => hN _) (s1 c arg6 x2 xa0 X n hX) (fun r j => (rd1 256 _ (by omega) xa1 r j).trans (hm _ _))
  · exact pieceM1024 (ho := by omega) _ X N n (kernelRun0_F.sl.v57 c arg6 x2 xa0) (kernelRun0_F.sl.v90 c xa1) (fun r => hN _) (s2 c arg6 x2 xa0 X n hX) (fun r j => (rd1 512 _ (by omega) xa1 r j).trans (hm _ _))
  · exact pieceM1024 (ho := by omega) _ X N n (kernelRun0_F.sl.v89 c arg6 x2 xa0) (kernelRun0_F.sl.v122 c xa1) (fun r => hN _) (s3 c arg6 x2 xa0 X n hX) (fun r j => (rd1 768 _ (by omega) xa1 r j).trans (hm _ _))
  · exact pieceM1024 (ho := by omega) _ X N n (kernelRun0_F.sl.v121 c arg6 x2 xa0) (kernelRun0_F.sl.v154 c xa1) (fun r => hN _) (s4 c arg6 x2 xa0 X n hX) (fun r j => (rd1 1024 _ (by omega) xa1 r j).trans (hm _ _))
  · exact pieceM1024 (ho := by omega) _ X N n (kernelRun0_F.sl.v153 c arg6 x2 xa0) (kernelRun0_F.sl.v186 c xa1) (fun r => hN _) (s5 c arg6 x2 xa0 X n hX) (fun r j => (rd1 1280 _ (by omega) xa1 r j).trans (hm _ _))
  · exact pieceM1024 (ho := by omega) _ X N n (kernelRun0_F.sl.v185 c arg6 x2 xa0) (kernelRun0_F.sl.v218 c xa1) (fun r => hN _) (s6 c arg6 x2 xa0 X n hX) (fun r j => (rd1 1536 _ (by omega) xa1 r j).trans (hm _ _))
  · exact pieceM1024 (ho := by omega) _ X N n (kernelRun0_F.sl.v217 c arg6 x2 xa0) (kernelRun0_F.sl.v248 c xa1) (fun r => hN _) (s7 c arg6 x2 xa0 X n hX) (fun r j => (rd1 1792 _ (by omega) xa1 r j).trans (hm _ _))

theorem outL (c : Dev nD) (arg6 : Memref sig .tc .vmem S1024x128 .f32) (x2 : S1024x128.Idx → Elt Ideal .f32) (xa0 : S2048x128.Idx → Elt Ideal .bf16) (xa1 : S2048x128.Idx → Elt Ideal .f32) (xa2 : S2048x128.Idx → Elt Ideal .f32) (X : Fin 2048 → ℕ → EReal) (N : Fin 2048 → ℕ) (n : ℕ)
    (hN : ∀ R : Fin 2048, N R = n + 1024)
    (hX : ∀ R (k : Fin 1024), (∑ d : Fin 128, xa0 (ix2 R d) * x2 (ix2 k d)) = X R (n + k.val))
    (hm : ∀ (R : Fin 2048) (j : Fin 128), xa1 (ix2 R j) = mx (X R) n)
    (hl : ∀ (R : Fin 2048) (j : Fin 128), xa2 (ix2 R j) = den (X R) n)
    (f : scM0_2.view.ty.Contents (Elt Ideal)) (y : S2048x128.Idx) :
    scM0_2.view.read (Elt Ideal) (scM0_2.view.writes (Elt Ideal) f (kernelRun0_F.sl.HS2_8 c arg6 x2 xa0 xa1 xa2)) y = den (X (y 0)) (N (y 0)) := by
  refine rows8 scM0_2.view f _ (fun y => den (X (y 0)) (N (y 0))) _ _ ?_ _ _ ?_ _ _ ?_ _ _ ?_ _ _ ?_ _ _ ?_ _ _ ?_ _ _ ?_ y
  · exact pieceL1024 (ho := by omega) _ X N n (kernelRun0_F.sl.v23 c arg6 x2 xa0) _ _ (fun r => hN _) (s0 c arg6 x2 xa0 X n hX) (fun r j => (rd1 0 _ (by omega) xa1 r j).trans (hm _ _)) (fun r j => (rd2 0 _ (by omega) xa2 r j).trans (hl _ _))
  · exact pieceL1024 (ho := by omega) _ X N n (kernelRun0_F.sl.v25 c arg6 x2 xa0) (kernelRun0_F.sl.v58 c xa1) _ (fun r => hN _) (s1 c arg6 x2 xa0 X n hX) (fun r j => (rd1 256 _ (by omega) xa1 r j).trans (hm _ _)) (fun r j => (rd2 256 _ (by omega) xa2 r j).trans (hl _ _))
  · exact pieceL1024 (ho := by omega) _ X N n (kernelRun0_F.sl.v57 c arg6 x2 xa0) (kernelRun0_F.sl.v90 c xa1) _ (fun r => hN _) (s2 c arg6 x2 xa0 X n hX) (fun r j => (rd1 512 _ (by omega) xa1 r j).trans (hm _ _)) (fun r j => (rd2 512 _ (by omega) xa2 r j).trans (hl _ _))
  · exact pieceL1024 (ho := by omega) _ X N n (kernelRun0_F.sl.v89 c arg6 x2 xa0) (kernelRun0_F.sl.v122 c xa1) _ (fun r => hN _) (s3 c arg6 x2 xa0 X n hX) (fun r j => (rd1 768 _ (by omega) xa1 r j).trans (hm _ _)) (fun r j => (rd2 768 _ (by omega) xa2 r j).trans (hl _ _))
  · exact pieceL1024 (ho := by omega) _ X N n (kernelRun0_F.sl.v121 c arg6 x2 xa0) (kernelRun0_F.sl.v154 c xa1) _ (fun r => hN _) (s4 c arg6 x2 xa0 X n hX) (fun r j => (rd1 1024 _ (by omega) xa1 r j).trans (hm _ _)) (fun r j => (rd2 1024 _ (by omega) xa2 r j).trans (hl _ _))
  · exact pieceL1024 (ho := by omega) _ X N n (kernelRun0_F.sl.v153 c arg6 x2 xa0) (kernelRun0_F.sl.v186 c xa1) _ (fun r => hN _) (s5 c arg6 x2 xa0 X n hX) (fun r j => (rd1 1280 _ (by omega) xa1 r j).trans (hm _ _)) (fun r j => (rd2 1280 _ (by omega) xa2 r j).trans (hl _ _))
  · exact pieceL1024 (ho := by omega) _ X N n (kernelRun0_F.sl.v185 c arg6 x2 xa0) (kernelRun0_F.sl.v218 c xa1) _ (fun r => hN _) (s6 c arg6 x2 xa0 X n hX) (fun r j => (rd1 1536 _ (by omega) xa1 r j).trans (hm _ _)) (fun r j => (rd2 1536 _ (by omega) xa2 r j).trans (hl _ _))
  · exact pieceL1024 (ho := by omega) _ X N n (kernelRun0_F.sl.v217 c arg6 x2 xa0) (kernelRun0_F.sl.v248 c xa1) _ (fun r => hN _) (s7 c arg6 x2 xa0 X n hX) (fun r j => (rd1 1792 _ (by omega) xa1 r j).trans (hm _ _)) (fun r j => (rd2 1792 _ (by omega) xa2 r j).trans (hl _ _))

theorem outA (c : Dev nD) (arg6 : Memref sig .tc .vmem S1024x128 .f32) (arg7 : Memref sig .tc .vmem S1024x128 .f32) (x2 : S1024x128.Idx → Elt Ideal .f32) (x3 : S1024x128.Idx → Elt Ideal .f32) (xa0 : S2048x128.Idx → Elt Ideal .bf16) (xa1 : S2048x128.Idx → Elt Ideal .f32) (xa3 : S2048x128.Idx → Elt Ideal .f32) (X : Fin 2048 → ℕ → EReal) (Y : Fin 128 → ℕ → EReal) (N : Fin 2048 → ℕ) (n : ℕ)
    (hN : ∀ R : Fin 2048, N R = n + 1024)
    (hX : ∀ R (k : Fin 1024), (∑ d : Fin 128, xa0 (ix2 R d) * x2 (ix2 k d)) = X R (n + k.val))
    (hm : ∀ (R : Fin 2048) (j : Fin 128), xa1 (ix2 R j) = mx (X R) n)
    (hv : ∀ (k : Fin 1024) (j : Fin 128), x3 (ix2 k j) = Y j (n + k.val))
    (ha : ∀ (R : Fin 2048) (j : Fin 128), xa3 (ix2 R j) = num (X R) (Y j) n)
    (f : scM0_3.view.ty.Contents (Elt Ideal)) (y : S2048x128.Idx) :
    scM0_3.view.read (Elt Ideal) (scM0_3.view.writes (Elt Ideal) f (kernelRun0_F.sl.HS3_8 c arg6 arg7 x2 x3 xa0 xa1 xa3)) y = num (X (y 0)) (Y (y 1)) (N (y 0)) := by
  refine rows8 scM0_3.view f _ (fun y => num (X (y 0)) (Y (y 1)) (N (y 0))) _ _ ?_ _ _ ?_ _ _ ?_ _ _ ?_ _ _ ?_ _ _ ?_ _ _ ?_ _ _ ?_ y
  · exact pieceA1024 (ho := by omega) _ X Y N n _ (kernelRun0_F.sl.v23 c arg6 x2 xa0) _ _ (fun r => hN _) (s0 c arg6 x2 xa0 X n hX) (fun i j => (kv _ _ _ _ _).trans (hv _ _)) (fun r j => (rd1 0 _ (by omega) xa1 r j).trans (hm _ _)) (fun r j => (rd3 0 _ (by omega) xa3 r j).trans (ha _ _))
  · exact pieceA1024 (ho := by omega) _ X Y N n _ (kernelRun0_F.sl.v25 c arg6 x2 xa0) (kernelRun0_F.sl.v58 c xa1) _ (fun r => hN _) (s1 c arg6 x2 xa0 X n hX) (fun i j => (kv _ _ _ _ _).trans (hv _ _)) (fun r j => (rd1 256 _ (by omega) xa1 r j).trans (hm _ _)) (fun r j => (rd3 256 _ (by omega) xa3 r j).trans (ha _ _))
  · exact pieceA1024 (ho := by omega) _ X Y N n _ (kernelRun0_F.sl.v57 c arg6 x2 xa0) (kernelRun0_F.sl.v90 c xa1) _ (fun r => hN _) (s2 c arg6 x2 xa0 X n hX) (fun i j => (kv _ _ _ _ _).trans (hv _ _)) (fun r j => (rd1 512 _ (by omega) xa1 r j).trans (hm _ _)) (fun r j => (rd3 512 _ (by omega) xa3 r j).trans (ha _ _))
  · exact pieceA1024 (ho := by omega) _ X Y N n _ (kernelRun0_F.sl.v89 c arg6 x2 xa0) (kernelRun0_F.sl.v122 c xa1) _ (fun r => hN _) (s3 c arg6 x2 xa0 X n hX) (fun i j => (kv _ _ _ _ _).trans (hv _ _)) (fun r j => (rd1 768 _ (by omega) xa1 r j).trans (hm _ _)) (fun r j => (rd3 768 _ (by omega) xa3 r j).trans (ha _ _))
  · exact pieceA1024 (ho := by omega) _ X Y N n _ (kernelRun0_F.sl.v121 c arg6 x2 xa0) (kernelRun0_F.sl.v154 c xa1) _ (fun r => hN _) (s4 c arg6 x2 xa0 X n hX) (fun i j => (kv _ _ _ _ _).trans (hv _ _)) (fun r j => (rd1 1024 _ (by omega) xa1 r j).trans (hm _ _)) (fun r j => (rd3 1024 _ (by omega) xa3 r j).trans (ha _ _))
  · exact pieceA1024 (ho := by omega) _ X Y N n _ (kernelRun0_F.sl.v153 c arg6 x2 xa0) (kernelRun0_F.sl.v186 c xa1) _ (fun r => hN _) (s5 c arg6 x2 xa0 X n hX) (fun i j => (kv _ _ _ _ _).trans (hv _ _)) (fun r j => (rd1 1280 _ (by omega) xa1 r j).trans (hm _ _)) (fun r j => (rd3 1280 _ (by omega) xa3 r j).trans (ha _ _))
  · exact pieceA1024 (ho := by omega) _ X Y N n _ (kernelRun0_F.sl.v185 c arg6 x2 xa0) (kernelRun0_F.sl.v218 c xa1) _ (fun r => hN _) (s6 c arg6 x2 xa0 X n hX) (fun i j => (kv _ _ _ _ _).trans (hv _ _)) (fun r j => (rd1 1536 _ (by omega) xa1 r j).trans (hm _ _)) (fun r j => (rd3 1536 _ (by omega) xa3 r j).trans (ha _ _))
  · exact pieceA1024 (ho := by omega) _ X Y N n _ (kernelRun0_F.sl.v217 c arg6 x2 xa0) (kernelRun0_F.sl.v248 c xa1) _ (fun r => hN _) (s7 c arg6 x2 xa0 X n hX) (fun i j => (kv _ _ _ _ _).trans (hv _ _)) (fun r j => (rd1 1792 _ (by omega) xa1 r j).trans (hm _ _)) (fun r j => (rd3 1792 _ (by omega) xa3 r j).trans (ha _ _))

end Cert.KernelIdeal.PathF
-- ==== Proof.Attn.Init.lean ====
/- What the first block of a row of blocks stores: the scaled queries of the two maps, and the empty running softmax. -/
module

public import proofs.«01_k».proof.Proof.Attn.Rows

@[expose] public section

set_option maxRecDepth 16384
set_option maxHeartbeats 4000000

noncomputable section

namespace Cert.KernelIdeal.Step

open Idealize.ShloMosaic Idealize.ShloMosaic.TcCoe Cert.KernelIdeal Cert.KernelIdeal.Gen Cert.KernelIdeal.Chunk Cert.KernelIdeal.Rows Cert.Online

/-- The two maps' query rows, scaled, stacked: the first map's rows keep lanes below 64, the second map's the rest. -/
def qrow (x1 : S1024x128.Idx → EReal) (R : Fin 2048) (d : Fin 128) : EReal :=
  if R.val < 1024 ↔ d.val < 64 then x1 (ix2 ⟨R.val % 1024, Nat.mod_lt _ (by omega)⟩ d) * (((8⁻¹ * (Real.log 2)⁻¹ : ℝ)) : EReal) else 0

theorem pay4_eq (R : Fin 2048) (j : Fin 128) : (k0_pay4 (F := Ideal)) (ix2 R j) = ⊥ := by
  unfold k0_pay4; pointwise; rfl
theorem pay5_eq (R : Fin 2048) (j : Fin 128) : (k0_pay5 (F := Ideal)) (ix2 R j) = 0 := by
  unfold k0_pay5; pointwise
theorem pay6_eq (R : Fin 2048) (j : Fin 128) : (k0_pay6 (F := Ideal)) (ix2 R j) = 0 := by
  unfold k0_pay6; pointwise

theorem pay2_eq (v : Vec Ideal S1024x128 .f32) (r : Fin 1024) (d : Fin 128) :
    (k0_pay2 (F := Ideal) v) (ix2 r d) = if d.val < 64 then v (ix2 r d) * (((8⁻¹ * (Real.log 2)⁻¹ : ℝ)) : EReal) else 0 := by
  pointwise [k0_pay2, k0_pay1]
  have hq : (Named.named κ "qscale" 1043900987#32 : Ideal .f32) = (((8⁻¹ * (Real.log 2)⁻¹ : ℝ)) : EReal) := rfl
  have h : ∀ d : Fin 128, (IntOp.cmpi CmpIPredicate.slt (BitVec.ofNat 32 d.val) 64#32 = 1#1) ↔ d.val < 64 := by decide +kernel
  rw [hq]
  unfold Scalar.select
  exact if_congr (h d) rfl rfl
theorem pay3_eq (v : Vec Ideal S1024x128 .f32) (r : Fin 1024) (d : Fin 128) :
    (k0_pay3 (F := Ideal) v) (ix2 r d) = if 64 ≤ d.val then v (ix2 r d) * (((8⁻¹ * (Real.log 2)⁻¹ : ℝ)) : EReal) else 0 := by
  pointwise [k0_pay3, k0_pay1]
  have hq : (Named.named κ "qscale" 1043900987#32 : Ideal .f32) = (((8⁻¹ * (Real.log 2)⁻¹ : ℝ)) : EReal) := rfl
  have h : ∀ d : Fin 128, (IntOp.cmpi CmpIPredicate.sge (BitVec.ofNat 32 d.val) 64#32 = 1#1) ↔ 64 ≤ d.val := by decide +kernel
  rw [hq]
  unfold Scalar.select
  exact if_congr (h d) rfl rfl

/-- A scratch stored in two halves, read at a row. -/
theorem two {e : EltTy} (i1 : ∀ a, (![1024, 0] : Fin 2 → ℕ) a + S1024x128.size a ≤ S2048x128.size a) (i0 : ∀ a, (![0, 0] : Fin 2 → ℕ) a + S1024x128.size a ≤ S2048x128.size a)
    (w w' : S1024x128.Idx → Elt Ideal e) (R : Fin 2048) (d : Fin 128) :
    View.canon (Val := Elt Ideal) [⟨Rect.unit (s := S2048x128) ![1024, 0] S1024x128.size i1, w⟩, ⟨Rect.unit (s := S2048x128) ![0, 0] S1024x128.size i0, w'⟩] (ix2 R d)
      = if R.val < 1024 then w' (ix2 ⟨R.val % 1024, Nat.mod_lt _ (by omega)⟩ d) else w (ix2 ⟨R.val % 1024, Nat.mod_lt _ (by omega)⟩ d) := by
  have hR := R.isLt
  by_cases h : R.val < 1024
  · rw [if_pos h]
    have e0 : (Rect.unit (s := S2048x128) ![0, 0] S1024x128.size i0).emb (ix2 (⟨R.val % 1024, Nat.mod_lt _ (by omega)⟩ : Fin 1024) d) = ix2 R d := by
      funext a
      refine Fin.ext ?_
      match a with
      | ⟨0, _⟩ => simp [ix2]; omega
      | ⟨1, _⟩ => simp [ix2]
    rw [View.canon_cons_of_not_mem _ _ fun hm => ?_, ← e0]
    · exact View.canon_cons_emb _ _ _ _
    · obtain ⟨x, hx⟩ := (Rect.unit (s := S2048x128) ![1024, 0] S1024x128.size i1).exists_idx_of_mem hm
      have h0 := congrArg (fun y : S2048x128.Idx => (y 0).val) hx
      simp [ix2] at h0
      omega
  · rw [if_neg h]
    have e0 : (Rect.unit (s := S2048x128) ![1024, 0] S1024x128.size i1).emb (ix2 (⟨R.val % 1024, Nat.mod_lt _ (by omega)⟩ : Fin 1024) d) = ix2 R d := by
      funext a
      refine Fin.ext ?_
      match a with
      | ⟨0, _⟩ => simp [ix2]; omega
      | ⟨1, _⟩ => simp [ix2]
    rw [← e0]
    exact View.canon_cons_emb _ _ _ _

theorem qinit' (i1 : ∀ a, (![1024, 0] : Fin 2 → ℕ) a + S1024x128.size a ≤ S2048x128.size a) (i0 : ∀ a, (![0, 0] : Fin 2 → ℕ) a + S1024x128.size a ≤ S2048x128.size a)
    (v : Vec Ideal S1024x128 .f32) (x1 : S1024x128.Idx → EReal) (hv : v = x1) (R : Fin 2048) (d : Fin 128) :
    View.canon (Val := Elt Ideal) (e := .bf16) [⟨Rect.unit (s := S2048x128) ![1024, 0] S1024x128.size i1, k0_pay3 v⟩, ⟨Rect.unit (s := S2048x128) ![0, 0] S1024x128.size i0, k0_pay2 v⟩] (ix2 R d) = (qrow x1 R d : EReal) := by
  subst hv
  refine (two i1 i0 _ _ R d).trans ?_
  unfold qrow
  by_cases h : R.val < 1024
  · rw [if_pos h, pay2_eq]
    by_cases hd : d.val < 64
    · rw [if_pos hd, if_pos (iff_of_true h hd)]
    · rw [if_neg hd, if_neg fun hh => hd (hh.1 h)]
  · rw [if_neg h, pay3_eq]
    by_cases hd : d.val < 64
    · rw [if_neg (by omega), if_neg fun hh => h (hh.2 hd)]
    · rw [if_pos (by omega), if_pos (iff_of_false h hd)]

/-- The queries a first block of a row stores. -/
theorem qinit_A (arg5 : Memref sig .tc .vmem S1024x128 .f32) (x1 : S1024x128.Idx → Elt Ideal .f32) (R : Fin 2048) (d : Fin 128) :
    View.canon (kernelRun0_A.sl.HS0_2 arg5 x1) (ix2 R d) = qrow x1 R d := qinit' _ _ _ _ (View.readAt_rep_full _ _ _) R d

/-- The queries a first block of a row stores. -/
theorem qinit_B (arg5 : Memref sig .tc .vmem S1024x128 .f32) (x1 : S1024x128.Idx → Elt Ideal .f32) (R : Fin 2048) (d : Fin 128) :
    View.canon (kernelRun0_B.sl.HS0_2 arg5 x1) (ix2 R d) = qrow x1 R d := qinit' _ _ _ _ (View.readAt_rep_full _ _ _) R d

/-- The queries a first block of a row stores. -/
theorem qinit_D (arg5 : Memref sig .tc .vmem S1024x128 .f32) (x1 : S1024x128.Idx → Elt Ideal .f32) (R : Fin 2048) (d : Fin 128) :
    View.canon (kernelRun0_D.sl.HS0_2 arg5 x1) (ix2 R d) = qrow x1 R d := qinit' _ _ _ _ (View.readAt_rep_full _ _ _) R d

end Cert.KernelIdeal.Step
-- ==== Proof.Attn.Step.lean ====
/- What one point of the grid does to the four scratch buffers, path by path, in the words of the running softmax. -/
module

public import proofs.«01_k».proof.Proof.Attn.PathA
public import proofs.«01_k».proof.Proof.Attn.PathB
public import proofs.«01_k».proof.Proof.Attn.PathC
public import proofs.«01_k».proof.Proof.Attn.PathD
public import proofs.«01_k».proof.Proof.Attn.PathE
public import proofs.«01_k».proof.Proof.Attn.PathF
public import proofs.«01_k».proof.Proof.Attn.Init
public import proofs.«01_k».proof.Proof.AttnIdeal.Launch

@[expose] public section

set_option maxRecDepth 16384
set_option maxHeartbeats 4000000

noncomputable section

namespace Cert.KernelIdeal.Step

open Idealize.ShloMosaic Idealize.ShloMosaic.TcCoe Cert.KernelIdeal Cert.KernelIdeal.Gen Cert.KernelIdeal.Chunk Cert.KernelIdeal.Rows Cert.Online

/-- What the output block and the four scratch buffers hold. -/
abbrev Tup (c : Dev nD) : Type := (S1024x128.Idx → Elt Ideal .f32) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)

/-- The four scratch buffers as arrays of extended reals: scaled queries, running maximum, sum of weights, weighted sum. -/
abbrev c0 {c : Dev nD} (p : Tup c) : S2048x128.Idx → EReal := p.2.1
abbrev c1 {c : Dev nD} (p : Tup c) : S2048x128.Idx → EReal := p.2.2.1
abbrev c2 {c : Dev nD} (p : Tup c) : S2048x128.Idx → EReal := p.2.2.2.1
abbrev c3 {c : Dev nD} (p : Tup c) : S2048x128.Idx → EReal := p.2.2.2.2

/-- The scratch buffers hold the scaled queries `Q`, and of row `R`'s first `N R` scores `X R` the running maximum, the sum of
    weights, and the weighted sum of the values `Y`. -/
structure Inv (Q : Fin 2048 → Fin 128 → EReal) (X : Fin 2048 → ℕ → EReal) (Y : Fin 128 → ℕ → EReal) (N : Fin 2048 → ℕ) (c : Dev nD) (p : Tup c) : Prop where
  q : ∀ (R : Fin 2048) (d : Fin 128), c0 p (ix2 R d) = Q R d
  m : ∀ (R : Fin 2048) (j : Fin 128), c1 p (ix2 R j) = mx (X R) (N R)
  l : ∀ (R : Fin 2048) (j : Fin 128), c2 p (ix2 R j) = den (X R) (N R)
  a : ∀ (R : Fin 2048) (j : Fin 128), c3 p (ix2 R j) = num (X R) (Y j) (N R)

variable (ch : Fin 1) (m : (ℓ : Loc nD τ sig) → Buf (Elt Ideal) ℓ) (ρ : Dev nD → PrngReg)

/-- The blocks a point's windows hold, as arrays of extended reals: lam, q, k, v, bias and the gain. -/
abbrev lb (c : Dev nD) (t : Fin (cfgA ch).N) : S1.Idx → EReal := iblk ch m ρ c (0 : Fin 7) t
abbrev qb (c : Dev nD) (t : Fin (cfgA ch).N) : S1024x128.Idx → EReal := iblk ch m ρ c (1 : Fin 7) t
abbrev kb (c : Dev nD) (t : Fin (cfgA ch).N) : S1024x128.Idx → EReal := iblk ch m ρ c (2 : Fin 7) t
abbrev vb (c : Dev nD) (t : Fin (cfgA ch).N) : S1024x128.Idx → EReal := iblk ch m ρ c (3 : Fin 7) t
abbrev bb (c : Dev nD) (t : Fin (cfgA ch).N) : S1x2x1024x1024.Idx → EReal := iblk ch m ρ c (4 : Fin 7) t
abbrev gb (c : Dev nD) (t : Fin (cfgA ch).N) : S1x128.Idx → EReal := iblk ch m ρ c (5 : Fin 7) t

/-- A block on the diagonal, the first of its row. -/
theorem stepA (c : Dev nD) (t : Fin (cfgA ch).N) (p : Tup c) (q0 : P0_0 ch t) (q1 : ¬P0_1 ch t) (q2 : ¬P0_2 ch t)
    (X : Fin 2048 → ℕ → EReal) (Y : Fin 128 → ℕ → EReal) (N : Fin 2048 → ℕ)
    (hN : ∀ R : Fin 2048, N R = 0 + (R.val % 1024 / 256 + 1) * 256)
    (hX : ∀ R (r : Fin 1024), r.val = R.val % 1024 → ∀ (k : Fin 1024), (∑ d : Fin 128, qrow (qb ch m ρ c t) R d * kb ch m ρ c t (ix2 k d)) + bb ch m ρ c t (ix4 0 0 r k) = X R (0 + k.val))
    (hv : ∀ (k : Fin 1024) (j : Fin 128), vb ch m ρ c t (ix2 k j) = Y j (0 + k.val)) : Inv (qrow (qb ch m ρ c t)) X Y N c (step0 ch m ρ c t p) := by
  rw [step0_A ch m ρ c t p q0 q1 q2]
  have hq : ∀ (R : Fin 2048) (d : Fin 128), View.canon (kernelRun0_A.sl.HS0_2 (ms0_1 ch t) (qb ch m ρ c t)) (ix2 R d) = qrow (qb ch m ρ c t) R d := fun R d => qinit_A (ms0_1 ch t) (qb ch m ρ c t) R d
  have hX' : ∀ R (r : Fin 1024), r.val = R.val % 1024 → ∀ (k : Fin 1024), (∑ d : Fin 128, View.canon (kernelRun0_A.sl.HS0_2 (ms0_1 ch t) (qb ch m ρ c t)) (ix2 R d) * kb ch m ρ c t (ix2 k d)) + bb ch m ρ c t (ix4 0 0 r k) = X R (0 + k.val) :=
    fun R r hr k => (congrArg (· + bb ch m ρ c t (ix4 0 0 r k)) (Finset.sum_congr rfl fun d _ => by rw [hq R d])).trans (hX R r hr k)
  have hm0 : ∀ (R : Fin 2048) (j : Fin 128), (k0_pay4 (F := Ideal)) (ix2 R j) = mx (X R) 0 := fun R j => (pay4_eq R j).trans (mx_zero _).symm
  have hl0 : ∀ (R : Fin 2048) (j : Fin 128), (k0_pay5 (F := Ideal)) (ix2 R j) = den (X R) 0 := fun R j => (pay5_eq R j).trans (den_zero _).symm
  have ha0 : ∀ (R : Fin 2048) (j : Fin 128), (k0_pay6 (F := Ideal)) (ix2 R j) = num (X R) (Y j) 0 := fun R j => (pay6_eq R j).trans (num_zero _ _).symm
  have hq0 : ∀ (R : Fin 2048) (d : Fin 128), scM0_0.view.read (Elt Ideal) (scM0_0.view.writes (Elt Ideal) scM0_0.view.junk (kernelRun0_A.sl.HS0_2 (ms0_1 ch t) (qb ch m ρ c t))) (ix2 R d) = qrow (qb ch m ρ c t) R d :=
    fun R d => (View.read_writes_junk_apply_eq_canon scM0_0.view (ix2 R d) (kernelRun0_A.sl.HS0_2 (ms0_1 ch t) (qb ch m ρ c t))).trans (hq R d)
  refine ⟨fun R d => hq0 R d, fun R j => ?_, fun R j => ?_, fun R j => ?_⟩
  · exact PathA.outM (ms0_1 ch t) (ms0_2 ch t) (ms0_4 ch t) (iblk ch m ρ c (1 : Fin 7) t) (iblk ch m ρ c (2 : Fin 7) t) (iblk ch m ρ c (4 : Fin 7) t) X N 0 hN hX' hm0 _ (ix2 R j)
  · exact PathA.outL (ms0_1 ch t) (ms0_2 ch t) (ms0_4 ch t) (iblk ch m ρ c (1 : Fin 7) t) (iblk ch m ρ c (2 : Fin 7) t) (iblk ch m ρ c (4 : Fin 7) t) X N 0 hN hX' hm0 hl0 _ (ix2 R j)
  · exact PathA.outA (ms0_1 ch t) (ms0_2 ch t) (ms0_3 ch t) (ms0_4 ch t) (iblk ch m ρ c (1 : Fin 7) t) (iblk ch m ρ c (2 : Fin 7) t) (iblk ch m ρ c (3 : Fin 7) t) (iblk ch m ρ c (4 : Fin 7) t) X Y N 0 hN hX' hm0 hv ha0 _ (ix2 R j)

/-- A block next to the diagonal, the first of its row. -/
theorem stepB (c : Dev nD) (t : Fin (cfgA ch).N) (p : Tup c) (q0 : P0_0 ch t) (q1 : ¬P0_1 ch t) (q2 : P0_2 ch t)
    (X : Fin 2048 → ℕ → EReal) (Y : Fin 128 → ℕ → EReal) (N : Fin 2048 → ℕ)
    (hN : ∀ R : Fin 2048, N R = 0 + 1024)
    (hX : ∀ R (r : Fin 1024), r.val = R.val % 1024 → ∀ (k : Fin 1024), (∑ d : Fin 128, qrow (qb ch m ρ c t) R d * kb ch m ρ c t (ix2 k d)) + bb ch m ρ c t (ix4 0 1 r k) = X R (0 + k.val))
    (hv : ∀ (k : Fin 1024) (j : Fin 128), vb ch m ρ c t (ix2 k j) = Y j (0 + k.val)) : Inv (qrow (qb ch m ρ c t)) X Y N c (step0 ch m ρ c t p) := by
  rw [step0_B ch m ρ c t p q0 q1 q2]
  have hq : ∀ (R : Fin 2048) (d : Fin 128), View.canon (kernelRun0_B.sl.HS0_2 (ms0_1 ch t) (qb ch m ρ c t)) (ix2 R d) = qrow (qb ch m ρ c t) R d := fun R d => qinit_B (ms0_1 ch t) (qb ch m ρ c t) R d
  have hX' : ∀ R (r : Fin 1024), r.val = R.val % 1024 → ∀ (k : Fin 1024), (∑ d : Fin 128, View.canon (kernelRun0_B.sl.HS0_2 (ms0_1 ch t) (qb ch m ρ c t)) (ix2 R d) * kb ch m ρ c t (ix2 k d)) + bb ch m ρ c t (ix4 0 1 r k) = X R (0 + k.val) :=
    fun R r hr k => (congrArg (· + bb ch m ρ c t (ix4 0 1 r k)) (Finset.sum_congr rfl fun d _ => by rw [hq R d])).trans (hX R r hr k)
  have hm0 : ∀ (R : Fin 2048) (j : Fin 128), (k0_pay4 (F := Ideal)) (ix2 R j) = mx (X R) 0 := fun R j => (pay4_eq R j).trans (mx_zero _).symm
  have hl0 : ∀ (R : Fin 2048) (j : Fin 128), (k0_pay5 (F := Ideal)) (ix2 R j) = den (X R) 0 := fun R j => (pay5_eq R j).trans (den_zero _).symm
  have ha0 : ∀ (R : Fin 2048) (j : Fin 128), (k0_pay6 (F := Ideal)) (ix2 R j) = num (X R) (Y j) 0 := fun R j => (pay6_eq R j).trans (num_zero _ _).symm
  have hq0 : ∀ (R : Fin 2048) (d : Fin 128), scM0_0.view.read (Elt Ideal) (scM0_0.view.writes (Elt Ideal) scM0_0.view.junk (kernelRun0_B.sl.HS0_2 (ms0_1 ch t) (qb ch m ρ c t))) (ix2 R d) = qrow (qb ch m ρ c t) R d :=
    fun R d => (View.read_writes_junk_apply_eq_canon scM0_0.view (ix2 R d) (kernelRun0_B.sl.HS0_2 (ms0_1 ch t) (qb ch m ρ c t))).trans (hq R d)
  refine ⟨fun R d => hq0 R d, fun R j => ?_, fun R j => ?_, fun R j => ?_⟩
  · exact PathB.outM (ms0_1 ch t) (ms0_2 ch t) (ms0_4 ch t) (iblk ch m ρ c (1 : Fin 7) t) (iblk ch m ρ c (2 : Fin 7) t) (iblk ch m ρ c (4 : Fin 7) t) X N 0 hN hX' hm0 _ (ix2 R j)
  · exact PathB.outL (ms0_1 ch t) (ms0_2 ch t) (ms0_4 ch t) (iblk ch m ρ c (1 : Fin 7) t) (iblk ch m ρ c (2 : Fin 7) t) (iblk ch m ρ c (4 : Fin 7) t) X N 0 hN hX' hm0 hl0 _ (ix2 R j)
  · exact PathB.outA (ms0_1 ch t) (ms0_2 ch t) (ms0_3 ch t) (ms0_4 ch t) (iblk ch m ρ c (1 : Fin 7) t) (iblk ch m ρ c (2 : Fin 7) t) (iblk ch m ρ c (3 : Fin 7) t) (iblk ch m ρ c (4 : Fin 7) t) X Y N 0 hN hX' hm0 hv ha0 _ (ix2 R j)

/-- A block on the diagonal. -/
theorem stepC (c : Dev nD) (t : Fin (cfgA ch).N) (p : Tup c) (q0 : ¬P0_0 ch t) (q1 : ¬P0_1 ch t) (q2 : ¬P0_2 ch t)
    (Q : Fin 2048 → Fin 128 → EReal) (X : Fin 2048 → ℕ → EReal) (Y : Fin 128 → ℕ → EReal) (N : Fin 2048 → ℕ) (n : ℕ)
    (hN : ∀ R : Fin 2048, N R = n + (R.val % 1024 / 256 + 1) * 256)
    (hX : ∀ R (r : Fin 1024), r.val = R.val % 1024 → ∀ (k : Fin 1024), (∑ d : Fin 128, Q R d * kb ch m ρ c t (ix2 k d)) + bb ch m ρ c t (ix4 0 0 r k) = X R (n + k.val))
    (hv : ∀ (k : Fin 1024) (j : Fin 128), vb ch m ρ c t (ix2 k j) = Y j (n + k.val))
    (hp : Inv Q X Y (fun _ => n) c p) : Inv Q X Y N c (step0 ch m ρ c t p) := by
  rw [step0_C ch m ρ c t p q0 q1 q2]
  have hX' : ∀ R (r : Fin 1024), r.val = R.val % 1024 → ∀ (k : Fin 1024), (∑ d : Fin 128, c0 p (ix2 R d) * kb ch m ρ c t (ix2 k d)) + bb ch m ρ c t (ix4 0 0 r k) = X R (n + k.val) :=
    fun R r hr k => (congrArg (· + bb ch m ρ c t (ix4 0 0 r k)) (Finset.sum_congr rfl fun d _ => by rw [hp.q R d])).trans (hX R r hr k)
  refine ⟨fun R d => hp.q R d, fun R j => ?_, fun R j => ?_, fun R j => ?_⟩
  · exact PathC.outM c (ms0_2 ch t) (ms0_4 ch t) (iblk ch m ρ c (2 : Fin 7) t) (iblk ch m ρ c (4 : Fin 7) t) p.2.1 p.2.2.1 X N n hN hX' hp.m _ (ix2 R j)
  · exact PathC.outL c (ms0_2 ch t) (ms0_4 ch t) (iblk ch m ρ c (2 : Fin 7) t) (iblk ch m ρ c (4 : Fin 7) t) p.2.1 p.2.2.1 p.2.2.2.1 X N n hN hX' hp.m hp.l _ (ix2 R j)
  · exact PathC.outA c (ms0_2 ch t) (ms0_3 ch t) (ms0_4 ch t) (iblk ch m ρ c (2 : Fin 7) t) (iblk ch m ρ c (3 : Fin 7) t) (iblk ch m ρ c (4 : Fin 7) t) p.2.1 p.2.2.1 p.2.2.2.2 X Y N n hN hX' hp.m hv hp.a _ (ix2 R j)

/-- A block far from the diagonal, the first of its row. -/
theorem stepD (c : Dev nD) (t : Fin (cfgA ch).N) (p : Tup c) (q0 : P0_0 ch t) (q1 : P0_1 ch t)
    (X : Fin 2048 → ℕ → EReal) (Y : Fin 128 → ℕ → EReal) (N : Fin 2048 → ℕ)
    (hN : ∀ R : Fin 2048, N R = 0 + 1024)
    (hX : ∀ R (k : Fin 1024), (∑ d : Fin 128, qrow (qb ch m ρ c t) R d * kb ch m ρ c t (ix2 k d)) = X R (0 + k.val))
    (hv : ∀ (k : Fin 1024) (j : Fin 128), vb ch m ρ c t (ix2 k j) = Y j (0 + k.val)) : Inv (qrow (qb ch m ρ c t)) X Y N c (step0 ch m ρ c t p) := by
  rw [step0_D ch m ρ c t p q0 q1]
  have hq : ∀ (R : Fin 2048) (d : Fin 128), View.canon (kernelRun0_D.sl.HS0_2 (ms0_1 ch t) (qb ch m ρ c t)) (ix2 R d) = qrow (qb ch m ρ c t) R d := fun R d => qinit_D (ms0_1 ch t) (qb ch m ρ c t) R d
  have hX' : ∀ R (k : Fin 1024), (∑ d : Fin 128, View.canon (kernelRun0_D.sl.HS0_2 (ms0_1 ch t) (qb ch m ρ c t)) (ix2 R d) * kb ch m ρ c t (ix2 k d)) = X R (0 + k.val) :=
    fun R k => (Finset.sum_congr rfl fun d _ => by rw [hq R d]).trans (hX R k)
  have hm0 : ∀ (R : Fin 2048) (j : Fin 128), (k0_pay4 (F := Ideal)) (ix2 R j) = mx (X R) 0 := fun R j => (pay4_eq R j).trans (mx_zero _).symm
  have hl0 : ∀ (R : Fin 2048) (j : Fin 128), (k0_pay5 (F := Ideal)) (ix2 R j) = den (X R) 0 := fun R j => (pay5_eq R j).trans (den_zero _).symm
  have ha0 : ∀ (R : Fin 2048) (j : Fin 128), (k0_pay6 (F := Ideal)) (ix2 R j) = num (X R) (Y j) 0 := fun R j => (pay6_eq R j).trans (num_zero _ _).symm
  have hq0 : ∀ (R : Fin 2048) (d : Fin 128), scM0_0.view.read (Elt Ideal) (scM0_0.view.writes (Elt Ideal) scM0_0.view.junk (kernelRun0_D.sl.HS0_2 (ms0_1 ch t) (qb ch m ρ c t))) (ix2 R d) = qrow (qb ch m ρ c t) R d :=
    fun R d => (View.read_writes_junk_apply_eq_canon scM0_0.view (ix2 R d) (kernelRun0_D.sl.HS0_2 (ms0_1 ch t) (qb ch m ρ c t))).trans (hq R d)
  refine ⟨fun R d => hq0 R d, fun R j => ?_, fun R j => ?_, fun R j => ?_⟩
  · exact PathD.outM (ms0_1 ch t) (ms0_2 ch t) (iblk ch m ρ c (1 : Fin 7) t) (iblk ch m ρ c (2 : Fin 7) t) X N 0 hN hX' hm0 _ (ix2 R j)
  · exact PathD.outL (ms0_1 ch t) (ms0_2 ch t) (iblk ch m ρ c (1 : Fin 7) t) (iblk ch m ρ c (2 : Fin 7) t) X N 0 hN hX' hm0 hl0 _ (ix2 R j)
  · exact PathD.outA (ms0_1 ch t) (ms0_2 ch t) (ms0_3 ch t) (iblk ch m ρ c (1 : Fin 7) t) (iblk ch m ρ c (2 : Fin 7) t) (iblk ch m ρ c (3 : Fin 7) t) X Y N 0 hN hX' hm0 hv ha0 _ (ix2 R j)

/-- A block next to the diagonal. -/
theorem stepE (c : Dev nD) (t : Fin (cfgA ch).N) (p : Tup c) (q0 : ¬P0_0 ch t) (q1 : ¬P0_1 ch t) (q2 : P0_2 ch t)
    (Q : Fin 2048 → Fin 128 → EReal) (X : Fin 2048 → ℕ → EReal) (Y : Fin 128 → ℕ → EReal) (N : Fin 2048 → ℕ) (n : ℕ)
    (hN : ∀ R : Fin 2048, N R = n + 1024)
    (hX : ∀ R (r : Fin 1024), r.val = R.val % 1024 → ∀ (k : Fin 1024), (∑ d : Fin 128, Q R d * kb ch m ρ c t (ix2 k d)) + bb ch m ρ c t (ix4 0 1 r k) = X R (n + k.val))
    (hv : ∀ (k : Fin 1024) (j : Fin 128), vb ch m ρ c t (ix2 k j) = Y j (n + k.val))
    (hp : Inv Q X Y (fun _ => n) c p) : Inv Q X Y N c (step0 ch m ρ c t p) := by
  rw [step0_E ch m ρ c t p q0 q1 q2]
  have hX' : ∀ R (r : Fin 1024), r.val = R.val % 1024 → ∀ (k : Fin 1024), (∑ d : Fin 128, c0 p (ix2 R d) * kb ch m ρ c t (ix2 k d)) + bb ch m ρ c t (ix4 0 1 r k) = X R (n + k.val) :=
    fun R r hr k => (congrArg (· + bb ch m ρ c t (ix4 0 1 r k)) (Finset.sum_congr rfl fun d _ => by rw [hp.q R d])).trans (hX R r hr k)
  refine ⟨fun R d => hp.q R d, fun R j => ?_, fun R j => ?_, fun R j => ?_⟩
  · exact PathE.outM c (ms0_2 ch t) (ms0_4 ch t) (iblk ch m ρ c (2 : Fin 7) t) (iblk ch m ρ c (4 : Fin 7) t) p.2.1 p.2.2.1 X N n hN hX' hp.m _ (ix2 R j)
  · exact PathE.outL c (ms0_2 ch t) (ms0_4 ch t) (iblk ch m ρ c (2 : Fin 7) t) (iblk ch m ρ c (4 : Fin 7) t) p.2.1 p.2.2.1 p.2.2.2.1 X N n hN hX' hp.m hp.l _ (ix2 R j)
  · exact PathE.outA c (ms0_2 ch t) (ms0_3 ch t) (ms0_4 ch t) (iblk ch m ρ c (2 : Fin 7) t) (iblk ch m ρ c (3 : Fin 7) t) (iblk ch m ρ c (4 : Fin 7) t) p.2.1 p.2.2.1 p.2.2.2.2 X Y N n hN hX' hp.m hv hp.a _ (ix2 R j)

/-- A block far from the diagonal. -/
theorem stepF (c : Dev nD) (t : Fin (cfgA ch).N) (p : Tup c) (q0 : ¬P0_0 ch t) (q1 : P0_1 ch t)
    (Q : Fin 2048 → Fin 128 → EReal) (X : Fin 2048 → ℕ → EReal) (Y : Fin 128 → ℕ → EReal) (N : Fin 2048 → ℕ) (n : ℕ)
    (hN : ∀ R : Fin 2048, N R = n + 1024)
    (hX : ∀ R (k : Fin 1024), (∑ d : Fin 128, Q R d * kb ch m ρ c t (ix2 k d)) = X R (n + k.val))
    (hv : ∀ (k : Fin 1024) (j : Fin 128), vb ch m ρ c t (ix2 k j) = Y j (n + k.val))
    (hp : Inv Q X Y (fun _ => n) c p) : Inv Q X Y N c (step0 ch m ρ c t p) := by
  rw [step0_F ch m ρ c t p q0 q1]
  have hX' : ∀ R (k : Fin 1024), (∑ d : Fin 128, c0 p (ix2 R d) * kb ch m ρ c t (ix2 k d)) = X R (n + k.val) :=
    fun R k => (Finset.sum_congr rfl fun d _ => by rw [hp.q R d]).trans (hX R k)
  refine ⟨fun R d => hp.q R d, fun R j => ?_, fun R j => ?_, fun R j => ?_⟩
  · exact PathF.outM c (ms0_2 ch t) (iblk ch m ρ c (2 : Fin 7) t) p.2.1 p.2.2.1 X N n hN hX' hp.m _ (ix2 R j)
  · exact PathF.outL c (ms0_2 ch t) (iblk ch m ρ c (2 : Fin 7) t) p.2.1 p.2.2.1 p.2.2.2.1 X N n hN hX' hp.m hp.l _ (ix2 R j)
  · exact PathF.outA c (ms0_2 ch t) (ms0_3 ch t) (iblk ch m ρ c (2 : Fin 7) t) (iblk ch m ρ c (3 : Fin 7) t) p.2.1 p.2.2.1 p.2.2.2.2 X Y N n hN hX' hp.m hv hp.a _ (ix2 R j)

end Cert.KernelIdeal.Step
-- ==== Proof.Attn.Tail.lean ====
/- The last lines of a block on the diagonal: the two maps' quotients, their difference, and its normalization. -/
module

public import proofs.«01_k».proof.Proof.Attn.Rows

@[expose] public section

set_option maxRecDepth 16384
set_option maxHeartbeats 1000000

noncomputable section

namespace Cert.KernelIdeal.Tail

open Idealize.ShloMosaic Idealize.ShloMosaic.TcCoe Cert.KernelIdeal Cert.KernelIdeal.Gen Cert.KernelIdeal.Chunk Cert.KernelIdeal.Rows Cert.Online

/-- The difference of the two maps' averages at row `r`, column `j`. -/
def diffv (A D : S2048x128.Idx → EReal) (lam : EReal) (r : Fin 1024) (j : Fin 128) : EReal :=
  Ideal.div (A (ix2 ⟨r.val, by have := r.isLt; omega⟩ j)) (D (ix2 ⟨r.val, by have := r.isLt; omega⟩ j))
    - lam * Ideal.div (A (ix2 ⟨1024 + r.val, by have := r.isLt; omega⟩ j)) (D (ix2 ⟨1024 + r.val, by have := r.isLt; omega⟩ j))

/-- A row divided by its root mean square, times the gain, times one minus the initial lambda. -/
def rms (f : Fin 128 → EReal) (g : Fin 128 → EReal) (j : Fin 128) : EReal :=
  f j * Ideal.rsqrt (Ideal.div (∑ i, f i * f i) (Ideal.ofBits .f32 0x43000000#32) + Ideal.ofBits .f32 0x3727C5AC#32) * g j * Ideal.ofBits .f32 0x3F4CCCCD#32

def vdiff (A D : FVec Ideal S2048x128 .f32) (lam : Ideal .f32) : FVec Ideal S1024x128 .f32 :=
  subf (extractStridedSlice S1024x128 ![0, 0] (divf A D) slices_S2048x128_o0_0_S1024x128) (mulf (broadcast S1024x128 lam) (extractStridedSlice S1024x128 ![1024, 0] (divf A D) slices_S2048x128_o1024_0_S1024x128))

def vrms (v : FVec Ideal S1024x128 .f32) (g : Vec Ideal S1x128 .f32) : FVec Ideal S1024x128 .f32 :=
  mulf (mulf v (broadcastTo S1024x128 (rsqrt (addf (divf (shapeCast S1024x1 (multiReduction .add [1] S1024 (mulf v v) 0x00000000#32 reduces_S1024x128_S1024 (.inl rfl) rfl) shapeCasts_S1024_S1024x1) (broadcast S1024x1 (Scalar.ofBits .f32 0x43000000#32))) (broadcast S1024x1 (Scalar.ofBits .f32 0x3727C5AC#32)))) broadcasts_S1024x1_S1024x128))
    (broadcastTo S1024x128 g broadcasts_S1x128_S1024x128)

theorem vdiff_eq (A D : FVec Ideal S2048x128 .f32) (lam : Ideal .f32) (r : Fin 1024) (j : Fin 128) :
    vdiff A D lam (ix2 r j) = diffv A D lam r j := by
  pointwise [vdiff, diffv]

theorem vrms_eq (v : FVec Ideal S1024x128 .f32) (g : Vec Ideal S1x128 .f32) (r : Fin 1024) (j : Fin 128) :
    k0_pay9 (vrms v g) (ix2 r j) = rms (fun j => v (ix2 r j)) (fun j => g (ix2 0 j)) j := by
  pointwise [k0_pay9, vrms]
  rfl

end Cert.KernelIdeal.Tail
-- ==== Proof.Attn.Out.lean ====
/- What a block on the diagonal stores into the output: the normalized difference of the two maps' averages. -/
module

public import proofs.«01_k».proof.Proof.Attn.Tail
public import proofs.«01_k».proof.Proof.Attn.PathA
public import proofs.«01_k».proof.Proof.Attn.PathC

@[expose] public section

set_option maxRecDepth 16384
set_option maxHeartbeats 2000000

noncomputable section

namespace Cert.KernelIdeal.Tail

open Idealize.ShloMosaic Idealize.ShloMosaic.TcCoe Cert.KernelIdeal Cert.KernelIdeal.Gen Cert.KernelIdeal.Chunk Cert.KernelIdeal.Rows Cert.Online

/-- A whole scratch read back. -/
theorem rdFull (v : View sig .tc .vmem S2048x128 .f32) (L : List (View.Piece (Elt Ideal) S2048x128 .f32)) (inb : ∀ a, (![0, 0] : Fin 2 → ℕ) a + S2048x128.size a ≤ S2048x128.size a) :
    v.readCov L (Rect.unit (s := S2048x128) ![0, 0] S2048x128.size inb).toLoadRect = fun y => v.read (Elt Ideal) (v.writes (Elt Ideal) v.junk L) y := by
  rw [View.readCov_eq_canon']
  funext y
  rw [View.read_writes_junk_apply_eq_canon]
  congr 1
  funext a
  refine Fin.ext ?_
  match a with
  | ⟨0, _⟩ => simp
  | ⟨1, _⟩ => simp

/-- A whole block stored once, read at an index. -/
theorem fillO (inb : ∀ a, (![0, 0] : Fin 2 → ℕ) a + S1024x128.size a ≤ S1024x128.size a) (w : S1024x128.Idx → Elt Ideal .f32) (r : Fin 1024) (j : Fin 128) :
    View.canon (Val := Elt Ideal) [⟨Rect.unit (s := S1024x128) ![0, 0] S1024x128.size inb, w⟩] (ix2 r j) = w (ix2 r j) := by
  have h : (Rect.unit (s := S1024x128) ![0, 0] S1024x128.size inb).emb (ix2 r j) = ix2 r j := by
    funext a
    refine Fin.ext ?_
    match a with
    | ⟨0, _⟩ => simp [ix2]
    | ⟨1, _⟩ => simp [ix2]
  have h2 := View.canon_cons_emb (Val := Elt Ideal) (Rect.unit (s := S1024x128) ![0, 0] S1024x128.size inb) w [] (ix2 r j)
  rw [h] at h2
  exact h2

/-- The output block from the two scratches read back. -/
theorem whole (inb : ∀ a, (![0, 0] : Fin 2 → ℕ) a + S1024x128.size a ≤ S1024x128.size a) (A D : FVec Ideal S2048x128 .f32) (lam : Ideal .f32) (g : Vec Ideal S1x128 .f32)
    (A' D' : S2048x128.Idx → EReal) (lam' : EReal) (g' : Fin 128 → EReal) (hA : ∀ y, A y = A' y) (hD : ∀ y, D y = D' y) (hl : lam = lam') (hg : ∀ j, g (ix2 0 j) = g' j) (r : Fin 1024) (j : Fin 128) :
    View.canon (Val := Elt Ideal) (e := .f32) [⟨Rect.unit (s := S1024x128) ![0, 0] S1024x128.size inb, k0_pay9 (vrms (vdiff A D lam) g)⟩] (ix2 r j)
      = (rms (diffv A' D' lam' r) g' j : EReal) := by
  obtain rfl : A = A' := funext hA
  obtain rfl : D = D' := funext hD
  subst hl
  refine (fillO inb _ r j).trans ((vrms_eq _ g r j).trans ?_)
  rw [show (fun j => g (ix2 0 j)) = g' from funext hg, show (fun j => vdiff A D lam (ix2 r j)) = diffv A D lam r from funext fun j => vdiff_eq A D lam r j]

theorem lamv (M : Memref sig .tc .smem S1 .f32) (x : S1.Idx → Elt Ideal .f32) (inb : ∀ a, (![0] : Fin 1 → ℕ) a + S1.size a ≤ S1.size a) (h : 0 < (Rect.unit (s := S1) ![0] S1.size inb).toLoadRect.shape.numel) :
    View.readAt (Elt Ideal) M.view (Rect.unit (s := S1) ![0] S1.size inb).toLoadRect (M.view.rep x) (Shape.Idx.first h) = x (ix1 0) := by
  rw [View.readAt_rep_full]
  have h : ∀ y : S1.Idx, y = ix1 0 := fun y => by
    funext a
    match a with
    | ⟨0, _⟩ => exact Subsingleton.elim (α := Fin 1) _ _
  exact congrArg x (h _)

theorem outC (c : Dev nD) (arg4 : Memref sig .tc .smem S1 .f32) (arg6 : Memref sig .tc .vmem S1024x128 .f32) (arg7 : Memref sig .tc .vmem S1024x128 .f32) (arg8 : Memref sig .tc .vmem S1x2x1024x1024 .f32) (arg9 : Memref sig .tc .vmem S1x128 .f32) (x0 : S1.Idx → Elt Ideal .f32) (x2 : S1024x128.Idx → Elt Ideal .f32) (x3 : S1024x128.Idx → Elt Ideal .f32) (x4 : S1x2x1024x1024.Idx → Elt Ideal .f32) (x5 : S1x128.Idx → Elt Ideal .f32) (xa0 : S2048x128.Idx → Elt Ideal .bf16) (xa1 : S2048x128.Idx → Elt Ideal .f32) (xa2 : S2048x128.Idx → Elt Ideal .f32) (xa3 : S2048x128.Idx → Elt Ideal .f32) (X : Fin 2048 → ℕ → EReal) (Y : Fin 128 → ℕ → EReal) (N : Fin 2048 → ℕ) (n : ℕ)
    (hN : ∀ R : Fin 2048, N R = n + (R.val % 1024 / 256 + 1) * 256)
    (hX : ∀ R (r : Fin 1024), r.val = R.val % 1024 → ∀ (k : Fin 1024), (∑ d : Fin 128, xa0 (ix2 R d) * x2 (ix2 k d)) + x4 (ix4 0 0 r k) = X R (n + k.val))
    (hv : ∀ (k : Fin 1024) (j : Fin 128), x3 (ix2 k j) = Y j (n + k.val))
    (hm : ∀ (R : Fin 2048) (j : Fin 128), xa1 (ix2 R j) = mx (X R) n)
    (hl : ∀ (R : Fin 2048) (j : Fin 128), xa2 (ix2 R j) = den (X R) n)
    (ha : ∀ (R : Fin 2048) (j : Fin 128), xa3 (ix2 R j) = num (X R) (Y j) n) (r : Fin 1024) (j : Fin 128) :
    View.canon (kernelRun0_C.sl.HO6_1 c arg4 arg6 arg7 arg8 arg9 x0 x2 x3 x4 x5 xa0 xa1 xa2 xa3) (ix2 r j)
      = (rms (diffv (fun y => num (X (y 0)) (Y (y 1)) (N (y 0))) (fun y => den (X (y 0)) (N (y 0))) (x0 (ix1 0)) r) (fun j => x5 (ix2 0 j)) j : EReal) := by
  refine whole _ (kernelRun0_C.sl.v314 c arg6 arg7 arg8 x2 x3 x4 xa0 xa1 xa3) (kernelRun0_C.sl.v315 c arg6 arg8 x2 x4 xa0 xa1 xa2) (kernelRun0_C.sl.r_2 arg4 x0) _ _ _ _ _ (fun y => ?_) (fun y => ?_) ?_ (fun j => ?_) r j
  · exact (congrFun (rdFull _ _ _) y).trans (PathC.outA c arg6 arg7 arg8 x2 x3 x4 xa0 xa1 xa3 X Y N n hN hX hm hv ha _ y)
  · exact (congrFun (rdFull _ _ _) y).trans (PathC.outL c arg6 arg8 x2 x4 xa0 xa1 xa2 X N n hN hX hm hl _ y)
  · exact lamv _ _ _ _
  · exact congrFun (View.readAt_rep_full _ _ _) _

theorem outA (arg4 : Memref sig .tc .smem S1 .f32) (arg5 : Memref sig .tc .vmem S1024x128 .f32) (arg6 : Memref sig .tc .vmem S1024x128 .f32) (arg7 : Memref sig .tc .vmem S1024x128 .f32) (arg8 : Memref sig .tc .vmem S1x2x1024x1024 .f32) (arg9 : Memref sig .tc .vmem S1x128 .f32) (x0 : S1.Idx → Elt Ideal .f32) (x1 : S1024x128.Idx → Elt Ideal .f32) (x2 : S1024x128.Idx → Elt Ideal .f32) (x3 : S1024x128.Idx → Elt Ideal .f32) (x4 : S1x2x1024x1024.Idx → Elt Ideal .f32) (x5 : S1x128.Idx → Elt Ideal .f32) (X : Fin 2048 → ℕ → EReal) (Y : Fin 128 → ℕ → EReal) (N : Fin 2048 → ℕ) (n : ℕ)
    (hN : ∀ R : Fin 2048, N R = n + (R.val % 1024 / 256 + 1) * 256)
    (hX : ∀ R (r : Fin 1024), r.val = R.val % 1024 → ∀ (k : Fin 1024), (∑ d : Fin 128, View.canon (kernelRun0_A.sl.HS0_2 arg5 x1) (ix2 R d) * x2 (ix2 k d)) + x4 (ix4 0 0 r k) = X R (n + k.val))
    (hv : ∀ (k : Fin 1024) (j : Fin 128), x3 (ix2 k j) = Y j (n + k.val))
    (hm : ∀ (R : Fin 2048) (j : Fin 128), (k0_pay4 (F := Ideal)) (ix2 R j) = mx (X R) n)
    (hl : ∀ (R : Fin 2048) (j : Fin 128), (k0_pay5 (F := Ideal)) (ix2 R j) = den (X R) n)
    (ha : ∀ (R : Fin 2048) (j : Fin 128), (k0_pay6 (F := Ideal)) (ix2 R j) = num (X R) (Y j) n) (r : Fin 1024) (j : Fin 128) :
    View.canon (kernelRun0_A.sl.HO6_1 arg4 arg5 arg6 arg7 arg8 arg9 x0 x1 x2 x3 x4 x5) (ix2 r j)
      = (rms (diffv (fun y => num (X (y 0)) (Y (y 1)) (N (y 0))) (fun y => den (X (y 0)) (N (y 0))) (x0 (ix1 0)) r) (fun j => x5 (ix2 0 j)) j : EReal) := by
  refine whole _ (kernelRun0_A.sl.v314 arg5 arg6 arg7 arg8 x1 x2 x3 x4) (kernelRun0_A.sl.v315 arg5 arg6 arg8 x1 x2 x4) (kernelRun0_A.sl.r_2 arg4 x0) _ _ _ _ _ (fun y => ?_) (fun y => ?_) ?_ (fun j => ?_) r j
  · exact (congrFun (rdFull _ _ _) y).trans (PathA.outA arg5 arg6 arg7 arg8 x1 x2 x3 x4 X Y N n hN hX hm hv ha _ y)
  · exact (congrFun (rdFull _ _ _) y).trans (PathA.outL arg5 arg6 arg8 x1 x2 x4 X N n hN hX hm hl _ y)
  · exact lamv _ _ _ _
  · exact congrFun (View.readAt_rep_full _ _ _) _

end Cert.KernelIdeal.Tail
-- ==== Proof.Attn.Point.lean ====
/- The grid's points: which head, block of queries and block of keys a point works on, and where its blocks lie in the arrays. -/
module

public import proofs.«01_k».proof.Proof.AttnIdeal.Cfg
public import proofs.«01_k».proof.Proof.Attn.Chunk
public import Idealize.ShloMosaic.Lib.Pipeline.ValueKit.Geometry

@[expose] public section

set_option maxRecDepth 16384
set_option maxHeartbeats 1000000

noncomputable section

namespace Cert.KernelIdeal.Point

open Idealize.ShloMosaic Idealize.ShloMosaic.TcCoe Cert.KernelIdeal Cert.KernelIdeal.Gen

/-- The block of queries of each of a head's 36 points. -/
def qiL : List ℕ := [0, 1, 1, 2, 2, 2, 3, 3, 3, 3, 4, 4, 4, 4, 4, 5, 5, 5, 5, 5, 5, 6, 6, 6, 6, 6, 6, 6, 7, 7, 7, 7, 7, 7, 7, 7]
/-- The block of keys of each of a head's 36 points. -/
def kiL : List ℕ := [0, 0, 1, 0, 1, 2, 0, 1, 2, 3, 0, 1, 2, 3, 4, 0, 1, 2, 3, 4, 5, 0, 1, 2, 3, 4, 5, 6, 0, 1, 2, 3, 4, 5, 6, 7]
def qi (t : ℕ) : ℕ := qiL.getD (t % 36) 0
def ki (t : ℕ) : ℕ := kiL.getD (t % 36) 0
def hd (t : ℕ) : ℕ := t / 36

/-- Which path a point takes. -/
theorem paths : ∀ (ch : Fin 1) (t : Fin (cfgA ch).N), (P0_0 ch t ↔ ki t.val = 0) ∧ (P0_1 ch t ↔ ki t.val + 1 < qi t.val) ∧ (P0_2 ch t ↔ ki t.val + 1 = qi t.val) := by
  decide +kernel

/-- The points' order. -/
theorem order : ∀ t : Fin 288, hd t.val < 8 ∧ qi t.val < 8 ∧ ki t.val ≤ qi t.val ∧
    (ki t.val ≠ 0 → t.val ≠ 0 ∧ hd (t.val - 1) = hd t.val ∧ qi (t.val - 1) = qi t.val ∧ ki (t.val - 1) + 1 = ki t.val) := by
  decide +kernel

theorem flush6 : ∀ (ch : Fin 1) (t : Fin (cfgA ch).N), ((cfgA ch).win (6 : Fin 7)).flush t = true → ki t.val = qi t.val := by
  decide +kernel

theorem ix1_ : ∀ (ch : Fin 1) (t : Fin (cfgA ch).N), ((cfgA ch).win (1 : Fin 7)).index t 0 = qi t.val ∧ ((cfgA ch).win (1 : Fin 7)).index t 1 = hd t.val := by
  decide +kernel
theorem ix2_ : ∀ (ch : Fin 1) (t : Fin (cfgA ch).N), ((cfgA ch).win (2 : Fin 7)).index t 0 = ki t.val ∧ ((cfgA ch).win (2 : Fin 7)).index t 1 = hd t.val := by
  decide +kernel
theorem ix3_ : ∀ (ch : Fin 1) (t : Fin (cfgA ch).N), ((cfgA ch).win (3 : Fin 7)).index t 0 = ki t.val ∧ ((cfgA ch).win (3 : Fin 7)).index t 1 = hd t.val := by
  decide +kernel
theorem ix4_ : ∀ (ch : Fin 1) (t : Fin (cfgA ch).N), ((cfgA ch).win (4 : Fin 7)).index t 0 = hd t.val ∧ ((cfgA ch).win (4 : Fin 7)).index t 1 = 0 ∧ ((cfgA ch).win (4 : Fin 7)).index t 2 = 0 ∧ ((cfgA ch).win (4 : Fin 7)).index t 3 = 0 := by
  decide +kernel
theorem ix6_ : ∀ (ch : Fin 1) (t : Fin (cfgA ch).N), ((cfgA ch).win (6 : Fin 7)).index t 0 = qi t.val ∧ ((cfgA ch).win (6 : Fin 7)).index t 1 = hd t.val := by
  decide +kernel
theorem covers6 : ∀ (ch : Fin 1), ((cfgA ch).win (6 : Fin 7)).Covers := by
  decide +kernel

variable (ch : Fin 1) (m : (ℓ : Loc nD τ sig) → Buf (Elt Ideal) ℓ) (ρ : Dev nD → PrngReg)

/-- The argument arrays: q, k, v, bias, lam and the gain. -/
abbrev aq (c : Dev nD) : S8192x1024.Idx → EReal := m ((c : Thread nD τ).loc main_arg0)
abbrev ak (c : Dev nD) : S8192x1024.Idx → EReal := m ((c : Thread nD τ).loc main_arg1)
abbrev av (c : Dev nD) : S8192x1024.Idx → EReal := m ((c : Thread nD τ).loc main_arg2)
abbrev ab (c : Dev nD) : S8x2x1024x1024.Idx → EReal := m ((c : Thread nD τ).loc main_arg3)
abbrev al (c : Dev nD) : S1.Idx → EReal := m ((c : Thread nD τ).loc main_arg5)
abbrev ag (c : Dev nD) : S1x128.Idx → EReal := m ((c : Thread nD τ).loc main_arg6)

theorem lt288 (t : Fin (cfgA ch).N) : t.val < 288 := t.isLt

/-- Row `r` of block `b` of eight. -/
def at8 (b : ℕ) (hb : b < 8) (r : Fin 1024) : Fin 8192 := ⟨b * 1024 + r.val, by have := r.isLt; omega⟩
/-- Lane `d` of head `h` of eight. -/
def lane (h : ℕ) (hh : h < 8) (d : Fin 128) : Fin 1024 := ⟨h * 128 + d.val, by have := d.isLt; omega⟩

theorem q_at (c : Dev nD) (t : Fin (cfgA ch).N) (b h : ℕ) (hb : b < 8) (hh : h < 8) (eb : qi t.val = b) (eh : hd t.val = h) (r : Fin 1024) (d : Fin 128) :
    (iblk ch m ρ c (1 : Fin 7) t : S1024x128.Idx → EReal) (ix2 r d) = aq m c (ix2 (at8 b hb r) (lane h hh d)) := by
  obtain ⟨e0, e1⟩ := ix1_ ch t
  blk_simp [iblk]
  refine congrArg (aq m c) (funext fun a => Fin.ext ?_)
  match a with
  | ⟨0, _⟩ => blk_simp; rw [e0, eb]; rfl
  | ⟨1, _⟩ => blk_simp; rw [e1, eh]; rfl

theorem k_at (c : Dev nD) (t : Fin (cfgA ch).N) (b h : ℕ) (hb : b < 8) (hh : h < 8) (eb : ki t.val = b) (eh : hd t.val = h) (r : Fin 1024) (d : Fin 128) :
    (iblk ch m ρ c (2 : Fin 7) t : S1024x128.Idx → EReal) (ix2 r d) = ak m c (ix2 (at8 b hb r) (lane h hh d)) := by
  obtain ⟨e0, e1⟩ := ix2_ ch t
  blk_simp [iblk]
  refine congrArg (ak m c) (funext fun a => Fin.ext ?_)
  match a with
  | ⟨0, _⟩ => blk_simp; rw [e0, eb]; rfl
  | ⟨1, _⟩ => blk_simp; rw [e1, eh]; rfl

theorem v_at (c : Dev nD) (t : Fin (cfgA ch).N) (b h : ℕ) (hb : b < 8) (hh : h < 8) (eb : ki t.val = b) (eh : hd t.val = h) (r : Fin 1024) (d : Fin 128) :
    (iblk ch m ρ c (3 : Fin 7) t : S1024x128.Idx → EReal) (ix2 r d) = av m c (ix2 (at8 b hb r) (lane h hh d)) := by
  obtain ⟨e0, e1⟩ := ix3_ ch t
  blk_simp [iblk]
  refine congrArg (av m c) (funext fun a => Fin.ext ?_)
  match a with
  | ⟨0, _⟩ => blk_simp; rw [e0, eb]; rfl
  | ⟨1, _⟩ => blk_simp; rw [e1, eh]; rfl

theorem b_at (c : Dev nD) (t : Fin (cfgA ch).N) (h : ℕ) (hh : h < 8) (eh : hd t.val = h) (e : Fin 2) (r k : Fin 1024) :
    (iblk ch m ρ c (4 : Fin 7) t : S1x2x1024x1024.Idx → EReal) (ix4 0 e r k) = ab m c (ix4 ⟨h, hh⟩ e r k) := by
  obtain ⟨e0, e1, e2, e3⟩ := ix4_ ch t
  blk_simp [iblk]
  refine congrArg (ab m c) (funext fun a => Fin.ext ?_)
  match a with
  | ⟨0, _⟩ => blk_simp; rw [e0, eh]; rfl
  | ⟨1, _⟩ => blk_simp; rw [e1]; simp [ix4]
  | ⟨2, _⟩ => blk_simp; rw [e2]; simp [ix4]
  | ⟨3, _⟩ => blk_simp; rw [e3]; simp [ix4]

theorem l_at (c : Dev nD) (t : Fin (cfgA ch).N) (y : S1.Idx) : (iblk ch m ρ c (0 : Fin 7) t : S1.Idx → EReal) y = al m c (ix1 0) := by
  blk_simp [iblk]
  refine congrArg (al m c) (funext fun a => ?_)
  match a with
  | ⟨0, _⟩ => exact Subsingleton.elim (α := Fin 1) _ _

theorem ix5_ : ∀ (ch : Fin 1) (t : Fin (cfgA ch).N), ((cfgA ch).win (5 : Fin 7)).index t 0 = 0 ∧ ((cfgA ch).win (5 : Fin 7)).index t 1 = 0 := by
  decide +kernel

theorem g_at (c : Dev nD) (t : Fin (cfgA ch).N) (j : Fin 128) : (iblk ch m ρ c (5 : Fin 7) t : S1x128.Idx → EReal) (ix2 0 j) = ag m c (ix2 0 j) := by
  obtain ⟨e0, e1⟩ := ix5_ ch t
  blk_simp [iblk]
  refine congrArg (ag m c) (funext fun a => Fin.ext ?_)
  match a with
  | ⟨0, _⟩ => blk_simp; rw [e0]; simp [ix2]
  | ⟨1, _⟩ => blk_simp; rw [e1]; simp [ix2]

end Cert.KernelIdeal.Point
-- ==== Proof.Attn.Traj.lean ====
/- The scratch buffers along the grid: after every point they hold the running softmax of the row's keys so far; and what the
   points on the diagonal store into the output. -/
module

public import proofs.«01_k».proof.Proof.Attn.Step
public import proofs.«01_k».proof.Proof.Attn.Out
public import proofs.«01_k».proof.Proof.Attn.Point

@[expose] public section

set_option maxRecDepth 16384
set_option maxHeartbeats 4000000

noncomputable section

namespace Cert.KernelIdeal.Traj

open Idealize.ShloMosaic Idealize.ShloMosaic.TcCoe Cert.KernelIdeal Cert.KernelIdeal.Gen Cert.KernelIdeal.Chunk Cert.KernelIdeal.Rows Cert.Online
open Cert.KernelIdeal.Step Cert.KernelIdeal.Point Cert.KernelIdeal.Tail

variable (ch : Fin 1) (m : (ℓ : Loc nD τ sig) → Buf (Elt Ideal) ℓ) (ρ : Dev nD → PrngReg)

/-- The arguments at natural coordinates, zero outside. -/
def qN (c : Dev nD) (r l : ℕ) : EReal := if h : r < 8192 ∧ l < 1024 then aq m c (ix2 ⟨r, h.1⟩ ⟨l, h.2⟩) else 0
def kN (c : Dev nD) (r l : ℕ) : EReal := if h : r < 8192 ∧ l < 1024 then ak m c (ix2 ⟨r, h.1⟩ ⟨l, h.2⟩) else 0
def vN (c : Dev nD) (r l : ℕ) : EReal := if h : r < 8192 ∧ l < 1024 then av m c (ix2 ⟨r, h.1⟩ ⟨l, h.2⟩) else 0
def bN (c : Dev nD) (h : ℕ) (e : Fin 2) (r k : ℕ) : EReal :=
  if hh : h < 8 ∧ r < 1024 ∧ k < 1024 then ab m c (ix4 ⟨h, hh.1⟩ e ⟨r, hh.2.1⟩ ⟨k, hh.2.2⟩) else 0

/-- The scaled, masked queries of head `h`, block `b`. -/
def Qf (c : Dev nD) (h b : ℕ) (R : Fin 2048) (d : Fin 128) : EReal :=
  if R.val < 1024 ↔ d.val < 64 then qN m c (b * 1024 + R.val % 1024) (h * 128 + d.val) * (((8⁻¹ * (Real.log 2)⁻¹ : ℝ)) : EReal) else 0

/-- The bias a key at distance of no block, one block, or more gets. -/
def Bf (c : Dev nD) (h b : ℕ) (r k : ℕ) : EReal :=
  if k / 1024 = b then bN m c h 0 r (k % 1024) else if k / 1024 + 1 = b then bN m c h 1 r (k % 1024) else 0

/-- The scores of head `h`, block `b` of queries. -/
def Xf (c : Dev nD) (h b : ℕ) (R : Fin 2048) (k : ℕ) : EReal :=
  (∑ d : Fin 128, Qf m c h b R d * kN m c k (h * 128 + d.val)) + Bf m c h b (R.val % 1024) k

/-- The values of head `h`. -/
def Yf (c : Dev nD) (h : ℕ) (j : Fin 128) (k : ℕ) : EReal := vN m c k (h * 128 + j.val)

/-- How many keys a row has seen after point `t`. -/
def Nf (t : ℕ) (R : Fin 2048) : ℕ :=
  if ki t = qi t then ki t * 1024 + (R.val % 1024 / 256 + 1) * 256 else ki t * 1024 + 1024

theorem kb_at (c : Dev nD) (t : Fin (cfgA ch).N) (k : Fin 1024) (d : Fin 128) : kb ch m ρ c t (ix2 k d) = kN m c (ki t.val * 1024 + k.val) (hd t.val * 128 + d.val) := by
  obtain ⟨o1, o2, o3, -⟩ := order t
  have hk := k.isLt
  have hdd := d.isLt
  rw [kN, dif_pos ⟨by omega, by omega⟩]
  exact k_at ch m ρ c t (ki t.val) (hd t.val) (by omega) o1 rfl rfl k d

theorem vb_at (c : Dev nD) (t : Fin (cfgA ch).N) (k : Fin 1024) (d : Fin 128) : vb ch m ρ c t (ix2 k d) = vN m c (ki t.val * 1024 + k.val) (hd t.val * 128 + d.val) := by
  obtain ⟨o1, o2, o3, -⟩ := order t
  have hk := k.isLt
  have hdd := d.isLt
  rw [vN, dif_pos ⟨by omega, by omega⟩]
  exact v_at ch m ρ c t (ki t.val) (hd t.val) (by omega) o1 rfl rfl k d

theorem qb_at (c : Dev nD) (t : Fin (cfgA ch).N) (r : Fin 1024) (d : Fin 128) : qb ch m ρ c t (ix2 r d) = qN m c (qi t.val * 1024 + r.val) (hd t.val * 128 + d.val) := by
  obtain ⟨o1, o2, o3, -⟩ := order t
  have hr := r.isLt
  have hdd := d.isLt
  rw [qN, dif_pos ⟨by omega, by omega⟩]
  exact q_at ch m ρ c t (qi t.val) (hd t.val) (by omega) o1 rfl rfl r d

theorem bb_at (c : Dev nD) (t : Fin (cfgA ch).N) (e : Fin 2) (r k : Fin 1024) : bb ch m ρ c t (ix4 0 e r k) = bN m c (hd t.val) e r.val k.val := by
  obtain ⟨o1, o2, o3, -⟩ := order t
  rw [bN, dif_pos ⟨o1, r.isLt, k.isLt⟩]
  exact b_at ch m ρ c t (hd t.val) o1 rfl e r k

theorem qrow_at (c : Dev nD) (t : Fin (cfgA ch).N) : qrow (qb ch m ρ c t) = Qf m c (hd t.val) (qi t.val) := by
  funext R d
  unfold qrow Qf
  rw [qb_at]

/-- The scores of a point's keys. -/
theorem X_far (c : Dev nD) (t : Fin (cfgA ch).N) (h1 : ki t.val + 1 < qi t.val) (R : Fin 2048) (k : Fin 1024) :
    (∑ d : Fin 128, Qf m c (hd t.val) (qi t.val) R d * kb ch m ρ c t (ix2 k d)) = Xf m c (hd t.val) (qi t.val) R (ki t.val * 1024 + k.val) := by
  have hk := k.isLt
  have e : (ki t.val * 1024 + k.val) / 1024 = ki t.val := by omega
  unfold Xf Bf
  rw [e, if_neg (by omega), if_neg (by omega), add_zero]
  exact Finset.sum_congr rfl fun d _ => by rw [kb_at]

theorem X_sub (c : Dev nD) (t : Fin (cfgA ch).N) (h1 : ki t.val + 1 = qi t.val) (R : Fin 2048) (r : Fin 1024) (hr : r.val = R.val % 1024) (k : Fin 1024) :
    (∑ d : Fin 128, Qf m c (hd t.val) (qi t.val) R d * kb ch m ρ c t (ix2 k d)) + bb ch m ρ c t (ix4 0 1 r k) = Xf m c (hd t.val) (qi t.val) R (ki t.val * 1024 + k.val) := by
  have hk := k.isLt
  have e : (ki t.val * 1024 + k.val) / 1024 = ki t.val := by omega
  have e' : (ki t.val * 1024 + k.val) % 1024 = k.val := by omega
  unfold Xf Bf
  rw [e, e', if_neg (by omega), if_pos h1, bb_at, hr]
  exact congrArg (· + _) (Finset.sum_congr rfl fun d _ => by rw [kb_at])

theorem X_diag (c : Dev nD) (t : Fin (cfgA ch).N) (h1 : ki t.val = qi t.val) (R : Fin 2048) (r : Fin 1024) (hr : r.val = R.val % 1024) (k : Fin 1024) :
    (∑ d : Fin 128, Qf m c (hd t.val) (qi t.val) R d * kb ch m ρ c t (ix2 k d)) + bb ch m ρ c t (ix4 0 0 r k) = Xf m c (hd t.val) (qi t.val) R (ki t.val * 1024 + k.val) := by
  have hk := k.isLt
  have e : (ki t.val * 1024 + k.val) / 1024 = ki t.val := by omega
  have e' : (ki t.val * 1024 + k.val) % 1024 = k.val := by omega
  unfold Xf Bf
  rw [e, e', if_pos h1, bb_at, hr]
  exact congrArg (· + _) (Finset.sum_congr rfl fun d _ => by rw [kb_at])

/-- What the scratch buffers hold after point `t`. -/
abbrev Held (c : Dev nD) (t : ℕ) (p : Tup c) : Prop := Inv (Qf m c (hd t) (qi t)) (Xf m c (hd t) (qi t)) (Yf m c (hd t)) (Nf t) c p

theorem prev_eq (c : Dev nD) (t : Fin (cfgA ch).N) (h : t.val ≠ 0) : prev0 ch m ρ c t = traj0 ch m ρ c (t.val - 1) (by have := t.isLt; omega) := by
  unfold prev0; rw [dif_neg h]

/-- What a point that is not the first of its row finds. -/
theorem before_point (c : Dev nD) (t : Fin (cfgA ch).N) (h : ki t.val ≠ 0)
    (ih : ∀ h' : t.val - 1 < (cfgA ch).N, Held m c (t.val - 1) (traj0 ch m ρ c (t.val - 1) h')) :
    Inv (Qf m c (hd t.val) (qi t.val)) (Xf m c (hd t.val) (qi t.val)) (Yf m c (hd t.val)) (fun _ => ki t.val * 1024) c (prev0 ch m ρ c t) := by
  obtain ⟨o1, o2, o3, o4⟩ := order t
  obtain ⟨p0, p1, p2, p3⟩ := o4 h
  rw [prev_eq ch m ρ c t p0]
  have hh := ih (by have := t.isLt; omega)
  unfold Held at hh
  rw [p1, p2] at hh
  rwa [show Nf (t.val - 1) = fun _ => ki t.val * 1024 from funext fun R => by unfold Nf; rw [if_neg (by omega)]; omega] at hh

theorem held (c : Dev nD) : ∀ (n : ℕ) (h : n < (cfgA ch).N), Held m c n (traj0 ch m ρ c n h) := by
  intro n
  induction n using Nat.strong_induction_on with
  | _ n ih =>
    intro h
    obtain ⟨t, rfl⟩ : ∃ t : Fin (cfgA ch).N, t.val = n := ⟨⟨n, h⟩, rfl⟩
    have hb := fun hk : ki t.val ≠ 0 => before_point ch m ρ c t hk fun h' => ih (t.val - 1) (by have := ((order t).2.2.2 hk).1; omega) h'
    rw [show traj0 ch m ρ c t.val h = _ from traj0_eq ch m ρ c t]
    obtain ⟨p0, p1, p2⟩ := paths ch t
    obtain ⟨o1, o2, o3, -⟩ := order t
    unfold Held
    by_cases k0 : ki t.val = 0
    · have q0 := p0.2 k0
      rw [← qrow_at ch m ρ c t]
      by_cases k1 : ki t.val + 1 < qi t.val
      · refine stepD ch m ρ c t _ q0 (p1.2 k1) _ _ _ (fun R => by unfold Nf; rw [if_neg (by omega), k0]) (fun R k => ?_) (fun k j => ?_)
        · rw [qrow_at, X_far ch m ρ c t k1, k0]
        · rw [vb_at, k0]; rfl
      · by_cases k2 : ki t.val + 1 = qi t.val
        · refine stepB ch m ρ c t _ q0 (fun hh => k1 (p1.1 hh)) (p2.2 k2) _ _ _ (fun R => by unfold Nf; rw [if_neg (by omega), k0]) (fun R r hr k => ?_) (fun k j => ?_)
          · rw [qrow_at, X_sub ch m ρ c t k2 R r hr, k0]
          · rw [vb_at, k0]; rfl
        · have k3 : ki t.val = qi t.val := by omega
          refine stepA ch m ρ c t _ q0 (fun hh => k1 (p1.1 hh)) (fun hh => k2 (p2.1 hh)) _ _ _ (fun R => by unfold Nf; rw [if_pos k3, k0]) (fun R r hr k => ?_) (fun k j => ?_)
          · rw [qrow_at, X_diag ch m ρ c t k3 R r hr, k0]
          · rw [vb_at, k0]; rfl
    · have q0 := fun hh => k0 (p0.1 hh)
      by_cases k1 : ki t.val + 1 < qi t.val
      · exact stepF ch m ρ c t _ q0 (p1.2 k1) _ _ _ _ (ki t.val * 1024) (fun R => by unfold Nf; rw [if_neg (by omega)]) (fun R k => X_far ch m ρ c t k1 R k) (fun k j => vb_at ch m ρ c t k j) (hb k0)
      · by_cases k2 : ki t.val + 1 = qi t.val
        · exact stepE ch m ρ c t _ q0 (fun hh => k1 (p1.1 hh)) (p2.2 k2) _ _ _ _ (ki t.val * 1024) (fun R => by unfold Nf; rw [if_neg (by omega)]) (fun R r hr k => X_sub ch m ρ c t k2 R r hr k) (fun k j => vb_at ch m ρ c t k j) (hb k0)
        · have k3 : ki t.val = qi t.val := by omega
          exact stepC ch m ρ c t _ q0 (fun hh => k1 (p1.1 hh)) (fun hh => k2 (p2.1 hh)) _ _ _ _ (ki t.val * 1024) (fun R => by unfold Nf; rw [if_pos k3]) (fun R r hr k => X_diag ch m ρ c t k3 R r hr k) (fun k j => vb_at ch m ρ c t k j) (hb k0)

/-- What a point on the diagonal leaves in the output block. -/
theorem out_at (c : Dev nD) (t : Fin (cfgA ch).N) (h : ki t.val = qi t.val) (r : Fin 1024) (j : Fin 128) :
    (traj0 ch m ρ c t.val t.isLt).1 (ix2 r j)
      = (rms (diffv (fun y => num (Xf m c (hd t.val) (qi t.val) (y 0)) (Yf m c (hd t.val) (y 1)) (Nf t.val (y 0))) (fun y => den (Xf m c (hd t.val) (qi t.val) (y 0)) (Nf t.val (y 0))) (al m c (ix1 0)) r) (fun j => ag m c (ix2 0 j)) j : EReal) := by
  have hb := fun hk : ki t.val ≠ 0 => before_point ch m ρ c t hk fun h' => held ch m ρ c (t.val - 1) h'
  rw [traj0_eq ch m ρ c t]
  obtain ⟨p0, p1, p2⟩ := paths ch t
  obtain ⟨o1, o2, o3, -⟩ := order t
  have hg : (fun j => gb ch m ρ c t (ix2 0 j)) = fun j => ag m c (ix2 0 j) := funext fun j => g_at ch m ρ c t j
  have hl : lb ch m ρ c t (ix1 0) = al m c (ix1 0) := l_at ch m ρ c t _
  rw [← hg, ← hl]
  by_cases k0 : ki t.val = 0
  · rw [step0_A ch m ρ c t _ (p0.2 k0) (fun hh => by have := p1.1 hh; omega) (fun hh => by have := p2.1 hh; omega)]
    dsimp only
    unfold out0_A_6
    rw [View.read_writes_junk_apply_eq_canon]
    refine outA (ms0_0 ch t) (ms0_1 ch t) (ms0_2 ch t) (ms0_3 ch t) (ms0_4 ch t) (ms0_5 ch t) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t)
      (Xf m c (hd t.val) (qi t.val)) (Yf m c (hd t.val)) (Nf t.val) 0 (fun R => by unfold Nf; rw [if_pos h, k0]) (fun R r hr k => ?_) (fun k j => ?_)
      (fun R j => (pay4_eq R j).trans (mx_zero _).symm) (fun R j => (pay5_eq R j).trans (den_zero _).symm) (fun R j => (pay6_eq R j).trans (num_zero _ _).symm) r j
    · have e := X_diag ch m ρ c t h R r hr k
      rw [k0] at e
      refine (congrArg (· + bb ch m ρ c t (ix4 0 0 r k)) (Finset.sum_congr rfl fun d _ => ?_)).trans e
      rw [← qrow_at ch m ρ c t, qinit_A]
    · have e := vb_at ch m ρ c t k j
      rw [k0] at e
      exact e
  · rw [step0_C ch m ρ c t _ (fun hh => k0 (p0.1 hh)) (fun hh => by have := p1.1 hh; omega) (fun hh => by have := p2.1 hh; omega)]
    have hp := hb k0
    dsimp only
    unfold out0_C_6
    rw [View.read_writes_junk_apply_eq_canon]
    refine outC c (ms0_0 ch t) (ms0_2 ch t) (ms0_3 ch t) (ms0_4 ch t) (ms0_5 ch t) (iblk ch m ρ c (0 : Fin 7) t) (iblk ch m ρ c (2 : Fin 7) t) (iblk ch m ρ c (3 : Fin 7) t) (iblk ch m ρ c (4 : Fin 7) t) (iblk ch m ρ c (5 : Fin 7) t)
      (prev0 ch m ρ c t).2.1 (prev0 ch m ρ c t).2.2.1 (prev0 ch m ρ c t).2.2.2.1 (prev0 ch m ρ c t).2.2.2.2
      (Xf m c (hd t.val) (qi t.val)) (Yf m c (hd t.val)) (Nf t.val) (ki t.val * 1024) (fun R => by unfold Nf; rw [if_pos h]) (fun R r hr k => ?_) (fun k j => vb_at ch m ρ c t k j)
      hp.m hp.l hp.a r j
    refine (congrArg (· + bb ch m ρ c t (ix4 0 0 r k)) (Finset.sum_congr rfl fun d _ => ?_)).trans (X_diag ch m ρ c t h R r hr k)
    exact congrArg (· * kb ch m ρ c t (ix2 k d)) (hp.q R d)

end Cert.KernelIdeal.Traj
-- ==== Proof.Attn.Final.lean ====
/- The kernel's output array: every row of every head is its row of the attention, normed. -/
module

public import proofs.«01_k».proof.Proof.Attn.Traj
public import Idealize.ShloMosaic.Lib.Pipeline.ValueKit.Geometry

@[expose] public section

set_option maxRecDepth 16384
set_option maxHeartbeats 1000000

noncomputable section

namespace Cert.KernelIdeal.Final

open Idealize.ShloMosaic Idealize.ShloMosaic.TcCoe Cert.KernelIdeal Cert.KernelIdeal.Gen Cert.Online
open Cert.KernelIdeal.Point Cert.KernelIdeal.Traj Cert.KernelIdeal.Tail

variable (ch : Fin 1) (m : (ℓ : Loc nD τ sig) → Buf (Elt Ideal) ℓ) (ρ : Dev nD → PrngReg)

/-- How many keys a row of the block `b` has seen at its end. -/
def Nb (b : ℕ) (R : Fin 2048) : ℕ := b * 1024 + (R.val % 1024 / 256 + 1) * 256

/-- A row of block `b` of head `h`. -/
def rowf (c : Dev nD) (h b : ℕ) (r : Fin 1024) (j : Fin 128) : EReal :=
  rms (diffv (fun y => num (Xf m c h b (y 0)) (Yf m c h (y 1)) (Nb b (y 0))) (fun y => den (Xf m c h b (y 0)) (Nb b (y 0))) (al m c (ix1 0)) r) (fun j => ag m c (ix2 0 j)) j

/-- The whole output. -/
def G (c : Dev nD) : S8192x1024.Idx → EReal := fun i =>
  rowf m c ((i 1).val / 128) ((i 0).val / 1024) ⟨(i 0).val % 1024, Nat.mod_lt _ (by norm_num)⟩ ⟨(i 1).val % 128, Nat.mod_lt _ (by norm_num)⟩

theorem G_at (c : Dev nD) (h b : ℕ) (r : Fin 1024) (j : Fin 128) (i : S8192x1024.Idx) (h0 : (i 0).val = b * 1024 + r.val) (h1 : (i 1).val = h * 128 + j.val) : G m c i = rowf m c h b r j := by
  have hr := r.isLt
  have hj := j.isLt
  have e1 : (i 1).val / 128 = h := by omega
  have e2 : (i 0).val / 1024 = b := by omega
  have e3 : (⟨(i 0).val % 1024, Nat.mod_lt _ (by norm_num)⟩ : Fin 1024) = r := Fin.ext (by show _ % _ = _; omega)
  have e4 : (⟨(i 1).val % 128, Nat.mod_lt _ (by norm_num)⟩ : Fin 128) = j := Fin.ext (by show _ % _ = _; omega)
  unfold G
  rw [e1, e2, e3, e4]

theorem out_row (c : Dev nD) (t : Fin (cfgA ch).N) (h : ki t.val = qi t.val) (r : Fin 1024) (j : Fin 128) :
    (traj0 ch m ρ c t.val t.isLt).1 (ix2 r j) = rowf m c (hd t.val) (qi t.val) r j := by
  refine (out_at ch m ρ c t h r j).trans ?_
  unfold rowf
  have e : Nf t.val = Nb (qi t.val) := by
    funext R; unfold Nf Nb; rw [if_pos h, h]
  rw [e]

theorem final (c : Dev nD) : (dats ch m ρ 0 c).arrAt 6 (cfgA ch).N = G m c := by
  refine (dats ch m ρ 0 c).arrAt_eq_of_covers (6 : Fin 7) _ (covers6 ch) fun t hf y => ?_
  have hk := flush6 ch t hf
  obtain ⟨e0, e1⟩ := ix6_ ch t
  have hy : y = ix2 (y 0) (y 1) := by funext a; match a with | ⟨0, _⟩ => rfl | ⟨1, _⟩ => rfl
  blk_simp
  rw [after0_6]
  refine Eq.trans ?_ (G_at m c (hd t.val) (qi t.val) (y 0) (y 1) _ ?_ ?_).symm
  · exact (congrArg _ hy).trans (out_row ch m ρ c t hk (y 0) (y 1))
  · blk_simp; rw [e0]
  · blk_simp; rw [e1]

end Cert.KernelIdeal.Final
-- ==== Proof.Attn.Bucket.lean ====
/- The relative bias: the bucket of a distance, and the table's row it reads. -/
module

public import Idealize.ShloMosaic.Lib.Pointwise
public import proofs.«01_k».proof.Proof.Attn.Online

@[expose] public section

set_option maxRecDepth 16384
set_option maxHeartbeats 2000000

noncomputable section

namespace Cert.Bucket

open Idealize.ShloMosaic

/-- The dimension numbers of a read of a 32-row table at an array of row numbers. -/
abbrev rowsDims (A B : Nat) (wf : GatherDims.WF ⟨2, ![32, 8]⟩ ⟨3, ![A, B, 1]⟩ ⟨3, ![A, B, 8]⟩ [2] [0] [] [0] [] 2 ![1, 8]) :
    GatherDims ⟨2, ![32, 8]⟩ ⟨3, ![A, B, 1]⟩ ⟨3, ![A, B, 8]⟩ where
  offsetDims := [2]
  collapsedSliceDims := [0]
  operandBatchingDims := []
  startIndicesBatchingDims := []
  startIndexMap := [0]
  indexVectorDim := 2
  sliceSizes := ![1, 8]
  wf := wf

/-- Rows of a table read at an array of row numbers: the row number clamped into the table, the column kept. -/
theorem gather_rows {A B w : Nat} (wf : GatherDims.WF ⟨2, ![32, 8]⟩ ⟨3, ![A, B, 1]⟩ ⟨3, ![A, B, 8]⟩ [2] [0] [] [0] [] 2 ![1, 8])
    (x : (⟨2, ![32, 8]⟩ : Shape).Idx → EReal) (idx : IVec ⟨3, ![A, B, 1]⟩ w) (r : Fin A) (c : Fin B) (h : Fin 8) :
    Host.gather (rowsDims A B wf) x idx (ix3 r c h) = x (ix2 ⟨min (idx (ix3 r c 0)).toInt.toNat 31, by omega⟩ h) := by
  unfold Host.gather
  congr 1
  funext a
  refine Fin.ext ?_
  show (rowsDims A B wf).start (ix3 r c h) idx a + (rowsDims A B wf).batchCoord (ix3 r c h) a + (rowsDims A B wf).offCoord (ix3 r c h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims A B wf).startIndexMap from List.mem_singleton.mpr rfl)]
    have hsi : (rowsDims A B wf).siIdx (ix3 r c h) ⟨List.idxOf (0 : Fin 2) (rowsDims A B wf).startIndexMap,
        List.idxOf_lt_length_iff.2 (List.mem_singleton.mpr rfl)⟩ = ix3 r c 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬ (1 : Fin 2) ∈ ([0] : List (Fin 2)) by decide)]
    simp only [Nat.zero_add]
    rfl

/-- The bucket of a distance. -/
def bk (d : BitVec 32) : BitVec 32 :=
  Scalar.select (IntOp.cmpi .slt d 16#32) d
    (IntOp.minsi (IntOp.addi (16#32) (FloatOps.fptosi (F := Ideal) (φ := .f32) 32 (Ideal.div (Ideal.log (Ideal.div (FloatOps.sitofp (F := Ideal) FTy.f32 (IntOp.maxsi d 1#32)) (Ideal.ofBits FTy.f32 0x41800000#32))) (Ideal.ofBits FTy.f32 0x40051592#32) * Ideal.ofBits FTy.f32 0x41800000#32))) 31#32)

/-- The table's row for a distance. -/
def row (d : BitVec 32) : Fin 32 :=
  ⟨min (Scalar.select (IntOp.cmpi .slt (bk d) 0#32) (IntOp.addi (bk d) 32#32) (bk d)).toInt.toNat 31, by omega⟩

theorem toInt_small (n : ℕ) (h : n < 2 ^ 31) : (BitVec.ofNat 32 n).toInt = n := by
  rw [BitVec.toInt_eq_toNat_of_lt] <;> simp only [BitVec.toNat_ofNat] <;> omega

theorem sle_nat (a b : ℕ) (ha : a < 2 ^ 31) (hb : b < 2 ^ 31) : IntOp.cmpi .sle (BitVec.ofNat 32 a) (BitVec.ofNat 32 b) = 1#1 ↔ a ≤ b := by
  simp only [IntOp.cmpi, BitVec.sle, toInt_small a ha, toInt_small b hb]
  by_cases h : a ≤ b <;> simp [h]

theorem max_sub (r c : ℕ) (hr : r < 8192) (hc : c < 8192) : IntOp.maxsi (IntOp.subi (BitVec.ofNat 32 r) (BitVec.ofNat 32 c)) 0#32 = BitVec.ofNat 32 (r - c) := by
  apply BitVec.eq_of_toInt_eq
  rw [toInt_small _ (by omega)]
  have e : (IntOp.subi (BitVec.ofNat 32 r) (BitVec.ofNat 32 c)).toInt = (r : ℤ) - c := by
    simp only [IntOp.subi, BitVec.toInt_sub, toInt_small r (by omega), toInt_small c (by omega)]
    rw [Int.bmod_def]; omega
  simp only [IntOp.maxsi, BitVec.slt, BitVec.sle, e, decide_eq_true_eq]
  split <;> rename_i h <;> simp at h ⊢ <;> omega

theorem max_sub_add (r c : ℕ) (hr : r < 8192) (hc : c < 1024) : IntOp.maxsi (IntOp.addi (IntOp.subi (BitVec.ofNat 32 r) (BitVec.ofNat 32 c)) 1024#32) 0#32 = BitVec.ofNat 32 (r + 1024 - c) := by
  apply BitVec.eq_of_toInt_eq
  rw [toInt_small _ (by omega)]
  have e : (IntOp.addi (IntOp.subi (BitVec.ofNat 32 r) (BitVec.ofNat 32 c)) 1024#32).toInt = (r : ℤ) - c + 1024 := by
    simp only [IntOp.subi, IntOp.addi, BitVec.toInt_sub, BitVec.toInt_add, toInt_small r (by omega), toInt_small c (by omega), toInt_small 1024 (by omega), show (1024#32).toInt = 1024 from rfl]
    rw [Int.bmod_def, Int.bmod_def]; omega
  simp only [IntOp.maxsi, BitVec.slt, BitVec.sle, e, decide_eq_true_eq]
  split <;> rename_i h <;> simp at h ⊢ <;> omega

/-- Every far distance reads the last row. -/
theorem row_far (n : ℕ) (h0 : 1025 ≤ n) (h1 : n < 8192) : row (BitVec.ofNat 32 n) = 31 := by
  have e16 : Ideal.ofBits .f32 0x41800000#32 = ((16 : ℝ) : EReal) := by simp [Ideal.ofBits, Ideal.ieee, -EReal.coe_mul]; norm_num
  have el : ∃ c : ℝ, Ideal.ofBits .f32 0x40051592#32 = (c : EReal) ∧ 2 < c ∧ c < 2.1 := by
    refine ⟨_, by simp [Ideal.ofBits, Ideal.ieee, -EReal.coe_mul]; rfl, ?_, ?_⟩ <;> norm_num
  obtain ⟨c, hc, c1, c2⟩ := el
  have hm : IntOp.maxsi (BitVec.ofNat 32 n) 1#32 = BitVec.ofNat 32 n := by
    have e : (1#32).toInt = 1 := rfl
    simp only [IntOp.maxsi, BitVec.slt, BitVec.sle, e, toInt_small n (by omega)]
    split <;> rename_i h
    · first | rfl | (simp at h; omega)
    · first | rfl | (simp at h; omega)
  have hs : FloatOps.sitofp (F := Ideal) .f32 (BitVec.ofNat 32 n) = (((n : ℝ)) : EReal) := by
    show ((((BitVec.ofNat 32 n).toInt : ℤ) : ℝ) : EReal) = _
    rw [toInt_small n (by omega)]; push_cast; rfl
  have hn : (1025 : ℝ) ≤ n := by exact_mod_cast h0
  have hn' : (n : ℝ) < 8192 := by exact_mod_cast h1
  have hpos : (0 : ℝ) < (n : ℝ) / 16 := by positivity
  have hlog : Ideal.log (((n : ℝ) / 16 : ℝ) : EReal) = ((Real.log ((n : ℝ) / 16) : ℝ) : EReal) := by
    have : ¬ ((n : ℝ) / 16 ≤ 0) := by linarith
    rw [Ideal.log_coe, if_neg this]
  have lb : (3 : ℝ) ≤ Real.log ((n : ℝ) / 16) := by
    have h6 : Real.log ((2 : ℝ) ^ 6) ≤ Real.log ((n : ℝ) / 16) := Real.log_le_log (by norm_num) (by linarith)
    rw [Real.log_pow] at h6
    have h2 := Real.one_sub_inv_le_log_of_pos (x := 2) (by norm_num)
    push_cast at h6
    linarith
  have ub : Real.log ((n : ℝ) / 16) ≤ 511 := by
    have := Real.log_le_sub_one_of_pos hpos
    linarith
  have hf : ∃ k : ℕ, 15 ≤ k ∧ k < 10000 ∧ FloatOps.fptosi (F := Ideal) (φ := .f32) 32 (((Real.log ((n : ℝ) / 16) / c * 16 : ℝ)) : EReal) = BitVec.ofNat 32 k := by
    have p0 : (15 : ℝ) ≤ Real.log ((n : ℝ) / 16) / c * 16 := by
      rw [div_mul_eq_mul_div, le_div_iff₀ (by linarith)]; linarith
    have p1 : Real.log ((n : ℝ) / 16) / c * 16 < 9999 := by
      rw [div_mul_eq_mul_div, div_lt_iff₀ (by linarith)]; linarith
    generalize Real.log ((n : ℝ) / 16) / c * 16 = z at p0 p1
    have f0 : (15 : ℤ) ≤ ⌊z⌋ := Int.le_floor.2 (by exact_mod_cast p0)
    have f1 : ⌊z⌋ < 9999 := Int.floor_lt.2 (by exact_mod_cast p1)
    refine ⟨⌊z⌋.toNat, by omega, by omega, ?_⟩
    show BitVec.ofInt 32 (max _ (min _ (if 0 ≤ z then ⌊z⌋ else ⌈z⌉))) = _
    rw [if_pos (by linarith)]
    apply BitVec.eq_of_toInt_eq
    rw [toInt_small _ (by omega), BitVec.toInt_ofInt, Int.bmod_def]
    norm_num
    omega
  obtain ⟨k, k0, k1, hk⟩ := hf
  have hbk : bk (BitVec.ofNat 32 n) = 31#32 := by
    unfold bk
    rw [hm, hs, e16, hc, Online.div_coe (by norm_num), hlog, Online.div_coe (by linarith), ← EReal.coe_mul, hk]
    have e0 : IntOp.cmpi .slt (BitVec.ofNat 32 n) 16#32 = 0#1 := by
      have e : (16#32).toInt = 16 := rfl
      simp only [IntOp.cmpi, BitVec.slt, toInt_small n (by omega), e]
      rw [decide_eq_false (by omega)]; rfl
    rw [e0]
    have e1 : IntOp.addi (16#32) (BitVec.ofNat 32 k) = BitVec.ofNat 32 (16 + k) := by
      simp [IntOp.addi, BitVec.ofNat_add]
    rw [e1]
    have e : (31#32).toInt = 31 := rfl
    show IntOp.minsi (BitVec.ofNat 32 (16 + k)) 31#32 = 31#32
    apply BitVec.eq_of_toInt_eq
    simp only [IntOp.minsi, BitVec.slt, BitVec.sle, e, toInt_small (16 + k) (by omega)]
    split <;> rename_i h
    · simp at h; rw [toInt_small _ (by omega)]; omega
    · rfl
  refine Fin.ext ?_
  show min (Scalar.select (IntOp.cmpi .slt (bk (BitVec.ofNat 32 n)) 0#32) (IntOp.addi (bk (BitVec.ofNat 32 n)) 32#32) (bk (BitVec.ofNat 32 n))).toInt.toNat 31 = 31
  rw [hbk]
  rfl

end Cert.Bucket
-- ==== Proof.Attn.Pre.lean ====
/- What the precondition says of the arguments: which of them are finite, and that the bias tables are the reference's bias over log 2. -/
module

public import proofs.«01_k».proof.Defs
public import proofs.«01_k».proof.Proof.Attn.Bucket
public import Idealize.ShloMosaic.Lib.ReduceAll
public import Idealize.ShloMosaic.Lib.Pointwise

@[expose] public section

set_option maxRecDepth 16384
set_option maxHeartbeats 2000000

noncomputable section

namespace Cert.AttnPre

open Idealize.ShloMosaic Cert.Bucket Cert.Pre_call_args Cert.Pre_call_args.Facts

variable [Facts]

variable (q k v : S8192x1024.Idx → EReal) (b : S8x2x1024x1024.Idx → EReal) (rb : S32x8.Idx → EReal) (l : S1.Idx → EReal) (g : S1x128.Idx → EReal)

/-- The last four parts of the precondition, at any two bias arrays. -/
theorem tail (D1 D2 : S8x1024x1024.Idx → EReal) (y : S_.Idx)
    (h : fn_part4 (F := Ideal) k v b rb l D1 D2 (Host.absf (F := Ideal) (φ := .f32) q) (constant S_ .f32 0x7F800000#32) y = 1#1) :
    (∀ i, q i ≠ ⊥ ∧ q i ≠ ⊤) ∧ (∀ i, k i ≠ ⊥ ∧ k i ≠ ⊤) ∧ (∀ i, v i ≠ ⊥ ∧ v i ≠ ⊤) ∧ (∀ i, rb i ≠ ⊥ ∧ rb i ≠ ⊤) ∧ (∀ i, l i ≠ ⊥ ∧ l i ≠ ⊤)
      ∧ (∀ (i : Fin 8) (r c : Fin 1024), b (ix4 i 0 r c) * ((Real.log 2 : ℝ) : EReal) = D1 (ix3 i r c))
      ∧ (∀ (i : Fin 8) (r c : Fin 1024), b (ix4 i 1 r c) * ((Real.log 2 : ℝ) : EReal) = D2 (ix3 i r c)) := by
  have fin : ∀ x : EReal, FloatOps.cmpf (F := Ideal) (φ := .f32) .olt (FloatOps.hostAbsf x) (Ideal.ofBits .f32 0x7F800000#32) = 1#1 → x ≠ ⊥ ∧ x ≠ ⊤ := by
    intro x hx
    have htop : Ideal.ofBits .f32 0x7F800000#32 = ⊤ := by simp [Ideal.ofBits, Ideal.ieee]
    have h' : max x (-x) < ⊤ := by
      have hx' : Ideal.cmp .olt (max x (-x)) (Ideal.ofBits .f32 0x7F800000#32) = 1#1 := hx
      rw [htop] at hx'
      by_contra hn
      simp [Ideal.cmp, hn] at hx'
    refine ⟨fun e => ?_, fun e => ?_⟩ <;> subst e <;> simp at h'
  have eq : ∀ x y : EReal, FloatOps.cmpf (F := Ideal) (φ := .f32) .oeq x y = 1#1 → x = y := by
    intro x y hx
    by_contra hn
    have hx' : Ideal.cmp .oeq x y = 1#1 := hx
    simp [Ideal.cmp, hn] at hx'
  have two : Ideal.log (Ideal.ofBits .f32 0x40000000#32) = ((Real.log 2 : ℝ) : EReal) := by
    have e : Ideal.ofBits .f32 0x40000000#32 = ((2 : ℝ) : EReal) := by simp [Ideal.ofBits, Ideal.ieee, -EReal.coe_mul]; norm_num
    rw [e, Ideal.log_coe, if_neg (by norm_num)]
  unfold fn_part4 fn_part5 fn_part6 at h
  obtain ⟨h, hD2⟩ := IntOp.andi_eq_one.1 h
  obtain ⟨h, hD1⟩ := IntOp.andi_eq_one.1 h
  obtain ⟨h, hl⟩ := IntOp.andi_eq_one.1 h
  obtain ⟨h, hrb⟩ := IntOp.andi_eq_one.1 h
  obtain ⟨h, hv⟩ := IntOp.andi_eq_one.1 h
  obtain ⟨hq, hk⟩ := IntOp.andi_eq_one.1 h
  have sub : Subsingleton S_.Idx := ⟨fun a b => funext fun i => i.elim0⟩
  refine ⟨fun i => fin _ (Host.reduce_andi_all _ _ _ _ y hq i), fun i => fin _ (Host.reduce_andi_all _ _ _ _ y hk i), fun i => fin _ (Host.reduce_andi_all _ _ _ _ y hv i), fun i => fin _ (Host.reduce_andi_all _ _ _ _ y hrb i), fun i => fin _ (Host.reduce_andi_all _ _ _ _ y hl i), fun i r c => ?_, fun i r c => ?_⟩
  · have e := eq _ _ (Host.reduce_andi_all _ _ _ _ y hD1 (ix3 i r c))
    rw [← e, ← two]
    pointwise
  · have e := eq _ _ (Host.reduce_andi_all _ _ _ _ y hD2 (ix3 i r c))
    rw [← e, ← two]
    pointwise

/-- What the precondition says. -/
structure Holds : Prop where
  hq : ∀ i, q i ≠ ⊥ ∧ q i ≠ ⊤
  hk : ∀ i, k i ≠ ⊥ ∧ k i ≠ ⊤
  hv : ∀ i, v i ≠ ⊥ ∧ v i ≠ ⊤
  hrb : ∀ i, rb i ≠ ⊥ ∧ rb i ≠ ⊤
  hl : ∀ i, l i ≠ ⊥ ∧ l i ≠ ⊤
  diag : ∀ (i : Fin 8) (r c : Fin 1024), b (ix4 i 0 r c) * ((Real.log 2 : ℝ) : EReal) = if c.val ≤ r.val then rb (ix2 (row (BitVec.ofNat 32 (r.val - c.val))) i) - rb (ix2 31 i) else ⊥
  below : ∀ (i : Fin 8) (r c : Fin 1024), b (ix4 i 1 r c) * ((Real.log 2 : ℝ) : EReal) = rb (ix2 (row (BitVec.ofNat 32 (r.val + 1024 - c.val))) i) - rb (ix2 31 i)

theorem facts (h : fn (F := Ideal) q k v b rb l g = fun _ => 1#1) : Holds q k v b rb l := by
  have h0 := congrFun h (fun a => a.elim0)
  unfold fn fn_part1 fn_part2 fn_part3 at h0
  obtain ⟨f1, f2, f3, f4, f5, f6, f7⟩ := tail _ _ _ _ _ _ _ _ _ h0
  refine ⟨f1, f2, f3, f4, f5, fun i r c => (f6 i r c).trans ?_, fun i r c => (f7 i r c).trans ?_⟩
  · unfold fn_where fn_where_0
    pointwise [show gather_S32x8_S1024x1024x1_S1024x1024x8_2_0_n_n_0_2_18 = rowsDims 1024 1024 Facts.gather_S32x8_S1024x1024x1_S1024x1024x8_2_0_n_n_0_2_18_wf from rfl, gather_rows]
    have hr := r.isLt
    have hc := c.isLt
    rw [← max_sub r.val c.val (by omega) (by omega)]
    have hb : Ideal.ofBits .f32 0xFF800000#32 = ⊥ := by simp [Ideal.ofBits, Ideal.ieee]
    first | rw [hb] | skip
    exact if_congr (sle_nat c.val r.val (by omega) (by omega)) rfl rfl
  · unfold fn_where
    pointwise [show gather_S32x8_S1024x1024x1_S1024x1024x8_2_0_n_n_0_2_18 = rowsDims 1024 1024 Facts.gather_S32x8_S1024x1024x1_S1024x1024x8_2_0_n_n_0_2_18_wf from rfl, gather_rows]
    rw [← max_sub_add r.val c.val (by omega) (by omega)]
    rfl

end Cert.AttnPre
-- ==== Proof.Attn.Ref.lean ====
/- The reference at an index: the masked logits, their softmax, the difference of the two maps applied to the values, and the norm. -/
module

public import proofs.«01_k».proof.Proof.Gen.ReferenceIdeal.Run
public import proofs.«01_k».proof.Proof.Attn.Bucket
public import proofs.«01_k».proof.Proof.Attn.Tail
public import Idealize.ShloMosaic.Lib.Pointwise

@[expose] public section

set_option maxRecDepth 16384
set_option maxHeartbeats 400000

noncomputable section

namespace Cert.ReferenceIdeal.At

open Idealize.ShloMosaic Idealize.ShloMosaic.TcCoe Cert.ReferenceIdeal Cert.ReferenceIdeal.Gen Cert.ReferenceIdeal.Value Cert.Bucket

variable (V : Valuation τ sig (Elt Ideal))

abbrev rq : S8192x1024.Idx → EReal := V (Proc.devRef .tc main_arg0)
abbrev rk : S8192x1024.Idx → EReal := V (Proc.devRef .tc main_arg1)
abbrev rv : S8192x1024.Idx → EReal := V (Proc.devRef .tc main_arg2)
abbrev rrb : S32x8.Idx → EReal := V (Proc.devRef .tc main_arg4)
abbrev rl : S1.Idx → EReal := V (Proc.devRef .tc main_arg5)
abbrev rg : S1x128.Idx → EReal := V (Proc.devRef .tc main_arg6)

theorem bot : Ideal.ofBits .f32 0xFF800000#32 = ⊥ := by simp [Ideal.ofBits, Ideal.ieee]

theorem v30_at (r k : Fin 8192) : res_main_v30 V (ix2 r k) = bk (BitVec.ofNat 32 (r.val - k.val)) := by
  rw [← max_sub r.val k.val r.isLt k.isLt]
  unfold res_main_v30 res_main_v12 res_main_v5
  pointwise
  rfl

theorem gather_at (x : S32x8.Idx → EReal) (idx : IVec S8192x8192x1 32) (h : Fin 8) (r k : Fin 8192) :
    Host.gather gather_S32x8_S8192x8192x1_S8192x8192x8_2_0_n_n_0_2_18 x idx (ix3 r k h) = x (ix2 ⟨min (idx (ix3 r k 0)).toInt.toNat 31, by omega⟩ h) :=
  gather_rows gather_S32x8_S8192x8192x1_S8192x8192x8_2_0_n_n_0_2_18.wf x idx r k h

theorem idx_at (z : IVec S8192x8192 32) (r k : Fin 8192) :
    (broadcastInDim S8192x8192x1 ![0, 1] bcast_S8192x8192_S8192x8192x1_0_1
        (select (cmpi CmpIPredicate.slt z (broadcastInDim S8192x8192 ![] bcast_S_S8192x8192 (constantI S_ 32 0#32)))
          (addi z (broadcastInDim S8192x8192 ![] bcast_S_S8192x8192 (constantI S_ 32 32#32))) z)) (ix3 r k 0)
      = Scalar.select (IntOp.cmpi .slt (z (ix2 r k)) 0#32) (IntOp.addi (z (ix2 r k)) 32#32) (z (ix2 r k)) := by
  pointwise

theorem rel_at (x : S32x8.Idx → EReal) (h : Fin 8) (r k : Fin 8192) :
    Host.gather gather_S32x8_S8192x8192x1_S8192x8192x8_2_0_n_n_0_2_18 x (broadcastInDim S8192x8192x1 ![0, 1] bcast_S8192x8192_S8192x8192x1_0_1
        (select (cmpi CmpIPredicate.slt (res_main_v30 V) (broadcastInDim S8192x8192 ![] bcast_S_S8192x8192 (constantI S_ 32 0#32)))
          (addi (res_main_v30 V) (broadcastInDim S8192x8192 ![] bcast_S_S8192x8192 (constantI S_ 32 32#32))) (res_main_v30 V))) (ix3 r k h)
      = x (ix2 (row (BitVec.ofNat 32 (r.val - k.val))) h) := by
  rw [gather_at]
  refine congrArg x (congrArg (fun y => ix2 y h) (Fin.ext ?_))
  show min _ 31 = min _ 31
  rw [idx_at, v30_at]

/-- A masked logit. -/
def logit (e : Fin 2) (h : Fin 8) (r k : Fin 8192) : EReal :=
  if k.val ≤ r.val then
    (∑ x : Fin 64, rq V (ix2 r ⟨h.val * 128 + e.val * 64 + x.val, by omega⟩) * rk V (ix2 k ⟨h.val * 128 + e.val * 64 + x.val, by omega⟩)) * Ideal.ofBits .f32 0x3E000000#32
      + rrb V (ix2 (row (BitVec.ofNat 32 (r.val - k.val))) h)
  else ⊥

theorem v47_at (e : Fin 2) (h : Fin 8) (r k : Fin 8192) : res_main_v47 V (ix4 e h r k) = logit V e h r k := by
  unfold res_main_v47 res_main_v5
  pointwise
  rw [rel_at]
  unfold logit
  rw [← bot]
  exact if_congr (sle_nat k.val r.val (by omega) (by omega)) rfl rfl

theorem fold_sup {ι : Type} [Fintype ι] (f : ι → EReal) : Finset.fold max ⊥ f Finset.univ = Finset.univ.sup f := rfl

theorem max_at (x : S2x8x8192x8192.Idx → EReal) (e : Fin 2) (h : Fin 8) (r : Fin 8192) :
    Host.reduce (FloatOps.maximumf (F := Ideal) (φ := .f32)) x (constant S_ .f32 0xFF800000#32) reducesTo_S2x8x8192x8192_S2x8x8192_d3 h_S_ (ix3 e h r)
      = Finset.fold max (Ideal.ofBits .f32 0xFF800000#32) (fun j => x (ix4 e h r j)) Finset.univ := by
  pointwise

theorem sub_at (x : S2x8x8192x8192.Idx → EReal) (z : S2x8x8192.Idx → EReal) (e : Fin 2) (h : Fin 8) (r k : Fin 8192) :
    (Host.exp (F := Ideal) (φ := .f32) (subf (F := Ideal) (φ := .f32) x (broadcastInDim S2x8x8192x8192 ![0, 1, 2, 3] bcast_S2x8x8192x1_S2x8x8192x8192_0_1_2_3 (broadcastInDim S2x8x8192x1 ![0, 1, 2] bcast_S2x8x8192_S2x8x8192x1_0_1_2 z)))) (ix4 e h r k)
      = Ideal.exp (x (ix4 e h r k) - z (ix3 e h r)) := by
  pointwise

theorem mx_at (y : S2x8x8192.Idx → EReal) (e : Fin 2) (h : Fin 8) (r : Fin 8192) :
    maximumf (F := Ideal) (φ := .f32) (broadcastInDim S2x8x8192 ![] bcast_S_S2x8x8192 (constant S_ .f32 0xFF800000#32)) y (ix3 e h r) = max (Ideal.ofBits .f32 0xFF800000#32) (y (ix3 e h r)) := by
  pointwise

theorem soft_at (x : S2x8x8192x8192.Idx → EReal) (l : Fin 8192 → EReal) (e : Fin 2) (h : Fin 8) (r k : Fin 8192) (hl : ∀ j, x (ix4 e h r j) = l j) :
    (Host.exp (F := Ideal) (φ := .f32) (subf (F := Ideal) (φ := .f32) x (broadcastInDim S2x8x8192x8192 ![0, 1, 2, 3] bcast_S2x8x8192x1_S2x8x8192x8192_0_1_2_3 (broadcastInDim S2x8x8192x1 ![0, 1, 2] bcast_S2x8x8192_S2x8x8192x1_0_1_2 (maximumf (F := Ideal) (φ := .f32) (broadcastInDim S2x8x8192 ![] bcast_S_S2x8x8192 (constant S_ .f32 0xFF800000#32)) (Host.reduce (FloatOps.maximumf (F := Ideal) (φ := .f32)) x (constant S_ .f32 0xFF800000#32) reducesTo_S2x8x8192x8192_S2x8x8192_d3 h_S_)))))) (ix4 e h r k)
      = Ideal.exp (l k - Finset.univ.sup l) := by
  rw [sub_at, mx_at, max_at, hl, bot, fold_sup, max_eq_right bot_le]
  rw [show (fun j => x (ix4 e h r j)) = l from funext hl]

theorem v54_at (e : Fin 2) (h : Fin 8) (r k : Fin 8192) :
    res_main_v54 V (ix4 e h r k) = Ideal.exp (logit V e h r k - Finset.univ.sup (logit V e h r)) :=
  soft_at (res_main_v47 V) (logit V e h r) e h r k (v47_at V e h r)

theorem div_at (x : S2x8x8192x8192.Idx → EReal) (e : Fin 2) (h : Fin 8) (r k : Fin 8192) :
    (Host.divf (F := Ideal) (φ := .f32) x (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd (F := Ideal) (φ := .f32) x (constant S_ .f32 0x00000000#32) reducesTo_S2x8x8192x8192_S2x8x8192_d3 h_S_)))) (ix4 e h r k)
      = Ideal.div (x (ix4 e h r k)) (∑ j, x (ix4 e h r j)) := by
  pointwise

/-- A softmax weight. -/
def wt (e : Fin 2) (h : Fin 8) (r k : Fin 8192) : EReal :=
  Ideal.div (Ideal.exp (logit V e h r k - Finset.univ.sup (logit V e h r))) (∑ j, Ideal.exp (logit V e h r j - Finset.univ.sup (logit V e h r)))

theorem v58_at (e : Fin 2) (h : Fin 8) (r k : Fin 8192) : res_main_v58 V (ix4 e h r k) = wt V e h r k := by
  refine (div_at (res_main_v54 V) e h r k).trans ?_
  unfold wt
  rw [v54_at]
  exact congrArg (Ideal.div _) (Finset.sum_congr rfl fun j _ => v54_at V e h r j)

theorem mix_at (x : S2x8x8192x8192.Idx → EReal) (v : S8192x1024.Idx → EReal) (l : S1.Idx → EReal) (h : Fin 8) (r : Fin 8192) (j : Fin 128) :
    (transpose S8192x8x128 [2, 0, 1] (Host.dotGeneral (F := Ideal) (φ₁ := .f32) (φ₂ := .f32) dot_S8192x8x128_S8x8192x8192_S8x128x8192_0_2_2_1_1_0 none (shapeCast _ v shapeCasts_S8192x1024_S8192x8x128) (subf (F := Ideal) (φ := .f32) (shapeCast _ (extractStridedSlice S1x8x8192x8192 ![0, 0, 0, 0] x slices_S2x8x8192x8192_S1x8x8192x8192_0_0_0_0) shapeCasts_S1x8x8192x8192_S8x8192x8192) (mulf (F := Ideal) (φ := .f32) (broadcastInDim S8x8192x8192 ![] bcast_S_S8x8192x8192 (shapeCast _ l shapeCasts_S1_S_)) (shapeCast _ (extractStridedSlice S1x8x8192x8192 ![1, 0, 0, 0] x slices_S2x8x8192x8192_S1x8x8192x8192_1_0_0_0) shapeCasts_S1x8x8192x8192_S8x8192x8192)))) transposes_S8x128x8192_S8192x8x128_2_0_1 : S8192x8x128.Idx → EReal) (ix3 r h j)
      = ∑ k : Fin 8192, v (ix2 k ⟨h.val * 128 + j.val, by omega⟩) * (x (ix4 0 h r k) - l (ix1 0) * x (ix4 1 h r k)) := by
  pointwise

theorem v69_at (h : Fin 8) (r : Fin 8192) (j : Fin 128) :
    res_main_v69 V (ix3 r h j) = ∑ k : Fin 8192, rv V (ix2 k ⟨h.val * 128 + j.val, by omega⟩) * (wt V 0 h r k - rl V (ix1 0) * wt V 1 h r k) := by
  refine (mix_at (res_main_v58 V) (rv V) (rl V) h r j).trans (Finset.sum_congr rfl fun k _ => ?_)
  rw [v58_at, v58_at]

/-- The norm of a row, in the reference. -/
theorem norm_at (x : S8192x8x128.Idx → EReal) (g : S1x128.Idx → EReal) (h : Fin 8) (r : Fin 8192) (j : Fin 128) :
    (shapeCast S8192x1024 (mulf (F := Ideal) (φ := .f32) (mulf (F := Ideal) (φ := .f32) (mulf (F := Ideal) (φ := .f32) x (broadcastInDim S8192x8x128 ![0, 1, 2] bcast_S8192x8x1_S8192x8x128_0_1_2 (Host.rsqrt (F := Ideal) (φ := .f32) (addf (F := Ideal) (φ := .f32) (Host.divf (F := Ideal) (φ := .f32) (broadcastInDim S8192x8x1 ![0, 1] bcast_S8192x8_S8192x8x1_0_1 (Host.reduceAdd (F := Ideal) (φ := .f32) (mulf (F := Ideal) (φ := .f32) x x) (constant S_ .f32 0x00000000#32) reducesTo_S8192x8x128_S8192x8_d2 h_S_)) (broadcastInDim S8192x8x1 ![] bcast_S_S8192x8x1 (constant S_ .f32 0x43000000#32))) (broadcastInDim S8192x8x1 ![] bcast_S_S8192x8x1 (constant S_ .f32 0x3727C5AC#32)))))) (broadcastInDim S8192x8x128 ![0, 1, 2] bcast_S1x1x128_S8192x8x128_0_1_2 (broadcastInDim S1x1x128 ![2] bcast_S128_S1x1x128_2 (shapeCast S128 g shapeCasts_S1x128_S128)))) (broadcastInDim S8192x8x128 ![] bcast_S_S8192x8x128 (constant S_ .f32 0x3F4CCCCD#32))) shapeCasts_S8192x8x128_S8192x1024 : S8192x1024.Idx → EReal) (ix2 r ⟨h.val * 128 + j.val, by omega⟩)
      = Cert.KernelIdeal.Tail.rms (fun i => x (ix3 r h i)) (fun i => g (ix2 0 i)) j := by
  unfold Cert.KernelIdeal.Tail.rms
  pointwise

end Cert.ReferenceIdeal.At
-- ==== Proof.Attn.Math.lean ====
/- Under the precondition the kernel's quotients and the reference's weighted sums are the same real numbers. -/
module

public import proofs.«01_k».proof.Proof.Attn.Traj
public import proofs.«01_k».proof.Proof.Attn.Pre
public import proofs.«01_k».proof.Proof.Attn.Ref

@[expose] public section

set_option maxRecDepth 16384
set_option maxHeartbeats 1000000

noncomputable section

namespace Cert.KernelIdeal.Math

open Idealize.ShloMosaic Idealize.ShloMosaic.TcCoe Cert.KernelIdeal Cert.KernelIdeal.Gen Cert.Online Cert.Bucket
open Cert.KernelIdeal.Point Cert.KernelIdeal.Traj Cert.KernelIdeal.Tail

variable [Cert.Pre_call_args.Facts]
variable (m : (ℓ : Loc nD τ sig) → Buf (Elt Ideal) ℓ) (c : Dev nD) (rb : (⟨2, ![32, 8]⟩ : Shape).Idx → EReal)

theorem log2_pos : 0 < Real.log 2 := Real.log_pos (by norm_num)

/-- Division of a bias by log 2. -/
theorem of_mul {x : EReal} {z : ℝ} (h : x * ((Real.log 2 : ℝ) : EReal) = (z : EReal)) : x = ((z / Real.log 2 : ℝ) : EReal) := by
  have hl := log2_pos
  induction x with
  | bot => rw [EReal.bot_mul_coe_of_pos hl] at h; exact absurd h.symm (EReal.coe_ne_bot z)
  | top => rw [EReal.top_mul_coe_of_pos hl] at h; exact absurd h.symm (EReal.coe_ne_top z)
  | coe y =>
    rw [← EReal.coe_mul, EReal.coe_eq_coe_iff] at h
    rw [← h, mul_div_cancel_right₀ _ hl.ne']

theorem of_mul_bot {x : EReal} (h : x * ((Real.log 2 : ℝ) : EReal) = ⊥) : x = ⊥ := by
  have hl := log2_pos
  induction x with
  | bot => rfl
  | top => rw [EReal.top_mul_coe_of_pos hl] at h; exact absurd h.symm bot_ne_top
  | coe y => rw [← EReal.coe_mul] at h; exact absurd h (EReal.coe_ne_bot _)

theorem half (f : ℕ → EReal) (e : Fin 2) [∀ d : Fin 128, Decidable (e.val = 0 ↔ d.val < 64)] : (∑ d : Fin 128, if (e.val = 0 ↔ d.val < 64) then f d.val else 0) = ∑ x : Fin 64, f (e.val * 64 + x.val) := by
  have h := Fin.sum_univ_add (a := 64) (b := 64) (fun d : Fin (64 + 64) => if (e.val = 0 ↔ d.val < 64) then f d.val else 0)
  refine (Finset.sum_congr rfl fun d _ => by congr).trans (h.trans ?_)
  by_cases he : e.val = 0
  · simp [he]
  · have h1 : e.val = 1 := by omega
    simp [h1, add_comm]

/-- The real values of the arguments. -/
def qR (r l : ℕ) : ℝ := (qN m c r l).toReal
def kR (r l : ℕ) : ℝ := (kN m c r l).toReal
def vR (r l : ℕ) : ℝ := (vN m c r l).toReal
def rR (n : ℕ) (h : Fin 8) : ℝ := (rb (ix2 (row (BitVec.ofNat 32 n)) h)).toReal

/-- The logit of head `h`, half `e`, at query `Q` and key `k`. -/
def logitR (h : Fin 8) (e : Fin 2) (Q k : ℕ) : ℝ :=
  (∑ x : Fin 64, qR m c Q (h.val * 128 + e.val * 64 + x.val) * kR m c k (h.val * 128 + e.val * 64 + x.val)) * 8⁻¹ + rR rb (Q - k) h

/-- The attended value of head `h`, half `e`, lane `j`, at query `Q`. -/
def att (h : Fin 8) (e : Fin 2) (Q : ℕ) (j : Fin 128) : ℝ :=
  ∑ k ∈ Finset.range (Q + 1), sm (logitR m c rb h e Q) Q k * vR m c k (h.val * 128 + j.val)

variable {m c rb} (H : Cert.AttnPre.Holds (aq m c) (ak m c) (av m c) (ab m c) rb (al m c))
include H

theorem q_real (r l : ℕ) : qN m c r l = (qR m c r l : EReal) := by
  unfold qR qN; split
  · exact (EReal.coe_toReal (H.hq _).2 (H.hq _).1).symm
  · simp
theorem k_real (r l : ℕ) : kN m c r l = (kR m c r l : EReal) := by
  unfold kR kN; split
  · exact (EReal.coe_toReal (H.hk _).2 (H.hk _).1).symm
  · simp
theorem v_real (r l : ℕ) : vN m c r l = (vR m c r l : EReal) := by
  unfold vR vN; split
  · exact (EReal.coe_toReal (H.hv _).2 (H.hv _).1).symm
  · simp
theorem r_real (n : ℕ) (h : Fin 8) : rb (ix2 (row (BitVec.ofNat 32 n)) h) = (rR rb n h : EReal) := (EReal.coe_toReal (H.hrb _).2 (H.hrb _).1).symm
theorem f_real (h : Fin 8) : rb (ix2 31 h) = ((rb (ix2 31 h)).toReal : EReal) := (EReal.coe_toReal (H.hrb _).2 (H.hrb _).1).symm

/-- The score without its bias. -/
theorem dot_real (h : Fin 8) (b : ℕ) (e : Fin 2) (r : Fin 1024) (R : Fin 2048) (hR : R.val = e.val * 1024 + r.val) (k : ℕ) :
    (∑ d : Fin 128, Qf m c h.val b R d * kN m c k (h.val * 128 + d.val))
      = (((∑ x : Fin 64, qR m c (b * 1024 + r.val) (h.val * 128 + e.val * 64 + x.val) * kR m c k (h.val * 128 + e.val * 64 + x.val)) * 8⁻¹ / Real.log 2 : ℝ) : EReal) := by
  have hr := r.isLt
  have he := e.isLt
  have hm : R.val % 1024 = r.val := by omega
  have hc : (R.val < 1024) ↔ e.val = 0 := by omega
  have e1 : ∀ d : Fin 128, Qf m c h.val b R d * kN m c k (h.val * 128 + d.val)
      = if (e.val = 0 ↔ d.val < 64) then (fun n => ((qR m c (b * 1024 + r.val) (h.val * 128 + n) * kR m c k (h.val * 128 + n) * (8⁻¹ * (Real.log 2)⁻¹) : ℝ) : EReal)) d.val else 0 := fun d => by
    unfold Qf
    rw [hm]
    simp only [hc]
    split
    · rw [q_real H, k_real H, ← EReal.coe_mul, ← EReal.coe_mul, EReal.coe_eq_coe_iff]; ring
    · rw [zero_mul]
  refine (Finset.sum_congr rfl fun d _ => e1 d).trans ((half (fun n => ((qR m c (b * 1024 + r.val) (h.val * 128 + n) * kR m c k (h.val * 128 + n) * (8⁻¹ * (Real.log 2)⁻¹) : ℝ) : EReal)) e).trans ?_)
  rw [← coe_sum, EReal.coe_eq_coe_iff, ← Finset.sum_mul, ← mul_assoc, ← div_eq_mul_inv]
  simp only [add_assoc]

theorem x_le (h : Fin 8) (b : ℕ) (hb : b < 8) (e : Fin 2) (r : Fin 1024) (R : Fin 2048) (hR : R.val = e.val * 1024 + r.val) (k : ℕ) (hk : k ≤ b * 1024 + r.val) :
    Xf m c h.val b R k = (((logitR m c rb h e (b * 1024 + r.val) k - (rb (ix2 31 h)).toReal) / Real.log 2 : ℝ) : EReal) := by
  have hr := r.isLt
  have hm : R.val % 1024 = r.val := by omega
  unfold Xf
  rw [dot_real H h b e r R hR k, hm]
  have hB : Bf m c h.val b r.val k = (((rR rb (b * 1024 + r.val - k) h - (rb (ix2 31 h)).toReal) / Real.log 2 : ℝ) : EReal) := by
    unfold Bf
    have hk' : k % 1024 < 1024 := Nat.mod_lt _ (by norm_num)
    split
    · rename_i h1
      unfold bN
      rw [dif_pos ⟨h.isLt, hr, hk'⟩]
      apply of_mul
      refine (H.diag h r ⟨k % 1024, hk'⟩).trans ?_
      rw [if_pos (show k % 1024 ≤ r.val by omega), r_real H, f_real H, ← EReal.coe_sub]
      rw [show r.val - k % 1024 = b * 1024 + r.val - k by omega]
      rfl
    · split
      · rename_i h1 h2
        unfold bN
        rw [dif_pos ⟨h.isLt, hr, hk'⟩]
        apply of_mul
        refine (H.below h r ⟨k % 1024, hk'⟩).trans ?_
        rw [r_real H, f_real H, ← EReal.coe_sub]
        rw [show r.val + 1024 - k % 1024 = b * 1024 + r.val - k by omega]
        rfl
      · rename_i h1 h2
        have e2 : rR rb (b * 1024 + r.val - k) h = (rb (ix2 31 h)).toReal := by
          unfold rR; rw [row_far _ (by omega) (by omega)]
        rw [e2, sub_self, zero_div]; rfl
  rw [hB, ← EReal.coe_add, EReal.coe_eq_coe_iff]
  unfold logitR
  ring

theorem x_bot (h : Fin 8) (b : ℕ) (e : Fin 2) (r : Fin 1024) (R : Fin 2048) (hR : R.val = e.val * 1024 + r.val) (k : ℕ) (hk : b * 1024 + r.val < k) (hk2 : k < (b + 1) * 1024) :
    Xf m c h.val b R k = ⊥ := by
  have hr := r.isLt
  have hm : R.val % 1024 = r.val := by omega
  have hk' : k % 1024 < 1024 := Nat.mod_lt _ (by norm_num)
  unfold Xf
  rw [dot_real H h b e r R hR k, hm]
  unfold Bf
  rw [if_pos (show k / 1024 = b by omega)]
  unfold bN
  rw [dif_pos ⟨h.isLt, hr, hk'⟩]
  have hB : ab m c (ix4 h 0 r ⟨k % 1024, hk'⟩) = ⊥ := by
    apply of_mul_bot
    refine (H.diag h r ⟨k % 1024, hk'⟩).trans ?_
    rw [if_neg (show ¬ k % 1024 ≤ r.val by omega)]
  refine (congrArg _ hB).trans ?_
  exact EReal.add_bot _

/-- A row's quotient after its last block. -/
theorem quot (h : Fin 8) (b : ℕ) (hb : b < 8) (e : Fin 2) (r : Fin 1024) (R : Fin 2048) (hR : R.val = e.val * 1024 + r.val) (j : Fin 128) (n : ℕ) (hn : n = b * 1024 + (R.val % 1024 / 256 + 1) * 256) :
    Ideal.div (num (Xf m c h.val b R) (Yf m c h.val j) n) (den (Xf m c h.val b R) n) = (att m c rb h e (b * 1024 + r.val) j : EReal) := by
  have hr := r.isLt
  exact num_div_den _ _ (logitR m c rb h e (b * 1024 + r.val)) (fun k => vR m c k (h.val * 128 + j.val)) (rb (ix2 31 h)).toReal (b * 1024 + r.val) n (by omega)
    (fun k hk => x_le H h b hb e r R hR k hk) (fun k hk hk2 => x_bot H h b e r R hR k hk (by omega)) (fun k _ => v_real H k _)

omit H in
/-- The reference's arguments are the kernel's. -/
structure Same (V : Valuation Cert.ReferenceIdeal.τ Cert.ReferenceIdeal.sig (Elt Ideal)) (m : (ℓ : Loc nD τ sig) → Buf (Elt Ideal) ℓ) (c : Dev nD) (rb : (⟨2, ![32, 8]⟩ : Shape).Idx → EReal) : Prop where
  q : Cert.ReferenceIdeal.At.rq V = aq m c
  k : Cert.ReferenceIdeal.At.rk V = ak m c
  v : Cert.ReferenceIdeal.At.rv V = av m c
  rb : Cert.ReferenceIdeal.At.rrb V = rb
  l : Cert.ReferenceIdeal.At.rl V = al m c
  g : Cert.ReferenceIdeal.At.rg V = ag m c

variable {V : Valuation Cert.ReferenceIdeal.τ Cert.ReferenceIdeal.sig (Elt Ideal)} (S : Same V m c rb)
include S

theorem logit_le (h : Fin 8) (e : Fin 2) (Q k : Fin 8192) (hk : k.val ≤ Q.val) : Cert.ReferenceIdeal.At.logit V e h Q k = (logitR m c rb h e Q.val k.val : EReal) := by
  have hh := h.isLt
  have he := e.isLt
  unfold Cert.ReferenceIdeal.At.logit
  rw [if_pos hk, S.q, S.k, S.rb, r_real H]
  have e8 : Ideal.ofBits .f32 0x3E000000#32 = ((8⁻¹ : ℝ) : EReal) := by simp [Ideal.ofBits, Ideal.ieee, -EReal.coe_mul]; norm_num
  rw [e8]
  have e1 : ∀ x : Fin 64, aq m c (ix2 Q ⟨h.val * 128 + e.val * 64 + x.val, by omega⟩) * ak m c (ix2 k ⟨h.val * 128 + e.val * 64 + x.val, by omega⟩)
      = ((qR m c Q.val (h.val * 128 + e.val * 64 + x.val) * kR m c k.val (h.val * 128 + e.val * 64 + x.val) : ℝ) : EReal) := fun x => by
    have hx := x.isLt
    rw [EReal.coe_mul, ← q_real H, ← k_real H]
    unfold qN kN
    rw [dif_pos ⟨Q.isLt, by omega⟩, dif_pos ⟨k.isLt, by omega⟩]
  rw [Finset.sum_congr rfl fun x _ => e1 x, ← coe_sum, ← EReal.coe_mul, ← EReal.coe_add]
  rfl

theorem wt_real (h : Fin 8) (e : Fin 2) (Q k : Fin 8192) :
    Cert.ReferenceIdeal.At.wt V e h Q k = ((if k.val ≤ Q.val then sm (logitR m c rb h e Q.val) Q.val k.val else 0 : ℝ) : EReal) :=
  softmax_masked (Cert.ReferenceIdeal.At.logit V e h Q) (logitR m c rb h e Q.val) Q.val Q.isLt (fun k hk => logit_le H S h e Q k hk)
    (fun k hk => by unfold Cert.ReferenceIdeal.At.logit; exact if_neg (by omega)) k

omit H S in
theorem mix_real (w a b : ℕ → ℝ) (l : ℝ) (Q : ℕ) (hQ : Q < 8192) :
    (∑ k : Fin 8192, w k.val * ((if k.val ≤ Q then a k.val else 0) - l * (if k.val ≤ Q then b k.val else 0)))
      = (∑ k ∈ Finset.range (Q + 1), a k * w k) - l * ∑ k ∈ Finset.range (Q + 1), b k * w k := by
  rw [← Finset.sum_range (fun k => w k * ((if k ≤ Q then a k else 0) - l * (if k ≤ Q then b k else 0))),
    ← Finset.sum_subset (Finset.range_mono (show Q + 1 ≤ 8192 by omega)) (fun j _ hj => by
      have : ¬ j ≤ Q := by simpa using hj
      rw [if_neg this, if_neg this]; ring), Finset.mul_sum, ← Finset.sum_sub_distrib]
  refine Finset.sum_congr rfl fun k hk => ?_
  have : k ≤ Q := by simpa [Nat.lt_succ_iff] using hk
  rw [if_pos this, if_pos this]; ring

/-- The reference's sum over the keys. -/
def rsum (V : Valuation Cert.ReferenceIdeal.τ Cert.ReferenceIdeal.sig (Elt Ideal)) (h : Fin 8) (Q : Fin 8192) (j : Fin 128) : EReal :=
  ∑ k : Fin 8192, Cert.ReferenceIdeal.At.rv V (ix2 k ⟨h.val * 128 + j.val, by omega⟩) * (Cert.ReferenceIdeal.At.wt V 0 h Q k - Cert.ReferenceIdeal.At.rl V (ix1 0) * Cert.ReferenceIdeal.At.wt V 1 h Q k)

/-- The reference's row before its norm. -/
theorem rsum_real (h : Fin 8) (Q : Fin 8192) (j : Fin 128) :
    rsum V h Q j = ((att m c rb h 0 Q.val j - (al m c (ix1 0)).toReal * att m c rb h 1 Q.val j : ℝ) : EReal) := by
  have hh := h.isLt
  have hj := j.isLt
  unfold rsum att
  rw [S.v, S.l, ← mix_real (fun k => vR m c k (h.val * 128 + j.val)) _ _ _ Q.val Q.isLt, coe_sum]
  refine Finset.sum_congr rfl fun k _ => ?_
  rw [wt_real H S, wt_real H S, EReal.coe_mul, EReal.coe_sub, EReal.coe_mul, EReal.coe_toReal (H.hl _).2 (H.hl _).1, ← v_real H]
  unfold vN
  rw [dif_pos ⟨k.isLt, by omega⟩]

theorem ref_row (h : Fin 8) (Q : Fin 8192) (j : Fin 128) :
    Cert.ReferenceIdeal.Value.res_main_v69 V (ix3 Q h j) = ((att m c rb h 0 Q.val j - (al m c (ix1 0)).toReal * att m c rb h 1 Q.val j : ℝ) : EReal) :=
  (Cert.ReferenceIdeal.At.v69_at V h Q j).trans (rsum_real H S h Q j)

/-- The kernel's row before its norm is the reference's. -/
theorem row_eq (h : Fin 8) (b : ℕ) (hb : b < 8) (r : Fin 1024) (Q : Fin 8192) (hQ : Q.val = b * 1024 + r.val) (N : Fin 2048 → ℕ) (hN : ∀ R, N R = b * 1024 + (R.val % 1024 / 256 + 1) * 256) (j : Fin 128) :
    diffv (fun y => num (Xf m c h.val b (y 0)) (Yf m c h.val (y 1)) (N (y 0))) (fun y => den (Xf m c h.val b (y 0)) (N (y 0))) (al m c (ix1 0)) r j
      = Cert.ReferenceIdeal.Value.res_main_v69 V (ix3 Q h j) := by
  have hr := r.isLt
  rw [ref_row H S h Q j, EReal.coe_sub, EReal.coe_mul, EReal.coe_toReal (H.hl _).2 (H.hl _).1, hQ]
  unfold diffv
  have q0 := quot H h b hb 0 r ⟨r.val, by omega⟩ (by simp) j _ (hN _)
  have q1 := quot H h b hb 1 r ⟨1024 + r.val, by omega⟩ (by simp) j _ (hN _)
  rw [← q0, ← q1]
  rfl

end Cert.KernelIdeal.Math
-- ==== Proof.Attn.Result.lean ====
/- The kernel and the reference compute the same extended reals from arguments the precondition admits. -/
module

public import proofs.«01_k».proof.Defs
public import proofs.«01_k».proof.Proof.AttnIdeal.Launch
public import proofs.«01_k».proof.Proof.Attn.Final
public import proofs.«01_k».proof.Proof.Attn.Math
public import Idealize.ShloMosaic.Lib.Quiescent

@[expose] public section

set_option maxRecDepth 16384
set_option maxHeartbeats 1000000

noncomputable section

namespace Cert.KernelIdeal.Result

open Idealize.ShloMosaic Idealize.ShloMosaic.TcCoe Idealize.SL.Sem Cert.KernelIdeal Cert.KernelIdeal.Gen
open Cert.KernelIdeal.Point Cert.KernelIdeal.Final

/-- The reference's frame: it declares no semaphore. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem algebraic [hPre_call_args : Cert.Pre_call_args.Facts] :
    Cert.algebraic_KernelIdeal_ReferenceIdeal_pre_call_args (hKernelIdeal := Cert.KernelIdeal.Gen.facts) (hReferenceIdeal := Cert.ReferenceIdeal.Gen.facts) := by
  intro m g m' g' hpre hargs
  refine ⟨fun c => G m c, ?_, ?_⟩
  · refine (θ_run defs _ _).mono (fun r h c => ⟨?_, args_of_QC 0 m g h c⟩) (run_main 0 m g)
    exact ((h c).1 6).trans (final 0 m g c)
  · refine (θ_run Cert.ReferenceIdeal.defs _ _).mono (fun r h c => ⟨(h c).1.trans ?_, (h c).2⟩) (Cert.ReferenceIdeal.Value.run (F := Ideal) m' g')
    obtain ⟨a0, a1, a2, a3, a4, a5, a6⟩ := hargs c
    have H := Cert.AttnPre.facts _ _ _ _ _ _ _ (hpre c)
    have S : Math.Same (StableHlo.launchContents m' c) m c (m ((c.tc : Thread nD τ).loc main_arg4)) := ⟨a0, a1, a2, a4, a5, a6⟩
    funext i
    have h0 : (i 0).val < 8192 := (i 0).isLt
    have h1 : (i 1).val < 1024 := (i 1).isLt
    have hi : i = ix2 (⟨(i 0).val, h0⟩ : Fin 8192) (⟨(i 1).val / 128 * 128 + (i 1).val % 128, by omega⟩ : Fin 1024) := by
      funext a
      match a with
      | ⟨0, _⟩ => rfl
      | ⟨1, _⟩ => exact Fin.ext (by show (i 1).val = _ * _ + _; omega)
    refine (congrArg _ hi).trans ?_
    refine (Cert.ReferenceIdeal.At.norm_at (Cert.ReferenceIdeal.Value.res_main_v69 (StableHlo.launchContents m' c)) (Cert.ReferenceIdeal.At.rg (StableHlo.launchContents m' c))
      ⟨(i 1).val / 128, by omega⟩ ⟨(i 0).val, h0⟩ ⟨(i 1).val % 128, by omega⟩).trans ?_
    refine Eq.trans ?_ (G_at m c ((i 1).val / 128) ((i 0).val / 1024) ⟨(i 0).val % 1024, by omega⟩ ⟨(i 1).val % 128, by omega⟩ i (by show (i 0).val = (i 0).val / 1024 * 1024 + (i 0).val % 1024; omega) (by show (i 1).val = (i 1).val / 128 * 128 + (i 1).val % 128; omega)).symm
    unfold rowf
    have e : (fun k : Fin 128 => Cert.ReferenceIdeal.Value.res_main_v69 (StableHlo.launchContents m' c) (ix3 (⟨(i 0).val, h0⟩ : Fin 8192) (⟨(i 1).val / 128, by omega⟩ : Fin 8) k))
        = _ := funext fun k => (Math.row_eq H S ⟨(i 1).val / 128, by omega⟩ ((i 0).val / 1024) (by omega) ⟨(i 0).val % 1024, by omega⟩ ⟨(i 0).val, h0⟩
          (by show (i 0).val = _ * _ + _ % _; omega) (Nb ((i 0).val / 1024)) (fun _ => rfl) k).symm
    rw [S.g]
    exact congrArg (fun f => Tail.rms f (fun i => ag m c (ix2 0 i)) ⟨(i 1).val % 128, by omega⟩) e

end Cert.KernelIdeal.Result
-- ==== Proof.Proj.Prompt.lean ====
/- The input projection of the prompt: the kernel's four results and the reference's are the same sums. -/
module

public import proofs.«01_k».proof.Defs
public import proofs.«01_k».proof.Proof.Gen.Kernel2Ideal
public import proofs.«01_k».proof.Proof.Gen.Kernel2Ideal.Frame
public import proofs.«01_k».proof.Proof.Gen.Reference2Ideal.Run
public import Idealize.ShloMosaic.Lib.Pointwise
public import Idealize.ShloMosaic.Lib.Quiescent
public import Idealize.ShloMosaic.Lib.Pipeline.ValueKit.Geometry

@[expose] public section

set_option maxRecDepth 16384
set_option maxHeartbeats 1000000

noncomputable section

namespace Cert.Reference2Ideal.Result

open Idealize.ShloMosaic Idealize.ShloMosaic.TcCoe Idealize.SL.Sem Cert.Reference2Ideal Cert.Reference2Ideal.Gen

/-- The result at a row and a column of the part of the weights that begins at column `off`. -/
def G (off : ℕ) (ho : off + 1024 ≤ 4096) (x : S1x8192x2048.Idx → EReal) (w : S1x2048x4096.Idx → EReal) : S8192x1024.Idx → EReal := fun i =>
  ∑ k : Fin 2048, x (ix3 0 (i 0) k) * w (ix3 0 k (⟨off + (i 1).val, by have : (i 1).val < 1024 := (i 1).isLt; omega⟩ : Fin 4096))

/-! ## The reference -/

theorem dot_at (x : FVec Ideal S1x8192x2048 .f32) (w : FVec Ideal S1x2048x4096 .f32) (r : Fin 8192) (l : Fin 4096) :
    (Host.dotGeneral dot_S1x8192x2048_S2048x4096_S1x8192x4096_2_0_01_1_n_n none x (shapeCast S2048x4096 w shapeCasts_S1x2048x4096_S2048x4096) : FVec Ideal S1x8192x4096 .f32) (ix3 0 r l)
      = (∑ k : Fin 2048, x (ix3 0 r k) * w (ix3 0 k l) : EReal) := by
  pointwise

theorem slice_at (off : ℕ) (ho : off + 1024 ≤ 4096) (hs : S1x8192x4096.Slices ![0, 0, off] S1x8192x1024) (y : FVec Ideal S1x8192x4096 .f32) (r : Fin 8192) (j : Fin 1024) :
    shapeCast S8192x1024 (extractStridedSlice S1x8192x1024 ![0, 0, off] y hs) shapeCasts_S1x8192x1024_S8192x1024 (ix2 r j)
      = y (ix3 0 r (⟨off + j.val, by have := j.isLt; omega⟩ : Fin 4096)) := by
  pointwise

theorem ref_at (off : ℕ) (ho : off + 1024 ≤ 4096) (hs : S1x8192x4096.Slices ![0, 0, off] S1x8192x1024) (x : FVec Ideal S1x8192x2048 .f32) (w : FVec Ideal S1x2048x4096 .f32) :
    shapeCast S8192x1024 (extractStridedSlice S1x8192x1024 ![0, 0, off] (Host.dotGeneral dot_S1x8192x2048_S2048x4096_S1x8192x4096_2_0_01_1_n_n none x (shapeCast S2048x4096 w shapeCasts_S1x2048x4096_S2048x4096) : FVec Ideal S1x8192x4096 .f32) hs) shapeCasts_S1x8192x1024_S8192x1024
      = G off ho x w := by
  funext i
  have hi : i = ix2 (i 0) (i 1) := by funext a; match a with | ⟨0, _⟩ => rfl | ⟨1, _⟩ => rfl
  exact (congrArg _ hi).trans ((slice_at off ho hs _ (i 0) (i 1)).trans (dot_at x w (i 0) _))

/-- The reference's frame: it declares no semaphore. -/
theorem reference_frame : Cert.quiescent_Reference2Ideal (hReference2Ideal := Cert.Reference2Ideal.Gen.facts) := fun m g _ =>
  (θ_run Cert.Reference2Ideal.defs _ _).mono (fun r h => ⟨fun c => (h c).2.2.2.2, sem_eq_zero_of_no_sems (by decide) r.2⟩)
    (Cert.Reference2Ideal.Value.run (F := Ideal) m g)

end Cert.Reference2Ideal.Result

namespace Cert.Kernel2Ideal.Result

open Idealize.ShloMosaic Idealize.ShloMosaic.TcCoe Idealize.SL.Sem Cert.Kernel2Ideal Cert.Kernel2Ideal.Gen
open Cert.Reference2Ideal.Result (G ref_at)

/-! ## The kernel -/

theorem pay_at (v : Vec Ideal S512x2048 .f32) (w : Vec Ideal S2048x1024 .bf16) (r : Fin 512) (j : Fin 1024) :
    k0_pay2 v w (ix2 r j) = (∑ k : Fin 2048, v (ix2 r k) * w (ix2 k j) : EReal) := by
  pointwise [k0_pay2, k0_pay1]

/-- One block of one output: the block of rows times its part of the weights. -/
theorem out_at (off : ℕ) (ho : off + 1024 ≤ 4096) (inb : ∀ a, (![0, off] : Fin 2 → ℕ) a + S2048x1024.size a ≤ S2048x4096.size a)
    (x : Vec Ideal S512x2048 .f32) (w : Vec Ideal S2048x4096 .bf16) (r : Fin 512) (j : Fin 1024) :
    View.canon (Val := Elt Ideal) (e := .f32) [⟨r0_2, k0_pay2 (View.ld x r0_0) (View.ld w (Rect.unit (s := S2048x4096) ![0, off] S2048x1024.size inb))⟩] (ix2 r j)
      = (∑ k : Fin 2048, x (ix2 r k) * w (ix2 k (⟨off + j.val, by have := j.isLt; omega⟩ : Fin 4096)) : EReal) := by
  have h : r0_2.emb (ix2 r j) = ix2 r j := by
    funext a
    refine Fin.ext ?_
    match a with
    | ⟨0, _⟩ => simp [ix2]
    | ⟨1, _⟩ => simp [ix2]
  have h2 := View.canon_cons_emb (Val := Elt Ideal) (e := .f32) r0_2 (k0_pay2 (View.ld x r0_0) (View.ld w (Rect.unit (s := S2048x4096) ![0, off] S2048x1024.size inb))) [] (ix2 r j)
  rw [h] at h2
  refine h2.trans ((pay_at _ _ r j).trans (Finset.sum_congr rfl fun k _ => congr (congrArg _ ?_) ?_))
  · refine congrArg x (funext fun a => Fin.ext ?_)
    match a with
    | ⟨0, _⟩ => simp [ix2]
    | ⟨1, _⟩ => simp [ix2]
  · refine congrArg w (funext fun a => Fin.ext ?_)
    match a with
    | ⟨0, _⟩ => simp [ix2]
    | ⟨1, _⟩ => simp [ix2]

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel

variable (m : (ℓ : Loc nD τ sig) → Buf (Elt Ideal) ℓ) (g : Dev nD → PrngReg)

/-- The arguments. -/
abbrev ax (c : Dev nD) : S1x8192x2048.Idx → EReal := m ((c : Thread nD τ).loc main_arg0)
abbrev aw (c : Dev nD) : S1x2048x4096.Idx → EReal := m ((c : Thread nD τ).loc main_arg1)

/-- What the region finds in its two arrays. -/
theorem rows_eq (c : Dev nD) : V m c main_v2 = shapeCast S8192x2048 (m ((c : Thread nD τ).loc main_arg0)) shapeCasts_S1x8192x2048_S8192x2048 := by
  unfold V hostOps0; after_results <;> rfl
theorem cols_eq (c : Dev nD) : V m c main_v1 = truncf (F := Ideal) .bf16 (shapeCast S2048x4096 (m ((c : Thread nD τ).loc main_arg1)) shapeCasts_S1x2048x4096_S2048x4096) bitsLt_bf16_f32 := by
  unfold V hostOps0; after_results <;> rfl

theorem flat_at (x : FVec Ideal S1x8192x2048 .f32) (r : Fin 8192) (k : Fin 2048) : shapeCast S8192x2048 x shapeCasts_S1x8192x2048_S8192x2048 (ix2 r k) = x (ix3 0 r k) := by
  pointwise
theorem cast_at (x : FVec Ideal S1x2048x4096 .f32) (k : Fin 2048) (l : Fin 4096) :
    truncf (F := Ideal) .bf16 (shapeCast S2048x4096 x shapeCasts_S1x2048x4096_S2048x4096) bitsLt_bf16_f32 (ix2 k l) = x (ix3 0 k l) := by
  pointwise

theorem x_at (c : Dev nD) (t : Fin cfg0.N) (r : Fin 512) (k : Fin 2048) (R : Fin 8192) (hR : R.val = t.val * 512 + r.val) :
    (iblk m c 0 t : S512x2048.Idx → EReal) (ix2 r k) = ax m c (ix3 0 R k) := by
  obtain ⟨e0, e1⟩ := index0 t
  blk_simp [iblk]
  refine Eq.trans ?_ ((congrFun (rows_eq m c) (ix2 R k)).trans (flat_at _ R k))
  refine congrArg (V m c main_v2) (funext fun a => Fin.ext ?_)
  match a with
  | ⟨0, _⟩ => blk_simp; rw [e0]; exact hR.symm
  | ⟨1, _⟩ => blk_simp; rw [e1]; exact Nat.zero_add _

theorem w_at (c : Dev nD) (t : Fin cfg0.N) (k : Fin 2048) (l : Fin 4096) :
    (iblk m c 1 t : S2048x4096.Idx → EReal) (ix2 k l) = aw m c (ix3 0 k l) := by
  obtain ⟨e0, e1⟩ := index1 t
  blk_simp [iblk]
  refine Eq.trans ?_ ((congrFun (cols_eq m c) (ix2 k l)).trans (cast_at _ k l))
  refine congrArg (V m c main_v1) (funext fun a => Fin.ext ?_)
  match a with
  | ⟨0, _⟩ => blk_simp; rw [e0]; exact Nat.zero_add _
  | ⟨1, _⟩ => blk_simp; rw [e1]; exact Nat.zero_add _

/-- A block of an output at its place in the array. -/
theorem block_at (off : ℕ) (ho : off + 1024 ≤ 4096) (inb : ∀ a, (![0, off] : Fin 2 → ℕ) a + S2048x1024.size a ≤ S2048x4096.size a)
    (c : Dev nD) (t : Fin cfg0.N) (y : S512x1024.Idx) (i : S8192x1024.Idx) (h0 : (i 0).val = t.val * 512 + (y 0).val) (h1 : (i 1).val = (y 1).val) :
    View.canon (Val := Elt Ideal) (e := .f32) [⟨r0_2, k0_pay2 (View.ld (iblk m c 0 t) r0_0) (View.ld (iblk m c 1 t) (Rect.unit (s := S2048x4096) ![0, off] S2048x1024.size inb))⟩] y
      = G off ho (ax m c) (aw m c) i := by
  have hy : y = ix2 (y 0) (y 1) := by funext a; match a with | ⟨0, _⟩ => rfl | ⟨1, _⟩ => rfl
  refine (congrArg _ hy).trans ((out_at off ho inb (iblk m c 0 t) (iblk m c 1 t) (y 0) (y 1)).trans (Finset.sum_congr rfl fun k _ => congr (congrArg _ ?_) ?_))
  · exact x_at m c t (y 0) k (i 0) h0
  · refine (w_at m c t k _).trans (congrArg (fun l => aw m c (ix3 0 k l)) (Fin.ext ?_))
    show off + (y 1).val = off + (i 1).val
    omega

theorem final2 (c : Dev nD) : (dats m 0 c).arrAt 2 cfg0.N = G 0 (by norm_num) (ax m c) (aw m c) := by
  refine (dats m 0 c).arrAt_eq_of_covers (2 : Fin 6) _ (by decide +kernel) fun t _ y => ?_
  obtain ⟨e0, e1⟩ := index2 t
  blk_simp
  rw [after0_2]
  exact block_at m 0 _ _ c t y _ (by blk_simp; rw [e0]) (by blk_simp; rw [e1]; exact Nat.zero_add _)

theorem final3 (c : Dev nD) : (dats m 0 c).arrAt 3 cfg0.N = G 1024 (by norm_num) (ax m c) (aw m c) := by
  refine (dats m 0 c).arrAt_eq_of_covers (3 : Fin 6) _ (by decide +kernel) fun t _ y => ?_
  obtain ⟨e0, e1⟩ := index3 t
  blk_simp
  rw [after0_3]
  exact block_at m 1024 _ _ c t y _ (by blk_simp; rw [e0]) (by blk_simp; rw [e1]; exact Nat.zero_add _)

theorem final4 (c : Dev nD) : (dats m 0 c).arrAt 4 cfg0.N = G 2048 (by norm_num) (ax m c) (aw m c) := by
  refine (dats m 0 c).arrAt_eq_of_covers (4 : Fin 6) _ (by decide +kernel) fun t _ y => ?_
  obtain ⟨e0, e1⟩ := index4 t
  blk_simp
  rw [after0_4]
  exact block_at m 2048 _ _ c t y _ (by blk_simp; rw [e0]) (by blk_simp; rw [e1]; exact Nat.zero_add _)

theorem final5 (c : Dev nD) : (dats m 0 c).arrAt 5 cfg0.N = G 3072 (by norm_num) (ax m c) (aw m c) := by
  refine (dats m 0 c).arrAt_eq_of_covers (5 : Fin 6) _ (by decide +kernel) fun t _ y => ?_
  obtain ⟨e0, e1⟩ := index5 t
  blk_simp
  rw [after0_5]
  exact block_at m 3072 _ _ c t y _ (by blk_simp; rw [e0]) (by blk_simp; rw [e1]; exact Nat.zero_add _)

theorem final_all (c : Dev nD) :
    (dats m 0 c).arrAt 2 cfg0.N = G 0 (by norm_num) (ax m c) (aw m c) ∧ (dats m 0 c).arrAt 3 cfg0.N = G 1024 (by norm_num) (ax m c) (aw m c)
    ∧ (dats m 0 c).arrAt 4 cfg0.N = G 2048 (by norm_num) (ax m c) (aw m c) ∧ (dats m 0 c).arrAt 5 cfg0.N = G 3072 (by norm_num) (ax m c) (aw m c) :=
  ⟨final2 m c, final3 m c, final4 m c, final5 m c⟩

theorem algebraic : Cert.algebraic_Kernel2Ideal_Reference2Ideal (hKernel2Ideal := Cert.Kernel2Ideal.Gen.facts) (hReference2Ideal := Cert.Reference2Ideal.Gen.facts) := by
  intro m g m' g' _ hargs
  refine ⟨fun c => G 0 (by norm_num) (ax m c) (aw m c), fun c => G 1024 (by norm_num) (ax m c) (aw m c), fun c => G 2048 (by norm_num) (ax m c) (aw m c), fun c => G 3072 (by norm_num) (ax m c) (aw m c), ?_, ?_⟩
  · refine (θ_run defs _ _).mono (fun r h c => ?_) (run_main m g)
    obtain ⟨f2, f3, f4, f5⟩ := final_all m c
    exact ⟨((h c).1 2).trans f2, ((h c).1 3).trans f3, ((h c).1 4).trans f4, ((h c).1 5).trans f5,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩
  · refine (θ_run Cert.Reference2Ideal.defs _ _).mono (fun r h c => ?_) (Cert.Reference2Ideal.Value.run (F := Ideal) m' g')
    obtain ⟨a0, a1⟩ := hargs c
    have e (off : ℕ) (ho : off + 1024 ≤ 4096) : G off ho (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) = G off ho (ax m c) (aw m c) := by
      rw [a0, a1]
    obtain ⟨h2, h3, h4, h5, h6⟩ := h c
    exact ⟨h2.trans ((ref_at 0 _ _ _ _).trans (e 0 _)), h3.trans ((ref_at 1024 _ _ _ _).trans (e 1024 _)), h4.trans ((ref_at 2048 _ _ _ _).trans (e 2048 _)), h5.trans ((ref_at 3072 _ _ _ _).trans (e 3072 _)), h6⟩

end Cert.Kernel2Ideal.Result
-- ==== Proof.Proj.Sample.lean ====
/- The input projection of the samples: the kernel's four results and the reference's are the same sums. -/
module

public import proofs.«01_k».proof.Defs
public import proofs.«01_k».proof.Proof.Gen.Kernel3Ideal
public import proofs.«01_k».proof.Proof.Gen.Kernel3Ideal.Frame
public import proofs.«01_k».proof.Proof.Gen.Reference3Ideal.Run
public import Idealize.ShloMosaic.Lib.Pointwise
public import Idealize.ShloMosaic.Lib.Quiescent
public import Idealize.ShloMosaic.Lib.Pipeline.ValueKit.Geometry

@[expose] public section

set_option maxRecDepth 16384
set_option maxHeartbeats 1000000

noncomputable section

namespace Cert.Reference3Ideal.Result

open Idealize.ShloMosaic Idealize.ShloMosaic.TcCoe Idealize.SL.Sem Cert.Reference3Ideal Cert.Reference3Ideal.Gen

/-- The sequence and the position of a row of the flattened rows. -/
def row (R : Fin 128) : Fin 32 := ⟨R.val / 4, by have := R.isLt; omega⟩
def pos (R : Fin 128) : Fin 4 := ⟨R.val % 4, by omega⟩
theorem row_pos (R : Fin 128) : R = (⟨(row R).val * 4 + (pos R).val, by have := (row R).isLt; have := (pos R).isLt; omega⟩ : Fin 128) := Fin.ext (by show R.val = R.val / 4 * 4 + R.val % 4; omega)

/-- The result at a row and a column of the part of the weights that begins at column `off`. -/
def G (off : ℕ) (ho : off + 1024 ≤ 4096) (x : S32x4x2048.Idx → EReal) (w : S1x2048x4096.Idx → EReal) : S128x1024.Idx → EReal := fun i =>
  ∑ k : Fin 2048, x (ix3 (row (i 0)) (pos (i 0)) k) * w (ix3 0 k (⟨off + (i 1).val, by have : (i 1).val < 1024 := (i 1).isLt; omega⟩ : Fin 4096))

/-! ## The reference -/

theorem dot_at (x : FVec Ideal S32x4x2048 .f32) (w : FVec Ideal S1x2048x4096 .f32) (b : Fin 32) (s : Fin 4) (l : Fin 4096) :
    (Host.dotGeneral dot_S32x4x2048_S2048x4096_S32x4x4096_2_0_01_1_n_n none x (shapeCast S2048x4096 w shapeCasts_S1x2048x4096_S2048x4096) : FVec Ideal S32x4x4096 .f32) (ix3 b s l)
      = (∑ k : Fin 2048, x (ix3 b s k) * w (ix3 0 k l) : EReal) := by
  pointwise

theorem slice_at (off : ℕ) (ho : off + 1024 ≤ 4096) (hs : S32x4x4096.Slices ![0, 0, off] S32x4x1024) (y : FVec Ideal S32x4x4096 .f32) (b : Fin 32) (s : Fin 4) (j : Fin 1024) :
    shapeCast S128x1024 (extractStridedSlice S32x4x1024 ![0, 0, off] y hs) shapeCasts_S32x4x1024_S128x1024 (ix2 (⟨b.val * 4 + s.val, by have := b.isLt; have := s.isLt; omega⟩ : Fin 128) j)
      = y (ix3 b s (⟨off + j.val, by have := j.isLt; omega⟩ : Fin 4096)) := by
  pointwise

theorem ref_at (off : ℕ) (ho : off + 1024 ≤ 4096) (hs : S32x4x4096.Slices ![0, 0, off] S32x4x1024) (x : FVec Ideal S32x4x2048 .f32) (w : FVec Ideal S1x2048x4096 .f32) :
    shapeCast S128x1024 (extractStridedSlice S32x4x1024 ![0, 0, off] (Host.dotGeneral dot_S32x4x2048_S2048x4096_S32x4x4096_2_0_01_1_n_n none x (shapeCast S2048x4096 w shapeCasts_S1x2048x4096_S2048x4096) : FVec Ideal S32x4x4096 .f32) hs) shapeCasts_S32x4x1024_S128x1024
      = G off ho x w := by
  funext i
  have hi : i = ix2 (⟨(row (i 0)).val * 4 + (pos (i 0)).val, by have := (row (i 0)).isLt; have := (pos (i 0)).isLt; omega⟩ : Fin 128) (i 1) := by
    funext a; match a with | ⟨0, _⟩ => exact row_pos (i 0) | ⟨1, _⟩ => rfl
  exact (congrArg _ hi).trans ((slice_at off ho hs _ (row (i 0)) (pos (i 0)) (i 1)).trans (dot_at x w (row (i 0)) (pos (i 0)) _))

/-- The reference's frame: it declares no semaphore. -/
theorem reference_frame : Cert.quiescent_Reference3Ideal (hReference3Ideal := Cert.Reference3Ideal.Gen.facts) := fun m g _ =>
  (θ_run Cert.Reference3Ideal.defs _ _).mono (fun r h => ⟨fun c => (h c).2.2.2.2, sem_eq_zero_of_no_sems (by decide) r.2⟩)
    (Cert.Reference3Ideal.Value.run (F := Ideal) m g)

end Cert.Reference3Ideal.Result

namespace Cert.Kernel3Ideal.Result

open Idealize.ShloMosaic Idealize.ShloMosaic.TcCoe Idealize.SL.Sem Cert.Kernel3Ideal Cert.Kernel3Ideal.Gen
open Cert.Reference3Ideal.Result (G ref_at row pos row_pos)

/-! ## The kernel -/

theorem pay_at (v : Vec Ideal S128x2048 .f32) (w : Vec Ideal S2048x1024 .bf16) (r : Fin 128) (j : Fin 1024) :
    k0_pay2 v w (ix2 r j) = (∑ k : Fin 2048, v (ix2 r k) * w (ix2 k j) : EReal) := by
  pointwise [k0_pay2, k0_pay1]

/-- One block of one output: the block of rows times its part of the weights. -/
theorem out_at (off : ℕ) (ho : off + 1024 ≤ 4096) (inb : ∀ a, (![0, off] : Fin 2 → ℕ) a + S2048x1024.size a ≤ S2048x4096.size a)
    (x : Vec Ideal S128x2048 .f32) (w : Vec Ideal S2048x4096 .bf16) (r : Fin 128) (j : Fin 1024) :
    View.canon (Val := Elt Ideal) (e := .f32) [⟨r0_2, k0_pay2 (View.ld x r0_0) (View.ld w (Rect.unit (s := S2048x4096) ![0, off] S2048x1024.size inb))⟩] (ix2 r j)
      = (∑ k : Fin 2048, x (ix2 r k) * w (ix2 k (⟨off + j.val, by have := j.isLt; omega⟩ : Fin 4096)) : EReal) := by
  have h : r0_2.emb (ix2 r j) = ix2 r j := by
    funext a
    refine Fin.ext ?_
    match a with
    | ⟨0, _⟩ => simp [ix2]
    | ⟨1, _⟩ => simp [ix2]
  have h2 := View.canon_cons_emb (Val := Elt Ideal) (e := .f32) r0_2 (k0_pay2 (View.ld x r0_0) (View.ld w (Rect.unit (s := S2048x4096) ![0, off] S2048x1024.size inb))) [] (ix2 r j)
  rw [h] at h2
  refine h2.trans ((pay_at _ _ r j).trans (Finset.sum_congr rfl fun k _ => congr (congrArg _ ?_) ?_))
  · refine congrArg x (funext fun a => Fin.ext ?_)
    match a with
    | ⟨0, _⟩ => simp [ix2]
    | ⟨1, _⟩ => simp [ix2]
  · refine congrArg w (funext fun a => Fin.ext ?_)
    match a with
    | ⟨0, _⟩ => simp [ix2]
    | ⟨1, _⟩ => simp [ix2]

theorem index0 : ∀ t : Fin cfg0.N, win0_0.index t 0 = 0 ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel

variable (m : (ℓ : Loc nD τ sig) → Buf (Elt Ideal) ℓ) (g : Dev nD → PrngReg)

/-- The arguments. -/
abbrev ax (c : Dev nD) : S32x4x2048.Idx → EReal := m ((c : Thread nD τ).loc main_arg0)
abbrev aw (c : Dev nD) : S1x2048x4096.Idx → EReal := m ((c : Thread nD τ).loc main_arg1)

/-- What the region finds in its two arrays. -/
theorem rows_eq (c : Dev nD) : V m c main_v2 = shapeCast S128x2048 (m ((c : Thread nD τ).loc main_arg0)) shapeCasts_S32x4x2048_S128x2048 := by
  unfold V hostOps0; after_results <;> rfl
theorem cols_eq (c : Dev nD) : V m c main_v1 = truncf (F := Ideal) .bf16 (shapeCast S2048x4096 (m ((c : Thread nD τ).loc main_arg1)) shapeCasts_S1x2048x4096_S2048x4096) bitsLt_bf16_f32 := by
  unfold V hostOps0; after_results <;> rfl

theorem flat_at (x : FVec Ideal S32x4x2048 .f32) (b : Fin 32) (s : Fin 4) (k : Fin 2048) :
    shapeCast S128x2048 x shapeCasts_S32x4x2048_S128x2048 (ix2 (⟨b.val * 4 + s.val, by have := b.isLt; have := s.isLt; omega⟩ : Fin 128) k) = x (ix3 b s k) := by
  pointwise
theorem cast_at (x : FVec Ideal S1x2048x4096 .f32) (k : Fin 2048) (l : Fin 4096) :
    truncf (F := Ideal) .bf16 (shapeCast S2048x4096 x shapeCasts_S1x2048x4096_S2048x4096) bitsLt_bf16_f32 (ix2 k l) = x (ix3 0 k l) := by
  pointwise

theorem x_at (c : Dev nD) (t : Fin cfg0.N) (r : Fin 128) (k : Fin 2048) (R : Fin 128) (hR : R.val = r.val) :
    (iblk m c 0 t : S128x2048.Idx → EReal) (ix2 r k) = ax m c (ix3 (row R) (pos R) k) := by
  obtain ⟨e0, e1⟩ := index0 t
  blk_simp [iblk]
  refine Eq.trans ?_ (((congrFun (rows_eq m c) (ix2 R k)).trans (congrArg (fun R => shapeCast S128x2048 (m ((c : Thread nD τ).loc main_arg0)) shapeCasts_S32x4x2048_S128x2048 (ix2 R k)) (row_pos R))).trans (flat_at _ (row R) (pos R) k))
  refine congrArg (V m c main_v2) (funext fun a => Fin.ext ?_)
  match a with
  | ⟨0, _⟩ => blk_simp; rw [e0]; exact (Nat.zero_add _).trans hR.symm
  | ⟨1, _⟩ => blk_simp; rw [e1]; exact Nat.zero_add _

theorem w_at (c : Dev nD) (t : Fin cfg0.N) (k : Fin 2048) (l : Fin 4096) :
    (iblk m c 1 t : S2048x4096.Idx → EReal) (ix2 k l) = aw m c (ix3 0 k l) := by
  obtain ⟨e0, e1⟩ := index1 t
  blk_simp [iblk]
  refine Eq.trans ?_ ((congrFun (cols_eq m c) (ix2 k l)).trans (cast_at _ k l))
  refine congrArg (V m c main_v1) (funext fun a => Fin.ext ?_)
  match a with
  | ⟨0, _⟩ => blk_simp; rw [e0]; exact Nat.zero_add _
  | ⟨1, _⟩ => blk_simp; rw [e1]; exact Nat.zero_add _

/-- A block of an output at its place in the array. -/
theorem block_at (off : ℕ) (ho : off + 1024 ≤ 4096) (inb : ∀ a, (![0, off] : Fin 2 → ℕ) a + S2048x1024.size a ≤ S2048x4096.size a)
    (c : Dev nD) (t : Fin cfg0.N) (y : S128x1024.Idx) (i : S128x1024.Idx) (h0 : (i 0).val = (y 0).val) (h1 : (i 1).val = (y 1).val) :
    View.canon (Val := Elt Ideal) (e := .f32) [⟨r0_2, k0_pay2 (View.ld (iblk m c 0 t) r0_0) (View.ld (iblk m c 1 t) (Rect.unit (s := S2048x4096) ![0, off] S2048x1024.size inb))⟩] y
      = G off ho (ax m c) (aw m c) i := by
  have hy : y = ix2 (y 0) (y 1) := by funext a; match a with | ⟨0, _⟩ => rfl | ⟨1, _⟩ => rfl
  refine (congrArg _ hy).trans ((out_at off ho inb (iblk m c 0 t) (iblk m c 1 t) (y 0) (y 1)).trans (Finset.sum_congr rfl fun k _ => congr (congrArg _ ?_) ?_))
  · exact x_at m c t (y 0) k (i 0) h0
  · refine (w_at m c t k _).trans (congrArg (fun l => aw m c (ix3 0 k l)) (Fin.ext ?_))
    show off + (y 1).val = off + (i 1).val
    omega

theorem final2 (c : Dev nD) : (dats m 0 c).arrAt 2 cfg0.N = G 0 (by norm_num) (ax m c) (aw m c) := by
  refine (dats m 0 c).arrAt_eq_of_covers (2 : Fin 6) _ (by decide +kernel) fun t _ y => ?_
  obtain ⟨e0, e1⟩ := index2 t
  blk_simp
  rw [after0_2]
  exact block_at m 0 _ _ c t y _ (by blk_simp; rw [e0]; exact Nat.zero_add _) (by blk_simp; rw [e1]; exact Nat.zero_add _)

theorem final3 (c : Dev nD) : (dats m 0 c).arrAt 3 cfg0.N = G 1024 (by norm_num) (ax m c) (aw m c) := by
  refine (dats m 0 c).arrAt_eq_of_covers (3 : Fin 6) _ (by decide +kernel) fun t _ y => ?_
  obtain ⟨e0, e1⟩ := index3 t
  blk_simp
  rw [after0_3]
  exact block_at m 1024 _ _ c t y _ (by blk_simp; rw [e0]; exact Nat.zero_add _) (by blk_simp; rw [e1]; exact Nat.zero_add _)

theorem final4 (c : Dev nD) : (dats m 0 c).arrAt 4 cfg0.N = G 2048 (by norm_num) (ax m c) (aw m c) := by
  refine (dats m 0 c).arrAt_eq_of_covers (4 : Fin 6) _ (by decide +kernel) fun t _ y => ?_
  obtain ⟨e0, e1⟩ := index4 t
  blk_simp
  rw [after0_4]
  exact block_at m 2048 _ _ c t y _ (by blk_simp; rw [e0]; exact Nat.zero_add _) (by blk_simp; rw [e1]; exact Nat.zero_add _)

theorem final5 (c : Dev nD) : (dats m 0 c).arrAt 5 cfg0.N = G 3072 (by norm_num) (ax m c) (aw m c) := by
  refine (dats m 0 c).arrAt_eq_of_covers (5 : Fin 6) _ (by decide +kernel) fun t _ y => ?_
  obtain ⟨e0, e1⟩ := index5 t
  blk_simp
  rw [after0_5]
  exact block_at m 3072 _ _ c t y _ (by blk_simp; rw [e0]; exact Nat.zero_add _) (by blk_simp; rw [e1]; exact Nat.zero_add _)

theorem final_all (c : Dev nD) :
    (dats m 0 c).arrAt 2 cfg0.N = G 0 (by norm_num) (ax m c) (aw m c) ∧ (dats m 0 c).arrAt 3 cfg0.N = G 1024 (by norm_num) (ax m c) (aw m c)
    ∧ (dats m 0 c).arrAt 4 cfg0.N = G 2048 (by norm_num) (ax m c) (aw m c) ∧ (dats m 0 c).arrAt 5 cfg0.N = G 3072 (by norm_num) (ax m c) (aw m c) :=
  ⟨final2 m c, final3 m c, final4 m c, final5 m c⟩

theorem algebraic : Cert.algebraic_Kernel3Ideal_Reference3Ideal (hKernel3Ideal := Cert.Kernel3Ideal.Gen.facts) (hReference3Ideal := Cert.Reference3Ideal.Gen.facts) := by
  intro m g m' g' _ hargs
  refine ⟨fun c => G 0 (by norm_num) (ax m c) (aw m c), fun c => G 1024 (by norm_num) (ax m c) (aw m c), fun c => G 2048 (by norm_num) (ax m c) (aw m c), fun c => G 3072 (by norm_num) (ax m c) (aw m c), ?_, ?_⟩
  · refine (θ_run defs _ _).mono (fun r h c => ?_) (run_main m g)
    obtain ⟨f2, f3, f4, f5⟩ := final_all m c
    exact ⟨((h c).1 2).trans f2, ((h c).1 3).trans f3, ((h c).1 4).trans f4, ((h c).1 5).trans f5,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩
  · refine (θ_run Cert.Reference3Ideal.defs _ _).mono (fun r h c => ?_) (Cert.Reference3Ideal.Value.run (F := Ideal) m' g')
    obtain ⟨a0, a1⟩ := hargs c
    have e (off : ℕ) (ho : off + 1024 ≤ 4096) : G off ho (m' ((c : Thread Cert.Reference3Ideal.nD Cert.Reference3Ideal.τ).loc Cert.Reference3Ideal.main_arg0)) (m' ((c : Thread Cert.Reference3Ideal.nD Cert.Reference3Ideal.τ).loc Cert.Reference3Ideal.main_arg1)) = G off ho (ax m c) (aw m c) := by
      rw [a0, a1]
    obtain ⟨h2, h3, h4, h5, h6⟩ := h c
    exact ⟨h2.trans ((ref_at 0 _ _ _ _).trans (e 0 _)), h3.trans ((ref_at 1024 _ _ _ _).trans (e 1024 _)), h4.trans ((ref_at 2048 _ _ _ _).trans (e 2048 _)), h5.trans ((ref_at 3072 _ _ _ _).trans (e 3072 _)), h6⟩

end Cert.Kernel3Ideal.Result
-- ==== Proof.Merge.Ref.lean ====
/- The merge of the two branches: its row functions, and the reference's results at an index by them. -/
module

public import proofs.«01_k».proof.Defs
public import proofs.«01_k».proof.Proof.Gen.Reference4Ideal.Run
public import Idealize.ShloMosaic.Lib.Pointwise
public import Idealize.ShloMosaic.Lib.Quiescent
public import Idealize.ShloMosaic.Lib.IdealHost

@[expose] public section

set_option maxRecDepth 16384
set_option maxHeartbeats 1000000

noncomputable section

namespace Cert.Reference4Ideal.Result

open Idealize.ShloMosaic Idealize.ShloMosaic.TcCoe Idealize.SL.Sem Cert.Reference4Ideal Cert.Reference4Ideal.Gen

/-! ## The functions of a row -/

/-- The Gaussian error linear unit, by its tanh. -/
def gelu (y : EReal) : EReal :=
  y * (Ideal.ofBits .f32 0x3F000000#32 * (1 + Ideal.tanh (Ideal.ofBits .f32 0x3F4C422A#32 * (y + Ideal.ofBits .f32 0x3D372713#32 * (y * y * y)))))

/-- The gated unit: a row of the state space branch through the unit, times the logistic function of its product with the gate's weights. -/
def gated (y : Fin 1024 → EReal) (gw : Fin 1024 → Fin 1024 → EReal) (gb : Fin 1024 → EReal) (k : Fin 1024) : EReal :=
  gelu (y k) * Ideal.logistic (∑ l, gelu (y l) * gw l k + gb k)

/-- The residual plus the product of the two branches, side by side, with the output weights. -/
def mixed (o z : Fin 1024 → EReal) (x : Fin 2048 → EReal) (wo : Fin 2048 → Fin 2048 → EReal) (j : Fin 2048) : EReal :=
  Ideal.ofBits .f32 0x3F9837F0#32 * x j
    + (∑ k : Fin 1024, o k * wo ⟨k.val, by have := k.isLt; omega⟩ j + ∑ k : Fin 1024, z k * wo ⟨1024 + k.val, by have := k.isLt; omega⟩ j)

/-- The mean of a row. -/
def mean (f : Fin 2048 → EReal) : EReal := Ideal.div (∑ j, f j) (Ideal.ofBits .f32 0x45000000#32)

/-- A row normed: its mean taken off, divided by its deviation, with gain and offset. -/
def normed (f g b : Fin 2048 → EReal) (j : Fin 2048) : EReal :=
  (f j - mean f) * Ideal.rsqrt (mean (fun i => (f i - mean f) * (f i - mean f)) + Ideal.ofBits .f32 0x3727C5AC#32) * g j + b j

/-- A sum over the rows of both branches is the sum over the rows of each. -/
theorem sum_split (f : Fin 2048 → EReal) :
    ∑ k, f k = ∑ k : Fin 1024, f ⟨k.val, by have := k.isLt; omega⟩ + ∑ k : Fin 1024, f ⟨1024 + k.val, by have := k.isLt; omega⟩ :=
  Fin.sum_univ_add (a := 1024) (b := 1024) f

/-! ## The reference's arrays -/

def geluT (y : FVec Ideal S8192x1024 .f32) : FVec Ideal S8192x1024 .f32 :=
  mulf y (mulf (broadcastInDim S8192x1024 ![] bcast_S_S8192x1024 (constant S_ .f32 0x3F000000#32)) (addf (broadcastInDim S8192x1024 ![] bcast_S_S8192x1024 (constant S_ .f32 0x3F800000#32)) (Host.tanh (mulf (broadcastInDim S8192x1024 ![] bcast_S_S8192x1024 (constant S_ .f32 0x3F4C422A#32)) (addf y (mulf (broadcastInDim S8192x1024 ![] bcast_S_S8192x1024 (constant S_ .f32 0x3D372713#32)) (mulf (mulf y y) y)))))))

def gatedT (u : FVec Ideal S8192x1024 .f32) (gw : FVec Ideal S1x1024x1024 .f32) (gb : FVec Ideal S1x1024 .f32) : FVec Ideal S8192x1024 .f32 :=
  mulf u (Host.divf (broadcastInDim S8192x1024 ![] bcast_S_S8192x1024 (constant S_ .f32 0x3F800000#32)) (addf (broadcastInDim S8192x1024 ![] bcast_S_S8192x1024 (constant S_ .f32 0x3F800000#32)) (Host.exp (Host.negf (addf (Host.dotGeneral dot_S8192x1024_S1024x1024_S8192x1024_1_0_0_1_n_n none u (shapeCast _ gw shapeCasts_S1x1024x1024_S1024x1024)) (broadcastInDim S8192x1024 ![0, 1] bcast_S1x1024_S8192x1024_0_1 (broadcastInDim S1x1024 ![1] bcast_S1024_S1x1024_1 (shapeCast _ gb shapeCasts_S1x1024_S1024))))))))

def mixedT (o z : FVec Ideal S8192x1024 .f32) (x : FVec Ideal S1x8192x2048 .f32) (wo : FVec Ideal S1x2048x2048 .f32) : FVec Ideal S8192x2048 .f32 :=
  addf (mulf (broadcastInDim S8192x2048 ![] bcast_S_S8192x2048 (constant S_ .f32 0x3F9837F0#32)) (shapeCast _ x shapeCasts_S1x8192x2048_S8192x2048)) (Host.dotGeneral dot_S8192x2048_S2048x2048_S8192x2048_1_0_0_1_n_n none (concatenate S8192x2048 1 [⟨S8192x1024, o⟩, ⟨S8192x1024, z⟩] concatenates_S8192x1024_S8192x1024_S8192x2048_d1) (shapeCast _ wo shapeCasts_S1x2048x2048_S2048x2048))

def meanT (p : FVec Ideal S8192x2048 .f32) : FVec Ideal S8192x1 .f32 :=
  Host.divf (broadcastInDim S8192x1 ![0] bcast_S8192_S8192x1_0 (Host.reduceAdd p (constant S_ .f32 0x00000000#32) reducesTo_S8192x2048_S8192_d1 h_S_)) (broadcastInDim S8192x1 ![] bcast_S_S8192x1 (constant S_ .f32 0x45000000#32))

def centredT (p : FVec Ideal S8192x2048 .f32) : FVec Ideal S8192x2048 .f32 :=
  subf p (broadcastInDim S8192x2048 ![0, 1] bcast_S8192x1_S8192x2048_0_1 (meanT p))

def normedT (p : FVec Ideal S8192x2048 .f32) (g b : FVec Ideal S1x2048 .f32) : FVec Ideal S8192x2048 .f32 :=
  addf (mulf (mulf (centredT p) (broadcastInDim S8192x2048 ![0, 1] bcast_S8192x1_S8192x2048_0_1 (Host.rsqrt (addf (meanT (mulf (centredT p) (centredT p))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (shapeCast _ g shapeCasts_S1x2048_S2048)))) (broadcastInDim S8192x2048 ![0, 1] bcast_S1x2048_S8192x2048_0_1 (broadcastInDim S1x2048 ![1] bcast_S2048_S1x2048_1 (shapeCast _ b shapeCasts_S1x2048_S2048)))

theorem geluT_at (y : FVec Ideal S8192x1024 .f32) (r : Fin 8192) (k : Fin 1024) : geluT y (ix2 r k) = gelu (y (ix2 r k)) := by
  pointwise [geluT, gelu]

theorem gatedT_at (u : FVec Ideal S8192x1024 .f32) (gw : FVec Ideal S1x1024x1024 .f32) (gb : FVec Ideal S1x1024 .f32) (r : Fin 8192) (k : Fin 1024) :
    gatedT u gw gb (ix2 r k) = (u (ix2 r k) * Ideal.logistic (∑ l : Fin 1024, u (ix2 r l) * gw (ix3 0 l k) + gb (ix2 0 k)) : EReal) := by
  pointwise [gatedT, Ideal.logistic]

theorem mixedT_at (o z : FVec Ideal S8192x1024 .f32) (x : FVec Ideal S1x8192x2048 .f32) (wo : FVec Ideal S1x2048x2048 .f32) (r : Fin 8192) (j : Fin 2048) :
    mixedT o z x wo (ix2 r j) = (Ideal.ofBits .f32 0x3F9837F0#32 * x (ix3 0 r j)
      + ∑ k : Fin 2048, concatenate S8192x2048 1 [⟨S8192x1024, o⟩, ⟨S8192x1024, z⟩] concatenates_S8192x1024_S8192x1024_S8192x2048_d1 (ix2 r k) * wo (ix3 0 k j) : EReal) := by
  pointwise [mixedT]

theorem normedT_at (p : FVec Ideal S8192x2048 .f32) (g b : FVec Ideal S1x2048 .f32) (r : Fin 8192) (j : Fin 2048) :
    normedT p g b (ix2 r j) = normed (fun j => p (ix2 r j)) (fun j => g (ix2 0 j)) (fun j => b (ix2 0 j)) j := by
  pointwise [normedT, centredT, meanT, normed, mean]

variable (m : (ℓ : Loc nD τ sig) → Buf (Elt Ideal) ℓ)

/-- The first result's array of the arguments. -/
def x1T (o y : FVec Ideal S8192x1024 .f32) (x : FVec Ideal S1x8192x2048 .f32) (gw : FVec Ideal S1x1024x1024 .f32) (gb : FVec Ideal S1x1024 .f32) (wo : FVec Ideal S1x2048x2048 .f32) (g b : FVec Ideal S1x2048 .f32) :
    FVec Ideal S8192x2048 .f32 :=
  normedT (mixedT o (gatedT (geluT y) gw gb) x wo) g b

theorem res0_eq (c : Dev nD) : Value.res_main_v58 m c = x1T (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) := rfl

theorem res1_eq (c : Dev nD) : Value.res_main_v60 m c = truncf (F := Ideal) .bf16 (transpose S2048x8192 [1, 0] (Value.res_main_v58 m c : FVec Ideal S8192x2048 .f32) transposes_S8192x2048_S2048x8192_1_0) bitsLt_bf16_f32 := rfl

theorem cat_left (o z : FVec Ideal S8192x1024 .f32) (r : Fin 8192) (k : Fin 1024) (h : k.val < 2048) :
    concatenate S8192x2048 1 [⟨S8192x1024, o⟩, ⟨S8192x1024, z⟩] concatenates_S8192x1024_S8192x1024_S8192x2048_d1 (ix2 r (⟨k.val, h⟩ : Fin 2048)) = o (ix2 r k) := by
  pointwise
theorem cat_right (o z : FVec Ideal S8192x1024 .f32) (r : Fin 8192) (k : Fin 1024) (h : 1024 + k.val < 2048) :
    concatenate S8192x2048 1 [⟨S8192x1024, o⟩, ⟨S8192x1024, z⟩] concatenates_S8192x1024_S8192x1024_S8192x2048_d1 (ix2 r (⟨1024 + k.val, h⟩ : Fin 2048)) = z (ix2 r k) := by
  pointwise

/-- The first result as a function of the arguments' entries. -/
def X1 (o y : S8192x1024.Idx → EReal) (x : S1x8192x2048.Idx → EReal) (gw : S1x1024x1024.Idx → EReal) (gb : S1x1024.Idx → EReal) (wo : S1x2048x2048.Idx → EReal) (g b : S1x2048.Idx → EReal)
    (r : Fin 8192) (j : Fin 2048) : EReal :=
  normed (mixed (fun k => o (ix2 r k)) (gated (fun k => y (ix2 r k)) (fun l k => gw (ix3 0 l k)) (fun k => gb (ix2 0 k))) (fun j => x (ix3 0 r j)) (fun k j => wo (ix3 0 k j)))
    (fun j => g (ix2 0 j)) (fun j => b (ix2 0 j)) j

theorem x1T_at (o y : FVec Ideal S8192x1024 .f32) (x : FVec Ideal S1x8192x2048 .f32) (gw : FVec Ideal S1x1024x1024 .f32) (gb : FVec Ideal S1x1024 .f32) (wo : FVec Ideal S1x2048x2048 .f32) (g b : FVec Ideal S1x2048 .f32)
    (r : Fin 8192) (j : Fin 2048) : x1T o y x gw gb wo g b (ix2 r j) = X1 o y x gw gb wo g b r j := by
  refine (normedT_at _ g b r j).trans (congrFun (congrFun (congrFun (congrArg normed (funext fun j => ?_)) _) _) j)
  refine (mixedT_at o _ x wo r j).trans (congrArg (fun q : EReal => Ideal.ofBits .f32 0x3F9837F0#32 * x (ix3 0 r j) + q) ?_)
  refine (sum_split _).trans (congr (congrArg _ (Finset.sum_congr rfl fun k _ => ?_)) (Finset.sum_congr rfl fun k _ => ?_))
  · rw [cat_left]
  · rw [cat_right, gatedT_at]
    simp only [geluT_at]
    rfl

theorem t_at (p : FVec Ideal S8192x2048 .f32) (j : Fin 2048) (r : Fin 8192) :
    truncf (F := Ideal) .bf16 (transpose S2048x8192 [1, 0] p transposes_S8192x2048_S2048x8192_1_0) bitsLt_bf16_f32 (ix2 j r) = p (ix2 r j) := by
  pointwise

/-- The reference's frame: it declares no semaphore. -/
theorem reference_frame : Cert.quiescent_Reference4Ideal (hReference4Ideal := Cert.Reference4Ideal.Gen.facts) := fun m g _ =>
  (θ_run Cert.Reference4Ideal.defs _ _).mono (fun r h => ⟨fun c => (h c).2.2, sem_eq_zero_of_no_sems (by decide) r.2⟩)
    (Cert.Reference4Ideal.Value.run (F := Ideal) m g)

end Cert.Reference4Ideal.Result
-- ==== Proof.Merge.Prompt.lean ====
/- The merge of the prompt's branches: the kernel's two results are the reference's. -/
module

public import proofs.«01_k».proof.Proof.Merge.Ref
public import proofs.«01_k».proof.Proof.Gen.Kernel4Ideal
public import proofs.«01_k».proof.Proof.Gen.Kernel4Ideal.Frame
public import Idealize.ShloMosaic.Lib.Pipeline.ValueKit.Geometry

@[expose] public section

set_option maxRecDepth 16384
set_option maxHeartbeats 1000000

noncomputable section

namespace Cert.Kernel4Ideal.Result

open Idealize.ShloMosaic Idealize.ShloMosaic.TcCoe Idealize.SL.Sem Cert.Kernel4Ideal Cert.Kernel4Ideal.Gen
open Cert.Reference4Ideal.Result (gelu gated mixed mean normed X1 res0_eq res1_eq x1T_at t_at)

/-! ## The body's values at an index -/

/-- The gated unit of a block. -/
def gateB (y : Vec Ideal S512x1024 .f32) (gw : Vec Ideal S1024x1024 .bf16) (gb : Vec Ideal S1x1024 .f32) (r : Fin 512) (k : Fin 1024) : EReal :=
  gated (fun k => y (ix2 r k)) (fun l k => gw (ix2 l k)) (fun k => gb (ix2 0 k)) k

theorem pay3_at (y : Vec Ideal S512x1024 .f32) (gw : Vec Ideal S1024x1024 .bf16) (gb : Vec Ideal S1x1024 .f32) (o : Vec Ideal S512x1024 .f32) (w1 w2 : Vec Ideal S1024x2048 .bf16) (r : Fin 512) (j : Fin 2048) :
    k0_pay3 y gw gb o w1 w2 (ix2 r j) = (∑ k : Fin 1024, o (ix2 r k) * w1 (ix2 k j) + ∑ k : Fin 1024, gateB y gw gb r k * w2 (ix2 k j) : EReal) := by
  have e (a : EReal) : a * (a * a) = a * a * a := (mul_assoc a a a).symm
  pointwise [k0_pay3, gateB, gated, gelu, e]

theorem pay1_at (a x s : FVec Ideal S512x2048 .f32) (g b : Vec Ideal S1x2048 .f32) (r : Fin 512) (j : Fin 2048) :
    k0_pay1 a x s g b (ix2 r j) = normed (fun j => s (ix2 r j) * x (ix2 r j) + a (ix2 r j)) (fun j => g (ix2 0 j)) (fun j => b (ix2 0 j)) j := by
  pointwise [k0_pay1, normed, mean]

theorem pay2_at (a x s : FVec Ideal S512x2048 .f32) (g b : Vec Ideal S1x2048 .f32) (r : Fin 512) (j : Fin 2048) :
    k0_pay2 a x s g b (ix2 j r) = k0_pay1 a x s g b (ix2 r j) := by
  pointwise [k0_pay2]

theorem pay4_at (x : Vec Ideal S512x2048 .f32) (r : Fin 512) (j : Fin 2048) : k0_pay4 x (ix2 r j) = x (ix2 r j) := by
  pointwise [k0_pay4]

theorem pay5_at (r : Fin 512) (j : Fin 2048) : k0_pay5 (F := Ideal) (ix2 r j) = Ideal.ofBits .f32 0x3F9837F0#32 := by
  pointwise [k0_pay5]

/-! ## Whole blocks -/

theorem emb_whole {S : Shape} (off : Fin S.rank → ℕ) (ho : ∀ a, off a = 0) (inb : ∀ a, off a + S.size a ≤ S.size a) (y : S.Idx) : (Rect.unit (s := S) off S.size inb).emb y = y := by
  funext a
  refine Fin.ext ?_
  simp [ho]

theorem ld_whole {S : Shape} {e : EltTy} (off : Fin S.rank → ℕ) (ho : ∀ a, off a = 0) (inb : ∀ a, off a + S.size a ≤ S.size a) (x : Vec Ideal S e) :
    View.ld x (Rect.unit (s := S) off S.size inb) = x :=
  funext fun y => congrArg x (emb_whole off ho inb y)

theorem canon_whole {S : Shape} {e : EltTy} (off : Fin S.rank → ℕ) (ho : ∀ a, off a = 0) (inb : ∀ a, off a + S.size a ≤ S.size a) (w : S.Idx → Elt Ideal e) (y : S.Idx) :
    View.canon (Val := Elt Ideal) (e := e) [⟨Rect.unit (s := S) off S.size inb, w⟩] y = w y := by
  have h := View.canon_cons_emb (Val := Elt Ideal) (e := e) (Rect.unit (s := S) off S.size inb) w [] y
  rw [emb_whole off ho inb y] at h
  exact h

theorem zeros : ∀ a : Fin 2, (![0, 0] : Fin 2 → ℕ) a = 0 := by decide

variable (x0 x1 : Vec Ideal S512x1024 .f32) (x2 : Vec Ideal S512x2048 .f32) (x3 : Vec Ideal S1024x1024 .bf16) (x4 : Vec Ideal S1x1024 .f32) (x5 : Vec Ideal S2048x2048 .bf16) (x6 x7 : Vec Ideal S1x2048 .f32)

/-- A row of the block that the body leaves, from its input blocks. -/
def rowB (r : Fin 512) (j : Fin 2048) : EReal :=
  normed (mixed (fun k => x0 (ix2 r k)) (gateB x1 x3 x4 r) (fun j => x2 (ix2 r j)) (fun k j => x5 (ix2 k j))) (fun j => x6 (ix2 0 j)) (fun j => x7 (ix2 0 j)) j

theorem top_at (k : Fin 1024) (j : Fin 2048) : View.ld x5 r0_3 (ix2 k j) = x5 (ix2 (⟨k.val, by have := k.isLt; omega⟩ : Fin 2048) j) := by
  refine congrArg x5 (funext fun a => Fin.ext ?_)
  match a with
  | ⟨0, _⟩ => simp [ix2]
  | ⟨1, _⟩ => simp [ix2]
theorem low_at (k : Fin 1024) (j : Fin 2048) : View.ld x5 r0_4 (ix2 k j) = x5 (ix2 (⟨1024 + k.val, by have := k.isLt; omega⟩ : Fin 2048) j) := by
  refine congrArg x5 (funext fun a => Fin.ext ?_)
  match a with
  | ⟨0, _⟩ => simp [ix2]
  | ⟨1, _⟩ => simp [ix2]

theorem body_at (r : Fin 512) (j : Fin 2048) :
    k0_pay1 (k0_pay6 x0 x1 x2 x3 x4 x5 x6 x7) (k0_pay7 x0 x1 x2 x3 x4 x5 x6 x7) (k0_pay8 x0 x1 x2 x3 x4 x5 x6 x7) (View.ld x6 r0_6) (View.ld x7 r0_6) (ix2 r j) = rowB x0 x1 x2 x3 x4 x5 x6 x7 r j := by
  have l1 : View.ld x1 r0_0 = x1 := ld_whole _ zeros _ _
  have l3 : View.ld x3 r0_1 = x3 := ld_whole _ zeros _ _
  have l4 : View.ld x4 r0_2 = x4 := ld_whole _ zeros _ _
  have l0 : View.ld x0 r0_0 = x0 := ld_whole _ zeros _ _
  have l2 : View.ld x2 r0_5 = x2 := ld_whole _ zeros _ _
  have l6 : View.ld x6 r0_6 = x6 := ld_whole _ zeros _ _
  have l7 : View.ld x7 r0_6 = x7 := ld_whole _ zeros _ _
  refine (pay1_at _ _ _ _ _ r j).trans ?_
  unfold rowB
  rw [l6, l7]
  refine congrFun (congrFun (congrFun (congrArg normed (funext fun j => ?_)) _) _) j
  unfold k0_pay6 k0_pay7 k0_pay8
  rw [l0, l1, l2, l3, l4, pay3_at, pay4_at, pay5_at]
  exact congrArg (fun q : EReal => _ + q) (congr (congrArg (fun p q : EReal => p + q)
    (Finset.sum_congr rfl fun k _ => congrArg (fun q : EReal => x0 (ix2 r k) * q) (top_at x5 k j)))
    (Finset.sum_congr rfl fun k _ => congrArg (fun q : EReal => gateB x1 x3 x4 r k * q) (low_at x5 k j)))

theorem out8_at (r : Fin 512) (j : Fin 2048) : out0_8 x0 x1 x2 x3 x4 x5 x6 x7 (ix2 r j) = rowB x0 x1 x2 x3 x4 x5 x6 x7 r j :=
  (canon_whole _ zeros _ _ (ix2 r j)).trans (body_at x0 x1 x2 x3 x4 x5 x6 x7 r j)

theorem out9_at (r : Fin 512) (j : Fin 2048) : out0_9 x0 x1 x2 x3 x4 x5 x6 x7 (ix2 j r) = rowB x0 x1 x2 x3 x4 x5 x6 x7 r j :=
  (canon_whole _ zeros _ _ (ix2 j r)).trans ((pay2_at _ _ _ _ _ r j).trans (body_at x0 x1 x2 x3 x4 x5 x6 x7 r j))

/-! ## The blocks in the arrays -/

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = 0 ∧ win0_9.index t 1 = t.val := by decide +kernel

variable (m : (ℓ : Loc nD τ sig) → Buf (Elt Ideal) ℓ) (g : Dev nD → PrngReg)

/-- The arguments. -/
abbrev ao (c : Dev nD) : S8192x1024.Idx → EReal := m ((c : Thread nD τ).loc main_arg0)
abbrev ay (c : Dev nD) : S8192x1024.Idx → EReal := m ((c : Thread nD τ).loc main_arg1)
abbrev ax (c : Dev nD) : S1x8192x2048.Idx → EReal := m ((c : Thread nD τ).loc main_arg2)
abbrev agw (c : Dev nD) : S1x1024x1024.Idx → EReal := m ((c : Thread nD τ).loc main_arg3)
abbrev agb (c : Dev nD) : S1x1024.Idx → EReal := m ((c : Thread nD τ).loc main_arg4)
abbrev awo (c : Dev nD) : S1x2048x2048.Idx → EReal := m ((c : Thread nD τ).loc main_arg5)
abbrev ag (c : Dev nD) : S1x2048.Idx → EReal := m ((c : Thread nD τ).loc main_arg6)
abbrev ab (c : Dev nD) : S1x2048.Idx → EReal := m ((c : Thread nD τ).loc main_arg7)

/-- What the region finds in the arrays that the host prepares. -/
theorem x_eq (c : Dev nD) : V m c main_v10 = shapeCast S8192x2048 (m ((c : Thread nD τ).loc main_arg2)) shapeCasts_S1x8192x2048_S8192x2048 := by
  unfold V hostOps0; after_results <;> rfl
theorem gw_eq (c : Dev nD) : V m c main_v1 = truncf (F := Ideal) .bf16 (shapeCast S1024x1024 (m ((c : Thread nD τ).loc main_arg3)) shapeCasts_S1x1024x1024_S1024x1024) bitsLt_bf16_f32 := by
  unfold V hostOps0; after_results <;> rfl
theorem wo_eq (c : Dev nD) : V m c main_v3 = truncf (F := Ideal) .bf16 (shapeCast S2048x2048 (m ((c : Thread nD τ).loc main_arg5)) shapeCasts_S1x2048x2048_S2048x2048) bitsLt_bf16_f32 := by
  unfold V hostOps0; after_results <;> rfl
theorem gb_eq (c : Dev nD) : V m c main_v5 = shapeCast S1x1024 (shapeCast S1024 (m ((c : Thread nD τ).loc main_arg4)) shapeCasts_S1x1024_S1024) shapeCasts_S1024_S1x1024 := by
  unfold V hostOps0; after_results <;> rfl
theorem g_eq (c : Dev nD) : V m c main_v7 = shapeCast S1x2048 (shapeCast S2048 (m ((c : Thread nD τ).loc main_arg6)) shapeCasts_S1x2048_S2048) shapeCasts_S2048_S1x2048 := by
  unfold V hostOps0; after_results <;> rfl
theorem b_eq (c : Dev nD) : V m c main_v9 = shapeCast S1x2048 (shapeCast S2048 (m ((c : Thread nD τ).loc main_arg7)) shapeCasts_S1x2048_S2048) shapeCasts_S2048_S1x2048 := by
  unfold V hostOps0; after_results <;> rfl

theorem xc (x : FVec Ideal S1x8192x2048 .f32) (r : Fin 8192) (j : Fin 2048) : shapeCast S8192x2048 x shapeCasts_S1x8192x2048_S8192x2048 (ix2 r j) = x (ix3 0 r j) := by
  pointwise
theorem gwc (x : FVec Ideal S1x1024x1024 .f32) (l k : Fin 1024) : truncf (F := Ideal) .bf16 (shapeCast S1024x1024 x shapeCasts_S1x1024x1024_S1024x1024) bitsLt_bf16_f32 (ix2 l k) = x (ix3 0 l k) := by
  pointwise
theorem woc (x : FVec Ideal S1x2048x2048 .f32) (k j : Fin 2048) : truncf (F := Ideal) .bf16 (shapeCast S2048x2048 x shapeCasts_S1x2048x2048_S2048x2048) bitsLt_bf16_f32 (ix2 k j) = x (ix3 0 k j) := by
  pointwise
theorem gbc (x : FVec Ideal S1x1024 .f32) (k : Fin 1024) : shapeCast S1x1024 (shapeCast S1024 x shapeCasts_S1x1024_S1024) shapeCasts_S1024_S1x1024 (ix2 0 k) = x (ix2 0 k) := by
  pointwise
theorem gc (x : FVec Ideal S1x2048 .f32) (k : Fin 2048) : shapeCast S1x2048 (shapeCast S2048 x shapeCasts_S1x2048_S2048) shapeCasts_S2048_S1x2048 (ix2 0 k) = x (ix2 0 k) := by
  pointwise

variable (c : Dev nD) (t : Fin cfg0.N)

theorem o_at (r : Fin 512) (k : Fin 1024) (R : Fin 8192) (hR : R.val = t.val * 512 + r.val) : (iblk m c 0 t : S512x1024.Idx → EReal) (ix2 r k) = ao m c (ix2 R k) := by
  obtain ⟨e0, e1⟩ := index0 t
  blk_simp [iblk]
  refine Eq.trans ?_ (congrFun (V_main_arg0 m c) (ix2 R k))
  refine congrArg (V m c main_arg0) (funext fun a => Fin.ext ?_)
  match a with
  | ⟨0, _⟩ => blk_simp; rw [e0]; exact hR.symm
  | ⟨1, _⟩ => blk_simp; rw [e1]; exact Nat.zero_add _

theorem y_at (r : Fin 512) (k : Fin 1024) (R : Fin 8192) (hR : R.val = t.val * 512 + r.val) : (iblk m c 1 t : S512x1024.Idx → EReal) (ix2 r k) = ay m c (ix2 R k) := by
  obtain ⟨e0, e1⟩ := index1 t
  blk_simp [iblk]
  refine Eq.trans ?_ (congrFun (V_main_arg1 m c) (ix2 R k))
  refine congrArg (V m c main_arg1) (funext fun a => Fin.ext ?_)
  match a with
  | ⟨0, _⟩ => blk_simp; rw [e0]; exact hR.symm
  | ⟨1, _⟩ => blk_simp; rw [e1]; exact Nat.zero_add _

theorem x_at (r : Fin 512) (j : Fin 2048) (R : Fin 8192) (hR : R.val = t.val * 512 + r.val) : (iblk m c 2 t : S512x2048.Idx → EReal) (ix2 r j) = ax m c (ix3 0 R j) := by
  obtain ⟨e0, e1⟩ := index2 t
  blk_simp [iblk]
  refine Eq.trans ?_ ((congrFun (x_eq m c) (ix2 R j)).trans (xc _ R j))
  refine congrArg (V m c main_v10) (funext fun a => Fin.ext ?_)
  match a with
  | ⟨0, _⟩ => blk_simp; rw [e0]; exact hR.symm
  | ⟨1, _⟩ => blk_simp; rw [e1]; exact Nat.zero_add _

theorem gw_at (l k : Fin 1024) : (iblk m c 3 t : S1024x1024.Idx → EReal) (ix2 l k) = agw m c (ix3 0 l k) := by
  obtain ⟨e0, e1⟩ := index3 t
  blk_simp [iblk]
  refine Eq.trans ?_ ((congrFun (gw_eq m c) (ix2 l k)).trans (gwc _ l k))
  refine congrArg (V m c main_v1) (funext fun a => Fin.ext ?_)
  match a with
  | ⟨0, _⟩ => blk_simp; rw [e0]; exact Nat.zero_add _
  | ⟨1, _⟩ => blk_simp; rw [e1]; exact Nat.zero_add _

theorem gb_at (k : Fin 1024) : (iblk m c 4 t : S1x1024.Idx → EReal) (ix2 0 k) = agb m c (ix2 0 k) := by
  obtain ⟨e0, e1⟩ := index4 t
  blk_simp [iblk]
  refine Eq.trans ?_ ((congrFun (gb_eq m c) (ix2 0 k)).trans (gbc _ k))
  refine congrArg (V m c main_v5) (funext fun a => Fin.ext ?_)
  match a with
  | ⟨0, _⟩ => blk_simp; rw [e0]; exact Nat.zero_add _
  | ⟨1, _⟩ => blk_simp; rw [e1]; exact Nat.zero_add _

theorem wo_at (k j : Fin 2048) : (iblk m c 5 t : S2048x2048.Idx → EReal) (ix2 k j) = awo m c (ix3 0 k j) := by
  obtain ⟨e0, e1⟩ := index5 t
  blk_simp [iblk]
  refine Eq.trans ?_ ((congrFun (wo_eq m c) (ix2 k j)).trans (woc _ k j))
  refine congrArg (V m c main_v3) (funext fun a => Fin.ext ?_)
  match a with
  | ⟨0, _⟩ => blk_simp; rw [e0]; exact Nat.zero_add _
  | ⟨1, _⟩ => blk_simp; rw [e1]; exact Nat.zero_add _

theorem g_at (j : Fin 2048) : (iblk m c 6 t : S1x2048.Idx → EReal) (ix2 0 j) = ag m c (ix2 0 j) := by
  obtain ⟨e0, e1⟩ := index6 t
  blk_simp [iblk]
  refine Eq.trans ?_ ((congrFun (g_eq m c) (ix2 0 j)).trans (gc _ j))
  refine congrArg (V m c main_v7) (funext fun a => Fin.ext ?_)
  match a with
  | ⟨0, _⟩ => blk_simp; rw [e0]; exact Nat.zero_add _
  | ⟨1, _⟩ => blk_simp; rw [e1]; exact Nat.zero_add _

theorem b_at (j : Fin 2048) : (iblk m c 7 t : S1x2048.Idx → EReal) (ix2 0 j) = ab m c (ix2 0 j) := by
  obtain ⟨e0, e1⟩ := index7 t
  blk_simp [iblk]
  refine Eq.trans ?_ ((congrFun (b_eq m c) (ix2 0 j)).trans (gc _ j))
  refine congrArg (V m c main_v9) (funext fun a => Fin.ext ?_)
  match a with
  | ⟨0, _⟩ => blk_simp; rw [e0]; exact Nat.zero_add _
  | ⟨1, _⟩ => blk_simp; rw [e1]; exact Nat.zero_add _

/-- The first result of the arguments. -/
abbrev X (R : Fin 8192) (j : Fin 2048) : EReal := X1 (ao m c) (ay m c) (ax m c) (agw m c) (agb m c) (awo m c) (ag m c) (ab m c) R j

/-- A row of a point's block is that row of the result. -/
theorem row_at (r : Fin 512) (j : Fin 2048) (R : Fin 8192) (hR : R.val = t.val * 512 + r.val) :
    rowB (iblk m c 0 t) (iblk m c 1 t) (iblk m c 2 t) (iblk m c 3 t) (iblk m c 4 t) (iblk m c 5 t) (iblk m c 6 t) (iblk m c 7 t) r j = X m c R j := by
  have h0 : (fun k => (iblk m c 0 t : S512x1024.Idx → EReal) (ix2 r k)) = fun k => ao m c (ix2 R k) := funext fun k => o_at m c t r k R hR
  have h1 : (fun k => (iblk m c 1 t : S512x1024.Idx → EReal) (ix2 r k)) = fun k => ay m c (ix2 R k) := funext fun k => y_at m c t r k R hR
  have h2 : (fun j => (iblk m c 2 t : S512x2048.Idx → EReal) (ix2 r j)) = fun j => ax m c (ix3 0 R j) := funext fun j => x_at m c t r j R hR
  have h3 : (fun l k => (iblk m c 3 t : S1024x1024.Idx → EReal) (ix2 l k)) = fun l k => agw m c (ix3 0 l k) := funext fun l => funext fun k => gw_at m c t l k
  have h4 : (fun k => (iblk m c 4 t : S1x1024.Idx → EReal) (ix2 0 k)) = fun k => agb m c (ix2 0 k) := funext fun k => gb_at m c t k
  have h5 : (fun k j => (iblk m c 5 t : S2048x2048.Idx → EReal) (ix2 k j)) = fun k j => awo m c (ix3 0 k j) := funext fun k => funext fun j => wo_at m c t k j
  have h6 : (fun j => (iblk m c 6 t : S1x2048.Idx → EReal) (ix2 0 j)) = fun j => ag m c (ix2 0 j) := funext fun j => g_at m c t j
  have h7 : (fun j => (iblk m c 7 t : S1x2048.Idx → EReal) (ix2 0 j)) = fun j => ab m c (ix2 0 j) := funext fun j => b_at m c t j
  show normed (mixed _ (gated _ _ _) _ _) _ _ j = normed (mixed _ (gated _ _ _) _ _) _ _ j
  exact congrFun (congr (congr (congrArg normed (congr (congr (congr (congrArg mixed h0) (congr (congr (congrArg gated h1) h3) h4)) h2) h5)) h6) h7) j

/-! ## The results' arrays -/

theorem final8 : (dats m 0 c).arrAt 8 cfg0.N = fun i : S8192x2048.Idx => X m c (i 0) (i 1) := by
  refine (dats m 0 c).arrAt_eq_of_covers (8 : Fin 10) _ (by decide +kernel) fun t _ y => ?_
  obtain ⟨e0, e1⟩ := index8 t
  have hy : y = ix2 (y 0) (y 1) := by funext a; match a with | ⟨0, _⟩ => rfl | ⟨1, _⟩ => rfl
  blk_simp
  rw [after0_8]
  refine (congrArg _ hy).trans ((out8_at _ _ _ _ _ _ _ _ (y 0) (y 1)).trans ((row_at m c t (y 0) (y 1) _ ?_).trans (congrArg (X m c _) (Fin.ext ?_))))
  · blk_simp; rw [e0]
  · blk_simp; rw [e1]; exact (Nat.zero_add _).symm

theorem final9 : (dats m 0 c).arrAt 9 cfg0.N = fun i : S2048x8192.Idx => X m c (i 1) (i 0) := by
  refine (dats m 0 c).arrAt_eq_of_covers (9 : Fin 10) _ (by decide +kernel) fun t _ y => ?_
  obtain ⟨e0, e1⟩ := index9 t
  have hy : y = ix2 (y 0) (y 1) := by funext a; match a with | ⟨0, _⟩ => rfl | ⟨1, _⟩ => rfl
  blk_simp
  rw [after0_9]
  refine (congrArg _ hy).trans ((out9_at _ _ _ _ _ _ _ _ (y 1) (y 0)).trans ((row_at m c t (y 1) (y 0) _ ?_).trans (congrArg (X m c _) (Fin.ext ?_))))
  · blk_simp; rw [e1]
  · blk_simp; rw [e0]; exact (Nat.zero_add _).symm

/-! ## The claim -/

theorem ref8 (m' : (ℓ : Loc Cert.Reference4Ideal.nD Cert.Reference4Ideal.τ Cert.Reference4Ideal.sig) → Buf (Elt Ideal) ℓ) (R : Fin 8192) (j : Fin 2048)
    (h : m' ((c.tc : Thread Cert.Reference4Ideal.nD Cert.Reference4Ideal.τ).loc Cert.Reference4Ideal.main_arg0) = m ((c.tc : Thread nD τ).loc main_arg0)
      ∧ m' ((c.tc : Thread Cert.Reference4Ideal.nD Cert.Reference4Ideal.τ).loc Cert.Reference4Ideal.main_arg1) = m ((c.tc : Thread nD τ).loc main_arg1)
      ∧ m' ((c.tc : Thread Cert.Reference4Ideal.nD Cert.Reference4Ideal.τ).loc Cert.Reference4Ideal.main_arg2) = m ((c.tc : Thread nD τ).loc main_arg2)
      ∧ m' ((c.tc : Thread Cert.Reference4Ideal.nD Cert.Reference4Ideal.τ).loc Cert.Reference4Ideal.main_arg3) = m ((c.tc : Thread nD τ).loc main_arg3)
      ∧ m' ((c.tc : Thread Cert.Reference4Ideal.nD Cert.Reference4Ideal.τ).loc Cert.Reference4Ideal.main_arg4) = m ((c.tc : Thread nD τ).loc main_arg4)
      ∧ m' ((c.tc : Thread Cert.Reference4Ideal.nD Cert.Reference4Ideal.τ).loc Cert.Reference4Ideal.main_arg5) = m ((c.tc : Thread nD τ).loc main_arg5)
      ∧ m' ((c.tc : Thread Cert.Reference4Ideal.nD Cert.Reference4Ideal.τ).loc Cert.Reference4Ideal.main_arg6) = m ((c.tc : Thread nD τ).loc main_arg6)
      ∧ m' ((c.tc : Thread Cert.Reference4Ideal.nD Cert.Reference4Ideal.τ).loc Cert.Reference4Ideal.main_arg7) = m ((c.tc : Thread nD τ).loc main_arg7)) :
    Cert.Reference4Ideal.Value.res_main_v58 (F := Ideal) m' c (ix2 R j) = X m c R j := by
  obtain ⟨a0, a1, a2, a3, a4, a5, a6, a7⟩ := h
  refine (congrFun (res0_eq m' c) (ix2 R j)).trans ?_
  rw [a0, a1, a2, a3, a4, a5, a6, a7]
  exact x1T_at _ _ _ _ _ _ _ _ R j

theorem algebraic : Cert.algebraic_Kernel4Ideal_Reference4Ideal (hKernel4Ideal := Cert.Kernel4Ideal.Gen.facts) (hReference4Ideal := Cert.Reference4Ideal.Gen.facts) := by
  intro m g m' g' _ hargs
  refine ⟨fun c => fun i : S8192x2048.Idx => X m c (i 0) (i 1), fun c => fun i : S2048x8192.Idx => X m c (i 1) (i 0), ?_, ?_⟩
  · refine (θ_run defs _ _).mono (fun r h c => ?_) (run_main m g)
    exact ⟨((h c).1 8).trans (final8 m c), ((h c).1 9).trans (final9 m c),
      ((h c).1 0).trans (((dats m 0 c).arrAt_in 0 rfl _).trans (V_main_arg0 m c)),
      ((h c).1 1).trans (((dats m 0 c).arrAt_in 1 rfl _).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩
  · refine (θ_run Cert.Reference4Ideal.defs _ _).mono (fun r h c => ?_) (Cert.Reference4Ideal.Value.run (F := Ideal) m' g')
    have e (R : Fin 8192) (j : Fin 2048) := ref8 m c m' R j (hargs c)
    have eta (n k : ℕ) (i : (⟨2, ![n, k]⟩ : Shape).Idx) : i = ix2 (i 0) (i 1) := by funext a; match a with | ⟨0, _⟩ => rfl | ⟨1, _⟩ => rfl
    refine ⟨(h c).1.trans (funext fun i => (congrArg _ (eta 8192 2048 i)).trans (e (i 0) (i 1))),
      (h c).2.1.trans (funext fun i => (congrFun (res1_eq m' c) i).trans ((congrArg _ (eta 2048 8192 i)).trans ((t_at _ (i 0) (i 1)).trans (e (i 1) (i 0))))), (h c).2.2⟩

end Cert.Kernel4Ideal.Result
-- ==== Proof.Merge.Sample.lean ====
/- The merge of the samples' branches: the kernel's two results are the reference's. -/
module

public import proofs.«01_k».proof.Proof.Merge.Prompt
public import proofs.«01_k».proof.Proof.Gen.Kernel7Ideal
public import proofs.«01_k».proof.Proof.Gen.Kernel7Ideal.Frame
public import proofs.«01_k».proof.Proof.Gen.Reference7Ideal.Run

@[expose] public section

set_option maxRecDepth 16384
set_option maxHeartbeats 1000000

noncomputable section

namespace Cert.Reference7Ideal.Result

open Idealize.ShloMosaic Idealize.ShloMosaic.TcCoe Idealize.SL.Sem Cert.Reference7Ideal Cert.Reference7Ideal.Gen
open Cert.Reference4Ideal.Result (gelu gated mixed mean normed sum_split)

/-! ## The reference's arrays -/

def geluT (y : FVec Ideal S128x1024 .f32) : FVec Ideal S128x1024 .f32 :=
  mulf y (mulf (broadcastInDim S128x1024 ![] bcast_S_S128x1024 (constant S_ .f32 0x3F000000#32)) (addf (broadcastInDim S128x1024 ![] bcast_S_S128x1024 (constant S_ .f32 0x3F800000#32)) (Host.tanh (mulf (broadcastInDim S128x1024 ![] bcast_S_S128x1024 (constant S_ .f32 0x3F4C422A#32)) (addf y (mulf (broadcastInDim S128x1024 ![] bcast_S_S128x1024 (constant S_ .f32 0x3D372713#32)) (mulf (mulf y y) y)))))))

def gatedT (u : FVec Ideal S128x1024 .f32) (gw : FVec Ideal S1x1024x1024 .f32) (gb : FVec Ideal S1x1024 .f32) : FVec Ideal S128x1024 .f32 :=
  mulf u (Host.divf (broadcastInDim S128x1024 ![] bcast_S_S128x1024 (constant S_ .f32 0x3F800000#32)) (addf (broadcastInDim S128x1024 ![] bcast_S_S128x1024 (constant S_ .f32 0x3F800000#32)) (Host.exp (Host.negf (addf (Host.dotGeneral dot_S128x1024_S1024x1024_S128x1024_1_0_0_1_n_n none u (shapeCast _ gw shapeCasts_S1x1024x1024_S1024x1024)) (broadcastInDim S128x1024 ![0, 1] bcast_S1x1024_S128x1024_0_1 (broadcastInDim S1x1024 ![1] bcast_S1024_S1x1024_1 (shapeCast _ gb shapeCasts_S1x1024_S1024))))))))

def mixedT (o z : FVec Ideal S128x1024 .f32) (x : FVec Ideal S128x2048 .f32) (wo : FVec Ideal S1x2048x2048 .f32) : FVec Ideal S128x2048 .f32 :=
  addf (mulf (broadcastInDim S128x2048 ![] bcast_S_S128x2048 (constant S_ .f32 0x3F9837F0#32)) x) (Host.dotGeneral dot_S128x2048_S2048x2048_S128x2048_1_0_0_1_n_n none (concatenate S128x2048 1 [⟨S128x1024, o⟩, ⟨S128x1024, z⟩] concatenates_S128x1024_S128x1024_S128x2048_d1) (shapeCast _ wo shapeCasts_S1x2048x2048_S2048x2048))

def meanT (p : FVec Ideal S128x2048 .f32) : FVec Ideal S128x1 .f32 :=
  Host.divf (broadcastInDim S128x1 ![0] bcast_S128_S128x1_0 (Host.reduceAdd p (constant S_ .f32 0x00000000#32) reducesTo_S128x2048_S128_d1 h_S_)) (broadcastInDim S128x1 ![] bcast_S_S128x1 (constant S_ .f32 0x45000000#32))

def centredT (p : FVec Ideal S128x2048 .f32) : FVec Ideal S128x2048 .f32 :=
  subf p (broadcastInDim S128x2048 ![0, 1] bcast_S128x1_S128x2048_0_1 (meanT p))

def normedT (p : FVec Ideal S128x2048 .f32) (g b : FVec Ideal S1x2048 .f32) : FVec Ideal S128x2048 .f32 :=
  addf (mulf (mulf (centredT p) (broadcastInDim S128x2048 ![0, 1] bcast_S128x1_S128x2048_0_1 (Host.rsqrt (addf (meanT (mulf (centredT p) (centredT p))) (broadcastInDim S128x1 ![] bcast_S_S128x1 (constant S_ .f32 0x3727C5AC#32)))))) (broadcastInDim S128x2048 ![0, 1] bcast_S1x2048_S128x2048_0_1 (broadcastInDim S1x2048 ![1] bcast_S2048_S1x2048_1 (shapeCast _ g shapeCasts_S1x2048_S2048)))) (broadcastInDim S128x2048 ![0, 1] bcast_S1x2048_S128x2048_0_1 (broadcastInDim S1x2048 ![1] bcast_S2048_S1x2048_1 (shapeCast _ b shapeCasts_S1x2048_S2048)))

theorem geluT_at (y : FVec Ideal S128x1024 .f32) (r : Fin 128) (k : Fin 1024) : geluT y (ix2 r k) = gelu (y (ix2 r k)) := by
  pointwise [geluT, gelu]

theorem gatedT_at (u : FVec Ideal S128x1024 .f32) (gw : FVec Ideal S1x1024x1024 .f32) (gb : FVec Ideal S1x1024 .f32) (r : Fin 128) (k : Fin 1024) :
    gatedT u gw gb (ix2 r k) = (u (ix2 r k) * Ideal.logistic (∑ l : Fin 1024, u (ix2 r l) * gw (ix3 0 l k) + gb (ix2 0 k)) : EReal) := by
  pointwise [gatedT, Ideal.logistic]

theorem mixedT_at (o z : FVec Ideal S128x1024 .f32) (x : FVec Ideal S128x2048 .f32) (wo : FVec Ideal S1x2048x2048 .f32) (r : Fin 128) (j : Fin 2048) :
    mixedT o z x wo (ix2 r j) = (Ideal.ofBits .f32 0x3F9837F0#32 * x (ix2 r j)
      + ∑ k : Fin 2048, concatenate S128x2048 1 [⟨S128x1024, o⟩, ⟨S128x1024, z⟩] concatenates_S128x1024_S128x1024_S128x2048_d1 (ix2 r k) * wo (ix3 0 k j) : EReal) := by
  pointwise [mixedT]

theorem normedT_at (p : FVec Ideal S128x2048 .f32) (g b : FVec Ideal S1x2048 .f32) (r : Fin 128) (j : Fin 2048) :
    normedT p g b (ix2 r j) = normed (fun j => p (ix2 r j)) (fun j => g (ix2 0 j)) (fun j => b (ix2 0 j)) j := by
  pointwise [normedT, centredT, meanT, normed, mean]

variable (m : (ℓ : Loc nD τ sig) → Buf (Elt Ideal) ℓ)

/-- The first result's array of the arguments. -/
def x1T (o y : FVec Ideal S128x1024 .f32) (x : FVec Ideal S128x2048 .f32) (gw : FVec Ideal S1x1024x1024 .f32) (gb : FVec Ideal S1x1024 .f32) (wo : FVec Ideal S1x2048x2048 .f32) (g b : FVec Ideal S1x2048 .f32) :
    FVec Ideal S128x2048 .f32 :=
  normedT (mixedT o (gatedT (geluT y) gw gb) x wo) g b

theorem res0_eq (c : Dev nD) : Value.res_main_v58 m c = x1T (m ((c.tc : Thread nD τ).loc main_arg0)) (m ((c.tc : Thread nD τ).loc main_arg1)) (shapeCast S128x2048 (m ((c.tc : Thread nD τ).loc main_arg2)) shapeCasts_S32x4x2048_S128x2048) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) := rfl

theorem res1_eq (c : Dev nD) : Value.res_main_v60 m c = truncf (F := Ideal) .bf16 (transpose S2048x128 [1, 0] (Value.res_main_v58 m c : FVec Ideal S128x2048 .f32) transposes_S128x2048_S2048x128_1_0) bitsLt_bf16_f32 := rfl

theorem cat_left (o z : FVec Ideal S128x1024 .f32) (r : Fin 128) (k : Fin 1024) (h : k.val < 2048) :
    concatenate S128x2048 1 [⟨S128x1024, o⟩, ⟨S128x1024, z⟩] concatenates_S128x1024_S128x1024_S128x2048_d1 (ix2 r (⟨k.val, h⟩ : Fin 2048)) = o (ix2 r k) := by
  pointwise
theorem cat_right (o z : FVec Ideal S128x1024 .f32) (r : Fin 128) (k : Fin 1024) (h : 1024 + k.val < 2048) :
    concatenate S128x2048 1 [⟨S128x1024, o⟩, ⟨S128x1024, z⟩] concatenates_S128x1024_S128x1024_S128x2048_d1 (ix2 r (⟨1024 + k.val, h⟩ : Fin 2048)) = z (ix2 r k) := by
  pointwise

/-- The first result as a function of the arguments' entries. -/
def X1 (o y : S128x1024.Idx → EReal) (x : S128x2048.Idx → EReal) (gw : S1x1024x1024.Idx → EReal) (gb : S1x1024.Idx → EReal) (wo : S1x2048x2048.Idx → EReal) (g b : S1x2048.Idx → EReal)
    (r : Fin 128) (j : Fin 2048) : EReal :=
  normed (mixed (fun k => o (ix2 r k)) (gated (fun k => y (ix2 r k)) (fun l k => gw (ix3 0 l k)) (fun k => gb (ix2 0 k))) (fun j => x (ix2 r j)) (fun k j => wo (ix3 0 k j)))
    (fun j => g (ix2 0 j)) (fun j => b (ix2 0 j)) j

theorem x1T_at (o y : FVec Ideal S128x1024 .f32) (x : FVec Ideal S128x2048 .f32) (gw : FVec Ideal S1x1024x1024 .f32) (gb : FVec Ideal S1x1024 .f32) (wo : FVec Ideal S1x2048x2048 .f32) (g b : FVec Ideal S1x2048 .f32)
    (r : Fin 128) (j : Fin 2048) : x1T o y x gw gb wo g b (ix2 r j) = X1 o y x gw gb wo g b r j := by
  refine (normedT_at _ g b r j).trans (congrFun (congrFun (congrFun (congrArg normed (funext fun j => ?_)) _) _) j)
  refine (mixedT_at o _ x wo r j).trans (congrArg (fun q : EReal => Ideal.ofBits .f32 0x3F9837F0#32 * x (ix2 r j) + q) ?_)
  refine (sum_split _).trans (congr (congrArg _ (Finset.sum_congr rfl fun k _ => ?_)) (Finset.sum_congr rfl fun k _ => ?_))
  · rw [cat_left]
  · rw [cat_right, gatedT_at]
    simp only [geluT_at]
    rfl

theorem t_at (p : FVec Ideal S128x2048 .f32) (j : Fin 2048) (r : Fin 128) :
    truncf (F := Ideal) .bf16 (transpose S2048x128 [1, 0] p transposes_S128x2048_S2048x128_1_0) bitsLt_bf16_f32 (ix2 j r) = p (ix2 r j) := by
  pointwise

/-- The reference's frame: it declares no semaphore. -/
theorem reference_frame : Cert.quiescent_Reference7Ideal (hReference7Ideal := Cert.Reference7Ideal.Gen.facts) := fun m g _ =>
  (θ_run Cert.Reference7Ideal.defs _ _).mono (fun r h => ⟨fun c => (h c).2.2, sem_eq_zero_of_no_sems (by decide) r.2⟩)
    (Cert.Reference7Ideal.Value.run (F := Ideal) m g)

end Cert.Reference7Ideal.Result

namespace Cert.Kernel7Ideal.Result

open Idealize.ShloMosaic Idealize.ShloMosaic.TcCoe Idealize.SL.Sem Cert.Kernel7Ideal Cert.Kernel7Ideal.Gen
open Cert.Reference4Ideal.Result (gelu gated mixed mean normed)
open Cert.Reference7Ideal.Result (X1 res0_eq res1_eq x1T_at t_at)
open Cert.Kernel4Ideal.Result (ld_whole canon_whole zeros)

/-! ## The body's values at an index -/

/-- The gated unit of a block. -/
def gateB (y : Vec Ideal S128x1024 .f32) (gw : Vec Ideal S1024x1024 .bf16) (gb : Vec Ideal S1x1024 .f32) (r : Fin 128) (k : Fin 1024) : EReal :=
  gated (fun k => y (ix2 r k)) (fun l k => gw (ix2 l k)) (fun k => gb (ix2 0 k)) k

theorem pay3_at (y : Vec Ideal S128x1024 .f32) (gw : Vec Ideal S1024x1024 .bf16) (gb : Vec Ideal S1x1024 .f32) (o : Vec Ideal S128x1024 .f32) (w1 w2 : Vec Ideal S1024x2048 .bf16) (r : Fin 128) (j : Fin 2048) :
    k0_pay3 y gw gb o w1 w2 (ix2 r j) = (∑ k : Fin 1024, o (ix2 r k) * w1 (ix2 k j) + ∑ k : Fin 1024, gateB y gw gb r k * w2 (ix2 k j) : EReal) := by
  have e (a : EReal) : a * (a * a) = a * a * a := (mul_assoc a a a).symm
  pointwise [k0_pay3, gateB, gated, gelu, e]

theorem pay1_at (a x s : FVec Ideal S128x2048 .f32) (g b : Vec Ideal S1x2048 .f32) (r : Fin 128) (j : Fin 2048) :
    k0_pay1 a x s g b (ix2 r j) = normed (fun j => s (ix2 r j) * x (ix2 r j) + a (ix2 r j)) (fun j => g (ix2 0 j)) (fun j => b (ix2 0 j)) j := by
  pointwise [k0_pay1, normed, mean]

theorem pay2_at (a x s : FVec Ideal S128x2048 .f32) (g b : Vec Ideal S1x2048 .f32) (r : Fin 128) (j : Fin 2048) :
    k0_pay2 a x s g b (ix2 j r) = k0_pay1 a x s g b (ix2 r j) := by
  pointwise [k0_pay2]

theorem pay4_at (x : Vec Ideal S128x2048 .f32) (r : Fin 128) (j : Fin 2048) : k0_pay4 x (ix2 r j) = x (ix2 r j) := by
  pointwise [k0_pay4]

theorem pay5_at (r : Fin 128) (j : Fin 2048) : k0_pay5 (F := Ideal) (ix2 r j) = Ideal.ofBits .f32 0x3F9837F0#32 := by
  pointwise [k0_pay5]

/-! ## The body's blocks -/

variable (x0 x1 : Vec Ideal S128x1024 .f32) (x2 : Vec Ideal S128x2048 .f32) (x3 : Vec Ideal S1024x1024 .bf16) (x4 : Vec Ideal S1x1024 .f32) (x5 : Vec Ideal S2048x2048 .bf16) (x6 x7 : Vec Ideal S1x2048 .f32)

/-- A row of the block that the body leaves, from its input blocks. -/
def rowB (r : Fin 128) (j : Fin 2048) : EReal :=
  normed (mixed (fun k => x0 (ix2 r k)) (gateB x1 x3 x4 r) (fun j => x2 (ix2 r j)) (fun k j => x5 (ix2 k j))) (fun j => x6 (ix2 0 j)) (fun j => x7 (ix2 0 j)) j

theorem top_at (k : Fin 1024) (j : Fin 2048) : View.ld x5 r0_3 (ix2 k j) = x5 (ix2 (⟨k.val, by have := k.isLt; omega⟩ : Fin 2048) j) := by
  refine congrArg x5 (funext fun a => Fin.ext ?_)
  match a with
  | ⟨0, _⟩ => simp [ix2]
  | ⟨1, _⟩ => simp [ix2]
theorem low_at (k : Fin 1024) (j : Fin 2048) : View.ld x5 r0_4 (ix2 k j) = x5 (ix2 (⟨1024 + k.val, by have := k.isLt; omega⟩ : Fin 2048) j) := by
  refine congrArg x5 (funext fun a => Fin.ext ?_)
  match a with
  | ⟨0, _⟩ => simp [ix2]
  | ⟨1, _⟩ => simp [ix2]

theorem body_at (r : Fin 128) (j : Fin 2048) :
    k0_pay1 (k0_pay6 x0 x1 x2 x3 x4 x5 x6 x7) (k0_pay7 x0 x1 x2 x3 x4 x5 x6 x7) (k0_pay8 x0 x1 x2 x3 x4 x5 x6 x7) (View.ld x6 r0_6) (View.ld x7 r0_6) (ix2 r j) = rowB x0 x1 x2 x3 x4 x5 x6 x7 r j := by
  have l1 : View.ld x1 r0_0 = x1 := ld_whole _ zeros _ _
  have l3 : View.ld x3 r0_1 = x3 := ld_whole _ zeros _ _
  have l4 : View.ld x4 r0_2 = x4 := ld_whole _ zeros _ _
  have l0 : View.ld x0 r0_0 = x0 := ld_whole _ zeros _ _
  have l2 : View.ld x2 r0_5 = x2 := ld_whole _ zeros _ _
  have l6 : View.ld x6 r0_6 = x6 := ld_whole _ zeros _ _
  have l7 : View.ld x7 r0_6 = x7 := ld_whole _ zeros _ _
  refine (pay1_at _ _ _ _ _ r j).trans ?_
  unfold rowB
  rw [l6, l7]
  refine congrFun (congrFun (congrFun (congrArg normed (funext fun j => ?_)) _) _) j
  unfold k0_pay6 k0_pay7 k0_pay8
  rw [l0, l1, l2, l3, l4, pay3_at, pay4_at, pay5_at]
  exact congrArg (fun q : EReal => _ + q) (congr (congrArg (fun p q : EReal => p + q)
    (Finset.sum_congr rfl fun k _ => congrArg (fun q : EReal => x0 (ix2 r k) * q) (top_at x5 k j)))
    (Finset.sum_congr rfl fun k _ => congrArg (fun q : EReal => gateB x1 x3 x4 r k * q) (low_at x5 k j)))

theorem out8_at (r : Fin 128) (j : Fin 2048) : out0_8 x0 x1 x2 x3 x4 x5 x6 x7 (ix2 r j) = rowB x0 x1 x2 x3 x4 x5 x6 x7 r j :=
  (canon_whole _ zeros _ _ (ix2 r j)).trans (body_at x0 x1 x2 x3 x4 x5 x6 x7 r j)

theorem out9_at (r : Fin 128) (j : Fin 2048) : out0_9 x0 x1 x2 x3 x4 x5 x6 x7 (ix2 j r) = rowB x0 x1 x2 x3 x4 x5 x6 x7 r j :=
  (canon_whole _ zeros _ _ (ix2 j r)).trans ((pay2_at _ _ _ _ _ r j).trans (body_at x0 x1 x2 x3 x4 x5 x6 x7 r j))

/-! ## The blocks in the arrays -/

theorem point : ∀ t : Fin cfg0.N, t.val = 0 := by decide +kernel
theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = 0 ∧ win0_9.index t 1 = t.val := by decide +kernel

variable (m : (ℓ : Loc nD τ sig) → Buf (Elt Ideal) ℓ) (g : Dev nD → PrngReg)

/-- The arguments. -/
abbrev ao (c : Dev nD) : S128x1024.Idx → EReal := m ((c : Thread nD τ).loc main_arg0)
abbrev ay (c : Dev nD) : S128x1024.Idx → EReal := m ((c : Thread nD τ).loc main_arg1)
abbrev ax (c : Dev nD) : S128x2048.Idx → EReal := shapeCast S128x2048 (m ((c : Thread nD τ).loc main_arg2)) shapeCasts_S32x4x2048_S128x2048
abbrev agw (c : Dev nD) : S1x1024x1024.Idx → EReal := m ((c : Thread nD τ).loc main_arg3)
abbrev agb (c : Dev nD) : S1x1024.Idx → EReal := m ((c : Thread nD τ).loc main_arg4)
abbrev awo (c : Dev nD) : S1x2048x2048.Idx → EReal := m ((c : Thread nD τ).loc main_arg5)
abbrev ag (c : Dev nD) : S1x2048.Idx → EReal := m ((c : Thread nD τ).loc main_arg6)
abbrev ab (c : Dev nD) : S1x2048.Idx → EReal := m ((c : Thread nD τ).loc main_arg7)

/-- What the region finds in the arrays that the host prepares. -/
theorem x_eq (c : Dev nD) : V m c main_v10 = shapeCast S128x2048 (m ((c : Thread nD τ).loc main_arg2)) shapeCasts_S32x4x2048_S128x2048 := by
  unfold V hostOps0; after_results <;> rfl
theorem gw_eq (c : Dev nD) : V m c main_v1 = truncf (F := Ideal) .bf16 (shapeCast S1024x1024 (m ((c : Thread nD τ).loc main_arg3)) shapeCasts_S1x1024x1024_S1024x1024) bitsLt_bf16_f32 := by
  unfold V hostOps0; after_results <;> rfl
theorem wo_eq (c : Dev nD) : V m c main_v3 = truncf (F := Ideal) .bf16 (shapeCast S2048x2048 (m ((c : Thread nD τ).loc main_arg5)) shapeCasts_S1x2048x2048_S2048x2048) bitsLt_bf16_f32 := by
  unfold V hostOps0; after_results <;> rfl
theorem gb_eq (c : Dev nD) : V m c main_v5 = shapeCast S1x1024 (shapeCast S1024 (m ((c : Thread nD τ).loc main_arg4)) shapeCasts_S1x1024_S1024) shapeCasts_S1024_S1x1024 := by
  unfold V hostOps0; after_results <;> rfl
theorem g_eq (c : Dev nD) : V m c main_v7 = shapeCast S1x2048 (shapeCast S2048 (m ((c : Thread nD τ).loc main_arg6)) shapeCasts_S1x2048_S2048) shapeCasts_S2048_S1x2048 := by
  unfold V hostOps0; after_results <;> rfl
theorem b_eq (c : Dev nD) : V m c main_v9 = shapeCast S1x2048 (shapeCast S2048 (m ((c : Thread nD τ).loc main_arg7)) shapeCasts_S1x2048_S2048) shapeCasts_S2048_S1x2048 := by
  unfold V hostOps0; after_results <;> rfl

theorem gwc (x : FVec Ideal S1x1024x1024 .f32) (l k : Fin 1024) : truncf (F := Ideal) .bf16 (shapeCast S1024x1024 x shapeCasts_S1x1024x1024_S1024x1024) bitsLt_bf16_f32 (ix2 l k) = x (ix3 0 l k) := by
  pointwise
theorem woc (x : FVec Ideal S1x2048x2048 .f32) (k j : Fin 2048) : truncf (F := Ideal) .bf16 (shapeCast S2048x2048 x shapeCasts_S1x2048x2048_S2048x2048) bitsLt_bf16_f32 (ix2 k j) = x (ix3 0 k j) := by
  pointwise
theorem gbc (x : FVec Ideal S1x1024 .f32) (k : Fin 1024) : shapeCast S1x1024 (shapeCast S1024 x shapeCasts_S1x1024_S1024) shapeCasts_S1024_S1x1024 (ix2 0 k) = x (ix2 0 k) := by
  pointwise
theorem gc (x : FVec Ideal S1x2048 .f32) (k : Fin 2048) : shapeCast S1x2048 (shapeCast S2048 x shapeCasts_S1x2048_S2048) shapeCasts_S2048_S1x2048 (ix2 0 k) = x (ix2 0 k) := by
  pointwise

variable (c : Dev nD) (t : Fin cfg0.N)

theorem o_at (r : Fin 128) (k : Fin 1024) (R : Fin 128) (hR : R.val = t.val * 128 + r.val) : (iblk m c 0 t : S128x1024.Idx → EReal) (ix2 r k) = ao m c (ix2 R k) := by
  obtain ⟨e0, e1⟩ := index0 t
  blk_simp [iblk]
  refine Eq.trans ?_ (congrFun (V_main_arg0 m c) (ix2 R k))
  refine congrArg (V m c main_arg0) (funext fun a => Fin.ext ?_)
  match a with
  | ⟨0, _⟩ => blk_simp; rw [e0]; exact hR.symm
  | ⟨1, _⟩ => blk_simp; rw [e1]; exact Nat.zero_add _

theorem y_at (r : Fin 128) (k : Fin 1024) (R : Fin 128) (hR : R.val = t.val * 128 + r.val) : (iblk m c 1 t : S128x1024.Idx → EReal) (ix2 r k) = ay m c (ix2 R k) := by
  obtain ⟨e0, e1⟩ := index1 t
  blk_simp [iblk]
  refine Eq.trans ?_ (congrFun (V_main_arg1 m c) (ix2 R k))
  refine congrArg (V m c main_arg1) (funext fun a => Fin.ext ?_)
  match a with
  | ⟨0, _⟩ => blk_simp; rw [e0]; exact hR.symm
  | ⟨1, _⟩ => blk_simp; rw [e1]; exact Nat.zero_add _

theorem x_at (r : Fin 128) (j : Fin 2048) (R : Fin 128) (hR : R.val = t.val * 128 + r.val) : (iblk m c 2 t : S128x2048.Idx → EReal) (ix2 r j) = ax m c (ix2 R j) := by
  obtain ⟨e0, e1⟩ := index2 t
  blk_simp [iblk]
  refine Eq.trans ?_ (congrFun (x_eq m c) (ix2 R j))
  refine congrArg (V m c main_v10) (funext fun a => Fin.ext ?_)
  match a with
  | ⟨0, _⟩ => blk_simp; rw [e0]; exact hR.symm
  | ⟨1, _⟩ => blk_simp; rw [e1]; exact Nat.zero_add _

theorem gw_at (l k : Fin 1024) : (iblk m c 3 t : S1024x1024.Idx → EReal) (ix2 l k) = agw m c (ix3 0 l k) := by
  obtain ⟨e0, e1⟩ := index3 t
  blk_simp [iblk]
  refine Eq.trans ?_ ((congrFun (gw_eq m c) (ix2 l k)).trans (gwc _ l k))
  refine congrArg (V m c main_v1) (funext fun a => Fin.ext ?_)
  match a with
  | ⟨0, _⟩ => blk_simp; rw [e0]; exact Nat.zero_add _
  | ⟨1, _⟩ => blk_simp; rw [e1]; exact Nat.zero_add _

theorem gb_at (k : Fin 1024) : (iblk m c 4 t : S1x1024.Idx → EReal) (ix2 0 k) = agb m c (ix2 0 k) := by
  obtain ⟨e0, e1⟩ := index4 t
  blk_simp [iblk]
  refine Eq.trans ?_ ((congrFun (gb_eq m c) (ix2 0 k)).trans (gbc _ k))
  refine congrArg (V m c main_v5) (funext fun a => Fin.ext ?_)
  match a with
  | ⟨0, _⟩ => blk_simp; rw [e0]; exact Nat.zero_add _
  | ⟨1, _⟩ => blk_simp; rw [e1]; exact Nat.zero_add _

theorem wo_at (k j : Fin 2048) : (iblk m c 5 t : S2048x2048.Idx → EReal) (ix2 k j) = awo m c (ix3 0 k j) := by
  obtain ⟨e0, e1⟩ := index5 t
  blk_simp [iblk]
  refine Eq.trans ?_ ((congrFun (wo_eq m c) (ix2 k j)).trans (woc _ k j))
  refine congrArg (V m c main_v3) (funext fun a => Fin.ext ?_)
  match a with
  | ⟨0, _⟩ => blk_simp; rw [e0]; exact Nat.zero_add _
  | ⟨1, _⟩ => blk_simp; rw [e1]; exact Nat.zero_add _

theorem g_at (j : Fin 2048) : (iblk m c 6 t : S1x2048.Idx → EReal) (ix2 0 j) = ag m c (ix2 0 j) := by
  obtain ⟨e0, e1⟩ := index6 t
  blk_simp [iblk]
  refine Eq.trans ?_ ((congrFun (g_eq m c) (ix2 0 j)).trans (gc _ j))
  refine congrArg (V m c main_v7) (funext fun a => Fin.ext ?_)
  match a with
  | ⟨0, _⟩ => blk_simp; rw [e0]; exact Nat.zero_add _
  | ⟨1, _⟩ => blk_simp; rw [e1]; exact Nat.zero_add _

theorem b_at (j : Fin 2048) : (iblk m c 7 t : S1x2048.Idx → EReal) (ix2 0 j) = ab m c (ix2 0 j) := by
  obtain ⟨e0, e1⟩ := index7 t
  blk_simp [iblk]
  refine Eq.trans ?_ ((congrFun (b_eq m c) (ix2 0 j)).trans (gc _ j))
  refine congrArg (V m c main_v9) (funext fun a => Fin.ext ?_)
  match a with
  | ⟨0, _⟩ => blk_simp; rw [e0]; exact Nat.zero_add _
  | ⟨1, _⟩ => blk_simp; rw [e1]; exact Nat.zero_add _

/-- The first result of the arguments. -/
abbrev X (R : Fin 128) (j : Fin 2048) : EReal := X1 (ao m c) (ay m c) (ax m c) (agw m c) (agb m c) (awo m c) (ag m c) (ab m c) R j

/-- A row of a point's block is that row of the result. -/
theorem row_at (r : Fin 128) (j : Fin 2048) (R : Fin 128) (hR : R.val = t.val * 128 + r.val) :
    rowB (iblk m c 0 t) (iblk m c 1 t) (iblk m c 2 t) (iblk m c 3 t) (iblk m c 4 t) (iblk m c 5 t) (iblk m c 6 t) (iblk m c 7 t) r j = X m c R j := by
  have h0 : (fun k => (iblk m c 0 t : S128x1024.Idx → EReal) (ix2 r k)) = fun k => ao m c (ix2 R k) := funext fun k => o_at m c t r k R hR
  have h1 : (fun k => (iblk m c 1 t : S128x1024.Idx → EReal) (ix2 r k)) = fun k => ay m c (ix2 R k) := funext fun k => y_at m c t r k R hR
  have h2 : (fun j => (iblk m c 2 t : S128x2048.Idx → EReal) (ix2 r j)) = fun j => ax m c (ix2 R j) := funext fun j => x_at m c t r j R hR
  have h3 : (fun l k => (iblk m c 3 t : S1024x1024.Idx → EReal) (ix2 l k)) = fun l k => agw m c (ix3 0 l k) := funext fun l => funext fun k => gw_at m c t l k
  have h4 : (fun k => (iblk m c 4 t : S1x1024.Idx → EReal) (ix2 0 k)) = fun k => agb m c (ix2 0 k) := funext fun k => gb_at m c t k
  have h5 : (fun k j => (iblk m c 5 t : S2048x2048.Idx → EReal) (ix2 k j)) = fun k j => awo m c (ix3 0 k j) := funext fun k => funext fun j => wo_at m c t k j
  have h6 : (fun j => (iblk m c 6 t : S1x2048.Idx → EReal) (ix2 0 j)) = fun j => ag m c (ix2 0 j) := funext fun j => g_at m c t j
  have h7 : (fun j => (iblk m c 7 t : S1x2048.Idx → EReal) (ix2 0 j)) = fun j => ab m c (ix2 0 j) := funext fun j => b_at m c t j
  show normed (mixed _ (gated _ _ _) _ _) _ _ j = normed (mixed _ (gated _ _ _) _ _) _ _ j
  exact congrFun (congr (congr (congrArg normed (congr (congr (congr (congrArg mixed h0) (congr (congr (congrArg gated h1) h3) h4)) h2) h5)) h6) h7) j

/-! ## The results' arrays -/

theorem final8 : (dats m 0 c).arrAt 8 cfg0.N = fun i : S128x2048.Idx => X m c (i 0) (i 1) := by
  refine (dats m 0 c).arrAt_eq_of_covers (8 : Fin 10) _ (by decide +kernel) fun t _ y => ?_
  obtain ⟨e0, e1⟩ := index8 t
  have hy : y = ix2 (y 0) (y 1) := by funext a; match a with | ⟨0, _⟩ => rfl | ⟨1, _⟩ => rfl
  blk_simp
  rw [after0_8]
  refine (congrArg _ hy).trans ((out8_at _ _ _ _ _ _ _ _ (y 0) (y 1)).trans ((row_at m c t (y 0) (y 1) _ ?_).trans (congrArg (X m c _) (Fin.ext ?_))))
  · blk_simp; rw [e0, point t]; exact Nat.zero_add _
  · blk_simp; rw [e1]; exact (Nat.zero_add _).symm

theorem final9 : (dats m 0 c).arrAt 9 cfg0.N = fun i : S2048x128.Idx => X m c (i 1) (i 0) := by
  refine (dats m 0 c).arrAt_eq_of_covers (9 : Fin 10) _ (by decide +kernel) fun t _ y => ?_
  obtain ⟨e0, e1⟩ := index9 t
  have hy : y = ix2 (y 0) (y 1) := by funext a; match a with | ⟨0, _⟩ => rfl | ⟨1, _⟩ => rfl
  blk_simp
  rw [after0_9]
  refine (congrArg _ hy).trans ((out9_at _ _ _ _ _ _ _ _ (y 1) (y 0)).trans ((row_at m c t (y 1) (y 0) _ ?_).trans (congrArg (X m c _) (Fin.ext ?_))))
  · blk_simp; rw [e1, point t]; exact Nat.zero_add _
  · blk_simp; rw [e0]; exact (Nat.zero_add _).symm

/-! ## The claim -/

theorem ref8 (m' : (ℓ : Loc Cert.Reference7Ideal.nD Cert.Reference7Ideal.τ Cert.Reference7Ideal.sig) → Buf (Elt Ideal) ℓ) (R : Fin 128) (j : Fin 2048)
    (h : m' ((c.tc : Thread Cert.Reference7Ideal.nD Cert.Reference7Ideal.τ).loc Cert.Reference7Ideal.main_arg0) = m ((c.tc : Thread nD τ).loc main_arg0)
      ∧ m' ((c.tc : Thread Cert.Reference7Ideal.nD Cert.Reference7Ideal.τ).loc Cert.Reference7Ideal.main_arg1) = m ((c.tc : Thread nD τ).loc main_arg1)
      ∧ m' ((c.tc : Thread Cert.Reference7Ideal.nD Cert.Reference7Ideal.τ).loc Cert.Reference7Ideal.main_arg2) = m ((c.tc : Thread nD τ).loc main_arg2)
      ∧ m' ((c.tc : Thread Cert.Reference7Ideal.nD Cert.Reference7Ideal.τ).loc Cert.Reference7Ideal.main_arg3) = m ((c.tc : Thread nD τ).loc main_arg3)
      ∧ m' ((c.tc : Thread Cert.Reference7Ideal.nD Cert.Reference7Ideal.τ).loc Cert.Reference7Ideal.main_arg4) = m ((c.tc : Thread nD τ).loc main_arg4)
      ∧ m' ((c.tc : Thread Cert.Reference7Ideal.nD Cert.Reference7Ideal.τ).loc Cert.Reference7Ideal.main_arg5) = m ((c.tc : Thread nD τ).loc main_arg5)
      ∧ m' ((c.tc : Thread Cert.Reference7Ideal.nD Cert.Reference7Ideal.τ).loc Cert.Reference7Ideal.main_arg6) = m ((c.tc : Thread nD τ).loc main_arg6)
      ∧ m' ((c.tc : Thread Cert.Reference7Ideal.nD Cert.Reference7Ideal.τ).loc Cert.Reference7Ideal.main_arg7) = m ((c.tc : Thread nD τ).loc main_arg7)) :
    Cert.Reference7Ideal.Value.res_main_v58 (F := Ideal) m' c (ix2 R j) = X m c R j := by
  obtain ⟨a0, a1, a2, a3, a4, a5, a6, a7⟩ := h
  refine (congrFun (res0_eq m' c) (ix2 R j)).trans ?_
  rw [a0, a1, a2, a3, a4, a5, a6, a7]
  exact x1T_at _ _ _ _ _ _ _ _ R j

theorem algebraic : Cert.algebraic_Kernel7Ideal_Reference7Ideal (hKernel7Ideal := Cert.Kernel7Ideal.Gen.facts) (hReference7Ideal := Cert.Reference7Ideal.Gen.facts) := by
  intro m g m' g' _ hargs
  refine ⟨fun c => fun i : S128x2048.Idx => X m c (i 0) (i 1), fun c => fun i : S2048x128.Idx => X m c (i 1) (i 0), ?_, ?_⟩
  · refine (θ_run defs _ _).mono (fun r h c => ?_) (run_main m g)
    exact ⟨((h c).1 8).trans (final8 m c), ((h c).1 9).trans (final9 m c),
      ((h c).1 0).trans (((dats m 0 c).arrAt_in 0 rfl _).trans (V_main_arg0 m c)),
      ((h c).1 1).trans (((dats m 0 c).arrAt_in 1 rfl _).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩
  · refine (θ_run Cert.Reference7Ideal.defs _ _).mono (fun r h c => ?_) (Cert.Reference7Ideal.Value.run (F := Ideal) m' g')
    have e (R : Fin 128) (j : Fin 2048) := ref8 m c m' R j (hargs c)
    have eta (n k : ℕ) (i : (⟨2, ![n, k]⟩ : Shape).Idx) : i = ix2 (i 0) (i 1) := by funext a; match a with | ⟨0, _⟩ => rfl | ⟨1, _⟩ => rfl
    refine ⟨(h c).1.trans (funext fun i => (congrArg _ (eta 128 2048 i)).trans (e (i 0) (i 1))),
      (h c).2.1.trans (funext fun i => (congrFun (res1_eq m' c) i).trans ((congrArg _ (eta 2048 128 i)).trans ((t_at _ (i 0) (i 1)).trans (e (i 1) (i 0))))), (h c).2.2⟩

end Cert.Kernel7Ideal.Result
-- ==== Proof.Norm.Prompt.lean ====
/- The last norm of the prompt: the kernel's result and the reference's are the same normed rows. -/
module

public import proofs.«01_k».proof.Proof.Merge.Prompt
public import proofs.«01_k».proof.Proof.Gen.Kernel5Ideal
public import proofs.«01_k».proof.Proof.Gen.Kernel5Ideal.Frame
public import proofs.«01_k».proof.Proof.Gen.Reference5Ideal.Run

@[expose] public section

set_option maxRecDepth 16384
set_option maxHeartbeats 1000000

noncomputable section

namespace Cert.Reference5Ideal.Result

open Idealize.ShloMosaic Idealize.ShloMosaic.TcCoe Idealize.SL.Sem Cert.Reference5Ideal Cert.Reference5Ideal.Gen
open Cert.Reference4Ideal.Result (mean normed)

/-! ## The reference -/

/-- The result at a row and a column: the residual plus the transposed output of the feed-forward part, normed. -/
def N (x : S8192x2048.Idx → EReal) (f : S2048x8192.Idx → EReal) (g b : S1x2048.Idx → EReal) (r : Fin 8192) (j : Fin 2048) : EReal :=
  normed (fun j => Ideal.ofBits .f32 0x3F9837F0#32 * x (ix2 r j) + f (ix2 j r)) (fun j => g (ix2 0 j)) (fun j => b (ix2 0 j)) j

def residT (x : FVec Ideal S8192x2048 .f32) (f : FVec Ideal S2048x8192 .f32) : FVec Ideal S8192x2048 .f32 :=
  addf (mulf (broadcastInDim S8192x2048 ![] bcast_S_S8192x2048 (constant S_ .f32 0x3F9837F0#32)) x) (transpose S8192x2048 [1, 0] f transposes_S2048x8192_S8192x2048_1_0)

def meanT (p : FVec Ideal S8192x2048 .f32) : FVec Ideal S8192x1 .f32 :=
  Host.divf (broadcastInDim S8192x1 ![0] bcast_S8192_S8192x1_0 (Host.reduceAdd p (constant S_ .f32 0x00000000#32) reducesTo_S8192x2048_S8192_d1 h_S_)) (broadcastInDim S8192x1 ![] bcast_S_S8192x1 (constant S_ .f32 0x45000000#32))

def centredT (p : FVec Ideal S8192x2048 .f32) : FVec Ideal S8192x2048 .f32 :=
  subf p (broadcastInDim S8192x2048 ![0, 1] bcast_S8192x1_S8192x2048_0_1 (meanT p))

def normedT (p : FVec Ideal S8192x2048 .f32) (g b : FVec Ideal S1x2048 .f32) : FVec Ideal S8192x2048 .f32 :=
  addf (mulf (mulf (centredT p) (broadcastInDim S8192x2048 ![0, 1] bcast_S8192x1_S8192x2048_0_1 (Host.rsqrt (addf (meanT (mulf (centredT p) (centredT p))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (shapeCast _ g shapeCasts_S1x2048_S2048)))) (broadcastInDim S8192x2048 ![0, 1] bcast_S1x2048_S8192x2048_0_1 (broadcastInDim S1x2048 ![1] bcast_S2048_S1x2048_1 (shapeCast _ b shapeCasts_S1x2048_S2048)))

theorem residT_at (x : FVec Ideal S8192x2048 .f32) (f : FVec Ideal S2048x8192 .f32) (r : Fin 8192) (j : Fin 2048) :
    residT x f (ix2 r j) = (Ideal.ofBits .f32 0x3F9837F0#32 * x (ix2 r j) + f (ix2 j r) : EReal) := by
  pointwise [residT]

theorem normedT_at (p : FVec Ideal S8192x2048 .f32) (g b : FVec Ideal S1x2048 .f32) (r : Fin 8192) (j : Fin 2048) :
    normedT p g b (ix2 r j) = normed (fun j => p (ix2 r j)) (fun j => g (ix2 0 j)) (fun j => b (ix2 0 j)) j := by
  pointwise [normedT, centredT, meanT, normed, mean]

theorem ref_eq (x : FVec Ideal S8192x2048 .f32) (f : FVec Ideal S2048x8192 .f32) (g b : FVec Ideal S1x2048 .f32) :
    normedT (residT x f) g b = fun i : S8192x2048.Idx => N x f g b (i 0) (i 1) := by
  funext i
  have hi : i = ix2 (i 0) (i 1) := by funext a; match a with | ⟨0, _⟩ => rfl | ⟨1, _⟩ => rfl
  refine (congrArg _ hi).trans ((normedT_at _ g b (i 0) (i 1)).trans ?_)
  exact congrFun (congrFun (congrFun (congrArg normed (funext fun j => residT_at x f (i 0) j)) _) _) (i 1)

/-- The reference's frame: it declares no semaphore. -/
theorem reference_frame : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

end Cert.Reference5Ideal.Result

namespace Cert.Kernel5Ideal.Result

open Idealize.ShloMosaic Idealize.ShloMosaic.TcCoe Idealize.SL.Sem Cert.Kernel5Ideal Cert.Kernel5Ideal.Gen
open Cert.Reference4Ideal.Result (mean normed)
open Cert.Reference5Ideal.Result (N ref_eq)
open Cert.Kernel4Ideal.Result (ld_whole canon_whole zeros)

/-! ## The body -/

theorem pay_at (x : Vec Ideal S256x2048 .f32) (f : Vec Ideal S2048x256 .f32) (g b : Vec Ideal S1x2048 .f32) (r : Fin 256) (j : Fin 2048) :
    k0_pay1 x f g b (ix2 r j) = normed (fun j => Ideal.ofBits .f32 0x3F9837F0#32 * x (ix2 r j) + f (ix2 j r)) (fun j => g (ix2 0 j)) (fun j => b (ix2 0 j)) j := by
  pointwise [k0_pay1, normed, mean]

theorem out_at (x : Vec Ideal S256x2048 .f32) (f : Vec Ideal S2048x256 .f32) (g b : Vec Ideal S1x2048 .f32) (r : Fin 256) (j : Fin 2048) :
    out0_4 x f g b (ix2 r j) = normed (fun j => Ideal.ofBits .f32 0x3F9837F0#32 * x (ix2 r j) + f (ix2 j r)) (fun j => g (ix2 0 j)) (fun j => b (ix2 0 j)) j := by
  have l0 : View.ld x r0_0 = x := ld_whole _ zeros _ _
  have l1 : View.ld f r0_1 = f := ld_whole _ zeros _ _
  have l2 : View.ld g r0_2 = g := ld_whole _ zeros _ _
  have l3 : View.ld b r0_2 = b := ld_whole _ zeros _ _
  refine (canon_whole _ zeros _ _ (ix2 r j)).trans ?_
  rw [l0, l1, l2, l3]
  exact pay_at x f g b r j

/-! ## The blocks in the arrays -/

theorem index0 : ∀ t : Fin cfg0.N, win0_0.index t 0 = t.val ∧ win0_0.index t 1 = 0 := by decide +kernel
theorem index1 : ∀ t : Fin cfg0.N, win0_1.index t 0 = 0 ∧ win0_1.index t 1 = t.val := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = t.val ∧ win0_4.index t 1 = 0 := by decide +kernel

variable (m : (ℓ : Loc nD τ sig) → Buf (Elt Ideal) ℓ) (g : Dev nD → PrngReg)

/-- The arguments. -/
abbrev ax (c : Dev nD) : S8192x2048.Idx → EReal := m ((c : Thread nD τ).loc main_arg0)
abbrev af (c : Dev nD) : S2048x8192.Idx → EReal := m ((c : Thread nD τ).loc main_arg1)
abbrev ag (c : Dev nD) : S1x2048.Idx → EReal := m ((c : Thread nD τ).loc main_arg2)
abbrev ab (c : Dev nD) : S1x2048.Idx → EReal := m ((c : Thread nD τ).loc main_arg3)

theorem g_eq (c : Dev nD) : V m c main_v1 = shapeCast S1x2048 (shapeCast S2048 (m ((c : Thread nD τ).loc main_arg2)) shapeCasts_S1x2048_S2048) shapeCasts_S2048_S1x2048 := by
  unfold V hostOps0; after_results <;> rfl
theorem b_eq (c : Dev nD) : V m c main_v3 = shapeCast S1x2048 (shapeCast S2048 (m ((c : Thread nD τ).loc main_arg3)) shapeCasts_S1x2048_S2048) shapeCasts_S2048_S1x2048 := by
  unfold V hostOps0; after_results <;> rfl
theorem gc (x : FVec Ideal S1x2048 .f32) (k : Fin 2048) : shapeCast S1x2048 (shapeCast S2048 x shapeCasts_S1x2048_S2048) shapeCasts_S2048_S1x2048 (ix2 0 k) = x (ix2 0 k) := by
  pointwise

variable (c : Dev nD) (t : Fin cfg0.N)

theorem x_at (r : Fin 256) (j : Fin 2048) (R : Fin 8192) (hR : R.val = t.val * 256 + r.val) : (iblk m c 0 t : S256x2048.Idx → EReal) (ix2 r j) = ax m c (ix2 R j) := by
  obtain ⟨e0, e1⟩ := index0 t
  blk_simp [iblk]
  refine Eq.trans ?_ (congrFun (V_main_arg0 m c) (ix2 R j))
  refine congrArg (V m c main_arg0) (funext fun a => Fin.ext ?_)
  match a with
  | ⟨0, _⟩ => blk_simp; rw [e0]; exact hR.symm
  | ⟨1, _⟩ => blk_simp; rw [e1]; exact Nat.zero_add _

theorem f_at (r : Fin 256) (j : Fin 2048) (R : Fin 8192) (hR : R.val = t.val * 256 + r.val) : (iblk m c 1 t : S2048x256.Idx → EReal) (ix2 j r) = af m c (ix2 j R) := by
  obtain ⟨e0, e1⟩ := index1 t
  blk_simp [iblk]
  refine Eq.trans ?_ (congrFun (V_main_arg1 m c) (ix2 j R))
  refine congrArg (V m c main_arg1) (funext fun a => Fin.ext ?_)
  match a with
  | ⟨0, _⟩ => blk_simp; rw [e0]; exact Nat.zero_add _
  | ⟨1, _⟩ => blk_simp; rw [e1]; exact hR.symm

theorem g_at (j : Fin 2048) : (iblk m c 2 t : S1x2048.Idx → EReal) (ix2 0 j) = ag m c (ix2 0 j) := by
  obtain ⟨e0, e1⟩ := index2 t
  blk_simp [iblk]
  refine Eq.trans ?_ ((congrFun (g_eq m c) (ix2 0 j)).trans (gc _ j))
  refine congrArg (V m c main_v1) (funext fun a => Fin.ext ?_)
  match a with
  | ⟨0, _⟩ => blk_simp; rw [e0]; exact Nat.zero_add _
  | ⟨1, _⟩ => blk_simp; rw [e1]; exact Nat.zero_add _

theorem b_at (j : Fin 2048) : (iblk m c 3 t : S1x2048.Idx → EReal) (ix2 0 j) = ab m c (ix2 0 j) := by
  obtain ⟨e0, e1⟩ := index3 t
  blk_simp [iblk]
  refine Eq.trans ?_ ((congrFun (b_eq m c) (ix2 0 j)).trans (gc _ j))
  refine congrArg (V m c main_v3) (funext fun a => Fin.ext ?_)
  match a with
  | ⟨0, _⟩ => blk_simp; rw [e0]; exact Nat.zero_add _
  | ⟨1, _⟩ => blk_simp; rw [e1]; exact Nat.zero_add _

/-- A row of a point's block is that row of the result. -/
theorem row_at (r : Fin 256) (j : Fin 2048) (R : Fin 8192) (hR : R.val = t.val * 256 + r.val) :
    out0_4 (iblk m c 0 t) (iblk m c 1 t) (iblk m c 2 t) (iblk m c 3 t) (ix2 r j) = N (ax m c) (af m c) (ag m c) (ab m c) R j := by
  refine (out_at (iblk m c 0 t) (iblk m c 1 t) (iblk m c 2 t) (iblk m c 3 t) r j).trans ?_
  refine congrFun (congr (congr (congrArg normed (funext fun j => ?_)) (funext fun j => g_at m c t j)) (funext fun j => b_at m c t j)) j
  exact congr (congrArg (fun p q : EReal => Ideal.ofBits .f32 0x3F9837F0#32 * p + q) (x_at m c t r j R hR)) (f_at m c t r j R hR)

theorem final : (dats m 0 c).arrAt 4 cfg0.N = fun i : S8192x2048.Idx => N (ax m c) (af m c) (ag m c) (ab m c) (i 0) (i 1) := by
  refine (dats m 0 c).arrAt_eq_of_covers (4 : Fin 5) _ (by decide +kernel) fun t _ y => ?_
  obtain ⟨e0, e1⟩ := index4 t
  have hy : y = ix2 (y 0) (y 1) := by funext a; match a with | ⟨0, _⟩ => rfl | ⟨1, _⟩ => rfl
  blk_simp
  rw [after0_4]
  refine (congrArg _ hy).trans ((row_at m c t (y 0) (y 1) _ ?_).trans (congrArg (N (ax m c) (af m c) (ag m c) (ab m c) _) (Fin.ext ?_)))
  · blk_simp; rw [e0]
  · blk_simp; rw [e1]; exact (Nat.zero_add _).symm

/-! ## The claim -/

theorem algebraic : Cert.algebraic_Kernel5Ideal_Reference5Ideal (hKernel5Ideal := Cert.Kernel5Ideal.Gen.facts) (hReference5Ideal := Cert.Reference5Ideal.Gen.facts) := by
  intro m g m' g' _ hargs
  refine ⟨fun c => fun i : S8192x2048.Idx => N (ax m c) (af m c) (ag m c) (ab m c) (i 0) (i 1), ?_, ?_⟩
  · refine (θ_run defs _ _).mono (fun r h c => ?_) (run_main m g)
    exact ⟨((h c).1 4).trans (final m c),
      ((h c).1 0).trans (((dats m 0 c).arrAt_in 0 rfl _).trans (V_main_arg0 m c)),
      ((h c).1 1).trans (((dats m 0 c).arrAt_in 1 rfl _).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩
  · refine (θ_run Cert.Reference5Ideal.defs _ _).mono (fun r h c => ?_) (Cert.Reference5Ideal.Value.run (F := Ideal) m' g')
    obtain ⟨a0, a1, a2, a3⟩ := hargs c
    refine ⟨(h c).1.trans ((ref_eq _ _ _ _).trans ?_), (h c).2⟩
    rw [a0, a1, a2, a3]

end Cert.Kernel5Ideal.Result
-- ==== Proof.Norm.Sample.lean ====
/- The last norm of the samples: the kernel's result and the reference's are the same normed rows. -/
module

public import proofs.«01_k».proof.Proof.Merge.Prompt
public import proofs.«01_k».proof.Proof.Gen.Kernel6Ideal
public import proofs.«01_k».proof.Proof.Gen.Kernel6Ideal.Frame
public import proofs.«01_k».proof.Proof.Gen.Reference6Ideal.Run

@[expose] public section

set_option maxRecDepth 16384
set_option maxHeartbeats 1000000

noncomputable section

namespace Cert.Reference6Ideal.Result

open Idealize.ShloMosaic Idealize.ShloMosaic.TcCoe Idealize.SL.Sem Cert.Reference6Ideal Cert.Reference6Ideal.Gen
open Cert.Reference4Ideal.Result (mean normed)

/-! ## The reference -/

/-- The result at a row and a column: the residual plus the transposed output of the feed-forward part, normed. -/
def N (x : S128x2048.Idx → EReal) (f : S2048x128.Idx → EReal) (g b : S1x2048.Idx → EReal) (r : Fin 128) (j : Fin 2048) : EReal :=
  normed (fun j => Ideal.ofBits .f32 0x3F9837F0#32 * x (ix2 r j) + f (ix2 j r)) (fun j => g (ix2 0 j)) (fun j => b (ix2 0 j)) j

def residT (x : FVec Ideal S128x2048 .f32) (f : FVec Ideal S2048x128 .f32) : FVec Ideal S128x2048 .f32 :=
  addf (mulf (broadcastInDim S128x2048 ![] bcast_S_S128x2048 (constant S_ .f32 0x3F9837F0#32)) x) (transpose S128x2048 [1, 0] f transposes_S2048x128_S128x2048_1_0)

def meanT (p : FVec Ideal S128x2048 .f32) : FVec Ideal S128x1 .f32 :=
  Host.divf (broadcastInDim S128x1 ![0] bcast_S128_S128x1_0 (Host.reduceAdd p (constant S_ .f32 0x00000000#32) reducesTo_S128x2048_S128_d1 h_S_)) (broadcastInDim S128x1 ![] bcast_S_S128x1 (constant S_ .f32 0x45000000#32))

def centredT (p : FVec Ideal S128x2048 .f32) : FVec Ideal S128x2048 .f32 :=
  subf p (broadcastInDim S128x2048 ![0, 1] bcast_S128x1_S128x2048_0_1 (meanT p))

def normedT (p : FVec Ideal S128x2048 .f32) (g b : FVec Ideal S1x2048 .f32) : FVec Ideal S128x2048 .f32 :=
  addf (mulf (mulf (centredT p) (broadcastInDim S128x2048 ![0, 1] bcast_S128x1_S128x2048_0_1 (Host.rsqrt (addf (meanT (mulf (centredT p) (centredT p))) (broadcastInDim S128x1 ![] bcast_S_S128x1 (constant S_ .f32 0x3727C5AC#32)))))) (broadcastInDim S128x2048 ![0, 1] bcast_S1x2048_S128x2048_0_1 (broadcastInDim S1x2048 ![1] bcast_S2048_S1x2048_1 (shapeCast _ g shapeCasts_S1x2048_S2048)))) (broadcastInDim S128x2048 ![0, 1] bcast_S1x2048_S128x2048_0_1 (broadcastInDim S1x2048 ![1] bcast_S2048_S1x2048_1 (shapeCast _ b shapeCasts_S1x2048_S2048)))

theorem residT_at (x : FVec Ideal S128x2048 .f32) (f : FVec Ideal S2048x128 .f32) (r : Fin 128) (j : Fin 2048) :
    residT x f (ix2 r j) = (Ideal.ofBits .f32 0x3F9837F0#32 * x (ix2 r j) + f (ix2 j r) : EReal) := by
  pointwise [residT]

theorem normedT_at (p : FVec Ideal S128x2048 .f32) (g b : FVec Ideal S1x2048 .f32) (r : Fin 128) (j : Fin 2048) :
    normedT p g b (ix2 r j) = normed (fun j => p (ix2 r j)) (fun j => g (ix2 0 j)) (fun j => b (ix2 0 j)) j := by
  pointwise [normedT, centredT, meanT, normed, mean]

theorem ref_eq (x : FVec Ideal S128x2048 .f32) (f : FVec Ideal S2048x128 .f32) (g b : FVec Ideal S1x2048 .f32) :
    normedT (residT x f) g b = fun i : S128x2048.Idx => N x f g b (i 0) (i 1) := by
  funext i
  have hi : i = ix2 (i 0) (i 1) := by funext a; match a with | ⟨0, _⟩ => rfl | ⟨1, _⟩ => rfl
  refine (congrArg _ hi).trans ((normedT_at _ g b (i 0) (i 1)).trans ?_)
  exact congrFun (congrFun (congrFun (congrArg normed (funext fun j => residT_at x f (i 0) j)) _) _) (i 1)

/-- The reference's frame: it declares no semaphore. -/
theorem reference_frame : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run (F := Ideal) m g)

end Cert.Reference6Ideal.Result

namespace Cert.Kernel6Ideal.Result

open Idealize.ShloMosaic Idealize.ShloMosaic.TcCoe Idealize.SL.Sem Cert.Kernel6Ideal Cert.Kernel6Ideal.Gen
open Cert.Reference4Ideal.Result (mean normed)
open Cert.Reference6Ideal.Result (N ref_eq)
open Cert.Kernel4Ideal.Result (ld_whole canon_whole zeros)

/-! ## The body -/

theorem pay_at (x : Vec Ideal S128x2048 .f32) (f : Vec Ideal S2048x128 .f32) (g b : Vec Ideal S1x2048 .f32) (r : Fin 128) (j : Fin 2048) :
    k0_pay1 x f g b (ix2 r j) = normed (fun j => Ideal.ofBits .f32 0x3F9837F0#32 * x (ix2 r j) + f (ix2 j r)) (fun j => g (ix2 0 j)) (fun j => b (ix2 0 j)) j := by
  pointwise [k0_pay1, normed, mean]

theorem out_at (x : Vec Ideal S128x2048 .f32) (f : Vec Ideal S2048x128 .f32) (g b : Vec Ideal S1x2048 .f32) (r : Fin 128) (j : Fin 2048) :
    out0_4 x f g b (ix2 r j) = normed (fun j => Ideal.ofBits .f32 0x3F9837F0#32 * x (ix2 r j) + f (ix2 j r)) (fun j => g (ix2 0 j)) (fun j => b (ix2 0 j)) j := by
  have l0 : View.ld x r0_0 = x := ld_whole _ zeros _ _
  have l1 : View.ld f r0_1 = f := ld_whole _ zeros _ _
  have l2 : View.ld g r0_2 = g := ld_whole _ zeros _ _
  have l3 : View.ld b r0_2 = b := ld_whole _ zeros _ _
  refine (canon_whole _ zeros _ _ (ix2 r j)).trans ?_
  rw [l0, l1, l2, l3]
  exact pay_at x f g b r j

/-! ## The blocks in the arrays -/

theorem point : ∀ t : Fin cfg0.N, t.val = 0 := by decide +kernel
theorem index0 : ∀ t : Fin cfg0.N, win0_0.index t 0 = t.val ∧ win0_0.index t 1 = 0 := by decide +kernel
theorem index1 : ∀ t : Fin cfg0.N, win0_1.index t 0 = 0 ∧ win0_1.index t 1 = t.val := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = t.val ∧ win0_4.index t 1 = 0 := by decide +kernel

variable (m : (ℓ : Loc nD τ sig) → Buf (Elt Ideal) ℓ) (g : Dev nD → PrngReg)

/-- The arguments. -/
abbrev ax (c : Dev nD) : S128x2048.Idx → EReal := m ((c : Thread nD τ).loc main_arg0)
abbrev af (c : Dev nD) : S2048x128.Idx → EReal := m ((c : Thread nD τ).loc main_arg1)
abbrev ag (c : Dev nD) : S1x2048.Idx → EReal := m ((c : Thread nD τ).loc main_arg2)
abbrev ab (c : Dev nD) : S1x2048.Idx → EReal := m ((c : Thread nD τ).loc main_arg3)

theorem g_eq (c : Dev nD) : V m c main_v1 = shapeCast S1x2048 (shapeCast S2048 (m ((c : Thread nD τ).loc main_arg2)) shapeCasts_S1x2048_S2048) shapeCasts_S2048_S1x2048 := by
  unfold V hostOps0; after_results <;> rfl
theorem b_eq (c : Dev nD) : V m c main_v3 = shapeCast S1x2048 (shapeCast S2048 (m ((c : Thread nD τ).loc main_arg3)) shapeCasts_S1x2048_S2048) shapeCasts_S2048_S1x2048 := by
  unfold V hostOps0; after_results <;> rfl
theorem gc (x : FVec Ideal S1x2048 .f32) (k : Fin 2048) : shapeCast S1x2048 (shapeCast S2048 x shapeCasts_S1x2048_S2048) shapeCasts_S2048_S1x2048 (ix2 0 k) = x (ix2 0 k) := by
  pointwise

variable (c : Dev nD) (t : Fin cfg0.N)

theorem x_at (r : Fin 128) (j : Fin 2048) (R : Fin 128) (hR : R.val = t.val * 128 + r.val) : (iblk m c 0 t : S128x2048.Idx → EReal) (ix2 r j) = ax m c (ix2 R j) := by
  obtain ⟨e0, e1⟩ := index0 t
  blk_simp [iblk]
  refine Eq.trans ?_ (congrFun (V_main_arg0 m c) (ix2 R j))
  refine congrArg (V m c main_arg0) (funext fun a => Fin.ext ?_)
  match a with
  | ⟨0, _⟩ => blk_simp; rw [e0]; exact hR.symm
  | ⟨1, _⟩ => blk_simp; rw [e1]; exact Nat.zero_add _

theorem f_at (r : Fin 128) (j : Fin 2048) (R : Fin 128) (hR : R.val = t.val * 128 + r.val) : (iblk m c 1 t : S2048x128.Idx → EReal) (ix2 j r) = af m c (ix2 j R) := by
  obtain ⟨e0, e1⟩ := index1 t
  blk_simp [iblk]
  refine Eq.trans ?_ (congrFun (V_main_arg1 m c) (ix2 j R))
  refine congrArg (V m c main_arg1) (funext fun a => Fin.ext ?_)
  match a with
  | ⟨0, _⟩ => blk_simp; rw [e0]; exact Nat.zero_add _
  | ⟨1, _⟩ => blk_simp; rw [e1]; exact hR.symm

theorem g_at (j : Fin 2048) : (iblk m c 2 t : S1x2048.Idx → EReal) (ix2 0 j) = ag m c (ix2 0 j) := by
  obtain ⟨e0, e1⟩ := index2 t
  blk_simp [iblk]
  refine Eq.trans ?_ ((congrFun (g_eq m c) (ix2 0 j)).trans (gc _ j))
  refine congrArg (V m c main_v1) (funext fun a => Fin.ext ?_)
  match a with
  | ⟨0, _⟩ => blk_simp; rw [e0]; exact Nat.zero_add _
  | ⟨1, _⟩ => blk_simp; rw [e1]; exact Nat.zero_add _

theorem b_at (j : Fin 2048) : (iblk m c 3 t : S1x2048.Idx → EReal) (ix2 0 j) = ab m c (ix2 0 j) := by
  obtain ⟨e0, e1⟩ := index3 t
  blk_simp [iblk]
  refine Eq.trans ?_ ((congrFun (b_eq m c) (ix2 0 j)).trans (gc _ j))
  refine congrArg (V m c main_v3) (funext fun a => Fin.ext ?_)
  match a with
  | ⟨0, _⟩ => blk_simp; rw [e0]; exact Nat.zero_add _
  | ⟨1, _⟩ => blk_simp; rw [e1]; exact Nat.zero_add _

/-- A row of a point's block is that row of the result. -/
theorem row_at (r : Fin 128) (j : Fin 2048) (R : Fin 128) (hR : R.val = t.val * 128 + r.val) :
    out0_4 (iblk m c 0 t) (iblk m c 1 t) (iblk m c 2 t) (iblk m c 3 t) (ix2 r j) = N (ax m c) (af m c) (ag m c) (ab m c) R j := by
  refine (out_at (iblk m c 0 t) (iblk m c 1 t) (iblk m c 2 t) (iblk m c 3 t) r j).trans ?_
  refine congrFun (congr (congr (congrArg normed (funext fun j => ?_)) (funext fun j => g_at m c t j)) (funext fun j => b_at m c t j)) j
  exact congr (congrArg (fun p q : EReal => Ideal.ofBits .f32 0x3F9837F0#32 * p + q) (x_at m c t r j R hR)) (f_at m c t r j R hR)

theorem final : (dats m 0 c).arrAt 4 cfg0.N = fun i : S128x2048.Idx => N (ax m c) (af m c) (ag m c) (ab m c) (i 0) (i 1) := by
  refine (dats m 0 c).arrAt_eq_of_covers (4 : Fin 5) _ (by decide +kernel) fun t _ y => ?_
  obtain ⟨e0, e1⟩ := index4 t
  have hy : y = ix2 (y 0) (y 1) := by funext a; match a with | ⟨0, _⟩ => rfl | ⟨1, _⟩ => rfl
  blk_simp
  rw [after0_4]
  refine (congrArg _ hy).trans ((row_at m c t (y 0) (y 1) _ ?_).trans (congrArg (N (ax m c) (af m c) (ag m c) (ab m c) _) (Fin.ext ?_)))
  · blk_simp; rw [e0, point t]; exact Nat.zero_add _
  · blk_simp; rw [e1]; exact (Nat.zero_add _).symm

/-! ## The claim -/

theorem algebraic : Cert.algebraic_Kernel6Ideal_Reference6Ideal (hKernel6Ideal := Cert.Kernel6Ideal.Gen.facts) (hReference6Ideal := Cert.Reference6Ideal.Gen.facts) := by
  intro m g m' g' _ hargs
  refine ⟨fun c => fun i : S128x2048.Idx => N (ax m c) (af m c) (ag m c) (ab m c) (i 0) (i 1), ?_, ?_⟩
  · refine (θ_run defs _ _).mono (fun r h c => ?_) (run_main m g)
    exact ⟨((h c).1 4).trans (final m c),
      ((h c).1 0).trans (((dats m 0 c).arrAt_in 0 rfl _).trans (V_main_arg0 m c)),
      ((h c).1 1).trans (((dats m 0 c).arrAt_in 1 rfl _).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩
  · refine (θ_run Cert.Reference6Ideal.defs _ _).mono (fun r h c => ?_) (Cert.Reference6Ideal.Value.run (F := Ideal) m' g')
    obtain ⟨a0, a1, a2, a3⟩ := hargs c
    refine ⟨(h c).1.trans ((ref_eq _ _ _ _).trans ?_), (h c).2⟩
    rw [a0, a1, a2, a3]

end Cert.Kernel6Ideal.Result
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference2Ideal.Run
public import proofs.«01_k».proof.Proof.Gen.Reference4Ideal.Run
public import proofs.«01_k».proof.Proof.Gen.Reference3Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference5Ideal.Run
public import proofs.«01_k».proof.Proof.Gen.Reference6Ideal.Run
public import proofs.«01_k».proof.Proof.Gen.Reference7Ideal.Run
public import proofs.«01_k».proof.Proof.AttnBits.Launch
public import proofs.«01_k».proof.Proof.AttnIdeal.Launch
public import proofs.«01_k».proof.Proof.Attn.Result
public import proofs.«01_k».proof.Proof.Proj.Prompt
public import proofs.«01_k».proof.Proof.Proj.Sample
public import proofs.«01_k».proof.Proof.Merge.Prompt
public import proofs.«01_k».proof.Proof.Merge.Sample
public import proofs.«01_k».proof.Proof.Norm.Prompt
public import proofs.«01_k».proof.Proof.Norm.Sample

@[expose] public section

noncomputable section

namespace Cert.Proof

open Idealize.ShloMosaic Idealize.SL.Sem

/-- The shapes the precondition's operations take fit. -/
theorem pre_facts : Cert.Pre_call_args.Facts where
  slices_S32x8_S1x8_31_0 := by decide
  shapeCasts_S1x8_S8 := by decide
  bcast_S_S1024x1024 := by decide
  bcast_S1024x1024_S1024x1024x1_0_1 := by decide
  bcast_S8_S1x1x8_2 := by decide
  bcast_S1x1x8_S1024x1024x8_0_1_2 := by decide
  transposes_S1024x1024x8_S8x1024x1024_2_0_1 := by decide
  bcast_S1024x1024_S8x1024x1024_1_2 := by decide
  bcast_S_S8x1024x1024 := by decide
  bcast_S_S8192x1024 := by decide
  reducesTo_S8192x1024_S_d0_1 := by decide
  h_S_ := by decide
  bcast_S_S32x8 := by decide
  reducesTo_S32x8_S_d0_1 := by decide
  bcast_S_S1 := by decide
  reducesTo_S1_S_d0 := by decide
  slices_S8x2x1024x1024_S8x1x1024x1024_0_0_0_0 := by decide
  shapeCasts_S8x1x1024x1024_S8x1024x1024 := by decide
  reducesTo_S8x1024x1024_S_d0_1_2 := by decide
  slices_S8x2x1024x1024_S8x1x1024x1024_0_1_0_0 := by decide
  gather_S32x8_S1024x1024x1_S1024x1024x8_2_0_n_n_0_2_18_wf := by decide

theorem preserves : Cert.preserves_Kernel_KernelIdeal :=
  ⟨IdealRules.named_const.statement _ _ _ _ _ rfl, IdealRules.named_const.statement _ _ _ _ _ rfl⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, pre_facts,
    fun m g _ => Cert.Kernel.Gen.frame m g, fun m g _ => Cert.KernelIdeal.Gen.frame m g, fun m g _ => Cert.KernelIdeal.Gen.frame m g,
    Cert.KernelIdeal.Result.reference_frame, fun m g _ => Cert.KernelIdeal.Result.reference_frame m g trivial,
    fun m g _ => Cert.Kernel2.Gen.frame m g, fun m g _ => Cert.Kernel2Ideal.Gen.frame m g, Cert.Reference2Ideal.Result.reference_frame,
    fun m g _ => Cert.Kernel3.Gen.frame m g, fun m g _ => Cert.Kernel3Ideal.Gen.frame m g, Cert.Reference3Ideal.Result.reference_frame,
    fun m g _ => Cert.Kernel4.Gen.frame m g, fun m g _ => Cert.Kernel4Ideal.Gen.frame m g, Cert.Reference4Ideal.Result.reference_frame,
    fun m g _ => Cert.Kernel5.Gen.frame m g, fun m g _ => Cert.Kernel5Ideal.Gen.frame m g, Cert.Reference5Ideal.Result.reference_frame,
    fun m g _ => Cert.Kernel6.Gen.frame m g, fun m g _ => Cert.Kernel6Ideal.Gen.frame m g, Cert.Reference6Ideal.Result.reference_frame,
    fun m g _ => Cert.Kernel7.Gen.frame m g, fun m g _ => Cert.Kernel7Ideal.Gen.frame m g, Cert.Reference7Ideal.Result.reference_frame,
    preserves, Cert.KernelIdeal.Result.algebraic (hPre_call_args := pre_facts),
    trivial, Cert.Kernel2Ideal.Result.algebraic, trivial, Cert.Kernel3Ideal.Result.algebraic, trivial, Cert.Kernel4Ideal.Result.algebraic,
    trivial, Cert.Kernel5Ideal.Result.algebraic, trivial, Cert.Kernel6Ideal.Result.algebraic, trivial, Cert.Kernel7Ideal.Result.algebraic⟩

end Cert.Proof
